-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![16, 1024, 16, 64]⟩ ⟨4, ![16, 4096, 16, 64]⟩ (Layout.meshBlock [2, 4, 4] ![[], [1], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![16, 1024, 16, 64]⟩ ⟨4, ![16, 4096, 16, 64]⟩ (Layout.meshBlock [2, 4, 4] ![[], [1], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S16x1x16x64 : Shape := ⟨4, ![16, 1, 16, 64]⟩
abbrev S16x1024x16x64 : Shape := ⟨4, ![16, 1024, 16, 64]⟩
abbrev S_ : Shape := ⟨0, ![]⟩

class Facts : Prop where
  bcast_S_S16x1x16x64 : S_.BroadcastsInDim S16x1x16x64 (![] : Fin 0 → Fin S16x1x16x64.rank)
  bcast_S_S16x1024x16x64 : S_.BroadcastsInDim S16x1024x16x64 (![] : Fin 0 → Fin S16x1024x16x64.rank)

variable [Facts]

def fn {F : FTy → Type} [FloatOps F] (main_arg0 : FVec F S16x1x16x64 .f32) (main_arg1 : FVec F S16x1024x16x64 .f32) (main_arg2 : FVec F S16x1024x16x64 .f32) : IVec S16x1x16x64 1 × IVec S16x1024x16x64 1 :=
  let main_v0 : FVec F S16x1x16x64 .f32 := Host.absf main_arg0
  let main_cst : FVec F S_ .f32 := constant S_ .f32 0x7F800000#32
  let main_v1 : FVec F S16x1x16x64 .f32 := broadcastInDim S16x1x16x64 ![] bcast_S_S16x1x16x64 main_cst
  let main_v2 : IVec S16x1x16x64 1 := cmpf .olt main_v0 main_v1
  let main_v3 : FVec F S16x1024x16x64 .f32 := Host.absf main_arg1
  let main_cst_0 : FVec F S_ .f32 := constant S_ .f32 0x7F800000#32
  let main_v4 : FVec F S16x1024x16x64 .f32 := broadcastInDim S16x1024x16x64 ![] bcast_S_S16x1024x16x64 main_cst_0
  let main_v5 : IVec S16x1024x16x64 1 := cmpf .olt main_v3 main_v4
  (main_v2, main_v5)
-- ==== Pre_finite_ReferenceIdeal.lean ====
abbrev S16x1x16x64 : Shape := ⟨4, ![16, 1, 16, 64]⟩
abbrev S16x4096x16x64 : Shape := ⟨4, ![16, 4096, 16, 64]⟩
abbrev S_ : Shape := ⟨0, ![]⟩

class Facts : Prop where
  bcast_S_S16x1x16x64 : S_.BroadcastsInDim S16x1x16x64 (![] : Fin 0 → Fin S16x1x16x64.rank)
  bcast_S_S16x4096x16x64 : S_.BroadcastsInDim S16x4096x16x64 (![] : Fin 0 → Fin S16x4096x16x64.rank)

variable [Facts]

def fn {F : FTy → Type} [FloatOps F] (main_arg0 : FVec F S16x1x16x64 .f32) (main_arg1 : FVec F S16x4096x16x64 .f32) (main_arg2 : FVec F S16x4096x16x64 .f32) : IVec S16x1x16x64 1 × IVec S16x4096x16x64 1 :=
  let main_v0 : FVec F S16x1x16x64 .f32 := Host.absf main_arg0
  let main_cst : FVec F S_ .f32 := constant S_ .f32 0x7F800000#32
  let main_v1 : FVec F S16x1x16x64 .f32 := broadcastInDim S16x1x16x64 ![] bcast_S_S16x1x16x64 main_cst
  let main_v2 : IVec S16x1x16x64 1 := cmpf .olt main_v0 main_v1
  let main_v3 : FVec F S16x4096x16x64 .f32 := Host.absf main_arg1
  let main_cst_0 : FVec F S_ .f32 := constant S_ .f32 0x7F800000#32
  let main_v4 : FVec F S16x4096x16x64 .f32 := broadcastInDim S16x4096x16x64 ![] bcast_S_S16x4096x16x64 main_cst_0
  let main_v5 : IVec S16x4096x16x64 1 := cmpf .olt main_v3 main_v4
  (main_v2, main_v5)
-- ==== Kernel.lean ====
abbrev S16x1x16x64 : Shape := ⟨4, ![16, 1, 16, 64]⟩
abbrev S16x1024x16x64 : Shape := ⟨4, ![16, 1024, 16, 64]⟩
abbrev S16x1x1024 : Shape := ⟨3, ![16, 1, 1024]⟩
abbrev S16x1024x1024 : Shape := ⟨3, ![16, 1024, 1024]⟩
abbrev S8x2x1024 : Shape := ⟨3, ![8, 2, 1024]⟩
abbrev S2x1024x1024 : Shape := ⟨3, ![2, 1024, 1024]⟩
abbrev S4x2x16 : Shape := ⟨3, ![4, 2, 16]⟩
abbrev S4x2x1024 : Shape := ⟨3, ![4, 2, 1024]⟩
abbrev S2 : Shape := ⟨1, ![2]⟩
abbrev S3x3 : Shape := ⟨2, ![3, 3]⟩
abbrev S4x3 : Shape := ⟨2, ![4, 3]⟩
abbrev S7 : Shape := ⟨1, ![7]⟩
abbrev S8 : Shape := ⟨1, ![8]⟩
abbrev S16x1024 : Shape := ⟨2, ![16, 1024]⟩
abbrev S1 : Shape := ⟨1, ![1]⟩
abbrev S_ : Shape := ⟨0, ![]⟩
abbrev S1x1024x1024 : Shape := ⟨3, ![1, 1024, 1024]⟩
abbrev S1024x1024 : Shape := ⟨2, ![1024, 1024]⟩
abbrev S1x1x1024 : Shape := ⟨3, ![1, 1, 1024]⟩
abbrev S1x1024 : Shape := ⟨2, ![1, 1024]⟩
abbrev S1024x16 : Shape := ⟨2, ![1024, 16]⟩
abbrev S16 : Shape := ⟨1, ![16]⟩
abbrev S1x16 : Shape := ⟨2, ![1, 16]⟩
abbrev S1024 : Shape := ⟨1, ![1024]⟩
abbrev S2x16 : Shape := ⟨2, ![2, 16]⟩
abbrev S1x2x16 : Shape := ⟨3, ![1, 2, 16]⟩
abbrev S2x1024 : Shape := ⟨2, ![2, 1024]⟩
abbrev S1x2x1024 : Shape := ⟨3, ![1, 2, 1024]⟩
abbrev S1x1 : Shape := ⟨2, ![1, 1]⟩
abbrev S8x16 : Shape := ⟨2, ![8, 16]⟩
abbrev S8x1024 : Shape := ⟨2, ![8, 1024]⟩

abbrev nBuf : Space → Nat
  | .hbm => 8
  | .vmem => 7
  | .smem => 0
  | _ => 0

abbrev bufTy : (tb : Table) → Fin (tcTables nBuf tb) → BufTy
  | .hbm, ⟨0, _⟩ => ⟨S16x1x16x64, .f32⟩
  | .hbm, ⟨1, _⟩ => ⟨S16x1024x16x64, .f32⟩
  | .hbm, ⟨2, _⟩ => ⟨S16x1024x16x64, .f32⟩
  | .hbm, ⟨3, _⟩ => ⟨S16x1x1024, .f32⟩
  | .hbm, ⟨4, _⟩ => ⟨S16x1024x1024, .f32⟩
  | .hbm, ⟨5, _⟩ => ⟨S16x1024x1024, .f32⟩
  | .hbm, ⟨6, _⟩ => ⟨S8x2x1024, .f32⟩
  | .hbm, ⟨7, _⟩ => ⟨S16x1x16x64, .f32⟩
  | .local _ .vmem, ⟨0, _⟩ => ⟨S16x1x1024, .f32⟩
  | .local _ .vmem, ⟨1, _⟩ => ⟨S8x2x1024, .f32⟩
  | .local _ .vmem, ⟨2, _⟩ => ⟨S2x1024x1024, .f32⟩
  | .local _ .vmem, ⟨3, _⟩ => ⟨S2x1024x1024, .f32⟩
  | .local _ .vmem, ⟨4, _⟩ => ⟨S4x2x16, .f32⟩
  | .local _ .vmem, ⟨5, _⟩ => ⟨S4x2x16, .f32⟩
  | .local _ .vmem, ⟨6, _⟩ => ⟨S4x2x1024, .f32⟩
  | _, _ => ⟨S16x1x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_off1 (d0 : Dev nD) (c0_i32_16 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c2_i32_3 : BitVec 32 := 2#32
  let v11 : BitVec 32 := Scalar.muli v10 c2_i32_3
  let v71 : BitVec 32 := Scalar.addi v11 c0_i32_16
  let c0_i32_22 : BitVec 32 := 0#32
  let c0_i32_23 : BitVec 32 := 0#32
  ![v71.toNat, 0, 0]
def k0_off2 (d0 : Dev nD) (c0_i32_61 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c2_i32_3 : BitVec 32 := 2#32
  let v11 : BitVec 32 := Scalar.muli v10 c2_i32_3
  let v117 : BitVec 32 := Scalar.addi v11 c0_i32_61
  let v118 : Index := Scalar.indexCast v117
  let c0_62 : Index := 0#32
  let c0_63 : Index := 0#32
  ![v118.toNat, 0, 0]
def k0_off3 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v180 : Index := Scalar.indexCast v5
  let c0_95 : Index := 0#32
  let c0_96 : Index := 0#32
  ![v180.toNat, 0, 0]
def k0_off4 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v190 : Index := Scalar.indexCast v5
  let c0_99 : Index := 0#32
  let c0_100 : Index := 0#32
  ![v190.toNat, 0, 0]
def k0_dev1 (d0 : Dev nD) : Nat :=
  let c0_i32_221 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_220 : BitVec 32 := 16#32
  let v382 : BitVec 32 := Scalar.muli v2 c16_i32_220
  let v383 : BitVec 32 := Scalar.addi c0_i32_221 v382
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v194 : BitVec 32 := Scalar.addi v5 c1_i32_101
  let c4_i32_102 : BitVec 32 := 4#32
  let c0_i32_103 : BitVec 32 := 0#32
  let v195 : BitVec 1 := Scalar.cmpi .eq c4_i32_102 c0_i32_103
  let c1_i32_104 : BitVec 32 := 1#32
  let v196 : BitVec 32 := Scalar.select v195 c1_i32_104 c4_i32_102
  let v197 : BitVec 32 := Scalar.remsi v194 v196
  let c0_i32_106 : BitVec 32 := 0#32
  let v199 : BitVec 1 := Scalar.cmpi .slt v197 c0_i32_106
  let c0_i32_107 : BitVec 32 := 0#32
  let v200 : BitVec 1 := Scalar.cmpi .slt v196 c0_i32_107
  let v201 : BitVec 1 := Scalar.xori v199 v200
  let c0_i32_105 : BitVec 32 := 0#32
  let v198 : BitVec 1 := Scalar.cmpi .ne v197 c0_i32_105
  let v202 : BitVec 1 := Scalar.andi v201 v198
  let v203 : BitVec 32 := Scalar.addi v197 v196
  let v204 : BitVec 32 := Scalar.select v202 v203 v197
  let c4_i32_222 : BitVec 32 := 4#32
  let v384 : BitVec 32 := Scalar.muli v204 c4_i32_222
  let v385 : BitVec 32 := Scalar.addi v383 v384
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_223 : BitVec 32 := 1#32
  let v386 : BitVec 32 := Scalar.muli v8 c1_i32_223
  let v387 : BitVec 32 := Scalar.addi v385 v386
  v387.toNat
def k0_dev2 (d0 : Dev nD) : Nat :=
  let c0_i32_226 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_225 : BitVec 32 := 16#32
  let v388 : BitVec 32 := Scalar.muli v2 c16_i32_225
  let v389 : BitVec 32 := Scalar.addi c0_i32_226 v388
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_108 : BitVec 32 := 2#32
  let v205 : BitVec 32 := Scalar.addi v5 c2_i32_108
  let c4_i32_109 : BitVec 32 := 4#32
  let c0_i32_110 : BitVec 32 := 0#32
  let v206 : BitVec 1 := Scalar.cmpi .eq c4_i32_109 c0_i32_110
  let c1_i32_111 : BitVec 32 := 1#32
  let v207 : BitVec 32 := Scalar.select v206 c1_i32_111 c4_i32_109
  let v208 : BitVec 32 := Scalar.remsi v205 v207
  let c0_i32_113 : BitVec 32 := 0#32
  let v210 : BitVec 1 := Scalar.cmpi .slt v208 c0_i32_113
  let c0_i32_114 : BitVec 32 := 0#32
  let v211 : BitVec 1 := Scalar.cmpi .slt v207 c0_i32_114
  let v212 : BitVec 1 := Scalar.xori v210 v211
  let c0_i32_112 : BitVec 32 := 0#32
  let v209 : BitVec 1 := Scalar.cmpi .ne v208 c0_i32_112
  let v213 : BitVec 1 := Scalar.andi v212 v209
  let v214 : BitVec 32 := Scalar.addi v208 v207
  let v215 : BitVec 32 := Scalar.select v213 v214 v208
  let c4_i32_227 : BitVec 32 := 4#32
  let v390 : BitVec 32 := Scalar.muli v215 c4_i32_227
  let v391 : BitVec 32 := Scalar.addi v389 v390
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_228 : BitVec 32 := 1#32
  let v392 : BitVec 32 := Scalar.muli v8 c1_i32_228
  let v393 : BitVec 32 := Scalar.addi v391 v392
  v393.toNat
def k0_dev3 (d0 : Dev nD) : Nat :=
  let c0_i32_231 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_230 : BitVec 32 := 16#32
  let v394 : BitVec 32 := Scalar.muli v2 c16_i32_230
  let v395 : BitVec 32 := Scalar.addi c0_i32_231 v394
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v216 : BitVec 32 := Scalar.addi v5 c3_i32
  let c4_i32_115 : BitVec 32 := 4#32
  let c0_i32_116 : BitVec 32 := 0#32
  let v217 : BitVec 1 := Scalar.cmpi .eq c4_i32_115 c0_i32_116
  let c1_i32_117 : BitVec 32 := 1#32
  let v218 : BitVec 32 := Scalar.select v217 c1_i32_117 c4_i32_115
  let v219 : BitVec 32 := Scalar.remsi v216 v218
  let c0_i32_119 : BitVec 32 := 0#32
  let v221 : BitVec 1 := Scalar.cmpi .slt v219 c0_i32_119
  let c0_i32_120 : BitVec 32 := 0#32
  let v222 : BitVec 1 := Scalar.cmpi .slt v218 c0_i32_120
  let v223 : BitVec 1 := Scalar.xori v221 v222
  let c0_i32_118 : BitVec 32 := 0#32
  let v220 : BitVec 1 := Scalar.cmpi .ne v219 c0_i32_118
  let v224 : BitVec 1 := Scalar.andi v223 v220
  let v225 : BitVec 32 := Scalar.addi v219 v218
  let v226 : BitVec 32 := Scalar.select v224 v225 v219
  let c4_i32_232 : BitVec 32 := 4#32
  let v396 : BitVec 32 := Scalar.muli v226 c4_i32_232
  let v397 : BitVec 32 := Scalar.addi v395 v396
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_233 : BitVec 32 := 1#32
  let v398 : BitVec 32 := Scalar.muli v8 c1_i32_233
  let v399 : BitVec 32 := Scalar.addi v397 v398
  v399.toNat
def k0_dev4 (d0 : Dev nD) : Nat :=
  let c0_i32_236 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_121 : BitVec 32 := 0#32
  let v227 : BitVec 32 := Scalar.addi v2 c0_i32_121
  let c2_i32_122 : BitVec 32 := 2#32
  let c0_i32_123 : BitVec 32 := 0#32
  let v228 : BitVec 1 := Scalar.cmpi .eq c2_i32_122 c0_i32_123
  let c1_i32_124 : BitVec 32 := 1#32
  let v229 : BitVec 32 := Scalar.select v228 c1_i32_124 c2_i32_122
  let v230 : BitVec 32 := Scalar.remsi v227 v229
  let c0_i32_126 : BitVec 32 := 0#32
  let v232 : BitVec 1 := Scalar.cmpi .slt v230 c0_i32_126
  let c0_i32_127 : BitVec 32 := 0#32
  let v233 : BitVec 1 := Scalar.cmpi .slt v229 c0_i32_127
  let v234 : BitVec 1 := Scalar.xori v232 v233
  let c0_i32_125 : BitVec 32 := 0#32
  let v231 : BitVec 1 := Scalar.cmpi .ne v230 c0_i32_125
  let v235 : BitVec 1 := Scalar.andi v234 v231
  let v236 : BitVec 32 := Scalar.addi v230 v229
  let v237 : BitVec 32 := Scalar.select v235 v236 v230
  let c16_i32_235 : BitVec 32 := 16#32
  let v400 : BitVec 32 := Scalar.muli v237 c16_i32_235
  let v401 : BitVec 32 := Scalar.addi c0_i32_236 v400
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_237 : BitVec 32 := 4#32
  let v402 : BitVec 32 := Scalar.muli v5 c4_i32_237
  let v403 : BitVec 32 := Scalar.addi v401 v402
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_128 : BitVec 32 := 1#32
  let v238 : BitVec 32 := Scalar.addi v8 c1_i32_128
  let c4_i32_129 : BitVec 32 := 4#32
  let c0_i32_130 : BitVec 32 := 0#32
  let v239 : BitVec 1 := Scalar.cmpi .eq c4_i32_129 c0_i32_130
  let c1_i32_131 : BitVec 32 := 1#32
  let v240 : BitVec 32 := Scalar.select v239 c1_i32_131 c4_i32_129
  let v241 : BitVec 32 := Scalar.remsi v238 v240
  let c0_i32_133 : BitVec 32 := 0#32
  let v243 : BitVec 1 := Scalar.cmpi .slt v241 c0_i32_133
  let c0_i32_134 : BitVec 32 := 0#32
  let v244 : BitVec 1 := Scalar.cmpi .slt v240 c0_i32_134
  let v245 : BitVec 1 := Scalar.xori v243 v244
  let c0_i32_132 : BitVec 32 := 0#32
  let v242 : BitVec 1 := Scalar.cmpi .ne v241 c0_i32_132
  let v246 : BitVec 1 := Scalar.andi v245 v242
  let v247 : BitVec 32 := Scalar.addi v241 v240
  let v248 : BitVec 32 := Scalar.select v246 v247 v241
  let c1_i32_238 : BitVec 32 := 1#32
  let v404 : BitVec 32 := Scalar.muli v248 c1_i32_238
  let v405 : BitVec 32 := Scalar.addi v403 v404
  v405.toNat
def k0_dev5 (d0 : Dev nD) : Nat :=
  let c0_i32_241 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_135 : BitVec 32 := 0#32
  let v249 : BitVec 32 := Scalar.addi v2 c0_i32_135
  let c2_i32_136 : BitVec 32 := 2#32
  let c0_i32_137 : BitVec 32 := 0#32
  let v250 : BitVec 1 := Scalar.cmpi .eq c2_i32_136 c0_i32_137
  let c1_i32_138 : BitVec 32 := 1#32
  let v251 : BitVec 32 := Scalar.select v250 c1_i32_138 c2_i32_136
  let v252 : BitVec 32 := Scalar.remsi v249 v251
  let c0_i32_140 : BitVec 32 := 0#32
  let v254 : BitVec 1 := Scalar.cmpi .slt v252 c0_i32_140
  let c0_i32_141 : BitVec 32 := 0#32
  let v255 : BitVec 1 := Scalar.cmpi .slt v251 c0_i32_141
  let v256 : BitVec 1 := Scalar.xori v254 v255
  let c0_i32_139 : BitVec 32 := 0#32
  let v253 : BitVec 1 := Scalar.cmpi .ne v252 c0_i32_139
  let v257 : BitVec 1 := Scalar.andi v256 v253
  let v258 : BitVec 32 := Scalar.addi v252 v251
  let v259 : BitVec 32 := Scalar.select v257 v258 v252
  let c16_i32_240 : BitVec 32 := 16#32
  let v406 : BitVec 32 := Scalar.muli v259 c16_i32_240
  let v407 : BitVec 32 := Scalar.addi c0_i32_241 v406
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_242 : BitVec 32 := 4#32
  let v408 : BitVec 32 := Scalar.muli v5 c4_i32_242
  let v409 : BitVec 32 := Scalar.addi v407 v408
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_142 : BitVec 32 := 2#32
  let v260 : BitVec 32 := Scalar.addi v8 c2_i32_142
  let c4_i32_143 : BitVec 32 := 4#32
  let c0_i32_144 : BitVec 32 := 0#32
  let v261 : BitVec 1 := Scalar.cmpi .eq c4_i32_143 c0_i32_144
  let c1_i32_145 : BitVec 32 := 1#32
  let v262 : BitVec 32 := Scalar.select v261 c1_i32_145 c4_i32_143
  let v263 : BitVec 32 := Scalar.remsi v260 v262
  let c0_i32_147 : BitVec 32 := 0#32
  let v265 : BitVec 1 := Scalar.cmpi .slt v263 c0_i32_147
  let c0_i32_148 : BitVec 32 := 0#32
  let v266 : BitVec 1 := Scalar.cmpi .slt v262 c0_i32_148
  let v267 : BitVec 1 := Scalar.xori v265 v266
  let c0_i32_146 : BitVec 32 := 0#32
  let v264 : BitVec 1 := Scalar.cmpi .ne v263 c0_i32_146
  let v268 : BitVec 1 := Scalar.andi v267 v264
  let v269 : BitVec 32 := Scalar.addi v263 v262
  let v270 : BitVec 32 := Scalar.select v268 v269 v263
  let c1_i32_243 : BitVec 32 := 1#32
  let v410 : BitVec 32 := Scalar.muli v270 c1_i32_243
  let v411 : BitVec 32 := Scalar.addi v409 v410
  v411.toNat
def k0_dev6 (d0 : Dev nD) : Nat :=
  let c0_i32_246 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_149 : BitVec 32 := 0#32
  let v271 : BitVec 32 := Scalar.addi v2 c0_i32_149
  let c2_i32_150 : BitVec 32 := 2#32
  let c0_i32_151 : BitVec 32 := 0#32
  let v272 : BitVec 1 := Scalar.cmpi .eq c2_i32_150 c0_i32_151
  let c1_i32_152 : BitVec 32 := 1#32
  let v273 : BitVec 32 := Scalar.select v272 c1_i32_152 c2_i32_150
  let v274 : BitVec 32 := Scalar.remsi v271 v273
  let c0_i32_154 : BitVec 32 := 0#32
  let v276 : BitVec 1 := Scalar.cmpi .slt v274 c0_i32_154
  let c0_i32_155 : BitVec 32 := 0#32
  let v277 : BitVec 1 := Scalar.cmpi .slt v273 c0_i32_155
  let v278 : BitVec 1 := Scalar.xori v276 v277
  let c0_i32_153 : BitVec 32 := 0#32
  let v275 : BitVec 1 := Scalar.cmpi .ne v274 c0_i32_153
  let v279 : BitVec 1 := Scalar.andi v278 v275
  let v280 : BitVec 32 := Scalar.addi v274 v273
  let v281 : BitVec 32 := Scalar.select v279 v280 v274
  let c16_i32_245 : BitVec 32 := 16#32
  let v412 : BitVec 32 := Scalar.muli v281 c16_i32_245
  let v413 : BitVec 32 := Scalar.addi c0_i32_246 v412
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_247 : BitVec 32 := 4#32
  let v414 : BitVec 32 := Scalar.muli v5 c4_i32_247
  let v415 : BitVec 32 := Scalar.addi v413 v414
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_156 : BitVec 32 := 3#32
  let v282 : BitVec 32 := Scalar.addi v8 c3_i32_156
  let c4_i32_157 : BitVec 32 := 4#32
  let c0_i32_158 : BitVec 32 := 0#32
  let v283 : BitVec 1 := Scalar.cmpi .eq c4_i32_157 c0_i32_158
  let c1_i32_159 : BitVec 32 := 1#32
  let v284 : BitVec 32 := Scalar.select v283 c1_i32_159 c4_i32_157
  let v285 : BitVec 32 := Scalar.remsi v282 v284
  let c0_i32_161 : BitVec 32 := 0#32
  let v287 : BitVec 1 := Scalar.cmpi .slt v285 c0_i32_161
  let c0_i32_162 : BitVec 32 := 0#32
  let v288 : BitVec 1 := Scalar.cmpi .slt v284 c0_i32_162
  let v289 : BitVec 1 := Scalar.xori v287 v288
  let c0_i32_160 : BitVec 32 := 0#32
  let v286 : BitVec 1 := Scalar.cmpi .ne v285 c0_i32_160
  let v290 : BitVec 1 := Scalar.andi v289 v286
  let v291 : BitVec 32 := Scalar.addi v285 v284
  let v292 : BitVec 32 := Scalar.select v290 v291 v285
  let c1_i32_248 : BitVec 32 := 1#32
  let v416 : BitVec 32 := Scalar.muli v292 c1_i32_248
  let v417 : BitVec 32 := Scalar.addi v415 v416
  v417.toNat
def k0_dev7 (d0 : Dev nD) : Nat :=
  let c0_i32_251 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_163 : BitVec 32 := 1#32
  let v293 : BitVec 32 := Scalar.addi v2 c1_i32_163
  let c2_i32_164 : BitVec 32 := 2#32
  let c0_i32_165 : BitVec 32 := 0#32
  let v294 : BitVec 1 := Scalar.cmpi .eq c2_i32_164 c0_i32_165
  let c1_i32_166 : BitVec 32 := 1#32
  let v295 : BitVec 32 := Scalar.select v294 c1_i32_166 c2_i32_164
  let v296 : BitVec 32 := Scalar.remsi v293 v295
  let c0_i32_168 : BitVec 32 := 0#32
  let v298 : BitVec 1 := Scalar.cmpi .slt v296 c0_i32_168
  let c0_i32_169 : BitVec 32 := 0#32
  let v299 : BitVec 1 := Scalar.cmpi .slt v295 c0_i32_169
  let v300 : BitVec 1 := Scalar.xori v298 v299
  let c0_i32_167 : BitVec 32 := 0#32
  let v297 : BitVec 1 := Scalar.cmpi .ne v296 c0_i32_167
  let v301 : BitVec 1 := Scalar.andi v300 v297
  let v302 : BitVec 32 := Scalar.addi v296 v295
  let v303 : BitVec 32 := Scalar.select v301 v302 v296
  let c16_i32_250 : BitVec 32 := 16#32
  let v418 : BitVec 32 := Scalar.muli v303 c16_i32_250
  let v419 : BitVec 32 := Scalar.addi c0_i32_251 v418
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_252 : BitVec 32 := 4#32
  let v420 : BitVec 32 := Scalar.muli v5 c4_i32_252
  let v421 : BitVec 32 := Scalar.addi v419 v420
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_170 : BitVec 32 := 0#32
  let v304 : BitVec 32 := Scalar.addi v8 c0_i32_170
  let c4_i32_171 : BitVec 32 := 4#32
  let c0_i32_172 : BitVec 32 := 0#32
  let v305 : BitVec 1 := Scalar.cmpi .eq c4_i32_171 c0_i32_172
  let c1_i32_173 : BitVec 32 := 1#32
  let v306 : BitVec 32 := Scalar.select v305 c1_i32_173 c4_i32_171
  let v307 : BitVec 32 := Scalar.remsi v304 v306
  let c0_i32_175 : BitVec 32 := 0#32
  let v309 : BitVec 1 := Scalar.cmpi .slt v307 c0_i32_175
  let c0_i32_176 : BitVec 32 := 0#32
  let v310 : BitVec 1 := Scalar.cmpi .slt v306 c0_i32_176
  let v311 : BitVec 1 := Scalar.xori v309 v310
  let c0_i32_174 : BitVec 32 := 0#32
  let v308 : BitVec 1 := Scalar.cmpi .ne v307 c0_i32_174
  let v312 : BitVec 1 := Scalar.andi v311 v308
  let v313 : BitVec 32 := Scalar.addi v307 v306
  let v314 : BitVec 32 := Scalar.select v312 v313 v307
  let c1_i32_253 : BitVec 32 := 1#32
  let v422 : BitVec 32 := Scalar.muli v314 c1_i32_253
  let v423 : BitVec 32 := Scalar.addi v421 v422
  v423.toNat
def k0_dev8 (d0 : Dev nD) : Nat :=
  let c0_i32_256 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_177 : BitVec 32 := 1#32
  let v315 : BitVec 32 := Scalar.addi v2 c1_i32_177
  let c2_i32_178 : BitVec 32 := 2#32
  let c0_i32_179 : BitVec 32 := 0#32
  let v316 : BitVec 1 := Scalar.cmpi .eq c2_i32_178 c0_i32_179
  let c1_i32_180 : BitVec 32 := 1#32
  let v317 : BitVec 32 := Scalar.select v316 c1_i32_180 c2_i32_178
  let v318 : BitVec 32 := Scalar.remsi v315 v317
  let c0_i32_182 : BitVec 32 := 0#32
  let v320 : BitVec 1 := Scalar.cmpi .slt v318 c0_i32_182
  let c0_i32_183 : BitVec 32 := 0#32
  let v321 : BitVec 1 := Scalar.cmpi .slt v317 c0_i32_183
  let v322 : BitVec 1 := Scalar.xori v320 v321
  let c0_i32_181 : BitVec 32 := 0#32
  let v319 : BitVec 1 := Scalar.cmpi .ne v318 c0_i32_181
  let v323 : BitVec 1 := Scalar.andi v322 v319
  let v324 : BitVec 32 := Scalar.addi v318 v317
  let v325 : BitVec 32 := Scalar.select v323 v324 v318
  let c16_i32_255 : BitVec 32 := 16#32
  let v424 : BitVec 32 := Scalar.muli v325 c16_i32_255
  let v425 : BitVec 32 := Scalar.addi c0_i32_256 v424
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_257 : BitVec 32 := 4#32
  let v426 : BitVec 32 := Scalar.muli v5 c4_i32_257
  let v427 : BitVec 32 := Scalar.addi v425 v426
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_184 : BitVec 32 := 1#32
  let v326 : BitVec 32 := Scalar.addi v8 c1_i32_184
  let c4_i32_185 : BitVec 32 := 4#32
  let c0_i32_186 : BitVec 32 := 0#32
  let v327 : BitVec 1 := Scalar.cmpi .eq c4_i32_185 c0_i32_186
  let c1_i32_187 : BitVec 32 := 1#32
  let v328 : BitVec 32 := Scalar.select v327 c1_i32_187 c4_i32_185
  let v329 : BitVec 32 := Scalar.remsi v326 v328
  let c0_i32_189 : BitVec 32 := 0#32
  let v331 : BitVec 1 := Scalar.cmpi .slt v329 c0_i32_189
  let c0_i32_190 : BitVec 32 := 0#32
  let v332 : BitVec 1 := Scalar.cmpi .slt v328 c0_i32_190
  let v333 : BitVec 1 := Scalar.xori v331 v332
  let c0_i32_188 : BitVec 32 := 0#32
  let v330 : BitVec 1 := Scalar.cmpi .ne v329 c0_i32_188
  let v334 : BitVec 1 := Scalar.andi v333 v330
  let v335 : BitVec 32 := Scalar.addi v329 v328
  let v336 : BitVec 32 := Scalar.select v334 v335 v329
  let c1_i32_258 : BitVec 32 := 1#32
  let v428 : BitVec 32 := Scalar.muli v336 c1_i32_258
  let v429 : BitVec 32 := Scalar.addi v427 v428
  v429.toNat
def k0_dev9 (d0 : Dev nD) : Nat :=
  let c0_i32_261 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_191 : BitVec 32 := 1#32
  let v337 : BitVec 32 := Scalar.addi v2 c1_i32_191
  let c2_i32_192 : BitVec 32 := 2#32
  let c0_i32_193 : BitVec 32 := 0#32
  let v338 : BitVec 1 := Scalar.cmpi .eq c2_i32_192 c0_i32_193
  let c1_i32_194 : BitVec 32 := 1#32
  let v339 : BitVec 32 := Scalar.select v338 c1_i32_194 c2_i32_192
  let v340 : BitVec 32 := Scalar.remsi v337 v339
  let c0_i32_196 : BitVec 32 := 0#32
  let v342 : BitVec 1 := Scalar.cmpi .slt v340 c0_i32_196
  let c0_i32_197 : BitVec 32 := 0#32
  let v343 : BitVec 1 := Scalar.cmpi .slt v339 c0_i32_197
  let v344 : BitVec 1 := Scalar.xori v342 v343
  let c0_i32_195 : BitVec 32 := 0#32
  let v341 : BitVec 1 := Scalar.cmpi .ne v340 c0_i32_195
  let v345 : BitVec 1 := Scalar.andi v344 v341
  let v346 : BitVec 32 := Scalar.addi v340 v339
  let v347 : BitVec 32 := Scalar.select v345 v346 v340
  let c16_i32_260 : BitVec 32 := 16#32
  let v430 : BitVec 32 := Scalar.muli v347 c16_i32_260
  let v431 : BitVec 32 := Scalar.addi c0_i32_261 v430
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_262 : BitVec 32 := 4#32
  let v432 : BitVec 32 := Scalar.muli v5 c4_i32_262
  let v433 : BitVec 32 := Scalar.addi v431 v432
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_198 : BitVec 32 := 2#32
  let v348 : BitVec 32 := Scalar.addi v8 c2_i32_198
  let c4_i32_199 : BitVec 32 := 4#32
  let c0_i32_200 : BitVec 32 := 0#32
  let v349 : BitVec 1 := Scalar.cmpi .eq c4_i32_199 c0_i32_200
  let c1_i32_201 : BitVec 32 := 1#32
  let v350 : BitVec 32 := Scalar.select v349 c1_i32_201 c4_i32_199
  let v351 : BitVec 32 := Scalar.remsi v348 v350
  let c0_i32_203 : BitVec 32 := 0#32
  let v353 : BitVec 1 := Scalar.cmpi .slt v351 c0_i32_203
  let c0_i32_204 : BitVec 32 := 0#32
  let v354 : BitVec 1 := Scalar.cmpi .slt v350 c0_i32_204
  let v355 : BitVec 1 := Scalar.xori v353 v354
  let c0_i32_202 : BitVec 32 := 0#32
  let v352 : BitVec 1 := Scalar.cmpi .ne v351 c0_i32_202
  let v356 : BitVec 1 := Scalar.andi v355 v352
  let v357 : BitVec 32 := Scalar.addi v351 v350
  let v358 : BitVec 32 := Scalar.select v356 v357 v351
  let c1_i32_263 : BitVec 32 := 1#32
  let v434 : BitVec 32 := Scalar.muli v358 c1_i32_263
  let v435 : BitVec 32 := Scalar.addi v433 v434
  v435.toNat
def k0_dev10 (d0 : Dev nD) : Nat :=
  let c0_i32_266 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_205 : BitVec 32 := 1#32
  let v359 : BitVec 32 := Scalar.addi v2 c1_i32_205
  let c2_i32_206 : BitVec 32 := 2#32
  let c0_i32_207 : BitVec 32 := 0#32
  let v360 : BitVec 1 := Scalar.cmpi .eq c2_i32_206 c0_i32_207
  let c1_i32_208 : BitVec 32 := 1#32
  let v361 : BitVec 32 := Scalar.select v360 c1_i32_208 c2_i32_206
  let v362 : BitVec 32 := Scalar.remsi v359 v361
  let c0_i32_210 : BitVec 32 := 0#32
  let v364 : BitVec 1 := Scalar.cmpi .slt v362 c0_i32_210
  let c0_i32_211 : BitVec 32 := 0#32
  let v365 : BitVec 1 := Scalar.cmpi .slt v361 c0_i32_211
  let v366 : BitVec 1 := Scalar.xori v364 v365
  let c0_i32_209 : BitVec 32 := 0#32
  let v363 : BitVec 1 := Scalar.cmpi .ne v362 c0_i32_209
  let v367 : BitVec 1 := Scalar.andi v366 v363
  let v368 : BitVec 32 := Scalar.addi v362 v361
  let v369 : BitVec 32 := Scalar.select v367 v368 v362
  let c16_i32_265 : BitVec 32 := 16#32
  let v436 : BitVec 32 := Scalar.muli v369 c16_i32_265
  let v437 : BitVec 32 := Scalar.addi c0_i32_266 v436
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_267 : BitVec 32 := 4#32
  let v438 : BitVec 32 := Scalar.muli v5 c4_i32_267
  let v439 : BitVec 32 := Scalar.addi v437 v438
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_212 : BitVec 32 := 3#32
  let v370 : BitVec 32 := Scalar.addi v8 c3_i32_212
  let c4_i32_213 : BitVec 32 := 4#32
  let c0_i32_214 : BitVec 32 := 0#32
  let v371 : BitVec 1 := Scalar.cmpi .eq c4_i32_213 c0_i32_214
  let c1_i32_215 : BitVec 32 := 1#32
  let v372 : BitVec 32 := Scalar.select v371 c1_i32_215 c4_i32_213
  let v373 : BitVec 32 := Scalar.remsi v370 v372
  let c0_i32_217 : BitVec 32 := 0#32
  let v375 : BitVec 1 := Scalar.cmpi .slt v373 c0_i32_217
  let c0_i32_218 : BitVec 32 := 0#32
  let v376 : BitVec 1 := Scalar.cmpi .slt v372 c0_i32_218
  let v377 : BitVec 1 := Scalar.xori v375 v376
  let c0_i32_216 : BitVec 32 := 0#32
  let v374 : BitVec 1 := Scalar.cmpi .ne v373 c0_i32_216
  let v378 : BitVec 1 := Scalar.andi v377 v374
  let v379 : BitVec 32 := Scalar.addi v373 v372
  let v380 : BitVec 32 := Scalar.select v378 v379 v373
  let c1_i32_268 : BitVec 32 := 1#32
  let v440 : BitVec 32 := Scalar.muli v380 c1_i32_268
  let v441 : BitVec 32 := Scalar.addi v439 v440
  v441.toNat
def k0_off5 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_269 : BitVec 32 := 0#32
  ![v5.toNat, 0]
def k0_off6 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_276 : BitVec 32 := 0#32
  let c0_i32_277 : BitVec 32 := 0#32
  ![v5.toNat, 0, 0]
def k0_dev11 (d0 : Dev nD) : Nat :=
  let c0_i32_273 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_272 : BitVec 32 := 16#32
  let v442 : BitVec 32 := Scalar.muli v2 c16_i32_272
  let v443 : BitVec 32 := Scalar.addi c0_i32_273 v442
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v194 : BitVec 32 := Scalar.addi v5 c1_i32_101
  let c4_i32_102 : BitVec 32 := 4#32
  let c0_i32_103 : BitVec 32 := 0#32
  let v195 : BitVec 1 := Scalar.cmpi .eq c4_i32_102 c0_i32_103
  let c1_i32_104 : BitVec 32 := 1#32
  let v196 : BitVec 32 := Scalar.select v195 c1_i32_104 c4_i32_102
  let v197 : BitVec 32 := Scalar.remsi v194 v196
  let c0_i32_106 : BitVec 32 := 0#32
  let v199 : BitVec 1 := Scalar.cmpi .slt v197 c0_i32_106
  let c0_i32_107 : BitVec 32 := 0#32
  let v200 : BitVec 1 := Scalar.cmpi .slt v196 c0_i32_107
  let v201 : BitVec 1 := Scalar.xori v199 v200
  let c0_i32_105 : BitVec 32 := 0#32
  let v198 : BitVec 1 := Scalar.cmpi .ne v197 c0_i32_105
  let v202 : BitVec 1 := Scalar.andi v201 v198
  let v203 : BitVec 32 := Scalar.addi v197 v196
  let v204 : BitVec 32 := Scalar.select v202 v203 v197
  let c4_i32_274 : BitVec 32 := 4#32
  let v444 : BitVec 32 := Scalar.muli v204 c4_i32_274
  let v445 : BitVec 32 := Scalar.addi v443 v444
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_275 : BitVec 32 := 1#32
  let v446 : BitVec 32 := Scalar.muli v8 c1_i32_275
  let v447 : BitVec 32 := Scalar.addi v445 v446
  v447.toNat
def k0_off7 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_280 : BitVec 32 := 1#32
  ![v5.toNat, 1]
def k0_dev12 (d0 : Dev nD) : Nat :=
  let c0_i32_284 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_283 : BitVec 32 := 16#32
  let v456 : BitVec 32 := Scalar.muli v2 c16_i32_283
  let v457 : BitVec 32 := Scalar.addi c0_i32_284 v456
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v194 : BitVec 32 := Scalar.addi v5 c1_i32_101
  let c4_i32_102 : BitVec 32 := 4#32
  let c0_i32_103 : BitVec 32 := 0#32
  let v195 : BitVec 1 := Scalar.cmpi .eq c4_i32_102 c0_i32_103
  let c1_i32_104 : BitVec 32 := 1#32
  let v196 : BitVec 32 := Scalar.select v195 c1_i32_104 c4_i32_102
  let v197 : BitVec 32 := Scalar.remsi v194 v196
  let c0_i32_106 : BitVec 32 := 0#32
  let v199 : BitVec 1 := Scalar.cmpi .slt v197 c0_i32_106
  let c0_i32_107 : BitVec 32 := 0#32
  let v200 : BitVec 1 := Scalar.cmpi .slt v196 c0_i32_107
  let v201 : BitVec 1 := Scalar.xori v199 v200
  let c0_i32_105 : BitVec 32 := 0#32
  let v198 : BitVec 1 := Scalar.cmpi .ne v197 c0_i32_105
  let v202 : BitVec 1 := Scalar.andi v201 v198
  let v203 : BitVec 32 := Scalar.addi v197 v196
  let v204 : BitVec 32 := Scalar.select v202 v203 v197
  let c4_i32_285 : BitVec 32 := 4#32
  let v458 : BitVec 32 := Scalar.muli v204 c4_i32_285
  let v459 : BitVec 32 := Scalar.addi v457 v458
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_286 : BitVec 32 := 1#32
  let v460 : BitVec 32 := Scalar.muli v8 c1_i32_286
  let v461 : BitVec 32 := Scalar.addi v459 v460
  v461.toNat
def k0_off8 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_291 : BitVec 32 := 2#32
  ![v5.toNat, 2]
def k0_off9 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_298 : BitVec 32 := 0#32
  let c0_i32_299 : BitVec 32 := 0#32
  ![v5.toNat, 0, 0]
def k0_dev13 (d0 : Dev nD) : Nat :=
  let c0_i32_295 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_294 : BitVec 32 := 16#32
  let v470 : BitVec 32 := Scalar.muli v2 c16_i32_294
  let v471 : BitVec 32 := Scalar.addi c0_i32_295 v470
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_101 : BitVec 32 := 1#32
  let v194 : BitVec 32 := Scalar.addi v5 c1_i32_101
  let c4_i32_102 : BitVec 32 := 4#32
  let c0_i32_103 : BitVec 32 := 0#32
  let v195 : BitVec 1 := Scalar.cmpi .eq c4_i32_102 c0_i32_103
  let c1_i32_104 : BitVec 32 := 1#32
  let v196 : BitVec 32 := Scalar.select v195 c1_i32_104 c4_i32_102
  let v197 : BitVec 32 := Scalar.remsi v194 v196
  let c0_i32_106 : BitVec 32 := 0#32
  let v199 : BitVec 1 := Scalar.cmpi .slt v197 c0_i32_106
  let c0_i32_107 : BitVec 32 := 0#32
  let v200 : BitVec 1 := Scalar.cmpi .slt v196 c0_i32_107
  let v201 : BitVec 1 := Scalar.xori v199 v200
  let c0_i32_105 : BitVec 32 := 0#32
  let v198 : BitVec 1 := Scalar.cmpi .ne v197 c0_i32_105
  let v202 : BitVec 1 := Scalar.andi v201 v198
  let v203 : BitVec 32 := Scalar.addi v197 v196
  let v204 : BitVec 32 := Scalar.select v202 v203 v197
  let c4_i32_296 : BitVec 32 := 4#32
  let v472 : BitVec 32 := Scalar.muli v204 c4_i32_296
  let v473 : BitVec 32 := Scalar.addi v471 v472
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_297 : BitVec 32 := 1#32
  let v474 : BitVec 32 := Scalar.muli v8 c1_i32_297
  let v475 : BitVec 32 := Scalar.addi v473 v474
  v475.toNat
def k0_dev14 (d0 : Dev nD) : Nat :=
  let c0_i32_306 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_305 : BitVec 32 := 16#32
  let v484 : BitVec 32 := Scalar.muli v2 c16_i32_305
  let v485 : BitVec 32 := Scalar.addi c0_i32_306 v484
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_108 : BitVec 32 := 2#32
  let v205 : BitVec 32 := Scalar.addi v5 c2_i32_108
  let c4_i32_109 : BitVec 32 := 4#32
  let c0_i32_110 : BitVec 32 := 0#32
  let v206 : BitVec 1 := Scalar.cmpi .eq c4_i32_109 c0_i32_110
  let c1_i32_111 : BitVec 32 := 1#32
  let v207 : BitVec 32 := Scalar.select v206 c1_i32_111 c4_i32_109
  let v208 : BitVec 32 := Scalar.remsi v205 v207
  let c0_i32_113 : BitVec 32 := 0#32
  let v210 : BitVec 1 := Scalar.cmpi .slt v208 c0_i32_113
  let c0_i32_114 : BitVec 32 := 0#32
  let v211 : BitVec 1 := Scalar.cmpi .slt v207 c0_i32_114
  let v212 : BitVec 1 := Scalar.xori v210 v211
  let c0_i32_112 : BitVec 32 := 0#32
  let v209 : BitVec 1 := Scalar.cmpi .ne v208 c0_i32_112
  let v213 : BitVec 1 := Scalar.andi v212 v209
  let v214 : BitVec 32 := Scalar.addi v208 v207
  let v215 : BitVec 32 := Scalar.select v213 v214 v208
  let c4_i32_307 : BitVec 32 := 4#32
  let v486 : BitVec 32 := Scalar.muli v215 c4_i32_307
  let v487 : BitVec 32 := Scalar.addi v485 v486
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_308 : BitVec 32 := 1#32
  let v488 : BitVec 32 := Scalar.muli v8 c1_i32_308
  let v489 : BitVec 32 := Scalar.addi v487 v488
  v489.toNat
def k0_dev15 (d0 : Dev nD) : Nat :=
  let c0_i32_317 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_316 : BitVec 32 := 16#32
  let v498 : BitVec 32 := Scalar.muli v2 c16_i32_316
  let v499 : BitVec 32 := Scalar.addi c0_i32_317 v498
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_108 : BitVec 32 := 2#32
  let v205 : BitVec 32 := Scalar.addi v5 c2_i32_108
  let c4_i32_109 : BitVec 32 := 4#32
  let c0_i32_110 : BitVec 32 := 0#32
  let v206 : BitVec 1 := Scalar.cmpi .eq c4_i32_109 c0_i32_110
  let c1_i32_111 : BitVec 32 := 1#32
  let v207 : BitVec 32 := Scalar.select v206 c1_i32_111 c4_i32_109
  let v208 : BitVec 32 := Scalar.remsi v205 v207
  let c0_i32_113 : BitVec 32 := 0#32
  let v210 : BitVec 1 := Scalar.cmpi .slt v208 c0_i32_113
  let c0_i32_114 : BitVec 32 := 0#32
  let v211 : BitVec 1 := Scalar.cmpi .slt v207 c0_i32_114
  let v212 : BitVec 1 := Scalar.xori v210 v211
  let c0_i32_112 : BitVec 32 := 0#32
  let v209 : BitVec 1 := Scalar.cmpi .ne v208 c0_i32_112
  let v213 : BitVec 1 := Scalar.andi v212 v209
  let v214 : BitVec 32 := Scalar.addi v208 v207
  let v215 : BitVec 32 := Scalar.select v213 v214 v208
  let c4_i32_318 : BitVec 32 := 4#32
  let v500 : BitVec 32 := Scalar.muli v215 c4_i32_318
  let v501 : BitVec 32 := Scalar.addi v499 v500
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_319 : BitVec 32 := 1#32
  let v502 : BitVec 32 := Scalar.muli v8 c1_i32_319
  let v503 : BitVec 32 := Scalar.addi v501 v502
  v503.toNat
def k0_dev16 (d0 : Dev nD) : Nat :=
  let c0_i32_328 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_327 : BitVec 32 := 16#32
  let v512 : BitVec 32 := Scalar.muli v2 c16_i32_327
  let v513 : BitVec 32 := Scalar.addi c0_i32_328 v512
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_108 : BitVec 32 := 2#32
  let v205 : BitVec 32 := Scalar.addi v5 c2_i32_108
  let c4_i32_109 : BitVec 32 := 4#32
  let c0_i32_110 : BitVec 32 := 0#32
  let v206 : BitVec 1 := Scalar.cmpi .eq c4_i32_109 c0_i32_110
  let c1_i32_111 : BitVec 32 := 1#32
  let v207 : BitVec 32 := Scalar.select v206 c1_i32_111 c4_i32_109
  let v208 : BitVec 32 := Scalar.remsi v205 v207
  let c0_i32_113 : BitVec 32 := 0#32
  let v210 : BitVec 1 := Scalar.cmpi .slt v208 c0_i32_113
  let c0_i32_114 : BitVec 32 := 0#32
  let v211 : BitVec 1 := Scalar.cmpi .slt v207 c0_i32_114
  let v212 : BitVec 1 := Scalar.xori v210 v211
  let c0_i32_112 : BitVec 32 := 0#32
  let v209 : BitVec 1 := Scalar.cmpi .ne v208 c0_i32_112
  let v213 : BitVec 1 := Scalar.andi v212 v209
  let v214 : BitVec 32 := Scalar.addi v208 v207
  let v215 : BitVec 32 := Scalar.select v213 v214 v208
  let c4_i32_329 : BitVec 32 := 4#32
  let v514 : BitVec 32 := Scalar.muli v215 c4_i32_329
  let v515 : BitVec 32 := Scalar.addi v513 v514
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_330 : BitVec 32 := 1#32
  let v516 : BitVec 32 := Scalar.muli v8 c1_i32_330
  let v517 : BitVec 32 := Scalar.addi v515 v516
  v517.toNat
def k0_dev17 (d0 : Dev nD) : Nat :=
  let c0_i32_339 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_338 : BitVec 32 := 16#32
  let v526 : BitVec 32 := Scalar.muli v2 c16_i32_338
  let v527 : BitVec 32 := Scalar.addi c0_i32_339 v526
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v216 : BitVec 32 := Scalar.addi v5 c3_i32
  let c4_i32_115 : BitVec 32 := 4#32
  let c0_i32_116 : BitVec 32 := 0#32
  let v217 : BitVec 1 := Scalar.cmpi .eq c4_i32_115 c0_i32_116
  let c1_i32_117 : BitVec 32 := 1#32
  let v218 : BitVec 32 := Scalar.select v217 c1_i32_117 c4_i32_115
  let v219 : BitVec 32 := Scalar.remsi v216 v218
  let c0_i32_119 : BitVec 32 := 0#32
  let v221 : BitVec 1 := Scalar.cmpi .slt v219 c0_i32_119
  let c0_i32_120 : BitVec 32 := 0#32
  let v222 : BitVec 1 := Scalar.cmpi .slt v218 c0_i32_120
  let v223 : BitVec 1 := Scalar.xori v221 v222
  let c0_i32_118 : BitVec 32 := 0#32
  let v220 : BitVec 1 := Scalar.cmpi .ne v219 c0_i32_118
  let v224 : BitVec 1 := Scalar.andi v223 v220
  let v225 : BitVec 32 := Scalar.addi v219 v218
  let v226 : BitVec 32 := Scalar.select v224 v225 v219
  let c4_i32_340 : BitVec 32 := 4#32
  let v528 : BitVec 32 := Scalar.muli v226 c4_i32_340
  let v529 : BitVec 32 := Scalar.addi v527 v528
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_341 : BitVec 32 := 1#32
  let v530 : BitVec 32 := Scalar.muli v8 c1_i32_341
  let v531 : BitVec 32 := Scalar.addi v529 v530
  v531.toNat
def k0_dev18 (d0 : Dev nD) : Nat :=
  let c0_i32_350 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_349 : BitVec 32 := 16#32
  let v540 : BitVec 32 := Scalar.muli v2 c16_i32_349
  let v541 : BitVec 32 := Scalar.addi c0_i32_350 v540
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v216 : BitVec 32 := Scalar.addi v5 c3_i32
  let c4_i32_115 : BitVec 32 := 4#32
  let c0_i32_116 : BitVec 32 := 0#32
  let v217 : BitVec 1 := Scalar.cmpi .eq c4_i32_115 c0_i32_116
  let c1_i32_117 : BitVec 32 := 1#32
  let v218 : BitVec 32 := Scalar.select v217 c1_i32_117 c4_i32_115
  let v219 : BitVec 32 := Scalar.remsi v216 v218
  let c0_i32_119 : BitVec 32 := 0#32
  let v221 : BitVec 1 := Scalar.cmpi .slt v219 c0_i32_119
  let c0_i32_120 : BitVec 32 := 0#32
  let v222 : BitVec 1 := Scalar.cmpi .slt v218 c0_i32_120
  let v223 : BitVec 1 := Scalar.xori v221 v222
  let c0_i32_118 : BitVec 32 := 0#32
  let v220 : BitVec 1 := Scalar.cmpi .ne v219 c0_i32_118
  let v224 : BitVec 1 := Scalar.andi v223 v220
  let v225 : BitVec 32 := Scalar.addi v219 v218
  let v226 : BitVec 32 := Scalar.select v224 v225 v219
  let c4_i32_351 : BitVec 32 := 4#32
  let v542 : BitVec 32 := Scalar.muli v226 c4_i32_351
  let v543 : BitVec 32 := Scalar.addi v541 v542
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_352 : BitVec 32 := 1#32
  let v544 : BitVec 32 := Scalar.muli v8 c1_i32_352
  let v545 : BitVec 32 := Scalar.addi v543 v544
  v545.toNat
def k0_dev19 (d0 : Dev nD) : Nat :=
  let c0_i32_361 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_360 : BitVec 32 := 16#32
  let v554 : BitVec 32 := Scalar.muli v2 c16_i32_360
  let v555 : BitVec 32 := Scalar.addi c0_i32_361 v554
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v216 : BitVec 32 := Scalar.addi v5 c3_i32
  let c4_i32_115 : BitVec 32 := 4#32
  let c0_i32_116 : BitVec 32 := 0#32
  let v217 : BitVec 1 := Scalar.cmpi .eq c4_i32_115 c0_i32_116
  let c1_i32_117 : BitVec 32 := 1#32
  let v218 : BitVec 32 := Scalar.select v217 c1_i32_117 c4_i32_115
  let v219 : BitVec 32 := Scalar.remsi v216 v218
  let c0_i32_119 : BitVec 32 := 0#32
  let v221 : BitVec 1 := Scalar.cmpi .slt v219 c0_i32_119
  let c0_i32_120 : BitVec 32 := 0#32
  let v222 : BitVec 1 := Scalar.cmpi .slt v218 c0_i32_120
  let v223 : BitVec 1 := Scalar.xori v221 v222
  let c0_i32_118 : BitVec 32 := 0#32
  let v220 : BitVec 1 := Scalar.cmpi .ne v219 c0_i32_118
  let v224 : BitVec 1 := Scalar.andi v223 v220
  let v225 : BitVec 32 := Scalar.addi v219 v218
  let v226 : BitVec 32 := Scalar.select v224 v225 v219
  let c4_i32_362 : BitVec 32 := 4#32
  let v556 : BitVec 32 := Scalar.muli v226 c4_i32_362
  let v557 : BitVec 32 := Scalar.addi v555 v556
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_363 : BitVec 32 := 1#32
  let v558 : BitVec 32 := Scalar.muli v8 c1_i32_363
  let v559 : BitVec 32 := Scalar.addi v557 v558
  v559.toNat
def k0_off10 (d0 : Dev nD) (c1_i32_101 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v194 : BitVec 32 := Scalar.addi v5 c1_i32_101
  let c4_i32_102 : BitVec 32 := 4#32
  let c0_i32_103 : BitVec 32 := 0#32
  let v195 : BitVec 1 := Scalar.cmpi .eq c4_i32_102 c0_i32_103
  let c1_i32_104 : BitVec 32 := 1#32
  let v196 : BitVec 32 := Scalar.select v195 c1_i32_104 c4_i32_102
  let v197 : BitVec 32 := Scalar.remsi v194 v196
  let c0_i32_106 : BitVec 32 := 0#32
  let v199 : BitVec 1 := Scalar.cmpi .slt v197 c0_i32_106
  let c0_i32_107 : BitVec 32 := 0#32
  let v200 : BitVec 1 := Scalar.cmpi .slt v196 c0_i32_107
  let v201 : BitVec 1 := Scalar.xori v199 v200
  let c0_i32_105 : BitVec 32 := 0#32
  let v198 : BitVec 1 := Scalar.cmpi .ne v197 c0_i32_105
  let v202 : BitVec 1 := Scalar.andi v201 v198
  let v203 : BitVec 32 := Scalar.addi v197 v196
  let v204 : BitVec 32 := Scalar.select v202 v203 v197
  let c0_i32_368 : BitVec 32 := 0#32
  ![v204.toNat, 0]
def k0_off11 (d0 : Dev nD) (c1_i32_101 : BitVec 32) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v194 : BitVec 32 := Scalar.addi v5 c1_i32_101
  let c4_i32_102 : BitVec 32 := 4#32
  let c0_i32_103 : BitVec 32 := 0#32
  let v195 : BitVec 1 := Scalar.cmpi .eq c4_i32_102 c0_i32_103
  let c1_i32_104 : BitVec 32 := 1#32
  let v196 : BitVec 32 := Scalar.select v195 c1_i32_104 c4_i32_102
  let v197 : BitVec 32 := Scalar.remsi v194 v196
  let c0_i32_106 : BitVec 32 := 0#32
  let v199 : BitVec 1 := Scalar.cmpi .slt v197 c0_i32_106
  let c0_i32_107 : BitVec 32 := 0#32
  let v200 : BitVec 1 := Scalar.cmpi .slt v196 c0_i32_107
  let v201 : BitVec 1 := Scalar.xori v199 v200
  let c0_i32_105 : BitVec 32 := 0#32
  let v198 : BitVec 1 := Scalar.cmpi .ne v197 c0_i32_105
  let v202 : BitVec 1 := Scalar.andi v201 v198
  let v203 : BitVec 32 := Scalar.addi v197 v196
  let v204 : BitVec 32 := Scalar.select v202 v203 v197
  let c0_i32_375 : BitVec 32 := 0#32
  let c0_i32_376 : BitVec 32 := 0#32
  ![v204.toNat, 0, 0]
def k0_off12 (d0 : Dev nD) (c1_i32_101 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v194 : BitVec 32 := Scalar.addi v5 c1_i32_101
  let c4_i32_102 : BitVec 32 := 4#32
  let c0_i32_103 : BitVec 32 := 0#32
  let v195 : BitVec 1 := Scalar.cmpi .eq c4_i32_102 c0_i32_103
  let c1_i32_104 : BitVec 32 := 1#32
  let v196 : BitVec 32 := Scalar.select v195 c1_i32_104 c4_i32_102
  let v197 : BitVec 32 := Scalar.remsi v194 v196
  let c0_i32_106 : BitVec 32 := 0#32
  let v199 : BitVec 1 := Scalar.cmpi .slt v197 c0_i32_106
  let c0_i32_107 : BitVec 32 := 0#32
  let v200 : BitVec 1 := Scalar.cmpi .slt v196 c0_i32_107
  let v201 : BitVec 1 := Scalar.xori v199 v200
  let c0_i32_105 : BitVec 32 := 0#32
  let v198 : BitVec 1 := Scalar.cmpi .ne v197 c0_i32_105
  let v202 : BitVec 1 := Scalar.andi v201 v198
  let v203 : BitVec 32 := Scalar.addi v197 v196
  let v204 : BitVec 32 := Scalar.select v202 v203 v197
  let c1_i32_379 : BitVec 32 := 1#32
  ![v204.toNat, 1]
def k0_off13 (d0 : Dev nD) (c1_i32_101 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v194 : BitVec 32 := Scalar.addi v5 c1_i32_101
  let c4_i32_102 : BitVec 32 := 4#32
  let c0_i32_103 : BitVec 32 := 0#32
  let v195 : BitVec 1 := Scalar.cmpi .eq c4_i32_102 c0_i32_103
  let c1_i32_104 : BitVec 32 := 1#32
  let v196 : BitVec 32 := Scalar.select v195 c1_i32_104 c4_i32_102
  let v197 : BitVec 32 := Scalar.remsi v194 v196
  let c0_i32_106 : BitVec 32 := 0#32
  let v199 : BitVec 1 := Scalar.cmpi .slt v197 c0_i32_106
  let c0_i32_107 : BitVec 32 := 0#32
  let v200 : BitVec 1 := Scalar.cmpi .slt v196 c0_i32_107
  let v201 : BitVec 1 := Scalar.xori v199 v200
  let c0_i32_105 : BitVec 32 := 0#32
  let v198 : BitVec 1 := Scalar.cmpi .ne v197 c0_i32_105
  let v202 : BitVec 1 := Scalar.andi v201 v198
  let v203 : BitVec 32 := Scalar.addi v197 v196
  let v204 : BitVec 32 := Scalar.select v202 v203 v197
  let c2_i32_390 : BitVec 32 := 2#32
  ![v204.toNat, 2]
def k0_off14 (d0 : Dev nD) (c1_i32_101 : BitVec 32) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v194 : BitVec 32 := Scalar.addi v5 c1_i32_101
  let c4_i32_102 : BitVec 32 := 4#32
  let c0_i32_103 : BitVec 32 := 0#32
  let v195 : BitVec 1 := Scalar.cmpi .eq c4_i32_102 c0_i32_103
  let c1_i32_104 : BitVec 32 := 1#32
  let v196 : BitVec 32 := Scalar.select v195 c1_i32_104 c4_i32_102
  let v197 : BitVec 32 := Scalar.remsi v194 v196
  let c0_i32_106 : BitVec 32 := 0#32
  let v199 : BitVec 1 := Scalar.cmpi .slt v197 c0_i32_106
  let c0_i32_107 : BitVec 32 := 0#32
  let v200 : BitVec 1 := Scalar.cmpi .slt v196 c0_i32_107
  let v201 : BitVec 1 := Scalar.xori v199 v200
  let c0_i32_105 : BitVec 32 := 0#32
  let v198 : BitVec 1 := Scalar.cmpi .ne v197 c0_i32_105
  let v202 : BitVec 1 := Scalar.andi v201 v198
  let v203 : BitVec 32 := Scalar.addi v197 v196
  let v204 : BitVec 32 := Scalar.select v202 v203 v197
  let c0_i32_397 : BitVec 32 := 0#32
  let c0_i32_398 : BitVec 32 := 0#32
  ![v204.toNat, 0, 0]
def k0_off15 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v693 : Index := Scalar.indexCast v10
  let c0_481 : Index := 0#32
  let c0_482 : Index := 0#32
  ![v693.toNat, 0, 0]
def k0_off16 (d0 : Dev nD) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  ![v10.toNat]
def k0_off17 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_560 : BitVec 32 := 0#32
  let c0_i32_561 : BitVec 32 := 0#32
  ![v10.toNat, 0, 0]
def k0_dev20 (d0 : Dev nD) : Nat :=
  let c0_i32_557 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_121 : BitVec 32 := 0#32
  let v227 : BitVec 32 := Scalar.addi v2 c0_i32_121
  let c2_i32_122 : BitVec 32 := 2#32
  let c0_i32_123 : BitVec 32 := 0#32
  let v228 : BitVec 1 := Scalar.cmpi .eq c2_i32_122 c0_i32_123
  let c1_i32_124 : BitVec 32 := 1#32
  let v229 : BitVec 32 := Scalar.select v228 c1_i32_124 c2_i32_122
  let v230 : BitVec 32 := Scalar.remsi v227 v229
  let c0_i32_126 : BitVec 32 := 0#32
  let v232 : BitVec 1 := Scalar.cmpi .slt v230 c0_i32_126
  let c0_i32_127 : BitVec 32 := 0#32
  let v233 : BitVec 1 := Scalar.cmpi .slt v229 c0_i32_127
  let v234 : BitVec 1 := Scalar.xori v232 v233
  let c0_i32_125 : BitVec 32 := 0#32
  let v231 : BitVec 1 := Scalar.cmpi .ne v230 c0_i32_125
  let v235 : BitVec 1 := Scalar.andi v234 v231
  let v236 : BitVec 32 := Scalar.addi v230 v229
  let v237 : BitVec 32 := Scalar.select v235 v236 v230
  let c16_i32_556 : BitVec 32 := 16#32
  let v751 : BitVec 32 := Scalar.muli v237 c16_i32_556
  let v752 : BitVec 32 := Scalar.addi c0_i32_557 v751
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_558 : BitVec 32 := 4#32
  let v753 : BitVec 32 := Scalar.muli v5 c4_i32_558
  let v754 : BitVec 32 := Scalar.addi v752 v753
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_128 : BitVec 32 := 1#32
  let v238 : BitVec 32 := Scalar.addi v8 c1_i32_128
  let c4_i32_129 : BitVec 32 := 4#32
  let c0_i32_130 : BitVec 32 := 0#32
  let v239 : BitVec 1 := Scalar.cmpi .eq c4_i32_129 c0_i32_130
  let c1_i32_131 : BitVec 32 := 1#32
  let v240 : BitVec 32 := Scalar.select v239 c1_i32_131 c4_i32_129
  let v241 : BitVec 32 := Scalar.remsi v238 v240
  let c0_i32_133 : BitVec 32 := 0#32
  let v243 : BitVec 1 := Scalar.cmpi .slt v241 c0_i32_133
  let c0_i32_134 : BitVec 32 := 0#32
  let v244 : BitVec 1 := Scalar.cmpi .slt v240 c0_i32_134
  let v245 : BitVec 1 := Scalar.xori v243 v244
  let c0_i32_132 : BitVec 32 := 0#32
  let v242 : BitVec 1 := Scalar.cmpi .ne v241 c0_i32_132
  let v246 : BitVec 1 := Scalar.andi v245 v242
  let v247 : BitVec 32 := Scalar.addi v241 v240
  let v248 : BitVec 32 := Scalar.select v246 v247 v241
  let c1_i32_559 : BitVec 32 := 1#32
  let v755 : BitVec 32 := Scalar.muli v248 c1_i32_559
  let v756 : BitVec 32 := Scalar.addi v754 v755
  v756.toNat
def k0_dev21 (d0 : Dev nD) : Nat :=
  let c0_i32_566 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_135 : BitVec 32 := 0#32
  let v249 : BitVec 32 := Scalar.addi v2 c0_i32_135
  let c2_i32_136 : BitVec 32 := 2#32
  let c0_i32_137 : BitVec 32 := 0#32
  let v250 : BitVec 1 := Scalar.cmpi .eq c2_i32_136 c0_i32_137
  let c1_i32_138 : BitVec 32 := 1#32
  let v251 : BitVec 32 := Scalar.select v250 c1_i32_138 c2_i32_136
  let v252 : BitVec 32 := Scalar.remsi v249 v251
  let c0_i32_140 : BitVec 32 := 0#32
  let v254 : BitVec 1 := Scalar.cmpi .slt v252 c0_i32_140
  let c0_i32_141 : BitVec 32 := 0#32
  let v255 : BitVec 1 := Scalar.cmpi .slt v251 c0_i32_141
  let v256 : BitVec 1 := Scalar.xori v254 v255
  let c0_i32_139 : BitVec 32 := 0#32
  let v253 : BitVec 1 := Scalar.cmpi .ne v252 c0_i32_139
  let v257 : BitVec 1 := Scalar.andi v256 v253
  let v258 : BitVec 32 := Scalar.addi v252 v251
  let v259 : BitVec 32 := Scalar.select v257 v258 v252
  let c16_i32_565 : BitVec 32 := 16#32
  let v765 : BitVec 32 := Scalar.muli v259 c16_i32_565
  let v766 : BitVec 32 := Scalar.addi c0_i32_566 v765
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_567 : BitVec 32 := 4#32
  let v767 : BitVec 32 := Scalar.muli v5 c4_i32_567
  let v768 : BitVec 32 := Scalar.addi v766 v767
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_142 : BitVec 32 := 2#32
  let v260 : BitVec 32 := Scalar.addi v8 c2_i32_142
  let c4_i32_143 : BitVec 32 := 4#32
  let c0_i32_144 : BitVec 32 := 0#32
  let v261 : BitVec 1 := Scalar.cmpi .eq c4_i32_143 c0_i32_144
  let c1_i32_145 : BitVec 32 := 1#32
  let v262 : BitVec 32 := Scalar.select v261 c1_i32_145 c4_i32_143
  let v263 : BitVec 32 := Scalar.remsi v260 v262
  let c0_i32_147 : BitVec 32 := 0#32
  let v265 : BitVec 1 := Scalar.cmpi .slt v263 c0_i32_147
  let c0_i32_148 : BitVec 32 := 0#32
  let v266 : BitVec 1 := Scalar.cmpi .slt v262 c0_i32_148
  let v267 : BitVec 1 := Scalar.xori v265 v266
  let c0_i32_146 : BitVec 32 := 0#32
  let v264 : BitVec 1 := Scalar.cmpi .ne v263 c0_i32_146
  let v268 : BitVec 1 := Scalar.andi v267 v264
  let v269 : BitVec 32 := Scalar.addi v263 v262
  let v270 : BitVec 32 := Scalar.select v268 v269 v263
  let c1_i32_568 : BitVec 32 := 1#32
  let v769 : BitVec 32 := Scalar.muli v270 c1_i32_568
  let v770 : BitVec 32 := Scalar.addi v768 v769
  v770.toNat
def k0_dev22 (d0 : Dev nD) : Nat :=
  let c0_i32_575 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_149 : BitVec 32 := 0#32
  let v271 : BitVec 32 := Scalar.addi v2 c0_i32_149
  let c2_i32_150 : BitVec 32 := 2#32
  let c0_i32_151 : BitVec 32 := 0#32
  let v272 : BitVec 1 := Scalar.cmpi .eq c2_i32_150 c0_i32_151
  let c1_i32_152 : BitVec 32 := 1#32
  let v273 : BitVec 32 := Scalar.select v272 c1_i32_152 c2_i32_150
  let v274 : BitVec 32 := Scalar.remsi v271 v273
  let c0_i32_154 : BitVec 32 := 0#32
  let v276 : BitVec 1 := Scalar.cmpi .slt v274 c0_i32_154
  let c0_i32_155 : BitVec 32 := 0#32
  let v277 : BitVec 1 := Scalar.cmpi .slt v273 c0_i32_155
  let v278 : BitVec 1 := Scalar.xori v276 v277
  let c0_i32_153 : BitVec 32 := 0#32
  let v275 : BitVec 1 := Scalar.cmpi .ne v274 c0_i32_153
  let v279 : BitVec 1 := Scalar.andi v278 v275
  let v280 : BitVec 32 := Scalar.addi v274 v273
  let v281 : BitVec 32 := Scalar.select v279 v280 v274
  let c16_i32_574 : BitVec 32 := 16#32
  let v779 : BitVec 32 := Scalar.muli v281 c16_i32_574
  let v780 : BitVec 32 := Scalar.addi c0_i32_575 v779
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_576 : BitVec 32 := 4#32
  let v781 : BitVec 32 := Scalar.muli v5 c4_i32_576
  let v782 : BitVec 32 := Scalar.addi v780 v781
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_156 : BitVec 32 := 3#32
  let v282 : BitVec 32 := Scalar.addi v8 c3_i32_156
  let c4_i32_157 : BitVec 32 := 4#32
  let c0_i32_158 : BitVec 32 := 0#32
  let v283 : BitVec 1 := Scalar.cmpi .eq c4_i32_157 c0_i32_158
  let c1_i32_159 : BitVec 32 := 1#32
  let v284 : BitVec 32 := Scalar.select v283 c1_i32_159 c4_i32_157
  let v285 : BitVec 32 := Scalar.remsi v282 v284
  let c0_i32_161 : BitVec 32 := 0#32
  let v287 : BitVec 1 := Scalar.cmpi .slt v285 c0_i32_161
  let c0_i32_162 : BitVec 32 := 0#32
  let v288 : BitVec 1 := Scalar.cmpi .slt v284 c0_i32_162
  let v289 : BitVec 1 := Scalar.xori v287 v288
  let c0_i32_160 : BitVec 32 := 0#32
  let v286 : BitVec 1 := Scalar.cmpi .ne v285 c0_i32_160
  let v290 : BitVec 1 := Scalar.andi v289 v286
  let v291 : BitVec 32 := Scalar.addi v285 v284
  let v292 : BitVec 32 := Scalar.select v290 v291 v285
  let c1_i32_577 : BitVec 32 := 1#32
  let v783 : BitVec 32 := Scalar.muli v292 c1_i32_577
  let v784 : BitVec 32 := Scalar.addi v782 v783
  v784.toNat
def k0_dev23 (d0 : Dev nD) : Nat :=
  let c0_i32_584 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_163 : BitVec 32 := 1#32
  let v293 : BitVec 32 := Scalar.addi v2 c1_i32_163
  let c2_i32_164 : BitVec 32 := 2#32
  let c0_i32_165 : BitVec 32 := 0#32
  let v294 : BitVec 1 := Scalar.cmpi .eq c2_i32_164 c0_i32_165
  let c1_i32_166 : BitVec 32 := 1#32
  let v295 : BitVec 32 := Scalar.select v294 c1_i32_166 c2_i32_164
  let v296 : BitVec 32 := Scalar.remsi v293 v295
  let c0_i32_168 : BitVec 32 := 0#32
  let v298 : BitVec 1 := Scalar.cmpi .slt v296 c0_i32_168
  let c0_i32_169 : BitVec 32 := 0#32
  let v299 : BitVec 1 := Scalar.cmpi .slt v295 c0_i32_169
  let v300 : BitVec 1 := Scalar.xori v298 v299
  let c0_i32_167 : BitVec 32 := 0#32
  let v297 : BitVec 1 := Scalar.cmpi .ne v296 c0_i32_167
  let v301 : BitVec 1 := Scalar.andi v300 v297
  let v302 : BitVec 32 := Scalar.addi v296 v295
  let v303 : BitVec 32 := Scalar.select v301 v302 v296
  let c16_i32_583 : BitVec 32 := 16#32
  let v793 : BitVec 32 := Scalar.muli v303 c16_i32_583
  let v794 : BitVec 32 := Scalar.addi c0_i32_584 v793
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_585 : BitVec 32 := 4#32
  let v795 : BitVec 32 := Scalar.muli v5 c4_i32_585
  let v796 : BitVec 32 := Scalar.addi v794 v795
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_170 : BitVec 32 := 0#32
  let v304 : BitVec 32 := Scalar.addi v8 c0_i32_170
  let c4_i32_171 : BitVec 32 := 4#32
  let c0_i32_172 : BitVec 32 := 0#32
  let v305 : BitVec 1 := Scalar.cmpi .eq c4_i32_171 c0_i32_172
  let c1_i32_173 : BitVec 32 := 1#32
  let v306 : BitVec 32 := Scalar.select v305 c1_i32_173 c4_i32_171
  let v307 : BitVec 32 := Scalar.remsi v304 v306
  let c0_i32_175 : BitVec 32 := 0#32
  let v309 : BitVec 1 := Scalar.cmpi .slt v307 c0_i32_175
  let c0_i32_176 : BitVec 32 := 0#32
  let v310 : BitVec 1 := Scalar.cmpi .slt v306 c0_i32_176
  let v311 : BitVec 1 := Scalar.xori v309 v310
  let c0_i32_174 : BitVec 32 := 0#32
  let v308 : BitVec 1 := Scalar.cmpi .ne v307 c0_i32_174
  let v312 : BitVec 1 := Scalar.andi v311 v308
  let v313 : BitVec 32 := Scalar.addi v307 v306
  let v314 : BitVec 32 := Scalar.select v312 v313 v307
  let c1_i32_586 : BitVec 32 := 1#32
  let v797 : BitVec 32 := Scalar.muli v314 c1_i32_586
  let v798 : BitVec 32 := Scalar.addi v796 v797
  v798.toNat
def k0_dev24 (d0 : Dev nD) : Nat :=
  let c0_i32_593 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_177 : BitVec 32 := 1#32
  let v315 : BitVec 32 := Scalar.addi v2 c1_i32_177
  let c2_i32_178 : BitVec 32 := 2#32
  let c0_i32_179 : BitVec 32 := 0#32
  let v316 : BitVec 1 := Scalar.cmpi .eq c2_i32_178 c0_i32_179
  let c1_i32_180 : BitVec 32 := 1#32
  let v317 : BitVec 32 := Scalar.select v316 c1_i32_180 c2_i32_178
  let v318 : BitVec 32 := Scalar.remsi v315 v317
  let c0_i32_182 : BitVec 32 := 0#32
  let v320 : BitVec 1 := Scalar.cmpi .slt v318 c0_i32_182
  let c0_i32_183 : BitVec 32 := 0#32
  let v321 : BitVec 1 := Scalar.cmpi .slt v317 c0_i32_183
  let v322 : BitVec 1 := Scalar.xori v320 v321
  let c0_i32_181 : BitVec 32 := 0#32
  let v319 : BitVec 1 := Scalar.cmpi .ne v318 c0_i32_181
  let v323 : BitVec 1 := Scalar.andi v322 v319
  let v324 : BitVec 32 := Scalar.addi v318 v317
  let v325 : BitVec 32 := Scalar.select v323 v324 v318
  let c16_i32_592 : BitVec 32 := 16#32
  let v807 : BitVec 32 := Scalar.muli v325 c16_i32_592
  let v808 : BitVec 32 := Scalar.addi c0_i32_593 v807
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_594 : BitVec 32 := 4#32
  let v809 : BitVec 32 := Scalar.muli v5 c4_i32_594
  let v810 : BitVec 32 := Scalar.addi v808 v809
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_184 : BitVec 32 := 1#32
  let v326 : BitVec 32 := Scalar.addi v8 c1_i32_184
  let c4_i32_185 : BitVec 32 := 4#32
  let c0_i32_186 : BitVec 32 := 0#32
  let v327 : BitVec 1 := Scalar.cmpi .eq c4_i32_185 c0_i32_186
  let c1_i32_187 : BitVec 32 := 1#32
  let v328 : BitVec 32 := Scalar.select v327 c1_i32_187 c4_i32_185
  let v329 : BitVec 32 := Scalar.remsi v326 v328
  let c0_i32_189 : BitVec 32 := 0#32
  let v331 : BitVec 1 := Scalar.cmpi .slt v329 c0_i32_189
  let c0_i32_190 : BitVec 32 := 0#32
  let v332 : BitVec 1 := Scalar.cmpi .slt v328 c0_i32_190
  let v333 : BitVec 1 := Scalar.xori v331 v332
  let c0_i32_188 : BitVec 32 := 0#32
  let v330 : BitVec 1 := Scalar.cmpi .ne v329 c0_i32_188
  let v334 : BitVec 1 := Scalar.andi v333 v330
  let v335 : BitVec 32 := Scalar.addi v329 v328
  let v336 : BitVec 32 := Scalar.select v334 v335 v329
  let c1_i32_595 : BitVec 32 := 1#32
  let v811 : BitVec 32 := Scalar.muli v336 c1_i32_595
  let v812 : BitVec 32 := Scalar.addi v810 v811
  v812.toNat
def k0_dev25 (d0 : Dev nD) : Nat :=
  let c0_i32_601 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_191 : BitVec 32 := 1#32
  let v337 : BitVec 32 := Scalar.addi v2 c1_i32_191
  let c2_i32_192 : BitVec 32 := 2#32
  let c0_i32_193 : BitVec 32 := 0#32
  let v338 : BitVec 1 := Scalar.cmpi .eq c2_i32_192 c0_i32_193
  let c1_i32_194 : BitVec 32 := 1#32
  let v339 : BitVec 32 := Scalar.select v338 c1_i32_194 c2_i32_192
  let v340 : BitVec 32 := Scalar.remsi v337 v339
  let c0_i32_196 : BitVec 32 := 0#32
  let v342 : BitVec 1 := Scalar.cmpi .slt v340 c0_i32_196
  let c0_i32_197 : BitVec 32 := 0#32
  let v343 : BitVec 1 := Scalar.cmpi .slt v339 c0_i32_197
  let v344 : BitVec 1 := Scalar.xori v342 v343
  let c0_i32_195 : BitVec 32 := 0#32
  let v341 : BitVec 1 := Scalar.cmpi .ne v340 c0_i32_195
  let v345 : BitVec 1 := Scalar.andi v344 v341
  let v346 : BitVec 32 := Scalar.addi v340 v339
  let v347 : BitVec 32 := Scalar.select v345 v346 v340
  let c16_i32_600 : BitVec 32 := 16#32
  let v821 : BitVec 32 := Scalar.muli v347 c16_i32_600
  let v822 : BitVec 32 := Scalar.addi c0_i32_601 v821
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_602 : BitVec 32 := 4#32
  let v823 : BitVec 32 := Scalar.muli v5 c4_i32_602
  let v824 : BitVec 32 := Scalar.addi v822 v823
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_198 : BitVec 32 := 2#32
  let v348 : BitVec 32 := Scalar.addi v8 c2_i32_198
  let c4_i32_199 : BitVec 32 := 4#32
  let c0_i32_200 : BitVec 32 := 0#32
  let v349 : BitVec 1 := Scalar.cmpi .eq c4_i32_199 c0_i32_200
  let c1_i32_201 : BitVec 32 := 1#32
  let v350 : BitVec 32 := Scalar.select v349 c1_i32_201 c4_i32_199
  let v351 : BitVec 32 := Scalar.remsi v348 v350
  let c0_i32_203 : BitVec 32 := 0#32
  let v353 : BitVec 1 := Scalar.cmpi .slt v351 c0_i32_203
  let c0_i32_204 : BitVec 32 := 0#32
  let v354 : BitVec 1 := Scalar.cmpi .slt v350 c0_i32_204
  let v355 : BitVec 1 := Scalar.xori v353 v354
  let c0_i32_202 : BitVec 32 := 0#32
  let v352 : BitVec 1 := Scalar.cmpi .ne v351 c0_i32_202
  let v356 : BitVec 1 := Scalar.andi v355 v352
  let v357 : BitVec 32 := Scalar.addi v351 v350
  let v358 : BitVec 32 := Scalar.select v356 v357 v351
  let c1_i32_603 : BitVec 32 := 1#32
  let v825 : BitVec 32 := Scalar.muli v358 c1_i32_603
  let v826 : BitVec 32 := Scalar.addi v824 v825
  v826.toNat
def k0_dev26 (d0 : Dev nD) : Nat :=
  let c0_i32_609 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_205 : BitVec 32 := 1#32
  let v359 : BitVec 32 := Scalar.addi v2 c1_i32_205
  let c2_i32_206 : BitVec 32 := 2#32
  let c0_i32_207 : BitVec 32 := 0#32
  let v360 : BitVec 1 := Scalar.cmpi .eq c2_i32_206 c0_i32_207
  let c1_i32_208 : BitVec 32 := 1#32
  let v361 : BitVec 32 := Scalar.select v360 c1_i32_208 c2_i32_206
  let v362 : BitVec 32 := Scalar.remsi v359 v361
  let c0_i32_210 : BitVec 32 := 0#32
  let v364 : BitVec 1 := Scalar.cmpi .slt v362 c0_i32_210
  let c0_i32_211 : BitVec 32 := 0#32
  let v365 : BitVec 1 := Scalar.cmpi .slt v361 c0_i32_211
  let v366 : BitVec 1 := Scalar.xori v364 v365
  let c0_i32_209 : BitVec 32 := 0#32
  let v363 : BitVec 1 := Scalar.cmpi .ne v362 c0_i32_209
  let v367 : BitVec 1 := Scalar.andi v366 v363
  let v368 : BitVec 32 := Scalar.addi v362 v361
  let v369 : BitVec 32 := Scalar.select v367 v368 v362
  let c16_i32_608 : BitVec 32 := 16#32
  let v835 : BitVec 32 := Scalar.muli v369 c16_i32_608
  let v836 : BitVec 32 := Scalar.addi c0_i32_609 v835
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_610 : BitVec 32 := 4#32
  let v837 : BitVec 32 := Scalar.muli v5 c4_i32_610
  let v838 : BitVec 32 := Scalar.addi v836 v837
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_212 : BitVec 32 := 3#32
  let v370 : BitVec 32 := Scalar.addi v8 c3_i32_212
  let c4_i32_213 : BitVec 32 := 4#32
  let c0_i32_214 : BitVec 32 := 0#32
  let v371 : BitVec 1 := Scalar.cmpi .eq c4_i32_213 c0_i32_214
  let c1_i32_215 : BitVec 32 := 1#32
  let v372 : BitVec 32 := Scalar.select v371 c1_i32_215 c4_i32_213
  let v373 : BitVec 32 := Scalar.remsi v370 v372
  let c0_i32_217 : BitVec 32 := 0#32
  let v375 : BitVec 1 := Scalar.cmpi .slt v373 c0_i32_217
  let c0_i32_218 : BitVec 32 := 0#32
  let v376 : BitVec 1 := Scalar.cmpi .slt v372 c0_i32_218
  let v377 : BitVec 1 := Scalar.xori v375 v376
  let c0_i32_216 : BitVec 32 := 0#32
  let v374 : BitVec 1 := Scalar.cmpi .ne v373 c0_i32_216
  let v378 : BitVec 1 := Scalar.andi v377 v374
  let v379 : BitVec 32 := Scalar.addi v373 v372
  let v380 : BitVec 32 := Scalar.select v378 v379 v373
  let c1_i32_611 : BitVec 32 := 1#32
  let v839 : BitVec 32 := Scalar.muli v380 c1_i32_611
  let v840 : BitVec 32 := Scalar.addi v838 v839
  v840.toNat
def k0_off18 (d0 : Dev nD) (c0_i32_121 : BitVec 32) (c1_i32_128 : BitVec 32) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v227 : BitVec 32 := Scalar.addi v2 c0_i32_121
  let c2_i32_122 : BitVec 32 := 2#32
  let c0_i32_123 : BitVec 32 := 0#32
  let v228 : BitVec 1 := Scalar.cmpi .eq c2_i32_122 c0_i32_123
  let c1_i32_124 : BitVec 32 := 1#32
  let v229 : BitVec 32 := Scalar.select v228 c1_i32_124 c2_i32_122
  let v230 : BitVec 32 := Scalar.remsi v227 v229
  let c0_i32_126 : BitVec 32 := 0#32
  let v232 : BitVec 1 := Scalar.cmpi .slt v230 c0_i32_126
  let c0_i32_127 : BitVec 32 := 0#32
  let v233 : BitVec 1 := Scalar.cmpi .slt v229 c0_i32_127
  let v234 : BitVec 1 := Scalar.xori v232 v233
  let c0_i32_125 : BitVec 32 := 0#32
  let v231 : BitVec 1 := Scalar.cmpi .ne v230 c0_i32_125
  let v235 : BitVec 1 := Scalar.andi v234 v231
  let v236 : BitVec 32 := Scalar.addi v230 v229
  let v237 : BitVec 32 := Scalar.select v235 v236 v230
  let c4_i32_616 : BitVec 32 := 4#32
  let v849 : BitVec 32 := Scalar.muli v237 c4_i32_616
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v238 : BitVec 32 := Scalar.addi v8 c1_i32_128
  let c4_i32_129 : BitVec 32 := 4#32
  let c0_i32_130 : BitVec 32 := 0#32
  let v239 : BitVec 1 := Scalar.cmpi .eq c4_i32_129 c0_i32_130
  let c1_i32_131 : BitVec 32 := 1#32
  let v240 : BitVec 32 := Scalar.select v239 c1_i32_131 c4_i32_129
  let v241 : BitVec 32 := Scalar.remsi v238 v240
  let c0_i32_133 : BitVec 32 := 0#32
  let v243 : BitVec 1 := Scalar.cmpi .slt v241 c0_i32_133
  let c0_i32_134 : BitVec 32 := 0#32
  let v244 : BitVec 1 := Scalar.cmpi .slt v240 c0_i32_134
  let v245 : BitVec 1 := Scalar.xori v243 v244
  let c0_i32_132 : BitVec 32 := 0#32
  let v242 : BitVec 1 := Scalar.cmpi .ne v241 c0_i32_132
  let v246 : BitVec 1 := Scalar.andi v245 v242
  let v247 : BitVec 32 := Scalar.addi v241 v240
  let v248 : BitVec 32 := Scalar.select v246 v247 v241
  let v850 : BitVec 32 := Scalar.addi v849 v248
  ![v850.toNat]
def k0_off18_at (r : Fin 7) : BitVec 32 × BitVec 32 :=
  if r.val < 3 then
    if r.val < 1 then
      (0#32, 1#32)
    else
      if r.val < 2 then
        (0#32, 2#32)
      else
        (0#32, 3#32)
  else
    if r.val < 5 then
      if r.val < 4 then
        (1#32, 0#32)
      else
        (1#32, 1#32)
    else
      if r.val < 6 then
        (1#32, 2#32)
      else
        (1#32, 3#32)
def k0_off19 (d0 : Dev nD) (c0_i32_121 : BitVec 32) (c1_i32_128 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v227 : BitVec 32 := Scalar.addi v2 c0_i32_121
  let c2_i32_122 : BitVec 32 := 2#32
  let c0_i32_123 : BitVec 32 := 0#32
  let v228 : BitVec 1 := Scalar.cmpi .eq c2_i32_122 c0_i32_123
  let c1_i32_124 : BitVec 32 := 1#32
  let v229 : BitVec 32 := Scalar.select v228 c1_i32_124 c2_i32_122
  let v230 : BitVec 32 := Scalar.remsi v227 v229
  let c0_i32_126 : BitVec 32 := 0#32
  let v232 : BitVec 1 := Scalar.cmpi .slt v230 c0_i32_126
  let c0_i32_127 : BitVec 32 := 0#32
  let v233 : BitVec 1 := Scalar.cmpi .slt v229 c0_i32_127
  let v234 : BitVec 1 := Scalar.xori v232 v233
  let c0_i32_125 : BitVec 32 := 0#32
  let v231 : BitVec 1 := Scalar.cmpi .ne v230 c0_i32_125
  let v235 : BitVec 1 := Scalar.andi v234 v231
  let v236 : BitVec 32 := Scalar.addi v230 v229
  let v237 : BitVec 32 := Scalar.select v235 v236 v230
  let c4_i32_616 : BitVec 32 := 4#32
  let v849 : BitVec 32 := Scalar.muli v237 c4_i32_616
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v238 : BitVec 32 := Scalar.addi v8 c1_i32_128
  let c4_i32_129 : BitVec 32 := 4#32
  let c0_i32_130 : BitVec 32 := 0#32
  let v239 : BitVec 1 := Scalar.cmpi .eq c4_i32_129 c0_i32_130
  let c1_i32_131 : BitVec 32 := 1#32
  let v240 : BitVec 32 := Scalar.select v239 c1_i32_131 c4_i32_129
  let v241 : BitVec 32 := Scalar.remsi v238 v240
  let c0_i32_133 : BitVec 32 := 0#32
  let v243 : BitVec 1 := Scalar.cmpi .slt v241 c0_i32_133
  let c0_i32_134 : BitVec 32 := 0#32
  let v244 : BitVec 1 := Scalar.cmpi .slt v240 c0_i32_134
  let v245 : BitVec 1 := Scalar.xori v243 v244
  let c0_i32_132 : BitVec 32 := 0#32
  let v242 : BitVec 1 := Scalar.cmpi .ne v241 c0_i32_132
  let v246 : BitVec 1 := Scalar.andi v245 v242
  let v247 : BitVec 32 := Scalar.addi v241 v240
  let v248 : BitVec 32 := Scalar.select v246 v247 v241
  let v850 : BitVec 32 := Scalar.addi v849 v248
  let c0_i32_622 : BitVec 32 := 0#32
  let c0_i32_623 : BitVec 32 := 0#32
  ![v850.toNat, 0, 0]
def k0_off19_at (r : Fin 7) : BitVec 32 × BitVec 32 :=
  if r.val < 3 then
    if r.val < 1 then
      (0#32, 1#32)
    else
      if r.val < 2 then
        (0#32, 2#32)
      else
        (0#32, 3#32)
  else
    if r.val < 5 then
      if r.val < 4 then
        (1#32, 0#32)
      else
        (1#32, 1#32)
    else
      if r.val < 6 then
        (1#32, 2#32)
      else
        (1#32, 3#32)
abbrev stage0_0 : Fin 1 → Memref sig .tc .vmem S16x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16x1x16x64 : Shape := ⟨4, ![16, 1, 16, 64]⟩
abbrev S16x4096x16x64 : Shape := ⟨4, ![16, 4096, 16, 64]⟩
abbrev S16x16x1x4096 : Shape := ⟨4, ![16, 16, 1, 4096]⟩
abbrev S_ : Shape := ⟨0, ![]⟩
abbrev S16x16x1 : Shape := ⟨3, ![16, 16, 1]⟩
abbrev S16x16x1x1 : Shape := ⟨4, ![16, 16, 1, 1]⟩
abbrev S16x16x64x1 : Shape := ⟨4, ![16, 16, 64, 1]⟩

abbrev nBuf : Space → Nat
  | .hbm => 20
  | .vmem => 0
  | .smem => 0
  | _ => 0

abbrev bufTy : (tb : Table) → Fin (tcTables nBuf tb) → BufTy
  | .hbm, ⟨0, _⟩ => ⟨S16x1x16x64, .f32⟩
  | .hbm, ⟨1, _⟩ => ⟨S16x4096x16x64, .f32⟩
  | .hbm, ⟨2, _⟩ => ⟨S16x4096x16x64, .f32⟩
  | .hbm, ⟨3, _⟩ => ⟨S16x16x1x4096, .f32⟩
  | .hbm, ⟨4, _⟩ => ⟨S_, .f32⟩
  | .hbm, ⟨5, _⟩ => ⟨S16x16x1x4096, .f32⟩
  | .hbm, ⟨6, _⟩ => ⟨S16x16x1x4096, .f32⟩
  | .hbm, ⟨7, _⟩ => ⟨S_, .f32⟩
  | .hbm, ⟨8, _⟩ => ⟨S16x16x1, .f32⟩
  | .hbm, ⟨9, _⟩ => ⟨S16x16x1x1, .f32⟩
  | .hbm, ⟨10, _⟩ => ⟨S16x16x1x4096, .f32⟩
  | .hbm, ⟨11, _⟩ => ⟨S16x16x1x4096, .f32⟩
  | .hbm, ⟨12, _⟩ => ⟨S16x16x1x4096, .f32⟩
  | .hbm, ⟨13, _⟩ => ⟨S_, .f32⟩
  | .hbm, ⟨14, _⟩ => ⟨S16x16x1, .f32⟩
  | .hbm, ⟨15, _⟩ => ⟨S16x16x1x1, .f32⟩
  | .hbm, ⟨16, _⟩ => ⟨S16x16x1x4096, .f32⟩
  | .hbm, ⟨17, _⟩ => ⟨S16x16x1x4096, .f32⟩
  | .hbm, ⟨18, _⟩ => ⟨S16x16x64x1, .f32⟩
  | .hbm, ⟨19, _⟩ => ⟨S16x1x16x64, .f32⟩
  | _, _ => ⟨S16x1x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Peers.lean ====
/-
# The mesh, its peers and its semaphores

Device `c` of the 2 × 4 × 4 mesh stands at `(c / 16, c / 4 % 4, c % 4)`. It exchanges softmax partials with the three
other devices of its y-line and finished rows with the seven other devices of its x-z plane. Both kinds of peer are one
family `pr k`, `k < 3` along y and `k = 3 + j` in the plane, in the order in which the kernel computes them.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame

@[expose] public section

set_option maxRecDepth 16384

noncomputable section

namespace Cert.Decode

open Cert.KernelIdeal Cert.KernelIdeal.Gen
open Idealize.ShloMosaic

/-! ## Positions -/

/-- The y-coordinate. -/
def yp (c : Dev nD) : Fin 4 := ⟨c.val / 4 % 4, Nat.mod_lt _ (by decide)⟩
/-- The number of the device within its x-z plane: the pair of batch rows it decodes. -/
def rr (c : Dev nD) : Fin 8 := ⟨c.val / 16 * 4 + c.val % 4, by have := c.isLt; simp only [nD] at this; omega⟩
/-- The device of `c`'s y-line at height `y`. -/
def atY (c : Dev nD) (y : Fin 4) : Dev nD :=
  ⟨c.val / 16 * 16 + y.val * 4 + c.val % 4, by have := c.isLt; have := y.isLt; simp only [nD] at *; omega⟩
/-- The device of `c`'s x-z plane with number `r`. -/
def atR (c : Dev nD) (r : Fin 8) : Dev nD :=
  ⟨r.val / 4 * 16 + c.val / 4 % 4 * 4 + r.val % 4, by have := r.isLt; simp only [nD] at *; omega⟩

/-- How far peer `k` lies along x, -/
def dxp (k : Fin 10) : ℕ := if k.val < 3 then 0 else (k.val - 2) / 4
/-- along y -/
def dyp (k : Fin 10) : ℕ := if k.val < 3 then k.val + 1 else 0
/-- and along z. -/
def dzp (k : Fin 10) : ℕ := if k.val < 3 then 0 else (k.val - 2) % 4

/-- Peer `k` of device `c`. -/
def pr (k : Fin 10) (c : Dev nD) : Dev nD :=
  ⟨(c.val / 16 + dxp k) % 2 * 16 + (c.val / 4 % 4 + dyp k) % 4 * 4 + (c.val % 4 + dzp k) % 4, by simp only [nD]; omega⟩

/-- Which peer of its peer `k` a device is. -/
def inv : Fin 10 → Fin 10 := ![2, 1, 0, 5, 4, 3, 6, 9, 8, 7]

theorem pr_inv (k : Fin 10) (c : Dev nD) : pr (inv k) (pr k c) = c := by revert k c; decide +kernel
theorem inv_inv (k : Fin 10) : inv (inv k) = k := by revert k; decide
theorem pr_inv' (k : Fin 10) (c : Dev nD) : pr k (pr (inv k) c) = c := by
  have := pr_inv (inv k) c; rwa [inv_inv] at this

/-- Peer `k` is a permutation of the devices. -/
def prEquiv (k : Fin 10) : Dev nD ≃ Dev nD := ⟨pr k, pr (inv k), pr_inv k, pr_inv' k⟩

/-- A y-peer has another height, -/
theorem yp_pr_ne (k : Fin 10) (hk : k.val < 3) (c : Dev nD) : yp (pr k c) ≠ yp c := by revert k c; decide +kernel
/-- and the same y-line. -/
theorem atY_pr (k : Fin 10) (hk : k.val < 3) (c : Dev nD) : atY (pr k c) = atY c := by revert k c; decide +kernel
/-- A plane peer has another number -/
theorem rr_pr_ne (k : Fin 10) (hk : ¬ k.val < 3) (c : Dev nD) : rr (pr k c) ≠ rr c := by revert k c; decide +kernel
/-- and the same plane. -/
theorem atR_pr (k : Fin 10) (hk : ¬ k.val < 3) (c : Dev nD) : atR (pr k c) = atR c := by revert k c; decide +kernel
theorem atY_yp (c : Dev nD) : atY c (yp c) = c := by revert c; decide +kernel
theorem atR_rr (c : Dev nD) : atR c (rr c) = c := by revert c; decide +kernel
theorem yp_atY (c : Dev nD) (y : Fin 4) : yp (atY c y) = y := by revert c y; decide +kernel
theorem rr_atR (c : Dev nD) (r : Fin 8) : rr (atR c r) = r := by revert c r; decide +kernel
theorem rr_atY (c : Dev nD) (y : Fin 4) : rr (atY c y) = rr c := by revert c y; decide +kernel
theorem yp_atR (c : Dev nD) (r : Fin 8) : yp (atR c r) = yp c := by revert c r; decide +kernel

/-! ## The devices the kernel addresses -/

theorem dev1_eq (c : Dev nD) : (⟨k0_dev1 c, k0_dev1_lt c⟩ : Dev nD) = pr 0 c := by revert c; decide +kernel
theorem dev2_eq (c : Dev nD) : (⟨k0_dev2 c, k0_dev2_lt c⟩ : Dev nD) = pr 1 c := by revert c; decide +kernel
theorem dev3_eq (c : Dev nD) : (⟨k0_dev3 c, k0_dev3_lt c⟩ : Dev nD) = pr 2 c := by revert c; decide +kernel
theorem dev4_eq (c : Dev nD) : (⟨k0_dev4 c, k0_dev4_lt c⟩ : Dev nD) = pr 3 c := by revert c; decide +kernel
theorem dev5_eq (c : Dev nD) : (⟨k0_dev5 c, k0_dev5_lt c⟩ : Dev nD) = pr 4 c := by revert c; decide +kernel
theorem dev6_eq (c : Dev nD) : (⟨k0_dev6 c, k0_dev6_lt c⟩ : Dev nD) = pr 5 c := by revert c; decide +kernel
theorem dev7_eq (c : Dev nD) : (⟨k0_dev7 c, k0_dev7_lt c⟩ : Dev nD) = pr 6 c := by revert c; decide +kernel
theorem dev8_eq (c : Dev nD) : (⟨k0_dev8 c, k0_dev8_lt c⟩ : Dev nD) = pr 7 c := by revert c; decide +kernel
theorem dev9_eq (c : Dev nD) : (⟨k0_dev9 c, k0_dev9_lt c⟩ : Dev nD) = pr 8 c := by revert c; decide +kernel
theorem dev10_eq (c : Dev nD) : (⟨k0_dev10 c, k0_dev10_lt c⟩ : Dev nD) = pr 9 c := by revert c; decide +kernel
theorem dev11_eq (c : Dev nD) : (⟨k0_dev11 c, k0_dev11_lt c⟩ : Dev nD) = pr 0 c := by revert c; decide +kernel
theorem dev12_eq (c : Dev nD) : (⟨k0_dev12 c, k0_dev12_lt c⟩ : Dev nD) = pr 0 c := by revert c; decide +kernel
theorem dev13_eq (c : Dev nD) : (⟨k0_dev13 c, k0_dev13_lt c⟩ : Dev nD) = pr 0 c := by revert c; decide +kernel
theorem dev14_eq (c : Dev nD) : (⟨k0_dev14 c, k0_dev14_lt c⟩ : Dev nD) = pr 1 c := by revert c; decide +kernel
theorem dev15_eq (c : Dev nD) : (⟨k0_dev15 c, k0_dev15_lt c⟩ : Dev nD) = pr 1 c := by revert c; decide +kernel
theorem dev16_eq (c : Dev nD) : (⟨k0_dev16 c, k0_dev16_lt c⟩ : Dev nD) = pr 1 c := by revert c; decide +kernel
theorem dev17_eq (c : Dev nD) : (⟨k0_dev17 c, k0_dev17_lt c⟩ : Dev nD) = pr 2 c := by revert c; decide +kernel
theorem dev18_eq (c : Dev nD) : (⟨k0_dev18 c, k0_dev18_lt c⟩ : Dev nD) = pr 2 c := by revert c; decide +kernel
theorem dev19_eq (c : Dev nD) : (⟨k0_dev19 c, k0_dev19_lt c⟩ : Dev nD) = pr 2 c := by revert c; decide +kernel
theorem dev20_eq (c : Dev nD) : (⟨k0_dev20 c, k0_dev20_lt c⟩ : Dev nD) = pr 3 c := by revert c; decide +kernel
theorem dev21_eq (c : Dev nD) : (⟨k0_dev21 c, k0_dev21_lt c⟩ : Dev nD) = pr 4 c := by revert c; decide +kernel
theorem dev22_eq (c : Dev nD) : (⟨k0_dev22 c, k0_dev22_lt c⟩ : Dev nD) = pr 5 c := by revert c; decide +kernel
theorem dev23_eq (c : Dev nD) : (⟨k0_dev23 c, k0_dev23_lt c⟩ : Dev nD) = pr 6 c := by revert c; decide +kernel
theorem dev24_eq (c : Dev nD) : (⟨k0_dev24 c, k0_dev24_lt c⟩ : Dev nD) = pr 7 c := by revert c; decide +kernel
theorem dev25_eq (c : Dev nD) : (⟨k0_dev25 c, k0_dev25_lt c⟩ : Dev nD) = pr 8 c := by revert c; decide +kernel
theorem dev26_eq (c : Dev nD) : (⟨k0_dev26 c, k0_dev26_lt c⟩ : Dev nD) = pr 9 c := by revert c; decide +kernel

/-! ## The semaphores

A core's transfer semaphores, by use: four for the local copies of K and V, one per y-send (peer, buffer), one per
y-arrival (height of the sender, buffer), one per plane send and one per plane arrival (number of the sender). -/

/-- The uses of the transfer semaphores. -/
abbrev Use : Type := Fin 4 ⊕ (Fin 3 × Fin 3) ⊕ (Fin 4 × Fin 3) ⊕ Fin 7 ⊕ Fin 8

/-- A local copy's completion: K rows 0 and 1, V rows 0 and 1. -/
abbrev uLoc (i : Fin 4) : Use := .inl i
/-- Buffer `t` sent to y-peer `k`. -/
abbrev uYs (k t : Fin 3) : Use := .inr (.inl (k, t))
/-- Buffer `t` arrived from height `y`. -/
abbrev uYr (y : Fin 4) (t : Fin 3) : Use := .inr (.inr (.inl (y, t)))
/-- The rows sent to plane peer `j`. -/
abbrev uXs (j : Fin 7) : Use := .inr (.inr (.inr (.inl j)))
/-- The rows of plane number `r` arrived. -/
abbrev uXr (r : Fin 8) : Use := .inr (.inr (.inr (.inr r)))

/-- The semaphore of a use. -/
def semOf : Use → DmaSem sig
  | .inl i => (⟨2 + i.val, by have := i.isLt; omega⟩ : Fin 42)
  | .inr (.inl (k, t)) => (⟨6 + 3 * k.val + t.val, by have := k.isLt; have := t.isLt; omega⟩ : Fin 42)
  | .inr (.inr (.inl (y, t))) => (⟨15 + 3 * y.val + t.val, by have := y.isLt; have := t.isLt; omega⟩ : Fin 42)
  | .inr (.inr (.inr (.inl j))) => (⟨27 + j.val, by have := j.isLt; omega⟩ : Fin 42)
  | .inr (.inr (.inr (.inr r))) => (⟨34 + r.val, by have := r.isLt; omega⟩ : Fin 42)

/-- The use of a semaphore, of the two that the pipeline's own staging takes none. -/
def useOf (s : DmaSem sig) : Option Use :=
  if h : s.val < 2 then none
  else if h : s.val < 6 then some (uLoc ⟨s.val - 2, by omega⟩)
  else if h : s.val < 15 then some (uYs ⟨(s.val - 6) / 3, by omega⟩ ⟨(s.val - 6) % 3, Nat.mod_lt _ (by decide)⟩)
  else if h : s.val < 27 then some (uYr ⟨(s.val - 15) / 3, by omega⟩ ⟨(s.val - 15) % 3, Nat.mod_lt _ (by decide)⟩)
  else if h : s.val < 34 then some (uXs ⟨s.val - 27, by omega⟩)
  else some (uXr ⟨s.val - 34, by have := s.isLt; simp only [sig] at this; omega⟩)

theorem useOf_semOf (u : Use) : useOf (semOf u) = some u := by
  rcases u with i | ⟨k, t⟩ | ⟨y, t⟩ | j | r
  · fin_cases i <;> rfl
  · fin_cases k <;> fin_cases t <;> rfl
  · fin_cases y <;> fin_cases t <;> rfl
  · fin_cases j <;> rfl
  · fin_cases r <;> rfl

theorem semOf_injective : Function.Injective semOf := fun u v h => by
  have := congrArg useOf h
  rw [useOf_semOf, useOf_semOf] at this
  exact Option.some.inj this

end Cert.Decode

end
-- ==== Proof.Contents.lean ====
/-
# What the buffers hold

The contents that the kernel's buffers take, as functions of the arguments: the two rows of K, V and Q a device reads,
its softmax partials (maximum, sum, weighted value sum), the partials of its whole y-line, the finished rows, and the
finished rows of its x-z plane. Each buffer is cut into rows along its leading axis: `rowS y` is row `y`.
-/
module

public import proofs.«01_k».proof.Proof.Peers
public import Idealize.ShloMosaic.Lib.ValueIdxCore
public import Idealize.ShloMosaic.Lib.ShareLeaves

@[expose] public section

set_option maxRecDepth 16384

noncomputable section

namespace Cert.Decode

open Cert.KernelIdeal Cert.KernelIdeal.Gen
open Idealize.ShloMosaic Idealize.ShloMosaic.TcCoe
open Idealize.ShloMosaic.ValueIdx (ix3 eq_ix3)

variable {F : FTy → Type} [FloatOps F]

/-! ## Rows -/

section Rows
variable {n a b : ℕ}

/-- Row `y` of a rank-3 array: the elements whose leading coordinate is `y`. -/
def rowS (y : ℕ) : Finset (⟨3, ![n, a, b]⟩ : Shape).Idx := Finset.univ.filter fun i => (i 0).val = y

theorem mem_rowS {y : ℕ} {i : (⟨3, ![n, a, b]⟩ : Shape).Idx} : i ∈ (rowS y : Finset (⟨3, ![n, a, b]⟩ : Shape).Idx) ↔ (i 0).val = y := by
  unfold rowS; rw [Finset.mem_filter]; exact ⟨fun h => h.2, fun h => ⟨Finset.mem_univ _, h⟩⟩

theorem rowS_disjoint {y y' : ℕ} (h : y ≠ y') : Disjoint (rowS y : Finset (⟨3, ![n, a, b]⟩ : Shape).Idx) (rowS y') :=
  Finset.disjoint_left.mpr fun i hi hi' => h ((mem_rowS.mp hi).symm.trans (mem_rowS.mp hi'))

/-- The rows make up the array. -/
theorem rowS_cover : Finset.univ.biUnion (fun y : Fin n => (rowS y.val : Finset (⟨3, ![n, a, b]⟩ : Shape).Idx)) = Finset.univ := by
  refine Finset.eq_univ_iff_forall.mpr fun i => Finset.mem_biUnion.mpr ⟨i 0, Finset.mem_univ _, mem_rowS.mpr rfl⟩

/-- A one-row rectangle is the row. -/
theorem unit_row {off : Fin 3 → ℕ} {y : ℕ} (h : off = ![y, 0, 0]) (inb : ∀ d, off d + (![1, a, b] : Fin 3 → ℕ) d ≤ (⟨3, ![n, a, b]⟩ : Shape).size d) :
    (Rect.unit (s := (⟨3, ![n, a, b]⟩ : Shape)) off ![1, a, b] inb).set = rowS y := by
  subst h
  ext i
  rw [Rect.mem_set_unit, mem_rowS]
  constructor
  · intro h
    have h0 := h 0
    change y ≤ (i 0).val ∧ (i 0).val < y + 1 at h0
    omega
  · intro h d
    match d with
    | ⟨0, _⟩ => show y ≤ (i 0).val ∧ (i 0).val < y + 1; omega
    | ⟨1, _⟩ => show 0 ≤ (i 1).val ∧ (i 1).val < 0 + a; have := (i 1).isLt; change (i 1).val < a at this; omega
    | ⟨2, _⟩ => show 0 ≤ (i 2).val ∧ (i 2).val < 0 + b; have := (i 2).isLt; change (i 2).val < b at this; omega

/-- Where the rectangle's element lies. -/
theorem unit_row_emb {off : Fin 3 → ℕ} {y : ℕ} (h : off = ![y, 0, 0]) (inb : ∀ d, off d + (![1, a, b] : Fin 3 → ℕ) d ≤ (⟨3, ![n, a, b]⟩ : Shape).size d)
    (hy : y < n) (x : (⟨3, ![1, a, b]⟩ : Shape).Idx) :
    (Rect.unit (s := (⟨3, ![n, a, b]⟩ : Shape)) off ![1, a, b] inb).emb x = ix3 ⟨y, hy⟩ (x 1) (x 2) := by
  subst h
  funext d
  match d with
  | ⟨0, _⟩ =>
    refine Fin.ext ?_
    show y + 1 * (x 0).val = y
    have := (x 0).isLt; change (x 0).val < 1 at this; omega
  | ⟨1, _⟩ => refine Fin.ext ?_; show 0 + 1 * (x 1).val = (x 1).val; omega
  | ⟨2, _⟩ => refine Fin.ext ?_; show 0 + 1 * (x 2).val = (x 2).val; omega

end Rows

/-! ## The kernel's row offsets -/

theorem off3_eq (c : Dev nD) : k0_off3 c = ![(yp c).val, 0, 0] := by revert c; decide +kernel
theorem off4_eq (c : Dev nD) : k0_off4 c = ![(yp c).val, 0, 0] := by revert c; decide +kernel
theorem off6_eq (c : Dev nD) : k0_off6 c = ![(yp c).val, 0, 0] := by revert c; decide +kernel
theorem off9_eq (c : Dev nD) : k0_off9 c = ![(yp c).val, 0, 0] := by revert c; decide +kernel
theorem off15_eq (c : Dev nD) : k0_off15 c = ![(rr c).val, 0, 0] := by revert c; decide +kernel
theorem off17_eq (c : Dev nD) : k0_off17 c = ![(rr c).val, 0, 0] := by revert c; decide +kernel

/-- The batch row that a device's `i`-th of two is. -/
def brow (c : Dev nD) (i : ℕ) : ℕ := 2 * (rr c).val + i
theorem brow_lt (c : Dev nD) {i : ℕ} (h : i < 2) : brow c i < 16 := by unfold brow; have := (rr c).isLt; omega

theorem off1_0 (c : Dev nD) : k0_off1 c 0#32 = ![brow c 0, 0, 0] := by revert c; decide +kernel
theorem off1_1 (c : Dev nD) : k0_off1 c 1#32 = ![brow c 1, 0, 0] := by revert c; decide +kernel
theorem off2_0 (c : Dev nD) : k0_off2 c 0#32 = ![brow c 0, 0, 0] := by revert c; decide +kernel
theorem off2_1 (c : Dev nD) : k0_off2 c 1#32 = ![brow c 1, 0, 0] := by revert c; decide +kernel

/-! ## The contents -/

variable (m : (ℓ : Loc nD τ sig) → Buf (Elt F) ℓ)

/-- The queries, keys and values as the call is handed them, on device `c`: all sixteen query rows, its own keys. -/
def Q1 (c : Dev nD) : FVec F S16x1x1024 .f32 := V m c main_v1
def K2 (c : Dev nD) : FVec F S16x1024x1024 .f32 := V m c main_v2
def V2 (c : Dev nD) : FVec F S16x1024x1024 .f32 := V m c main_v3

/-- The two K rows, and the two V rows, of device `c`, side by side as its local copies lay them. -/
def KB (c : Dev nD) : FVec F S2x1024x1024 .f32 := fun i => K2 m c (ix3 ⟨brow c (i 0).val, brow_lt c (i 0).isLt⟩ (i 1) (i 2))
def VB (c : Dev nD) : FVec F S2x1024x1024 .f32 := fun i => V2 m c (ix3 ⟨brow c (i 0).val, brow_lt c (i 0).isLt⟩ (i 1) (i 2))

/-- Its `i`-th row of K, of V and of Q. -/
def kv (c : Dev nD) (i : Fin 2) : FVec F S1x1024x1024 .f32 := fun x => K2 m c (ix3 ⟨brow c i.val, brow_lt c i.isLt⟩ (x 1) (x 2))
def vv (c : Dev nD) (i : Fin 2) : FVec F S1x1024x1024 .f32 := fun x => V2 m c (ix3 ⟨brow c i.val, brow_lt c i.isLt⟩ (x 1) (x 2))
def qv (c : Dev nD) (i : Fin 2) : FVec F S1x1x1024 .f32 := fun x => Q1 m c (ix3 ⟨brow c i.val, brow_lt c i.isLt⟩ (x 1) (x 2))

/-- The 0/1 head mask: head against column, in both of the formats the kernel keeps it in. -/
def e₁ : FVec F S16x1024 .bf16 := k0_pay1
def e₂ : FVec F S16x1024 .f32 :=
  k0_pay2 (F := F) (iota .tc S16x1024 32 [0] iota_S16x1024_d0_w32) (iota .tc S16x1024 32 [1] iota_S16x1024_d1_w32)

/-- A device's softmax partials over its own keys, for its two rows and every head: the scores' maximum, the sum of the
    exponentials, and the exponentials' weighting of the values. -/
def pm (c : Dev nD) : FVec F S1x2x16 .f32 := k0_pay13 e₁ (k0_pay4 e₁ (kv m c 0) (qv m c 0)) (kv m c 1) (qv m c 1)
def pl (c : Dev nD) : FVec F S1x2x16 .f32 := k0_pay14 (k0_pay6 e₁ (kv m c 0) (qv m c 0)) (k0_pay11 e₁ (kv m c 1) (qv m c 1))
def po (c : Dev nD) : FVec F S1x2x1024 .f32 :=
  k0_pay15 (k0_pay7 e₁ e₂ (kv m c 0) (vv m c 0) (qv m c 0)) (k0_pay12 e₁ e₂ (kv m c 1) (vv m c 1) (qv m c 1))

/-- The partials of the whole y-line, stacked by height: the same on every device of the line. -/
def MC (c : Dev nD) : FVec F S4x2x16 .f32 := fun i => pm m (atY c (i 0)) (ix3 (0 : Fin 1) (i 1) (i 2))
def LC (c : Dev nD) : FVec F S4x2x16 .f32 := fun i => pl m (atY c (i 0)) (ix3 (0 : Fin 1) (i 1) (i 2))
def OC (c : Dev nD) : FVec F S4x2x1024 .f32 := fun i => po m (atY c (i 0)) (ix3 (0 : Fin 1) (i 1) (i 2))

/-- The finished rows of a device: its line's partials combined. -/
def fin (c : Dev nD) : FVec F S1x2x1024 .f32 := k0_pay16 e₂ (MC m c) (LC m c) (OC m c)

/-- The finished rows of the whole x-z plane, stacked by number: the kernel's result. -/
def OUT (c : Dev nD) : FVec F S8x2x1024 .f32 := fun i => fin m (atR c (i 0)) (ix3 (0 : Fin 1) (i 1) (i 2))

theorem MC_pr (k : Fin 10) (hk : k.val < 3) (c : Dev nD) : MC m (pr k c) = MC m c := by unfold MC; rw [atY_pr k hk]
theorem LC_pr (k : Fin 10) (hk : k.val < 3) (c : Dev nD) : LC m (pr k c) = LC m c := by unfold LC; rw [atY_pr k hk]
theorem OC_pr (k : Fin 10) (hk : k.val < 3) (c : Dev nD) : OC m (pr k c) = OC m c := by unfold OC; rw [atY_pr k hk]
theorem OUT_pr (k : Fin 10) (hk : ¬ k.val < 3) (c : Dev nD) : OUT m (pr k c) = OUT m c := by unfold OUT; rw [atR_pr k hk]

end Cert.Decode

end
-- ==== Proof.Sched.lean ====
/-
# The protocol

Every device runs one round on each of its semaphores.

* The barrier cell of `c` has ten duties, one per peer: peer `j` of `c` pays duty `j`, and hands over its own rows that
  `c` is about to fill — along y the three partial buffers' row of `c`'s height, in the plane the output's row of `c`'s
  number — together with the fact that the cells these transfers complete on have begun.
* A completion of a local copy hands the filled row, with K's or V's contents, and the share of the source.
* A completed y-send hands the sender its share back; a y-arrival from height `y` hands row `y` of the partial buffer,
  holding the partials of the line's device of that height. The plane sends and arrivals are alike, on the output.

A device waits for its local copies (level 0), the barrier (level 1), the y-arrivals (2), its own y-sends (0), the plane
arrivals (3) and its own plane sends (0), and owes its peers their barrier, y-arrival and plane-arrival units in that
order.
-/
module

public import proofs.«01_k».proof.Proof.Contents
public import Idealize.ShloMosaic.Lib.Pipeline.Launch
public import Idealize.ShloMosaic.Lib.Pipeline.Kit
public import Idealize.ShloMosaic.Lib.Tactic

@[expose] public section

set_option maxRecDepth 16384

noncomputable section

namespace Cert.Decode

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3 eq_ix3)
open Idealize.ShloMosaic.ShareLeaves (leaf)

variable {F : FTy → Type} [FloatOps F]

/-- The ghost state: the pipeline's rounds beside this protocol's, whose duties are numbered by the peers. -/
abbrev UU : Type := UR sig nD τ × URounds (GSem nD τ sig) (Fin 10)

local notation "𝕄" => MT nD τ sig Unit (Elt F) ℕ UU ℕ

abbrev EP : Emb (UR sig nD τ) (MT nD τ sig Unit (Elt F) ℕ UU ℕ) := embL
abbrev ER : Emb (URounds (GSem nD τ sig) (Fin 10)) (MT nD τ sig Unit (Elt F) ℕ UU ℕ) := embR

variable (m : (ℓ : Loc nD τ sig) → Buf (Elt F) ℓ)

/-! ## Cells -/

/-- The barrier's cell on device `c`. -/
abbrev barCell (c : Dev nD) : GSem nD τ sig := ((c : Thread nD τ), .reg (sig.barrier 0 rfl))
/-- The cell of a transfer semaphore, by its use. -/
abbrev cell (c : Dev nD) (u : Use) : GSem nD τ sig := ((c : Thread nD τ), .dma (semOf u))

/-! ## Contents handed over -/

/-- Row `y` of partial buffer `t` on device `p`, with the line's partials. -/
def yPts (p : Dev nD) (y : Fin 4) (q : PosShare TreeShare) : Fin 3 → sProp 𝕄
  | 0 => ((p : Thread nD τ).loc cc0_scratch2) ↦[rowS y.val]{q} MC m p
  | 1 => ((p : Thread nD τ).loc cc0_scratch3) ↦[rowS y.val]{q} LC m p
  | 2 => ((p : Thread nD τ).loc cc0_scratch4) ↦[rowS y.val]{q} OC m p
/-- The same row at some contents. -/
def yAny (p : Dev nD) (y : Fin 4) : Fin 3 → sProp 𝕄
  | 0 => iprop(∃ f : Buf (Elt F) ((p : Thread nD τ).loc cc0_scratch2), ((p : Thread nD τ).loc cc0_scratch2) ↦[rowS y.val]{fullShare} f)
  | 1 => iprop(∃ f : Buf (Elt F) ((p : Thread nD τ).loc cc0_scratch3), ((p : Thread nD τ).loc cc0_scratch3) ↦[rowS y.val]{fullShare} f)
  | 2 => iprop(∃ f : Buf (Elt F) ((p : Thread nD τ).loc cc0_scratch4), ((p : Thread nD τ).loc cc0_scratch4) ↦[rowS y.val]{fullShare} f)

/-- Row `r` of the output on device `p`, with the plane's finished rows; and at some contents. -/
def xPts (p : Dev nD) (r : Fin 8) (q : PosShare TreeShare) : sProp 𝕄 :=
  ((p : Thread nD τ).loc cc0_stg1_0) ↦[rowS r.val]{q} OUT m p
def xAny (p : Dev nD) (r : Fin 8) : sProp 𝕄 :=
  iprop(∃ f : Buf (Elt F) ((p : Thread nD τ).loc cc0_stg1_0), ((p : Thread nD τ).loc cc0_stg1_0) ↦[rowS r.val]{fullShare} f)

/-- A row of the local copy's buffer, filled, and the row of the source it was read from (at one of two half shares). -/
def locPay (c : Dev nD) : Fin 4 → sProp 𝕄
  | 0 => iprop((((c : Thread nD τ).loc cc0_scratch0) ↦[rowS 0]{fullShare} KB m c) ∗ ((c : Thread nD τ).loc main_v2) ↦[rowS (brow c 0)]{leaf 1 fullShare 0} K2 m c)
  | 1 => iprop((((c : Thread nD τ).loc cc0_scratch0) ↦[rowS 1]{fullShare} KB m c) ∗ ((c : Thread nD τ).loc main_v2) ↦[rowS (brow c 1)]{leaf 1 fullShare 1} K2 m c)
  | 2 => iprop((((c : Thread nD τ).loc cc0_scratch1) ↦[rowS 0]{fullShare} VB m c) ∗ ((c : Thread nD τ).loc main_v3) ↦[rowS (brow c 0)]{leaf 1 fullShare 0} V2 m c)
  | 3 => iprop((((c : Thread nD τ).loc cc0_scratch1) ↦[rowS 1]{fullShare} VB m c) ∗ ((c : Thread nD τ).loc main_v3) ↦[rowS (brow c 1)]{leaf 1 fullShare 1} V2 m c)

/-- What device `p`'s signal hands device `c`: `p`'s rows that `c` fills, and that their cells have begun. -/
def barPay (c p : Dev nD) (y : Bool) : sProp 𝕄 :=
  if y then iprop((yAny (F := F) p (yp c) 0 ∗ yAny (F := F) p (yp c) 1 ∗ yAny (F := F) p (yp c) 2)
      ∗ reached ER (cell p (uYr (yp c) 0)) 0 ∗ reached ER (cell p (uYr (yp c) 1)) 0 ∗ reached ER (cell p (uYr (yp c) 2)) 0)
  else iprop(xAny (F := F) p (rr c) ∗ reached ER (cell p (uXr (rr c))) 0)

/-- What a completed transfer hands its waiter. -/
def usePay (c : Dev nD) : Use → sProp 𝕄
  | .inl i => locPay m c i
  | .inr (.inl (k, t)) => yPts m c (yp c) (leaf 2 fullShare (Fin.castLE (by decide) k)) t
  | .inr (.inr (.inl (y, t))) => yPts m c y fullShare t
  | .inr (.inr (.inr (.inl j))) => xPts m c (rr c) (leaf 3 fullShare (Fin.castLE (by decide) j))
  | .inr (.inr (.inr (.inr r))) => xPts m c r fullShare

instance yPts_storable (p : Dev nD) (y : Fin 4) (q) (t : Fin 3) : BI.Storable (upEmb : UEmb _ 𝕄) (yPts m p y q t) := by
  match t with | 0 | 1 | 2 => unfold yPts; infer_instance
omit [FloatOps F] in
instance yAny_storable (p : Dev nD) (y : Fin 4) (t : Fin 3) : BI.Storable (upEmb : UEmb _ 𝕄) (yAny (F := F) p y t) := by
  match t with | 0 | 1 | 2 => unfold yAny; infer_instance
instance xPts_storable (p : Dev nD) (r : Fin 8) (q) : BI.Storable (upEmb : UEmb _ 𝕄) (xPts m p r q) := by unfold xPts; infer_instance
omit [FloatOps F] in
instance xAny_storable (p : Dev nD) (r : Fin 8) : BI.Storable (upEmb : UEmb _ 𝕄) (xAny (F := F) p r) := by unfold xAny; infer_instance
instance locPay_storable (c : Dev nD) (i : Fin 4) : BI.Storable (upEmb : UEmb _ 𝕄) (locPay m c i) := by
  match i with | 0 | 1 | 2 | 3 => unfold locPay; infer_instance
omit [FloatOps F] in
instance barPay_storable (c p : Dev nD) (y : Bool) : BI.Storable (upEmb : UEmb _ 𝕄) (barPay (F := F) c p y) := by
  unfold barPay; split <;> infer_instance
instance usePay_storable (c : Dev nD) (u : Use) : BI.Storable (upEmb : UEmb _ 𝕄) (usePay m c u) := by
  rcases u with i | ⟨k, t⟩ | ⟨y, t⟩ | j | r <;> unfold usePay <;> infer_instance

/-! ## Amounts -/

/-- The units a copied K or V row completes with, a row of partial buffer `t`, an output row. -/
def nKV : ℕ := ((Memref.whole cc0_scratch0 : Memref sig .tc .vmem S2x1024x1024 .f32).slice (Rect.unit (s := S2x1024x1024) ![0, 0, 0] S1x1024x1024.size inb_S2x1024x1024_S1x1024x1024_0_0_0) (fun _ => rfl)).view.dmaCredit
def nY : Fin 3 → ℕ
  | 0 | 1 => ((Memref.whole cc0_scratch2 : Memref sig .tc .vmem S4x2x16 .f32).slice (Rect.unit (s := S4x2x16) (k0_off6 0) S1x2x16.size (k0_off6_inb 0)) (fun _ => rfl)).view.dmaCredit
  | 2 => ((Memref.whole cc0_scratch4 : Memref sig .tc .vmem S4x2x1024 .f32).slice (Rect.unit (s := S4x2x1024) (k0_off9 0) S1x2x1024.size (k0_off9_inb 0)) (fun _ => rfl)).view.dmaCredit
def nX : ℕ := ((Memref.whole cc0_stg1_0 : Memref sig .tc .vmem S8x2x1024 .f32).slice (Rect.unit (s := S8x2x1024) (k0_off17 0) S1x2x1024.size (k0_off17_inb 0)) (fun _ => rfl)).view.dmaCredit

def amt : Use → ℕ
  | .inl _ => nKV
  | .inr (.inl (_, t)) => nY t
  | .inr (.inr (.inl (_, t))) => nY t
  | .inr (.inr (.inr (.inl _))) => nX
  | .inr (.inr (.inr (.inr _))) => nX

theorem nKV_pos : 0 < nKV := View.dmaCredit_pos _ (by decide)
theorem nY_pos (t : Fin 3) : 0 < nY t := by
  match t with | 0 | 1 | 2 => exact View.dmaCredit_pos _ (by decide)
theorem nX_pos : 0 < nX := View.dmaCredit_pos _ (by decide)
theorem amt_pos (u : Use) : 0 < amt u := by
  rcases u with i | ⟨k, t⟩ | ⟨y, t⟩ | j | r
  exacts [nKV_pos, nY_pos t, nY_pos t, nX_pos, nX_pos]

/-! ## The schedule -/

/-- The arrival cells of a device's own row receive nothing. -/
def idle (c : Dev nD) : Use → Bool
  | .inr (.inr (.inl (y, _))) => y == yp c
  | .inr (.inr (.inr (.inr r))) => r == rr c
  | _ => false

def sched : Rounds.Schedule (GSem nD τ sig) (Fin 10) 𝕄 where
  duties g r := if r = 0 ∧ g.1.2 = .tc then
      (match g.2 with
        | .reg _ => Finset.univ
        | .dma s => match useOf s with
          | none => ∅
          | some u => if idle g.1.1 u then ∅ else {0})
    else ∅
  unitless _ := False
  amount g _ _ := match g.2 with
    | .reg _ => 1
    | .dma s => match useOf s with
      | none => 1
      | some u => amt u
  payload g _ d := match g.2 with
    | .reg _ => barPay (F := F) g.1.1 (pr d g.1.1) (d.val < 3)
    | .dma s => match useOf s with
      | none => iprop(emp)
      | some u => usePay m g.1.1 u
  amount_pos g _ _ _ := by
    rcases g with ⟨th, s | s⟩
    · exact Nat.one_pos
    · dsimp only; cases useOf s with
      | none => exact Nat.one_pos
      | some u => exact amt_pos u

instance sched_payload_storable (g : GSem nD τ sig) (r : ℕ) (d : Fin 10) : BI.Storable (upEmb : UEmb _ 𝕄) ((sched m).payload g r d) := by
  rcases g with ⟨th, s | s⟩
  · exact barPay_storable _ _ _
  · show BI.Storable upEmb (match useOf s with | none => iprop(emp) | some u => usePay m th.1 u)
    split <;> infer_instance

section Tables
variable (c : Dev nD)

theorem duties_bar : (sched m).duties (barCell c) 0 = Finset.univ := by dsimp only [sched]; exact if_pos ⟨rfl, rfl⟩
theorem duties_cell (u : Use) : (sched m).duties (cell c u) 0 = if idle c u then ∅ else {0} := by
  dsimp only [sched]; rw [if_pos ⟨rfl, rfl⟩, useOf_semOf]
theorem duties_live {u : Use} (h : idle c u = false) : (sched m).duties (cell c u) 0 = {0} := by rw [duties_cell, h]; rfl
theorem duties_idle {u : Use} (h : idle c u = true) : (sched m).duties (cell c u) 0 = ∅ := by rw [duties_cell, if_pos h]
theorem duties_later (g : GSem nD τ sig) : ∀ r, 1 ≤ r → (sched m).duties g r = ∅ :=
  fun r hr => by dsimp only [sched]; exact if_neg fun h => by omega

theorem amount_bar (d : Fin 10) : (sched m).amount (barCell c) 0 d = 1 := rfl
theorem amount_cell (u : Use) (d : Fin 10) : (sched m).amount (cell c u) 0 d = amt u := by dsimp only [sched]; rw [useOf_semOf]

theorem expect_bar : (sched m).expect (barCell c) 0 = 10 := by
  unfold Schedule.expect Schedule.amountOf; rw [duties_bar]; rfl
theorem expect_cell {u : Use} (h : idle c u = false) : (sched m).expect (cell c u) 0 = amt u := by
  unfold Schedule.expect Schedule.amountOf; rw [duties_live m c h, Finset.sum_singleton, amount_cell]

theorem payload_bar (d : Fin 10) : (sched m).payload (barCell c) 0 d = barPay (F := F) c (pr d c) (d.val < 3) := rfl
theorem payload_cell (u : Use) (d : Fin 10) : (sched m).payload (cell c u) 0 d = usePay m c u := by dsimp only [sched]; rw [useOf_semOf]

theorem rest_cell {u : Use} (h : idle c u = false) :
    bigSep ((sched m).duties (cell c u) 0 \ ∅) (fun d => (sched m).payload (cell c u) 0 d) = usePay m c u := by
  rw [Finset.sdiff_empty, duties_live m c h, bigSep_singleton, payload_cell]
theorem rest_bar :
    bigSep ((sched m).duties (barCell c) 0 \ ∅) (fun d => (sched m).payload (barCell c) 0 d)
      = bigSep Finset.univ fun d : Fin 10 => barPay (F := F) c (pr d c) (d.val < 3) := by
  rw [Finset.sdiff_empty, duties_bar]; rfl

end Tables

/-! ## Levels -/

def L (g : GSem nD τ sig) : Finset Unit := if g.1.2 = .tc then {()} else ∅
/-- Barrier 1, y-arrivals 2, plane arrivals 3, everything of the device's own 0. -/
def useLv : Use → ℕ
  | .inr (.inr (.inl _)) => 2
  | .inr (.inr (.inr (.inr _))) => 3
  | _ => 0
def lv (g : GSem nD τ sig) (_ : Unit) : ℕ := match g.2 with
  | .reg _ => 1
  | .dma s => match useOf s with
    | none => 0
    | some u => useLv u
theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_cell (c : Dev nD) (u : Use) (x : Unit) : lv (cell c u) x = useLv u := by dsimp only [lv]; rw [useOf_semOf]

/-- Everything owed lies on cores and above level `b`. -/
def Above (b : ℕ) (O : CellTallies nD τ sig Unit) : Prop := ∀ g u, 0 < O g u → g.1.2 = .tc ∧ b < lv g u

theorem Above.zero (b : ℕ) : Above b 0 := fun g u h => absurd h (Nat.lt_irrefl 0)
theorem Above.add {b : ℕ} {O O' : CellTallies nD τ sig Unit} (h : Above b O) (h' : Above b O') : Above b (O + O') := fun g u hg => by
  rw [Pi.add_apply, Finsupp.add_apply] at hg
  rcases Nat.eq_zero_or_pos (O g u) with h0 | h0
  · exact h' g u (by omega)
  · exact h g u h0
theorem Above.bar {b : ℕ} (hb : b < 1) (c : Dev nD) (n : ℕ) : Above b (tallyAt (barCell c) () n) := fun g u hg => by
  rw [tallyAt_apply] at hg
  by_cases h : g = barCell c ∧ u = ()
  · rw [h.1]; exact ⟨rfl, hb⟩
  · rw [if_neg h] at hg; exact absurd hg (Nat.lt_irrefl 0)
theorem Above.cell {b : ℕ} {v : Use} (hb : b < useLv v) (c : Dev nD) (n : ℕ) : Above b (tallyAt (cell c v) () n) := fun g u hg => by
  rw [tallyAt_apply] at hg
  by_cases h : g = Decode.cell c v ∧ u = ()
  · rw [h.1, lv_cell]; exact ⟨rfl, hb⟩
  · rw [if_neg h] at hg; exact absurd hg (Nat.lt_irrefl 0)
theorem Above.mono {b b' : ℕ} (h : b' ≤ b) {O : CellTallies nD τ sig Unit} (hO : Above b O) : Above b' O :=
  fun g u hg => ⟨(hO g u hg).1, lt_of_le_of_lt h (hO g u hg).2⟩

/-- A device may wait at a cell while all it owes lies above it. -/
theorem mayWait (c : Dev nD) (s : SemLoc sig) {b : ℕ} (hs : lv ((c : Thread nD τ), s) () = b) {O : CellTallies nD τ sig Unit} (hO : Above b O) :
    (levAts L lv : sProp 𝕄) ⊢ MayWait (c : Thread nD τ) s () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact le_of_eq hs)
    (fun g u hg => (hO g u hg).2)

/-! ## What a device owes at launch, in the order it pays -/

abbrev oB (k : Fin 10) (c : Dev nD) : CellTallies nD τ sig Unit := tallyAt (barCell (pr k c)) () 1
abbrev oY (k : Fin 10) (t : Fin 3) (c : Dev nD) : CellTallies nD τ sig Unit := tallyAt (cell (pr k c) (uYr (yp c) t)) () (nY t)
abbrev oX (k : Fin 10) (c : Dev nD) : CellTallies nD τ sig Unit := tallyAt (cell (pr k c) (uXr (rr c))) () nX

def OX (c : Dev nD) : CellTallies nD τ sig Unit := 0 + oX 9 c + oX 8 c + oX 7 c + oX 6 c + oX 5 c + oX 4 c + oX 3 c
def OY (c : Dev nD) : CellTallies nD τ sig Unit :=
  OX c + oY 2 2 c + oY 2 1 c + oY 2 0 c + oY 1 2 c + oY 1 1 c + oY 1 0 c + oY 0 2 c + oY 0 1 c + oY 0 0 c
def O₀ (c : Dev nD) : CellTallies nD τ sig Unit :=
  OY c + oB 9 c + oB 8 c + oB 7 c + oB 6 c + oB 5 c + oB 4 c + oB 3 c + oB 2 c + oB 1 c + oB 0 c

theorem above_oX (k : Fin 10) (c : Dev nD) : Above 2 (oX k c) := Above.cell (v := uXr (rr c)) (Nat.lt_succ_self 2) _ _
theorem above_oY (k : Fin 10) (t : Fin 3) (c : Dev nD) : Above 1 (oY k t c) := Above.cell (v := uYr (yp c) t) (Nat.lt_succ_self 1) _ _
theorem above_oB (k : Fin 10) (c : Dev nD) : Above 0 (oB k c) := Above.bar (Nat.lt_succ_self 0) _ _

theorem above_OX (c : Dev nD) : Above 2 (OX c) :=
  (((((((Above.zero 2).add (above_oX 9 c)).add (above_oX 8 c)).add (above_oX 7 c)).add (above_oX 6 c)).add (above_oX 5 c)).add
    (above_oX 4 c)).add (above_oX 3 c)
theorem above_OY (c : Dev nD) : Above 1 (OY c) :=
  ((((((((((above_OX c).mono (Nat.le_succ 1)).add (above_oY 2 2 c)).add (above_oY 2 1 c)).add (above_oY 2 0 c)).add (above_oY 1 2 c)).add
    (above_oY 1 1 c)).add (above_oY 1 0 c)).add (above_oY 0 2 c)).add (above_oY 0 1 c)).add (above_oY 0 0 c)
theorem above_O₀ (c : Dev nD) : Above 0 (O₀ c) :=
  (((((((((((above_OY c).mono (Nat.le_succ 0)).add (above_oB 9 c)).add (above_oB 8 c)).add (above_oB 7 c)).add (above_oB 6 c)).add
    (above_oB 5 c)).add (above_oB 4 c)).add (above_oB 3 c)).add (above_oB 2 c)).add (above_oB 1 c)).add (above_oB 0 c)

end Cert.Decode

end
-- ==== Proof.Steps.lean ====
/-
# The protocol's steps

One lemma per kind of communication: a signal to a peer's barrier, the wait for ten units on one's own, a transfer of a
row to a peer, a local copy, and the wait for a completed transfer. Each is stated over what a device carries: the cells'
invariants (`know`), what it owes (`own`), its tokens and credits, and the rows it holds.
-/
module

public import proofs.«01_k».proof.Proof.Sched

@[expose] public section

set_option maxRecDepth 16384

noncomputable section

namespace Cert.Decode

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3 eq_ix3)
open Idealize.ShloMosaic.ShareLeaves (leaf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What everyone knows, what a device owes -/

@[irreducible] def barCells : Finset (GSem nD τ sig) := Finset.univ.image barCell
@[irreducible] def useCells : Finset (GSem nD τ sig) := Finset.univ.image fun cu : Dev nD × Use => cell cu.1 cu.2

theorem bar_mem' (c : Dev nD) : barCell c ∈ barCells := by unfold barCells; exact Finset.mem_image_of_mem _ (Finset.mem_univ c)
theorem bar_mem (c : Dev nD) : barCell c ∈ barCells ∪ useCells := Finset.mem_union_left _ (bar_mem' c)
theorem cell_mem (c : Dev nD) (u : Use) : cell c u ∈ barCells ∪ useCells := by
  refine Finset.mem_union_right _ ?_
  unfold useCells
  exact Finset.mem_image.mpr ⟨(c, u), Finset.mem_univ _, rfl⟩

/-- Every cell's invariant, at the names `κ`; that every barrier has begun; the levels. -/
def know (κ : GSem nD τ sig → ℕ) : sProp 𝕄 :=
  iprop((bigSep (barCells ∪ useCells) fun g => cellInv ER (sched m) (κ g) g) ∗ (bigSep barCells fun g => reached ER g 0) ∗ levAts L lv)

instance know_persistent (κ : GSem nD τ sig → ℕ) : BI.Persistent (know m κ) := by unfold know; infer_instance

theorem know_inv {g : GSem nD τ sig} (κ : GSem nD τ sig → ℕ) (h : g ∈ barCells ∪ useCells) :
    know m κ ⊢ cellInv ER (sched m) (κ g) g := by
  have hg : (bigSep (barCells ∪ useCells) fun g => (cellInv ER (sched m) (κ g) g : sProp 𝕄)) ⊢ cellInv ER (sched m) (κ g) g := bigSep_elim h
  unfold know
  iintro ⟨#H, -, -⟩
  iapply hg
  iexact H
theorem know_reached (κ : GSem nD τ sig → ℕ) (c : Dev nD) : know m κ ⊢ reached ER (barCell c) 0 := by
  have hg : (bigSep barCells fun g => (reached ER g 0 : sProp 𝕄)) ⊢ reached ER (barCell c) 0 := bigSep_elim (bar_mem' c)
  unfold know
  iintro ⟨-, #H, -⟩
  iapply hg
  iexact H
theorem know_lev (κ : GSem nD τ sig → ℕ) : know m κ ⊢ levAts L lv := by
  unfold know
  iintro ⟨-, -, #H⟩
  iexact H

/-- What device `c` owes, whatever it has waited for. -/
def own (c : Dev nD) (O : CellTallies nD τ sig Unit) : sProp 𝕄 := iprop(∃ W, owes (c : Thread nD τ) O W)

variable (κ : GSem nD τ sig → ℕ)

/-! ## Signal and wait on the barrier -/

theorem st_signal (c n : Dev nD) (k : Fin 10) (hn : n = pr k c) (O : CellTallies nD τ sig Unit) {sm : Sem sig} (hs : sm = sig.barrier 0 rfl)
    {α : Type} {Q : α → sProp 𝕄} {w : Int} (hw : w = 1) {kk : PUnit → Prog (TpuEff nD τ sig (Elt F) Λ₀ .tc) α} :
    iprop(know m κ ∗ own c (O + oB k c) ∗ dutyTok ER (barCell (pr k c)) 0 (inv k) ∗ barPay (F := F) (pr k c) c (decide ((inv k).val < 3)))
      ⊢ iprop((own c O -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n, .tc) sm w) kk) Q) := by
  subst hn; subst hs; subst hw
  unfold own
  iintro ⟨#Hk, ⟨%W, HO⟩, Ht, Hp⟩ Hw
  iapply (Rounds.wp_signal 𝒱₀ ER (sched m) (c : Thread nD τ) none (dst := (pr k c : Thread nD τ)) (sem := sig.barrier 0 rfl) (r := 0) (d := inv k) (k' := 1) (κ := κ (barCell (pr k c)))
      (by rw [duties_bar]; exact Finset.mem_univ _) (amount_bar m (pr k c) (inv k)) () O rfl)
    $$ [HO Ht Hp]
  · isplitr; · iapply (know_inv m κ (bar_mem (pr k c))); iexact Hk
    isplitl [HO]; · iexact HO
    isplitl [Ht]; · iexact Ht
    isplitl [Hp]
    · rw [payload_bar, pr_inv]; iexact Hp
    · iapply (know_reached m κ (pr k c)); iexact Hk
  iintro HO
  iapply Hw
  iexists W; iexact HO

theorem st_bar_wait (c : Dev nD) {O : CellTallies nD τ sig Unit} (hO : Above 1 O) {sm : Sem sig} (hs : sm = sig.barrier 0 rfl)
    {α : Type} {Q : α → sProp 𝕄} {w : Nat} (hw : w = 10) {kk : PUnit → Prog (TpuEff nD τ sig (Elt F) Λ₀ .tc) α} :
    iprop(know m κ ∗ own c O ∗ cred (tallyAt (barCell c) () 10) ∗ atPos ER (barCell c) 0 ∅ 0)
      ⊢ iprop(((own c O ∗ atPos ER (barCell c) 1 ∅ 0 ∗ bigSep Finset.univ fun d : Fin 10 => barPay (F := F) c (pr d c) (decide (d.val < 3)))
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait sm w) kk) Q) := by
  subst hs; subst hw
  unfold own
  iintro ⟨#Hk, ⟨%W, HO⟩, Hc, Ha⟩ Hw
  iapply (Rounds.wp_wait_rest_token 𝒱₀ ER (sched m) (c : Thread nD τ) none (κ := κ (barCell c))
      (wpE_semWait_eq 𝒱₀ (c : Thread nD τ) none Set.univ) (Set.mem_univ _) () (O := O) (W := W) (R := 0) (m := 0) (T := ∅)
      ((Nat.zero_add 10).trans (expect_bar m c).symm)) $$ [Hc HO Ha]
  · isplitr; · iapply (know_inv m κ (bar_mem c)); iexact Hk
    isplitl [Hc]; · iexact Hc
    isplitl [HO]; · iexact HO
    isplitr; · iapply (mayWait c _ (lv_bar c ()) hO); iapply (know_lev m κ); iexact Hk
    iexact Ha
  iintro ⟨HO, Ha, -, Hp⟩
  ihave Hp := (Entails.of_eq (rest_bar m c)) $$ Hp
  iapply Hw
  isplitl [HO]; · iexists (insert (SemLoc.reg (sig.barrier 0 rfl), ()) W); iexact HO
  isplitl [Ha]; · iexact Ha
  iexact Hp

/-! ## The wait for a transfer -/

theorem st_wait (c : Dev nD) (u : Use) (hu : idle c u = false) {b : ℕ} (hb : useLv u = b) {O : CellTallies nD τ sig Unit} (hO : Above b O)
    {sm : DmaSem sig} (hs : sm = semOf u) {sp sp' : Space} {s s' : Shape} {e e' : EltTy}
    {src : Memref sig .tc sp' s' e'} {dst : Memref sig .tc sp s e} {hsrc : src.view.WordExact} {hdst : dst.view.WordExact}
    (hN : dst.view.dmaCredit = amt u)
    {α : Type} {Q : α → sProp 𝕄} {kk : PUnit → Prog (TpuEff nD τ sig (Elt F) Λ₀ .tc) α} :
    iprop(know m κ ∗ own c O ∗ cred (tallyAt (cell c u) () (amt u)) ∗ atPos ER (cell c u) 0 ∅ 0)
      ⊢ iprop(((own c O ∗ atPos ER (cell c u) 1 ∅ 0 ∗ usePay m c u)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hsrc hdst) kk) Q) := by
  subst hs
  unfold own
  iintro ⟨#Hk, ⟨%W, HO⟩, Hc, Ha⟩ Hw
  rw [← hN]
  iapply (Rounds.wp_wait_rest_token 𝒱₀ ER (sched m) (c : Thread nD τ) none (κ := κ (cell c u))
      (wpE_waitDma2_eq (src := src) (dst := dst) (hsrc := hsrc) (hdst := hdst) 𝒱₀ (c : Thread nD τ) none Set.univ) (Set.mem_univ _) () (O := O) (W := W) (R := 0) (m := 0) (T := ∅)
      ((Nat.zero_add _).trans (hN.trans (expect_cell m c hu).symm))) $$ [Hc HO Ha]
  · isplitr; · iapply (know_inv m κ (cell_mem c u)); iexact Hk
    isplitl [Hc]; · iexact Hc
    isplitl [HO]; · iexact HO
    isplitr; · iapply (mayWait c _ ((lv_cell c u ()).trans hb) hO); iapply (know_lev m κ); iexact Hk
    iexact Ha
  iintro ⟨HO, Ha, -, Hp⟩
  ihave Hp := (Entails.of_eq (rest_cell m c hu)) $$ Hp
  iapply Hw
  isplitl [HO]; · iexists (insert (SemLoc.dma (semOf u), ()) W); iexact HO
  isplitl [Ha]; · iexact Ha
  iexact Hp

/-! ## Transfers -/

/-- A local copy. -/
theorem st_copy (c : Dev nD) (u : Use) (hu : idle c u = false) {sm : DmaSem sig} (hs : sm = semOf u) {sp sp' : Space} {s : Shape} {e : EltTy}
    {src : Memref sig .tc sp s e} {dst : Memref sig .tc sp' s e} {hsrc : src.view.WordExact} {hdst : dst.view.WordExact}
    {hsem : DmaTarget.Typed (nD := nD) (τ := τ) (p := (c : Thread nD τ).2) sp (.dma sm) (.here dst)}
    (hN : dst.view.amount (.dma sm) = amt u) {q : PosShare TreeShare} {fs : Buf (Elt F) (src.view.loc (c : Thread nD τ))} {fd : Buf (Elt F) (dst.view.loc (c : Thread nD τ))}
    (hpay : iprop((dst.view.loc (c : Thread nD τ) ↦[dst.view.set]{fullShare} (dst.view.write (Elt F) fd (src.view.read (Elt F) fs) Finset.univ))
              ∗ (src.view.loc (c : Thread nD τ) ↦[src.view.set]{q} fs)) ⊢ usePay m c u)
    {α : Type} {Q : α → sProp 𝕄} {kk : PUnit → Prog (TpuEff nD τ sig (Elt F) Λ₀ .tc) α} :
    iprop(know m κ ∗ (src.view.loc (c : Thread nD τ) ↦[src.view.set]{q} fs) ∗ (dst.view.loc (c : Thread nD τ) ↦[dst.view.set]{fullShare} fd)
        ∗ dutyTok ER (cell c u) 0 (0 : Fin 10) ∗ reached ER (cell c u) 0)
      ⊢ iprop((cred (tallyAt (cell c u) () (amt u))
            -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma src (.here dst) (.dma sm) hsrc hdst hsem) kk) Q) := by
  subst hs
  iintro ⟨#Hk, Hs, Hd, Ht, Hr⟩ Hw
  iapply (Rounds.wp_copy_pointsTo 𝒱₀ ER (sched m) (c : Thread nD τ) none (src := src) (dst := dst) (sem := .dma (semOf u)) (q := q)
      (fs := fs) (fd := fd) (r := 0) (d := 0) (κ := κ (cell c u))
      (by rw [duties_live m c hu]; exact Finset.mem_singleton_self _) () (amt u) hN (amount_cell m c u 0)
      (by rw [payload_cell]; exact hpay)) $$ [Hs Hd Ht Hr]
  · isplitr; · iapply (know_inv m κ (cell_mem c u)); iexact Hk
    isplitl [Hs]; · iexact Hs
    isplitl [Hd]; · iexact Hd
    isplitl [Ht]; · iexact Ht
    iexact Hr
  iexact Hw

/-- A transfer of the elements of one view to the same view on another device. -/
theorem st_send (c p : Dev nD) (us ur : Use) (hus : idle c us = false) (hur : idle p ur = false) (hamt : amt ur = amt us)
    {sS sR : DmaSem sig} (hsS : sS = semOf us) (hsR : sR = semOf ur) (O : CellTallies nD τ sig Unit) {sp : Space} {s : Shape} {e : EltTy}
    {v : Memref sig .tc sp s e} {hsc : (v : Memref sig (Dev.tc p : Thread nD τ).2.kind sp s e).view.ref.isScScratch = false}
    {hsrc hdst : v.view.WordExact} {hsem : DmaTarget.Typed sp (.dma sR) (.remote (Dev.tc p : Thread nD τ) v (.dma sS) hsc)}
    (hN : v.view.amount (.dma sR) = amt us) {q : PosShare TreeShare} {fs : Buf (Elt F) (v.view.loc (c : Thread nD τ))} {fd : Buf (Elt F) (v.view.loc (p : Thread nD τ))}
    (hpay₁ : (v.view.loc (c : Thread nD τ) ↦[v.view.set]{q} fs) ⊢ usePay m c us)
    (hpay₂ : (v.view.loc (p : Thread nD τ) ↦[v.view.set]{fullShare} (show Buf (Elt F) (v.view.loc (p : Thread nD τ)) from fs)) ⊢ usePay m p ur)
    {α : Type} {Q : α → sProp 𝕄} {kk : PUnit → Prog (TpuEff nD τ sig (Elt F) Λ₀ .tc) α} :
    iprop(know m κ ∗ (v.view.loc (c : Thread nD τ) ↦[v.view.set]{q} fs) ∗ (v.view.loc (p : Thread nD τ) ↦[v.view.set]{fullShare} fd)
        ∗ own c (O + tallyAt (cell p ur) () (amt us))
        ∗ dutyTok ER (cell c us) 0 (0 : Fin 10) ∗ reached ER (cell c us) 0 ∗ dutyTok ER (cell p ur) 0 (0 : Fin 10) ∗ reached ER (cell p ur) 0)
      ⊢ iprop(((cred (tallyAt (cell c us) () (amt us)) ∗ own c O)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma v (.remote (Dev.tc p : Thread nD τ) v (.dma sS) hsc) (.dma sR) hsrc hdst hsem) kk) Q) := by
  subst hsS; subst hsR
  unfold own
  iintro ⟨#Hk, Hs, Hd, ⟨%W, HO⟩, Ht, Hr, Ht', Hr'⟩ Hw
  have hw : (v.view.loc (p : Thread nD τ) ↦[v.view.set]{fullShare} (v.view.write (Elt F) fd (v.view.read (Elt F) fs) Finset.univ) : sProp 𝕄)
      = (v.view.loc (p : Thread nD τ) ↦[v.view.set]{fullShare} (show Buf (Elt F) (v.view.loc (p : Thread nD τ)) from fs)) :=
    pointsTo_congr fun i hi => by
      refine (congrFun (View.write_read_eq_piecewise (v := v.view) (Val := Elt F) fd fs Finset.univ) i).trans ?_
      exact Finset.piecewise_eq_of_mem _ _ _ hi
  iapply (Rounds.wp_send_pointsTo 𝒱₀ ER (sched m) (c : Thread nD τ) none (c' := (p : Thread nD τ)) (src := v) (dst := v)
      (sS := .dma (semOf us)) (sem := .dma (semOf ur)) (q := q) (fs := fs) (κ₁ := κ (cell c us)) (κ₂ := κ (cell p ur))
      (r₁ := 0) (r₂ := 0) (d₁ := 0) (d₂ := 0) (fd := fd)
      (by rw [duties_live m c hus]; exact Finset.mem_singleton_self _) (by rw [duties_live m p hur]; exact Finset.mem_singleton_self _)
      () () (amt us) hN (amount_cell m c us 0) ((amount_cell m p ur 0).trans hamt) O rfl (W := W)
      (by rw [payload_cell]; exact hpay₁)
      (by rw [payload_cell, hw]; exact hpay₂)) $$ [Hs Hd HO Ht Hr Ht' Hr']
  · isplitr; · iapply (know_inv m κ (cell_mem c us)); iexact Hk
    isplitr; · iapply (know_inv m κ (cell_mem p ur)); iexact Hk
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iintro ⟨Hc, HO⟩
  iapply Hw
  isplitl [Hc]; · iexact Hc
  iexists W; iexact HO

/-- A transfer cell that has done its round gives its counter back, at zero; so does an idle one at once, and the barrier. -/
theorem st_close (c : Dev nD) (u : Use) : iprop(know m κ ∗ atPos ER (cell c u) 1 ∅ 0) ⊢ (|={Set.univ}=> semVal (cell c u) 0 : sProp 𝕄) := by
  iintro ⟨#Hk, Ha⟩
  iapply (Rounds.cell_close ER (sched m) (g := cell c u) (Set.mem_univ (κ (cell c u))) id (R := 0 + 1) (duties_later m _))
  isplitr; · iapply (know_inv m κ (cell_mem c u)); iexact Hk
  iexact Ha
theorem st_close_idle (c : Dev nD) (u : Use) (h : idle c u = true) : iprop(know m κ ∗ atPos ER (cell c u) 0 ∅ 0) ⊢ (|={Set.univ}=> semVal (cell c u) 0 : sProp 𝕄) := by
  iintro ⟨#Hk, Ha⟩
  iapply (Rounds.cell_close ER (sched m) (g := cell c u) (Set.mem_univ (κ (cell c u))) id (R := 0) (fun r _ => by
    rcases Nat.eq_zero_or_pos r with rfl | hr
    · exact duties_idle m c h
    · exact duties_later m _ r hr))
  isplitr; · iapply (know_inv m κ (cell_mem c u)); iexact Hk
  iexact Ha
theorem st_close_bar (c : Dev nD) : iprop(know m κ ∗ atPos ER (barCell c) 1 ∅ 0) ⊢ (|={Set.univ}=> semVal (barCell c) 0 : sProp 𝕄) := by
  iintro ⟨#Hk, Ha⟩
  iapply (Rounds.cell_close ER (sched m) (g := barCell c) (Set.mem_univ (κ (barCell c))) id (R := 0 + 1) (duties_later m _))
  isplitr; · iapply (know_inv m κ (bar_mem c)); iexact Hk
  iexact Ha

end Cert.Decode

end
-- ==== Proof.Views.lean ====
/-
# Rows through the kernel's views

The kernel reaches its buffers through one-row slices. Each slice's elements are a row; what a transfer or a store lays in
the row, and what a load reads from it, in terms of the contents of Contents.lean.
-/
module

public import proofs.«01_k».proof.Proof.Sched

@[expose] public section

set_option maxRecDepth 16384

noncomputable section

namespace Cert.Decode

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3 eq_ix3)
open Idealize.ShloMosaic.ShareLeaves (leaf)

variable {F : FTy → Type} [FloatOps F]

local notation "𝕄" => MT nD τ sig Unit (Elt F) ℕ UU ℕ

variable (m : (ℓ : Loc nD τ sig) → Buf (Elt F) ℓ)

theorem ix3_one {a b : ℕ} (x : (⟨3, ![1, a, b]⟩ : Shape).Idx) : x = ix3 (0 : Fin 1) (x 1) (x 2) := by
  funext d
  match d with
  | ⟨0, _⟩ => exact Fin.ext (Nat.lt_one_iff.mp (x 0).isLt)
  | ⟨1, _⟩ => rfl
  | ⟨2, _⟩ => rfl

/-! ## The slices transferred -/

/-- Row `i` of a local copy's destination and of its source. -/
abbrev dstK0 : Memref sig .tc .vmem S1024x1024 .f32 := ((Memref.whole cc0_scratch0 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024
abbrev dstK1 : Memref sig .tc .vmem S1024x1024 .f32 := ((Memref.whole cc0_scratch0 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024
abbrev dstV0 : Memref sig .tc .vmem S1024x1024 .f32 := ((Memref.whole cc0_scratch1 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024
abbrev dstV1 : Memref sig .tc .vmem S1024x1024 .f32 := ((Memref.whole cc0_scratch1 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024
abbrev srcK0 (c : Dev nD) : Memref sig .tc .hbm S1024x1024 .f32 := ((Memref.whole main_v2 : Memref sig .tc .hbm S16x1024x1024 .f32).slice (Rect.unit (s := S16x1024x1024) (k0_off1 c 0#32) S1x1024x1024.size (k0_off1_inb c 0)) (fun _ => rfl)).squeeze S1024x1024 squeezes_S1x1024x1024_S1024x1024
abbrev srcK1 (c : Dev nD) : Memref sig .tc .hbm S1024x1024 .f32 := ((Memref.whole main_v2 : Memref sig .tc .hbm S16x1024x1024 .f32).slice (Rect.unit (s := S16x1024x1024) (k0_off1 c 1#32) S1x1024x1024.size (k0_off1_inb c 1)) (fun _ => rfl)).squeeze S1024x1024 squeezes_S1x1024x1024_S1024x1024
abbrev srcV0 (c : Dev nD) : Memref sig .tc .hbm S1024x1024 .f32 := ((Memref.whole main_v3 : Memref sig .tc .hbm S16x1024x1024 .f32).slice (Rect.unit (s := S16x1024x1024) (k0_off1 c 0#32) S1x1024x1024.size (k0_off1_inb c 0)) (fun _ => rfl)).squeeze S1024x1024 squeezes_S1x1024x1024_S1024x1024
abbrev srcV1 (c : Dev nD) : Memref sig .tc .hbm S1024x1024 .f32 := ((Memref.whole main_v3 : Memref sig .tc .hbm S16x1024x1024 .f32).slice (Rect.unit (s := S16x1024x1024) (k0_off1 c 1#32) S1x1024x1024.size (k0_off1_inb c 1)) (fun _ => rfl)).squeeze S1024x1024 squeezes_S1x1024x1024_S1024x1024
/-- A device's own row of each partial buffer, and of the output. -/
abbrev yM (c : Dev nD) : Memref sig .tc .vmem S2x16 .f32 := ((Memref.whole cc0_scratch2 : Memref sig .tc .vmem S4x2x16 .f32).slice (Rect.unit (s := S4x2x16) (k0_off6 c) S1x2x16.size (k0_off6_inb c)) (fun _ => rfl)).squeeze S2x16 squeezes_S1x2x16_S2x16
abbrev yL (c : Dev nD) : Memref sig .tc .vmem S2x16 .f32 := ((Memref.whole cc0_scratch3 : Memref sig .tc .vmem S4x2x16 .f32).slice (Rect.unit (s := S4x2x16) (k0_off6 c) S1x2x16.size (k0_off6_inb c)) (fun _ => rfl)).squeeze S2x16 squeezes_S1x2x16_S2x16
abbrev yO (c : Dev nD) : Memref sig .tc .vmem S2x1024 .f32 := ((Memref.whole cc0_scratch4 : Memref sig .tc .vmem S4x2x1024 .f32).slice (Rect.unit (s := S4x2x1024) (k0_off9 c) S1x2x1024.size (k0_off9_inb c)) (fun _ => rfl)).squeeze S2x1024 squeezes_S1x2x1024_S2x1024
abbrev xM (c : Dev nD) : Memref sig .tc .vmem S2x1024 .f32 := ((Memref.whole cc0_stg1_0 : Memref sig .tc .vmem S8x2x1024 .f32).slice (Rect.unit (s := S8x2x1024) (k0_off17 c) S1x2x1024.size (k0_off17_inb c)) (fun _ => rfl)).squeeze S2x1024 squeezes_S1x2x1024_S2x1024

theorem set_dstK0 : dstK0.view.set = rowS 0 := (View.set_reshape _ _).trans ((View.set_slice_whole _ _).trans (unit_row rfl _))
theorem set_srcK0 (c : Dev nD) : (srcK0 c).view.set = rowS (brow c 0) := (View.set_reshape _ _).trans ((View.set_slice_whole _ _).trans (unit_row (off1_0 c) _))
theorem set_dstK1 : dstK1.view.set = rowS 1 := (View.set_reshape _ _).trans ((View.set_slice_whole _ _).trans (unit_row rfl _))
theorem set_srcK1 (c : Dev nD) : (srcK1 c).view.set = rowS (brow c 1) := (View.set_reshape _ _).trans ((View.set_slice_whole _ _).trans (unit_row (off1_1 c) _))
theorem set_dstV0 : dstV0.view.set = rowS 0 := (View.set_reshape _ _).trans ((View.set_slice_whole _ _).trans (unit_row rfl _))
theorem set_srcV0 (c : Dev nD) : (srcV0 c).view.set = rowS (brow c 0) := (View.set_reshape _ _).trans ((View.set_slice_whole _ _).trans (unit_row (off1_0 c) _))
theorem set_dstV1 : dstV1.view.set = rowS 1 := (View.set_reshape _ _).trans ((View.set_slice_whole _ _).trans (unit_row rfl _))
theorem set_srcV1 (c : Dev nD) : (srcV1 c).view.set = rowS (brow c 1) := (View.set_reshape _ _).trans ((View.set_slice_whole _ _).trans (unit_row (off1_1 c) _))
theorem set_yM (c : Dev nD) : (yM c).view.set = rowS (yp c).val := (View.set_reshape _ _).trans ((View.set_slice_whole _ _).trans (unit_row (off6_eq c) _))
theorem set_yL (c : Dev nD) : (yL c).view.set = rowS (yp c).val := (View.set_reshape _ _).trans ((View.set_slice_whole _ _).trans (unit_row (off6_eq c) _))
theorem set_yO (c : Dev nD) : (yO c).view.set = rowS (yp c).val := (View.set_reshape _ _).trans ((View.set_slice_whole _ _).trans (unit_row (off9_eq c) _))
theorem set_xM (c : Dev nD) : (xM c).view.set = rowS (rr c).val := (View.set_reshape _ _).trans ((View.set_slice_whole _ _).trans (unit_row (off17_eq c) _))

/-! ## The local copies -/

theorem landedK0 (c : Dev nD) (fd : Buf (Elt F) (dstK0.view.loc (c : Thread nD τ))) :
    ∀ j ∈ dstK0.view.set, dstK0.view.write (Elt F) fd ((srcK0 c).view.read (Elt F) (K2 m c)) Finset.univ j = KB m c j := by
  intro j hj
  obtain ⟨x, -, rfl⟩ := Finset.mem_map.mp hj
  rw [View.write_emb_of_mem _ _ (Finset.mem_univ x), View.read_apply]
  show K2 m c ((Rect.unit (s := S16x1024x1024) (k0_off1 c 0#32) S1x1024x1024.size (k0_off1_inb c 0)).emb (Shape.reshapeEquiv _ x)) = KB m c ((Rect.unit (s := S2x1024x1024) ![0, 0, 0] S1x1024x1024.size inb_S2x1024x1024_S1x1024x1024_0_0_0).emb (Shape.reshapeEquiv _ x))
  rw [unit_row_emb (off1_0 c) _ (brow_lt c (by decide)), unit_row_emb (y := 0) rfl _ (by decide)]
  rfl

theorem payK0 (c : Dev nD) (fd : Buf (Elt F) (dstK0.view.loc (c : Thread nD τ))) :
    iprop((dstK0.view.loc (c : Thread nD τ) ↦[dstK0.view.set]{fullShare} (dstK0.view.write (Elt F) fd ((srcK0 c).view.read (Elt F) (K2 m c)) Finset.univ))
        ∗ ((srcK0 c).view.loc (c : Thread nD τ) ↦[(srcK0 c).view.set]{leaf 1 fullShare 0} (K2 m c))) ⊢ (usePay m c (uLoc 0) : sProp 𝕄) := by
  rw [pointsTo_congr (landedK0 m c fd), set_dstK0, set_srcK0]
  exact BI.Entails.refl _

theorem landedK1 (c : Dev nD) (fd : Buf (Elt F) (dstK1.view.loc (c : Thread nD τ))) :
    ∀ j ∈ dstK1.view.set, dstK1.view.write (Elt F) fd ((srcK1 c).view.read (Elt F) (K2 m c)) Finset.univ j = KB m c j := by
  intro j hj
  obtain ⟨x, -, rfl⟩ := Finset.mem_map.mp hj
  rw [View.write_emb_of_mem _ _ (Finset.mem_univ x), View.read_apply]
  show K2 m c ((Rect.unit (s := S16x1024x1024) (k0_off1 c 1#32) S1x1024x1024.size (k0_off1_inb c 1)).emb (Shape.reshapeEquiv _ x)) = KB m c ((Rect.unit (s := S2x1024x1024) ![1, 0, 0] S1x1024x1024.size inb_S2x1024x1024_S1x1024x1024_1_0_0).emb (Shape.reshapeEquiv _ x))
  rw [unit_row_emb (off1_1 c) _ (brow_lt c (by decide)), unit_row_emb (y := 1) rfl _ (by decide)]
  rfl

theorem payK1 (c : Dev nD) (fd : Buf (Elt F) (dstK1.view.loc (c : Thread nD τ))) :
    iprop((dstK1.view.loc (c : Thread nD τ) ↦[dstK1.view.set]{fullShare} (dstK1.view.write (Elt F) fd ((srcK1 c).view.read (Elt F) (K2 m c)) Finset.univ))
        ∗ ((srcK1 c).view.loc (c : Thread nD τ) ↦[(srcK1 c).view.set]{leaf 1 fullShare 1} (K2 m c))) ⊢ (usePay m c (uLoc 1) : sProp 𝕄) := by
  rw [pointsTo_congr (landedK1 m c fd), set_dstK1, set_srcK1]
  exact BI.Entails.refl _

theorem landedV0 (c : Dev nD) (fd : Buf (Elt F) (dstV0.view.loc (c : Thread nD τ))) :
    ∀ j ∈ dstV0.view.set, dstV0.view.write (Elt F) fd ((srcV0 c).view.read (Elt F) (V2 m c)) Finset.univ j = VB m c j := by
  intro j hj
  obtain ⟨x, -, rfl⟩ := Finset.mem_map.mp hj
  rw [View.write_emb_of_mem _ _ (Finset.mem_univ x), View.read_apply]
  show V2 m c ((Rect.unit (s := S16x1024x1024) (k0_off1 c 0#32) S1x1024x1024.size (k0_off1_inb c 0)).emb (Shape.reshapeEquiv _ x)) = VB m c ((Rect.unit (s := S2x1024x1024) ![0, 0, 0] S1x1024x1024.size inb_S2x1024x1024_S1x1024x1024_0_0_0).emb (Shape.reshapeEquiv _ x))
  rw [unit_row_emb (off1_0 c) _ (brow_lt c (by decide)), unit_row_emb (y := 0) rfl _ (by decide)]
  rfl

theorem payV0 (c : Dev nD) (fd : Buf (Elt F) (dstV0.view.loc (c : Thread nD τ))) :
    iprop((dstV0.view.loc (c : Thread nD τ) ↦[dstV0.view.set]{fullShare} (dstV0.view.write (Elt F) fd ((srcV0 c).view.read (Elt F) (V2 m c)) Finset.univ))
        ∗ ((srcV0 c).view.loc (c : Thread nD τ) ↦[(srcV0 c).view.set]{leaf 1 fullShare 0} (V2 m c))) ⊢ (usePay m c (uLoc 2) : sProp 𝕄) := by
  rw [pointsTo_congr (landedV0 m c fd), set_dstV0, set_srcV0]
  exact BI.Entails.refl _

theorem landedV1 (c : Dev nD) (fd : Buf (Elt F) (dstV1.view.loc (c : Thread nD τ))) :
    ∀ j ∈ dstV1.view.set, dstV1.view.write (Elt F) fd ((srcV1 c).view.read (Elt F) (V2 m c)) Finset.univ j = VB m c j := by
  intro j hj
  obtain ⟨x, -, rfl⟩ := Finset.mem_map.mp hj
  rw [View.write_emb_of_mem _ _ (Finset.mem_univ x), View.read_apply]
  show V2 m c ((Rect.unit (s := S16x1024x1024) (k0_off1 c 1#32) S1x1024x1024.size (k0_off1_inb c 1)).emb (Shape.reshapeEquiv _ x)) = VB m c ((Rect.unit (s := S2x1024x1024) ![1, 0, 0] S1x1024x1024.size inb_S2x1024x1024_S1x1024x1024_1_0_0).emb (Shape.reshapeEquiv _ x))
  rw [unit_row_emb (off1_1 c) _ (brow_lt c (by decide)), unit_row_emb (y := 1) rfl _ (by decide)]
  rfl

theorem payV1 (c : Dev nD) (fd : Buf (Elt F) (dstV1.view.loc (c : Thread nD τ))) :
    iprop((dstV1.view.loc (c : Thread nD τ) ↦[dstV1.view.set]{fullShare} (dstV1.view.write (Elt F) fd ((srcV1 c).view.read (Elt F) (V2 m c)) Finset.univ))
        ∗ ((srcV1 c).view.loc (c : Thread nD τ) ↦[(srcV1 c).view.set]{leaf 1 fullShare 1} (V2 m c))) ⊢ (usePay m c (uLoc 3) : sProp 𝕄) := by
  rw [pointsTo_congr (landedV1 m c fd), set_dstV1, set_srcV1]
  exact BI.Entails.refl _

/-! ## Loads from the filled rows -/

theorem read_k0 (c : Dev nD) :
    (Memref.whole cc0_scratch0 : Memref sig .tc .vmem S2x1024x1024 .f32).view.readAt (Elt F) (Rect.unit (s := S2x1024x1024) ![0, 0, 0] S1x1024x1024.size inb_S2x1024x1024_S1x1024x1024_0_0_0).toLoadRect (KB m c) = kv m c 0 := by
  funext x
  show KB m c ((Rect.unit (s := S2x1024x1024) ![0, 0, 0] S1x1024x1024.size inb_S2x1024x1024_S1x1024x1024_0_0_0).emb x) = _
  rw [unit_row_emb (y := 0) rfl _ (by decide)]
  rfl
theorem sub_k0 : (Memref.whole cc0_scratch0 : Memref sig .tc .vmem S2x1024x1024 .f32).view.setOn (Rect.unit (s := S2x1024x1024) ![0, 0, 0] S1x1024x1024.size inb_S2x1024x1024_S1x1024x1024_0_0_0).toLoadRect.set ⊆ rowS 0 := by
  have h := View.set_slice (View.whole cc0_scratch0) (Rect.unit (s := S2x1024x1024) ![0, 0, 0] S1x1024x1024.size inb_S2x1024x1024_S1x1024x1024_0_0_0)
  exact subset_of_eq (h.symm.trans ((View.set_slice_whole _ _).trans (unit_row rfl _)))
theorem read_k1 (c : Dev nD) :
    (Memref.whole cc0_scratch0 : Memref sig .tc .vmem S2x1024x1024 .f32).view.readAt (Elt F) (Rect.unit (s := S2x1024x1024) ![1, 0, 0] S1x1024x1024.size inb_S2x1024x1024_S1x1024x1024_1_0_0).toLoadRect (KB m c) = kv m c 1 := by
  funext x
  show KB m c ((Rect.unit (s := S2x1024x1024) ![1, 0, 0] S1x1024x1024.size inb_S2x1024x1024_S1x1024x1024_1_0_0).emb x) = _
  rw [unit_row_emb (y := 1) rfl _ (by decide)]
  rfl
theorem sub_k1 : (Memref.whole cc0_scratch0 : Memref sig .tc .vmem S2x1024x1024 .f32).view.setOn (Rect.unit (s := S2x1024x1024) ![1, 0, 0] S1x1024x1024.size inb_S2x1024x1024_S1x1024x1024_1_0_0).toLoadRect.set ⊆ rowS 1 := by
  have h := View.set_slice (View.whole cc0_scratch0) (Rect.unit (s := S2x1024x1024) ![1, 0, 0] S1x1024x1024.size inb_S2x1024x1024_S1x1024x1024_1_0_0)
  exact subset_of_eq (h.symm.trans ((View.set_slice_whole _ _).trans (unit_row rfl _)))
theorem read_v0 (c : Dev nD) :
    (Memref.whole cc0_scratch1 : Memref sig .tc .vmem S2x1024x1024 .f32).view.readAt (Elt F) (Rect.unit (s := S2x1024x1024) ![0, 0, 0] S1x1024x1024.size inb_S2x1024x1024_S1x1024x1024_0_0_0).toLoadRect (VB m c) = vv m c 0 := by
  funext x
  show VB m c ((Rect.unit (s := S2x1024x1024) ![0, 0, 0] S1x1024x1024.size inb_S2x1024x1024_S1x1024x1024_0_0_0).emb x) = _
  rw [unit_row_emb (y := 0) rfl _ (by decide)]
  rfl
theorem sub_v0 : (Memref.whole cc0_scratch1 : Memref sig .tc .vmem S2x1024x1024 .f32).view.setOn (Rect.unit (s := S2x1024x1024) ![0, 0, 0] S1x1024x1024.size inb_S2x1024x1024_S1x1024x1024_0_0_0).toLoadRect.set ⊆ rowS 0 := by
  have h := View.set_slice (View.whole cc0_scratch1) (Rect.unit (s := S2x1024x1024) ![0, 0, 0] S1x1024x1024.size inb_S2x1024x1024_S1x1024x1024_0_0_0)
  exact subset_of_eq (h.symm.trans ((View.set_slice_whole _ _).trans (unit_row rfl _)))
theorem read_v1 (c : Dev nD) :
    (Memref.whole cc0_scratch1 : Memref sig .tc .vmem S2x1024x1024 .f32).view.readAt (Elt F) (Rect.unit (s := S2x1024x1024) ![1, 0, 0] S1x1024x1024.size inb_S2x1024x1024_S1x1024x1024_1_0_0).toLoadRect (VB m c) = vv m c 1 := by
  funext x
  show VB m c ((Rect.unit (s := S2x1024x1024) ![1, 0, 0] S1x1024x1024.size inb_S2x1024x1024_S1x1024x1024_1_0_0).emb x) = _
  rw [unit_row_emb (y := 1) rfl _ (by decide)]
  rfl
theorem sub_v1 : (Memref.whole cc0_scratch1 : Memref sig .tc .vmem S2x1024x1024 .f32).view.setOn (Rect.unit (s := S2x1024x1024) ![1, 0, 0] S1x1024x1024.size inb_S2x1024x1024_S1x1024x1024_1_0_0).toLoadRect.set ⊆ rowS 1 := by
  have h := View.set_slice (View.whole cc0_scratch1) (Rect.unit (s := S2x1024x1024) ![1, 0, 0] S1x1024x1024.size inb_S2x1024x1024_S1x1024x1024_1_0_0)
  exact subset_of_eq (h.symm.trans ((View.set_slice_whole _ _).trans (unit_row rfl _)))
theorem read_q0 (c : Dev nD) :
    (Memref.whole cc0_stg0_0 : Memref sig .tc .vmem S16x1x1024 .f32).view.readAt (Elt F) (Rect.unit (s := S16x1x1024) (k0_off2 c 0#32) S1x1x1024.size (k0_off2_inb c 0)).toLoadRect (Q1 m c) = qv m c 0 := by
  funext x
  show Q1 m c ((Rect.unit (s := S16x1x1024) (k0_off2 c 0#32) S1x1x1024.size (k0_off2_inb c 0)).emb x) = _
  rw [unit_row_emb (off2_0 c) _ (brow_lt c (by decide))]
  rfl
theorem read_q1 (c : Dev nD) :
    (Memref.whole cc0_stg0_0 : Memref sig .tc .vmem S16x1x1024 .f32).view.readAt (Elt F) (Rect.unit (s := S16x1x1024) (k0_off2 c 1#32) S1x1x1024.size (k0_off2_inb c 1)).toLoadRect (Q1 m c) = qv m c 1 := by
  funext x
  show Q1 m c ((Rect.unit (s := S16x1x1024) (k0_off2 c 1#32) S1x1x1024.size (k0_off2_inb c 1)).emb x) = _
  rw [unit_row_emb (off2_1 c) _ (brow_lt c (by decide))]
  rfl

/-! ## Stores into a device's own rows -/

theorem set_stM (c : Dev nD) : ((Memref.whole cc0_scratch2 : Memref sig .tc .vmem S4x2x16 .f32).access (Rect.unit (s := S4x2x16) (k0_off3 c) S1x2x16.size (k0_off3_inb c))).setOn Finset.univ = rowS (yp c).val :=
  (View.set_slice_whole _ _).trans (unit_row (off3_eq c) _)
theorem sub_ldM (c : Dev nD) : (Memref.whole cc0_scratch2 : Memref sig .tc .vmem S4x2x16 .f32).view.setOn (Rect.unit (s := S4x2x16) (k0_off3 c) S1x2x16.size (k0_off3_inb c)).toLoadRect.set ⊆ rowS (yp c).val := by
  have h := View.set_slice (View.whole cc0_scratch2) (Rect.unit (s := S4x2x16) (k0_off3 c) S1x2x16.size (k0_off3_inb c))
  exact subset_of_eq (h.symm.trans ((View.set_slice_whole _ _).trans (unit_row (off3_eq c) _)))
theorem storedM (c : Dev nD) (f : Buf (Elt F) ((c : Thread nD τ).loc cc0_scratch2)) :
    ∀ j ∈ (rowS (yp c).val : Finset S4x2x16.Idx), ((Memref.whole cc0_scratch2 : Memref sig .tc .vmem S4x2x16 .f32).access (Rect.unit (s := S4x2x16) (k0_off3 c) S1x2x16.size (k0_off3_inb c))).write (Elt F) f (pm m c) Finset.univ j = MC m c j := by
  intro j hj
  rw [← set_stM] at hj
  obtain ⟨x, -, rfl⟩ := Finset.mem_map.mp hj
  rw [View.write_emb_of_mem _ _ (Finset.mem_univ x)]
  have he : ((Memref.whole cc0_scratch2 : Memref sig .tc .vmem S4x2x16 .f32).access (Rect.unit (s := S4x2x16) (k0_off3 c) S1x2x16.size (k0_off3_inb c))).emb x = ix3 (yp c) (x 1) (x 2) := unit_row_emb (off3_eq c) _ (yp c).isLt x
  rw [he]
  show pm m c x = pm m (atY c (yp c)) (ix3 (0 : Fin 1) (x 1) (x 2))
  rw [atY_yp]
  exact congrArg (pm m c) (ix3_one (a := 2) x)
theorem set_stL (c : Dev nD) : ((Memref.whole cc0_scratch3 : Memref sig .tc .vmem S4x2x16 .f32).access (Rect.unit (s := S4x2x16) (k0_off3 c) S1x2x16.size (k0_off3_inb c))).setOn Finset.univ = rowS (yp c).val :=
  (View.set_slice_whole _ _).trans (unit_row (off3_eq c) _)
theorem sub_ldL (c : Dev nD) : (Memref.whole cc0_scratch3 : Memref sig .tc .vmem S4x2x16 .f32).view.setOn (Rect.unit (s := S4x2x16) (k0_off3 c) S1x2x16.size (k0_off3_inb c)).toLoadRect.set ⊆ rowS (yp c).val := by
  have h := View.set_slice (View.whole cc0_scratch3) (Rect.unit (s := S4x2x16) (k0_off3 c) S1x2x16.size (k0_off3_inb c))
  exact subset_of_eq (h.symm.trans ((View.set_slice_whole _ _).trans (unit_row (off3_eq c) _)))
theorem storedL (c : Dev nD) (f : Buf (Elt F) ((c : Thread nD τ).loc cc0_scratch3)) :
    ∀ j ∈ (rowS (yp c).val : Finset S4x2x16.Idx), ((Memref.whole cc0_scratch3 : Memref sig .tc .vmem S4x2x16 .f32).access (Rect.unit (s := S4x2x16) (k0_off3 c) S1x2x16.size (k0_off3_inb c))).write (Elt F) f (pl m c) Finset.univ j = LC m c j := by
  intro j hj
  rw [← set_stL] at hj
  obtain ⟨x, -, rfl⟩ := Finset.mem_map.mp hj
  rw [View.write_emb_of_mem _ _ (Finset.mem_univ x)]
  have he : ((Memref.whole cc0_scratch3 : Memref sig .tc .vmem S4x2x16 .f32).access (Rect.unit (s := S4x2x16) (k0_off3 c) S1x2x16.size (k0_off3_inb c))).emb x = ix3 (yp c) (x 1) (x 2) := unit_row_emb (off3_eq c) _ (yp c).isLt x
  rw [he]
  show pl m c x = pl m (atY c (yp c)) (ix3 (0 : Fin 1) (x 1) (x 2))
  rw [atY_yp]
  exact congrArg (pl m c) (ix3_one (a := 2) x)
theorem set_stO (c : Dev nD) : ((Memref.whole cc0_scratch4 : Memref sig .tc .vmem S4x2x1024 .f32).access (Rect.unit (s := S4x2x1024) (k0_off4 c) S1x2x1024.size (k0_off4_inb c))).setOn Finset.univ = rowS (yp c).val :=
  (View.set_slice_whole _ _).trans (unit_row (off4_eq c) _)
theorem sub_ldO (c : Dev nD) : (Memref.whole cc0_scratch4 : Memref sig .tc .vmem S4x2x1024 .f32).view.setOn (Rect.unit (s := S4x2x1024) (k0_off4 c) S1x2x1024.size (k0_off4_inb c)).toLoadRect.set ⊆ rowS (yp c).val := by
  have h := View.set_slice (View.whole cc0_scratch4) (Rect.unit (s := S4x2x1024) (k0_off4 c) S1x2x1024.size (k0_off4_inb c))
  exact subset_of_eq (h.symm.trans ((View.set_slice_whole _ _).trans (unit_row (off4_eq c) _)))
theorem storedO (c : Dev nD) (f : Buf (Elt F) ((c : Thread nD τ).loc cc0_scratch4)) :
    ∀ j ∈ (rowS (yp c).val : Finset S4x2x1024.Idx), ((Memref.whole cc0_scratch4 : Memref sig .tc .vmem S4x2x1024 .f32).access (Rect.unit (s := S4x2x1024) (k0_off4 c) S1x2x1024.size (k0_off4_inb c))).write (Elt F) f (po m c) Finset.univ j = OC m c j := by
  intro j hj
  rw [← set_stO] at hj
  obtain ⟨x, -, rfl⟩ := Finset.mem_map.mp hj
  rw [View.write_emb_of_mem _ _ (Finset.mem_univ x)]
  have he : ((Memref.whole cc0_scratch4 : Memref sig .tc .vmem S4x2x1024 .f32).access (Rect.unit (s := S4x2x1024) (k0_off4 c) S1x2x1024.size (k0_off4_inb c))).emb x = ix3 (yp c) (x 1) (x 2) := unit_row_emb (off4_eq c) _ (yp c).isLt x
  rw [he]
  show po m c x = po m (atY c (yp c)) (ix3 (0 : Fin 1) (x 1) (x 2))
  rw [atY_yp]
  exact congrArg (po m c) (ix3_one (a := 2) x)
theorem set_stX (c : Dev nD) : ((Memref.whole cc0_stg1_0 : Memref sig .tc .vmem S8x2x1024 .f32).access (Rect.unit (s := S8x2x1024) (k0_off15 c) S1x2x1024.size (k0_off15_inb c))).setOn Finset.univ = rowS (rr c).val :=
  (View.set_slice_whole _ _).trans (unit_row (off15_eq c) _)
theorem sub_ldX (c : Dev nD) : (Memref.whole cc0_stg1_0 : Memref sig .tc .vmem S8x2x1024 .f32).view.setOn (Rect.unit (s := S8x2x1024) (k0_off15 c) S1x2x1024.size (k0_off15_inb c)).toLoadRect.set ⊆ rowS (rr c).val := by
  have h := View.set_slice (View.whole cc0_stg1_0) (Rect.unit (s := S8x2x1024) (k0_off15 c) S1x2x1024.size (k0_off15_inb c))
  exact subset_of_eq (h.symm.trans ((View.set_slice_whole _ _).trans (unit_row (off15_eq c) _)))
theorem storedX (c : Dev nD) (f : Buf (Elt F) ((c : Thread nD τ).loc cc0_stg1_0)) :
    ∀ j ∈ (rowS (rr c).val : Finset S8x2x1024.Idx), ((Memref.whole cc0_stg1_0 : Memref sig .tc .vmem S8x2x1024 .f32).access (Rect.unit (s := S8x2x1024) (k0_off15 c) S1x2x1024.size (k0_off15_inb c))).write (Elt F) f (fin m c) Finset.univ j = OUT m c j := by
  intro j hj
  rw [← set_stX] at hj
  obtain ⟨x, -, rfl⟩ := Finset.mem_map.mp hj
  rw [View.write_emb_of_mem _ _ (Finset.mem_univ x)]
  have he : ((Memref.whole cc0_stg1_0 : Memref sig .tc .vmem S8x2x1024 .f32).access (Rect.unit (s := S8x2x1024) (k0_off15 c) S1x2x1024.size (k0_off15_inb c))).emb x = ix3 (rr c) (x 1) (x 2) := unit_row_emb (off15_eq c) _ (rr c).isLt x
  rw [he]
  show fin m c x = fin m (atR c (rr c)) (ix3 (0 : Fin 1) (x 1) (x 2))
  rw [atR_rr]
  exact congrArg (fin m c) (ix3_one (a := 2) x)

/-! ## Loads of the whole partial buffers -/

theorem hz3 : (![0, 0, 0] : Fin 3 → ℕ) = fun _ => 0 := funext fun a => by fin_cases a <;> rfl
theorem read_M (f : Buf (Elt F) (((0 : Dev nD) : Thread nD τ).loc cc0_scratch2)) : (Memref.whole cc0_scratch2 : Memref sig .tc .vmem S4x2x16 .f32).view.readAt (Elt F) (Rect.unit (s := S4x2x16) ![0, 0, 0] S4x2x16.size inb_S4x2x16_S4x2x16_0_0_0).toLoadRect f = f :=
  Memref.readAt_unit_zero (Elt F) cc0_scratch2 hz3 _ f
theorem read_L (f : Buf (Elt F) (((0 : Dev nD) : Thread nD τ).loc cc0_scratch3)) : (Memref.whole cc0_scratch3 : Memref sig .tc .vmem S4x2x16 .f32).view.readAt (Elt F) (Rect.unit (s := S4x2x16) ![0, 0, 0] S4x2x16.size inb_S4x2x16_S4x2x16_0_0_0).toLoadRect f = f :=
  Memref.readAt_unit_zero (Elt F) cc0_scratch3 hz3 _ f
theorem read_O (f : Buf (Elt F) (((0 : Dev nD) : Thread nD τ).loc cc0_scratch4)) : (Memref.whole cc0_scratch4 : Memref sig .tc .vmem S4x2x1024 .f32).view.readAt (Elt F) (Rect.unit (s := S4x2x1024) ![0, 0, 0] S4x2x1024.size inb_S4x2x1024_S4x2x1024_0_0_0).toLoadRect f = f :=
  Memref.readAt_unit_zero (Elt F) cc0_scratch4 hz3 _ f

end Cert.Decode

end
-- ==== Proof.Moves.lean ====
/-
# The kernel's moves

The steps of Steps.lean at the kernel's own slices: each states what the move takes and gives, as rows of buffers, tokens
and counters.
-/
module

public import proofs.«01_k».proof.Proof.Steps
public import proofs.«01_k».proof.Proof.Views

@[expose] public section

set_option maxRecDepth 16384

noncomputable section

namespace Cert.Decode

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3 eq_ix3)
open Idealize.ShloMosaic.ShareLeaves (leaf)

variable {F : FTy → Type} [FloatOps F]

local notation "𝕄" => MT nD τ sig Unit (Elt F) ℕ UU ℕ

variable (m : (ℓ : Loc nD τ sig) → Buf (Elt F) ℓ)

variable (κ : GSem nD τ sig → ℕ)

/-! ## What the moves take -/

/-- A cell of the device's own, not yet waited on. -/
abbrev pend (c : Dev nD) (u : Use) : sProp 𝕄 := atPos ER (cell c u) 0 ∅ 0
/-- The right to complete a transfer on the cell. -/
def tok (c : Dev nD) (u : Use) : sProp 𝕄 := iprop(dutyTok ER (cell c u) 0 (0 : Fin 10) ∗ reached ER (cell c u) 0)

/-- What a local copy takes: the source row, the row filled, the completion. -/
def locSrc (c : Dev nD) : Fin 4 → sProp 𝕄
  | 0 => iprop((((c : Thread nD τ).loc main_v2) ↦[rowS (brow c 0)]{leaf 1 fullShare 0} K2 m c) ∗ (∃ f : Buf (Elt F) ((c : Thread nD τ).loc cc0_scratch0), ((c : Thread nD τ).loc cc0_scratch0) ↦[rowS 0]{fullShare} f) ∗ tok c (uLoc 0))
  | 1 => iprop((((c : Thread nD τ).loc main_v2) ↦[rowS (brow c 1)]{leaf 1 fullShare 1} K2 m c) ∗ (∃ f : Buf (Elt F) ((c : Thread nD τ).loc cc0_scratch0), ((c : Thread nD τ).loc cc0_scratch0) ↦[rowS 1]{fullShare} f) ∗ tok c (uLoc 1))
  | 2 => iprop((((c : Thread nD τ).loc main_v3) ↦[rowS (brow c 0)]{leaf 1 fullShare 0} V2 m c) ∗ (∃ f : Buf (Elt F) ((c : Thread nD τ).loc cc0_scratch1), ((c : Thread nD τ).loc cc0_scratch1) ↦[rowS 0]{fullShare} f) ∗ tok c (uLoc 2))
  | 3 => iprop((((c : Thread nD τ).loc main_v3) ↦[rowS (brow c 1)]{leaf 1 fullShare 1} V2 m c) ∗ (∃ f : Buf (Elt F) ((c : Thread nD τ).loc cc0_scratch1), ((c : Thread nD τ).loc cc0_scratch1) ↦[rowS 1]{fullShare} f) ∗ tok c (uLoc 3))

/-- A peer's number along y, and in the plane. -/
abbrev pk (k : Fin 3) : Fin 10 := Fin.castLE (by decide) k
abbrev pj (j : Fin 7) : Fin 10 := Fin.natAdd 3 j

/-- The completions of a y-send: on this device, and on the peer. -/
def yTok (c : Dev nD) (k t : Fin 3) : sProp 𝕄 := iprop(tok c (uYs k t) ∗ dutyTok ER (cell (pr (pk k) c) (uYr (yp c) t)) 0 (0 : Fin 10))
/-- The peer's row that it fills. -/
def yDst (c : Dev nD) (k t : Fin 3) : sProp 𝕄 := iprop(yAny (F := F) (pr (pk k) c) (yp c) t ∗ reached ER (cell (pr (pk k) c) (uYr (yp c) t)) 0)
def xTok (c : Dev nD) (j : Fin 7) : sProp 𝕄 := iprop(tok c (uXs j) ∗ dutyTok ER (cell (pr (pj j) c) (uXr (rr c))) 0 (0 : Fin 10))
def xDst (c : Dev nD) (j : Fin 7) : sProp 𝕄 := iprop(xAny (F := F) (pr (pj j) c) (rr c) ∗ reached ER (cell (pr (pj j) c) (uXr (rr c))) 0)

/-- What a signal takes: its token, and what it hands over. -/
def barTok (c : Dev nD) (k : Fin 10) : sProp 𝕄 :=
  iprop(dutyTok ER (barCell (pr k c)) 0 (inv k) ∗ barPay (F := F) (pr k c) c (decide ((inv k).val < 3)))

/-! ## Signals and waits -/

theorem mv_signal (c n : Dev nD) (k : Fin 10) (hn : n = pr k c) (O : CellTallies nD τ sig Unit) {sm : Sem sig} (hs : sm = sig.barrier 0 rfl)
    {α : Type} {Q : α → sProp 𝕄} {w : Int} (hw : w = 1) {kk : PUnit → Prog (TpuEff nD τ sig (Elt F) Λ₀ .tc) α} :
    iprop(know m κ ∗ own c (O + oB k c) ∗ barTok c k)
      ⊢ iprop((own c O -∗ wp frame (wpE (defs₀ (F := F)) 𝒱₀ (c : Thread nD τ) none) Set.univ (kk ⟨⟩) Q) -∗ wp frame (wpE (defs₀ (F := F)) 𝒱₀ (c : Thread nD τ) none) Set.univ (.op (.semSignal (n, .tc) sm w) kk) Q) := st_signal m κ c n k hn O hs hw

theorem mv_wait (c : Dev nD) (u : Use) (hu : idle c u = false) {b : ℕ} (hb : useLv u = b) {O : CellTallies nD τ sig Unit} (hO : Above b O)
    {sm : DmaSem sig} (hs : sm = semOf u) {sp sp' : Space} {s s' : Shape} {e e' : EltTy}
    {src : Memref sig .tc sp' s' e'} {dst : Memref sig .tc sp s e} {hsrc : src.view.WordExact} {hdst : dst.view.WordExact}
    (hN : dst.view.dmaCredit = amt u)
    {α : Type} {Q : α → sProp 𝕄} {kk : PUnit → Prog (TpuEff nD τ sig (Elt F) Λ₀ .tc) α} :
    iprop(know m κ ∗ own c O ∗ cred (tallyAt (cell c u) () (amt u)) ∗ pend c u)
      ⊢ iprop(((own c O ∗ semVal (cell c u) 0 ∗ usePay m c u) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 sm src dst hsrc hdst) kk) Q) := by
  iintro ⟨#Hk, HO, Hc, Ha⟩ Hw
  iapply (st_wait m κ c u hu hb hO hs hN) $$ [HO Hc Ha]
  · isplitr; · iexact Hk
    isplitl [HO]; · iexact HO
    isplitl [Hc]; · iexact Hc
    iexact Ha
  iintro ⟨HO, Ha, Hp⟩
  imod (st_close m κ c u) $$ [Ha] with Hz
  · isplitr; · iexact Hk
    iexact Ha
  iapply Hw
  isplitl [HO]; · iexact HO
  isplitl [Hz]; · iexact Hz
  iexact Hp

/-- What the plane's and the line's signals hand over, peer by peer. -/
theorem barPay_y (c : Dev nD) (k : Fin 3) : (barPay (F := F) c (pr (pk k) c) (decide ((pk k).val < 3)) : sProp 𝕄) ⊢ iprop(yDst (F := F) c k 0 ∗ yDst (F := F) c k 1 ∗ yDst (F := F) c k 2) := by
  have h : decide ((pk k).val < 3) = true := decide_eq_true k.isLt
  rw [h]
  unfold barPay yDst
  rw [if_pos rfl]
  iintro ⟨⟨H0, H1, H2⟩, R0, R1, R2⟩
  isplitl [H0 R0]
  · isplitl [H0]; · iexact H0
    iexact R0
  isplitl [H1 R1]
  · isplitl [H1]; · iexact H1
    iexact R1
  isplitl [H2]; · iexact H2
  iexact R2
theorem barPay_x (c : Dev nD) (j : Fin 7) : (barPay (F := F) c (pr (pj j) c) (decide ((pj j).val < 3)) : sProp 𝕄) ⊢ xDst (F := F) c j := by
  have h : decide ((pj j).val < 3) = false := decide_eq_false fun h => by have : (pj j).val = 3 + j.val := rfl; omega
  rw [h]
  unfold barPay xDst
  exact BI.Entails.refl _

theorem sep10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) := by
  rw [bigSep_univ_eq_bigSepL [(0 : Fin 10), 1, 2, 3, 4, 5, 6, 7, 8, 9] (by decide) (by decide)]
  rfl

theorem mv_barwait (c : Dev nD) {O : CellTallies nD τ sig Unit} (hO : Above 1 O) {sm : Sem sig} (hs : sm = sig.barrier 0 rfl)
    {α : Type} {Q : α → sProp 𝕄} {w : Nat} (hw : w = 10) {kk : PUnit → Prog (TpuEff nD τ sig (Elt F) Λ₀ .tc) α} :
    iprop(know m κ ∗ own c O ∗ cred (tallyAt (barCell c) () 10) ∗ atPos ER (barCell c) 0 ∅ 0)
      ⊢ iprop(((own c O ∗ semVal (barCell c) 0 ∗ ((yDst (F := F) c 0 0 ∗ yDst (F := F) c 0 1 ∗ yDst (F := F) c 0 2) ∗ (yDst (F := F) c 1 0 ∗ yDst (F := F) c 1 1 ∗ yDst (F := F) c 1 2) ∗ (yDst (F := F) c 2 0 ∗ yDst (F := F) c 2 1 ∗ yDst (F := F) c 2 2)) ∗ xDst (F := F) c 0 ∗ xDst (F := F) c 1 ∗ xDst (F := F) c 2 ∗ xDst (F := F) c 3 ∗ xDst (F := F) c 4 ∗ xDst (F := F) c 5 ∗ xDst (F := F) c 6) -∗ wp frame (wpE (defs₀ (F := F)) 𝒱₀ (c : Thread nD τ) none) Set.univ (kk ⟨⟩) Q) -∗ wp frame (wpE (defs₀ (F := F)) 𝒱₀ (c : Thread nD τ) none) Set.univ (.op (.semWait sm w) kk) Q) := by
  iintro ⟨#Hk, HO, Hc, Ha⟩ Hw
  iapply (st_bar_wait m κ c hO hs hw) $$ [HO Hc Ha]
  · isplitr; · iexact Hk
    isplitl [HO]; · iexact HO
    isplitl [Hc]; · iexact Hc
    iexact Ha
  iintro ⟨HO, Ha, Hp⟩
  imod (st_close_bar m κ c) $$ [Ha] with Hz
  · isplitr; · iexact Hk
    iexact Ha
  ihave Hp := (Entails.of_eq (sep10 fun d : Fin 10 => barPay (F := F) c (pr d c) (decide (d.val < 3)))) $$ Hp
  icases Hp with ⟨H0, H1, H2, H3, H4, H5, H6, H7, H8, H9⟩
  iapply Hw
  isplitl [HO]; · iexact HO
  isplitl [Hz]; · iexact Hz
  isplitl [H0 H1 H2]
  · isplitl [H0]; · iapply (barPay_y c 0); iexact H0
    isplitl [H1]; · iapply (barPay_y c 1); iexact H1
    iapply (barPay_y c 2); iexact H2
  isplitl [H3]; · iapply (barPay_x c 0); iexact H3
  isplitl [H4]; · iapply (barPay_x c 1); iexact H4
  isplitl [H5]; · iapply (barPay_x c 2); iexact H5
  isplitl [H6]; · iapply (barPay_x c 3); iexact H6
  isplitl [H7]; · iapply (barPay_x c 4); iexact H7
  isplitl [H8]; · iapply (barPay_x c 5); iexact H8
  iapply (barPay_x c 6); iexact H9

/-! ## Transfers -/

theorem mv_copy0 (c : Dev nD) {sm : DmaSem sig} (hs : sm = semOf (uLoc 0))
    {hsrc : (srcK0 c).view.WordExact} {hdst : dstK0.view.WordExact}
    {hsem : DmaTarget.Typed (nD := nD) (τ := τ) (p := (c : Thread nD τ).2) .hbm (.dma sm) (.here dstK0)}
    {α : Type} {Q : α → sProp 𝕄} {kk : PUnit → Prog (TpuEff nD τ sig (Elt F) Λ₀ .tc) α} :
    iprop(know m κ ∗ locSrc m c 0)
      ⊢ iprop((cred (tallyAt (cell c (uLoc 0)) () (amt (uLoc 0))) -∗ wp frame (wpE (defs₀ (F := F)) 𝒱₀ (c : Thread nD τ) none) Set.univ (kk ⟨⟩) Q)
        -∗ wp frame (wpE (defs₀ (F := F)) 𝒱₀ (c : Thread nD τ) none) Set.univ (.op (.enqueueDma (srcK0 c) (.here dstK0) (.dma sm) hsrc hdst hsem) kk) Q) := by
  unfold locSrc tok
  iintro ⟨#Hk, Hs, ⟨%f, Hd⟩, Ht, Hr⟩ Hw
  have h := st_copy (Q := Q) (kk := kk) m κ c (uLoc 0) rfl hs (src := srcK0 c) (dst := dstK0) (hsrc := hsrc) (hdst := hdst) (hsem := hsem) (by subst hs; rfl)
    (q := leaf 1 fullShare 0) (fs := K2 m c) (fd := f) (payK0 m c f)
  rw [set_srcK0, set_dstK0] at h
  iapply h $$ [Hs Hd Ht Hr]
  · isplitr; · iexact Hk
    isplitl [Hs]; · iexact Hs
    isplitl [Hd]; · iexact Hd
    isplitl [Ht]; · iexact Ht
    iexact Hr
  iexact Hw

theorem mv_copy1 (c : Dev nD) {sm : DmaSem sig} (hs : sm = semOf (uLoc 1))
    {hsrc : (srcK1 c).view.WordExact} {hdst : dstK1.view.WordExact}
    {hsem : DmaTarget.Typed (nD := nD) (τ := τ) (p := (c : Thread nD τ).2) .hbm (.dma sm) (.here dstK1)}
    {α : Type} {Q : α → sProp 𝕄} {kk : PUnit → Prog (TpuEff nD τ sig (Elt F) Λ₀ .tc) α} :
    iprop(know m κ ∗ locSrc m c 1)
      ⊢ iprop((cred (tallyAt (cell c (uLoc 1)) () (amt (uLoc 1))) -∗ wp frame (wpE (defs₀ (F := F)) 𝒱₀ (c : Thread nD τ) none) Set.univ (kk ⟨⟩) Q)
        -∗ wp frame (wpE (defs₀ (F := F)) 𝒱₀ (c : Thread nD τ) none) Set.univ (.op (.enqueueDma (srcK1 c) (.here dstK1) (.dma sm) hsrc hdst hsem) kk) Q) := by
  unfold locSrc tok
  iintro ⟨#Hk, Hs, ⟨%f, Hd⟩, Ht, Hr⟩ Hw
  have h := st_copy (Q := Q) (kk := kk) m κ c (uLoc 1) rfl hs (src := srcK1 c) (dst := dstK1) (hsrc := hsrc) (hdst := hdst) (hsem := hsem) (by subst hs; rfl)
    (q := leaf 1 fullShare 1) (fs := K2 m c) (fd := f) (payK1 m c f)
  rw [set_srcK1, set_dstK1] at h
  iapply h $$ [Hs Hd Ht Hr]
  · isplitr; · iexact Hk
    isplitl [Hs]; · iexact Hs
    isplitl [Hd]; · iexact Hd
    isplitl [Ht]; · iexact Ht
    iexact Hr
  iexact Hw

theorem mv_copy2 (c : Dev nD) {sm : DmaSem sig} (hs : sm = semOf (uLoc 2))
    {hsrc : (srcV0 c).view.WordExact} {hdst : dstV0.view.WordExact}
    {hsem : DmaTarget.Typed (nD := nD) (τ := τ) (p := (c : Thread nD τ).2) .hbm (.dma sm) (.here dstV0)}
    {α : Type} {Q : α → sProp 𝕄} {kk : PUnit → Prog (TpuEff nD τ sig (Elt F) Λ₀ .tc) α} :
    iprop(know m κ ∗ locSrc m c 2)
      ⊢ iprop((cred (tallyAt (cell c (uLoc 2)) () (amt (uLoc 2))) -∗ wp frame (wpE (defs₀ (F := F)) 𝒱₀ (c : Thread nD τ) none) Set.univ (kk ⟨⟩) Q)
        -∗ wp frame (wpE (defs₀ (F := F)) 𝒱₀ (c : Thread nD τ) none) Set.univ (.op (.enqueueDma (srcV0 c) (.here dstV0) (.dma sm) hsrc hdst hsem) kk) Q) := by
  unfold locSrc tok
  iintro ⟨#Hk, Hs, ⟨%f, Hd⟩, Ht, Hr⟩ Hw
  have h := st_copy (Q := Q) (kk := kk) m κ c (uLoc 2) rfl hs (src := srcV0 c) (dst := dstV0) (hsrc := hsrc) (hdst := hdst) (hsem := hsem) (by subst hs; rfl)
    (q := leaf 1 fullShare 0) (fs := V2 m c) (fd := f) (payV0 m c f)
  rw [set_srcV0, set_dstV0] at h
  iapply h $$ [Hs Hd Ht Hr]
  · isplitr; · iexact Hk
    isplitl [Hs]; · iexact Hs
    isplitl [Hd]; · iexact Hd
    isplitl [Ht]; · iexact Ht
    iexact Hr
  iexact Hw

theorem mv_copy3 (c : Dev nD) {sm : DmaSem sig} (hs : sm = semOf (uLoc 3))
    {hsrc : (srcV1 c).view.WordExact} {hdst : dstV1.view.WordExact}
    {hsem : DmaTarget.Typed (nD := nD) (τ := τ) (p := (c : Thread nD τ).2) .hbm (.dma sm) (.here dstV1)}
    {α : Type} {Q : α → sProp 𝕄} {kk : PUnit → Prog (TpuEff nD τ sig (Elt F) Λ₀ .tc) α} :
    iprop(know m κ ∗ locSrc m c 3)
      ⊢ iprop((cred (tallyAt (cell c (uLoc 3)) () (amt (uLoc 3))) -∗ wp frame (wpE (defs₀ (F := F)) 𝒱₀ (c : Thread nD τ) none) Set.univ (kk ⟨⟩) Q)
        -∗ wp frame (wpE (defs₀ (F := F)) 𝒱₀ (c : Thread nD τ) none) Set.univ (.op (.enqueueDma (srcV1 c) (.here dstV1) (.dma sm) hsrc hdst hsem) kk) Q) := by
  unfold locSrc tok
  iintro ⟨#Hk, Hs, ⟨%f, Hd⟩, Ht, Hr⟩ Hw
  have h := st_copy (Q := Q) (kk := kk) m κ c (uLoc 3) rfl hs (src := srcV1 c) (dst := dstV1) (hsrc := hsrc) (hdst := hdst) (hsem := hsem) (by subst hs; rfl)
    (q := leaf 1 fullShare 1) (fs := V2 m c) (fd := f) (payV1 m c f)
  rw [set_srcV1, set_dstV1] at h
  iapply h $$ [Hs Hd Ht Hr]
  · isplitr; · iexact Hk
    isplitl [Hs]; · iexact Hs
    isplitl [Hd]; · iexact Hd
    isplitl [Ht]; · iexact Ht
    iexact Hr
  iexact Hw

theorem mv_ysend0 (c n : Dev nD) (k : Fin 3) (hn : n = pr (pk k) c) (O : CellTallies nD τ sig Unit) {sS sR : DmaSem sig} (hsS : sS = semOf (uYs k 0)) (hsR : sR = semOf (uYr (yp c) 0))
    {hsc : (yM c : Memref sig (Dev.tc n : Thread nD τ).2.kind .vmem _ .f32).view.ref.isScScratch = false} {hsrc hdst : (yM c).view.WordExact}
    {hsem : DmaTarget.Typed .vmem (.dma sR) (.remote (Dev.tc n : Thread nD τ) (yM c) (.dma sS) hsc)}
    {α : Type} {Q : α → sProp 𝕄} {kk : PUnit → Prog (TpuEff nD τ sig (Elt F) Λ₀ .tc) α} :
    iprop(know m κ ∗ own c (O + oY (pk k) 0 c) ∗ yPts m c (yp c) (leaf 2 fullShare (Fin.castLE (by decide) k)) 0 ∗ yTok c k 0 ∗ yDst (F := F) c k 0)
      ⊢ iprop(((cred (tallyAt (cell c (uYs k 0)) () (amt (uYs k 0))) ∗ own c O) -∗ wp frame (wpE (defs₀ (F := F)) 𝒱₀ (c : Thread nD τ) none) Set.univ (kk ⟨⟩) Q)
        -∗ wp frame (wpE (defs₀ (F := F)) 𝒱₀ (c : Thread nD τ) none) Set.univ (.op (.enqueueDma (yM c) (.remote (Dev.tc n : Thread nD τ) (yM c) (.dma sS) hsc) (.dma sR) hsrc hdst hsem) kk) Q) := by
  subst hn
  unfold yTok yDst tok yPts yAny
  iintro ⟨#Hk, HO, Hs, ⟨⟨Ht, Hr⟩, Ht'⟩, ⟨%f, Hd⟩, Hr'⟩ Hw
  have h := st_send (Q := Q) (kk := kk) m κ c (pr (pk k) c) (uYs k 0) (uYr (yp c) 0) rfl
    (beq_eq_false_iff_ne.mpr fun h => yp_pr_ne (pk k) k.isLt c h.symm) rfl hsS hsR O (v := yM c) (hsc := hsc) (hsrc := hsrc) (hdst := hdst) (hsem := hsem) rfl
    (q := leaf 2 fullShare (Fin.castLE (by decide) k)) (fs := MC m c) (fd := f)
    (by rw [set_yM]; exact BI.Entails.refl _) (by rw [set_yM, ← MC_pr m (pk k) k.isLt c]; exact BI.Entails.refl _)
  rw [set_yM] at h
  iapply h $$ [Hs Hd HO Ht Hr Ht' Hr']
  · isplitr; · iexact Hk
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iexact Hw

theorem mv_ysend1 (c n : Dev nD) (k : Fin 3) (hn : n = pr (pk k) c) (O : CellTallies nD τ sig Unit) {sS sR : DmaSem sig} (hsS : sS = semOf (uYs k 1)) (hsR : sR = semOf (uYr (yp c) 1))
    {hsc : (yL c : Memref sig (Dev.tc n : Thread nD τ).2.kind .vmem _ .f32).view.ref.isScScratch = false} {hsrc hdst : (yL c).view.WordExact}
    {hsem : DmaTarget.Typed .vmem (.dma sR) (.remote (Dev.tc n : Thread nD τ) (yL c) (.dma sS) hsc)}
    {α : Type} {Q : α → sProp 𝕄} {kk : PUnit → Prog (TpuEff nD τ sig (Elt F) Λ₀ .tc) α} :
    iprop(know m κ ∗ own c (O + oY (pk k) 1 c) ∗ yPts m c (yp c) (leaf 2 fullShare (Fin.castLE (by decide) k)) 1 ∗ yTok c k 1 ∗ yDst (F := F) c k 1)
      ⊢ iprop(((cred (tallyAt (cell c (uYs k 1)) () (amt (uYs k 1))) ∗ own c O) -∗ wp frame (wpE (defs₀ (F := F)) 𝒱₀ (c : Thread nD τ) none) Set.univ (kk ⟨⟩) Q)
        -∗ wp frame (wpE (defs₀ (F := F)) 𝒱₀ (c : Thread nD τ) none) Set.univ (.op (.enqueueDma (yL c) (.remote (Dev.tc n : Thread nD τ) (yL c) (.dma sS) hsc) (.dma sR) hsrc hdst hsem) kk) Q) := by
  subst hn
  unfold yTok yDst tok yPts yAny
  iintro ⟨#Hk, HO, Hs, ⟨⟨Ht, Hr⟩, Ht'⟩, ⟨%f, Hd⟩, Hr'⟩ Hw
  have h := st_send (Q := Q) (kk := kk) m κ c (pr (pk k) c) (uYs k 1) (uYr (yp c) 1) rfl
    (beq_eq_false_iff_ne.mpr fun h => yp_pr_ne (pk k) k.isLt c h.symm) rfl hsS hsR O (v := yL c) (hsc := hsc) (hsrc := hsrc) (hdst := hdst) (hsem := hsem) rfl
    (q := leaf 2 fullShare (Fin.castLE (by decide) k)) (fs := LC m c) (fd := f)
    (by rw [set_yL]; exact BI.Entails.refl _) (by rw [set_yL, ← LC_pr m (pk k) k.isLt c]; exact BI.Entails.refl _)
  rw [set_yL] at h
  iapply h $$ [Hs Hd HO Ht Hr Ht' Hr']
  · isplitr; · iexact Hk
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iexact Hw

theorem mv_ysend2 (c n : Dev nD) (k : Fin 3) (hn : n = pr (pk k) c) (O : CellTallies nD τ sig Unit) {sS sR : DmaSem sig} (hsS : sS = semOf (uYs k 2)) (hsR : sR = semOf (uYr (yp c) 2))
    {hsc : (yO c : Memref sig (Dev.tc n : Thread nD τ).2.kind .vmem _ .f32).view.ref.isScScratch = false} {hsrc hdst : (yO c).view.WordExact}
    {hsem : DmaTarget.Typed .vmem (.dma sR) (.remote (Dev.tc n : Thread nD τ) (yO c) (.dma sS) hsc)}
    {α : Type} {Q : α → sProp 𝕄} {kk : PUnit → Prog (TpuEff nD τ sig (Elt F) Λ₀ .tc) α} :
    iprop(know m κ ∗ own c (O + oY (pk k) 2 c) ∗ yPts m c (yp c) (leaf 2 fullShare (Fin.castLE (by decide) k)) 2 ∗ yTok c k 2 ∗ yDst (F := F) c k 2)
      ⊢ iprop(((cred (tallyAt (cell c (uYs k 2)) () (amt (uYs k 2))) ∗ own c O) -∗ wp frame (wpE (defs₀ (F := F)) 𝒱₀ (c : Thread nD τ) none) Set.univ (kk ⟨⟩) Q)
        -∗ wp frame (wpE (defs₀ (F := F)) 𝒱₀ (c : Thread nD τ) none) Set.univ (.op (.enqueueDma (yO c) (.remote (Dev.tc n : Thread nD τ) (yO c) (.dma sS) hsc) (.dma sR) hsrc hdst hsem) kk) Q) := by
  subst hn
  unfold yTok yDst tok yPts yAny
  iintro ⟨#Hk, HO, Hs, ⟨⟨Ht, Hr⟩, Ht'⟩, ⟨%f, Hd⟩, Hr'⟩ Hw
  have h := st_send (Q := Q) (kk := kk) m κ c (pr (pk k) c) (uYs k 2) (uYr (yp c) 2) rfl
    (beq_eq_false_iff_ne.mpr fun h => yp_pr_ne (pk k) k.isLt c h.symm) rfl hsS hsR O (v := yO c) (hsc := hsc) (hsrc := hsrc) (hdst := hdst) (hsem := hsem) rfl
    (q := leaf 2 fullShare (Fin.castLE (by decide) k)) (fs := OC m c) (fd := f)
    (by rw [set_yO]; exact BI.Entails.refl _) (by rw [set_yO, ← OC_pr m (pk k) k.isLt c]; exact BI.Entails.refl _)
  rw [set_yO] at h
  iapply h $$ [Hs Hd HO Ht Hr Ht' Hr']
  · isplitr; · iexact Hk
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iexact Hw

theorem mv_xsend (c n : Dev nD) (j : Fin 7) (hn : n = pr (pj j) c) (O : CellTallies nD τ sig Unit) {sS sR : DmaSem sig} (hsS : sS = semOf (uXs j)) (hsR : sR = semOf (uXr (rr c)))
    {hsc : (xM c : Memref sig (Dev.tc n : Thread nD τ).2.kind .vmem _ .f32).view.ref.isScScratch = false} {hsrc hdst : (xM c).view.WordExact}
    {hsem : DmaTarget.Typed .vmem (.dma sR) (.remote (Dev.tc n : Thread nD τ) (xM c) (.dma sS) hsc)}
    {α : Type} {Q : α → sProp 𝕄} {kk : PUnit → Prog (TpuEff nD τ sig (Elt F) Λ₀ .tc) α} :
    iprop(know m κ ∗ own c (O + oX (pj j) c) ∗ xPts m c (rr c) (leaf 3 fullShare (Fin.castLE (by decide) j)) ∗ xTok c j ∗ xDst (F := F) c j)
      ⊢ iprop(((cred (tallyAt (cell c (uXs j)) () (amt (uXs j))) ∗ own c O) -∗ wp frame (wpE (defs₀ (F := F)) 𝒱₀ (c : Thread nD τ) none) Set.univ (kk ⟨⟩) Q)
        -∗ wp frame (wpE (defs₀ (F := F)) 𝒱₀ (c : Thread nD τ) none) Set.univ (.op (.enqueueDma (xM c) (.remote (Dev.tc n : Thread nD τ) (xM c) (.dma sS) hsc) (.dma sR) hsrc hdst hsem) kk) Q) := by
  subst hn
  have hj : ¬ (pj j).val < 3 := fun h => by have : (pj j).val = 3 + j.val := rfl; omega
  unfold xTok xDst tok xPts xAny
  iintro ⟨#Hk, HO, Hs, ⟨⟨Ht, Hr⟩, Ht'⟩, ⟨%f, Hd⟩, Hr'⟩ Hw
  have h := st_send (Q := Q) (kk := kk) m κ c (pr (pj j) c) (uXs j) (uXr (rr c)) rfl
    (beq_eq_false_iff_ne.mpr fun h => rr_pr_ne (pj j) hj c h.symm) rfl hsS hsR O (v := xM c) (hsc := hsc) (hsrc := hsrc) (hdst := hdst) (hsem := hsem) rfl
    (q := leaf 3 fullShare (Fin.castLE (by decide) j)) (fs := OUT m c) (fd := f)
    (by rw [set_xM]; exact BI.Entails.refl _) (by rw [set_xM, ← OUT_pr m (pj j) hj c]; exact BI.Entails.refl _)
  rw [set_xM] at h
  iapply h $$ [Hs Hd HO Ht Hr Ht' Hr']
  · isplitr; · iexact Hk
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iexact Hw

/-! ## Loads and stores -/

theorem ld_k0 (c : Dev nD) {hl} {α : Type} {Q : α → sProp 𝕄} {kk : Vec F S1x1024x1024 .f32 → Prog (TpuEff nD τ sig (Elt F) Λ₀ .tc) α} :
    ((((c : Thread nD τ).loc cc0_scratch0) ↦[rowS 0]{fullShare} KB m c) : sProp 𝕄)
      ⊢ iprop(((((c : Thread nD τ).loc cc0_scratch0) ↦[rowS 0]{fullShare} KB m c) -∗ wp frame (wpE (defs₀ (F := F)) 𝒱₀ (c : Thread nD τ) none) Set.univ (kk (kv m c 0)) Q)
        -∗ wp frame (wpE (defs₀ (F := F)) 𝒱₀ (c : Thread nD τ) none) Set.univ (.op (.load (Memref.whole cc0_scratch0 : Memref sig .tc .vmem S2x1024x1024 .f32) (Rect.unit (s := S2x1024x1024) ![0, 0, 0] S1x1024x1024.size inb_S2x1024x1024_S1x1024x1024_0_0_0).toLoadRect hl) kk) Q) := by
  iintro H Hw
  iapply (wp_load (defs := defs₀ (F := F)) 𝒱₀ (c : Thread nD τ) none Set.univ (m := (Memref.whole cc0_scratch0 : Memref sig .tc .vmem S2x1024x1024 .f32)) (hl := hl) (f := KB m c) (q := fullShare) sub_k0) $$ H
  rw [read_k0 m c]
  iexact Hw

theorem ld_k1 (c : Dev nD) {hl} {α : Type} {Q : α → sProp 𝕄} {kk : Vec F S1x1024x1024 .f32 → Prog (TpuEff nD τ sig (Elt F) Λ₀ .tc) α} :
    ((((c : Thread nD τ).loc cc0_scratch0) ↦[rowS 1]{fullShare} KB m c) : sProp 𝕄)
      ⊢ iprop(((((c : Thread nD τ).loc cc0_scratch0) ↦[rowS 1]{fullShare} KB m c) -∗ wp frame (wpE (defs₀ (F := F)) 𝒱₀ (c : Thread nD τ) none) Set.univ (kk (kv m c 1)) Q)
        -∗ wp frame (wpE (defs₀ (F := F)) 𝒱₀ (c : Thread nD τ) none) Set.univ (.op (.load (Memref.whole cc0_scratch0 : Memref sig .tc .vmem S2x1024x1024 .f32) (Rect.unit (s := S2x1024x1024) ![1, 0, 0] S1x1024x1024.size inb_S2x1024x1024_S1x1024x1024_1_0_0).toLoadRect hl) kk) Q) := by
  iintro H Hw
  iapply (wp_load (defs := defs₀ (F := F)) 𝒱₀ (c : Thread nD τ) none Set.univ (m := (Memref.whole cc0_scratch0 : Memref sig .tc .vmem S2x1024x1024 .f32)) (hl := hl) (f := KB m c) (q := fullShare) sub_k1) $$ H
  rw [read_k1 m c]
  iexact Hw

theorem ld_v0 (c : Dev nD) {hl} {α : Type} {Q : α → sProp 𝕄} {kk : Vec F S1x1024x1024 .f32 → Prog (TpuEff nD τ sig (Elt F) Λ₀ .tc) α} :
    ((((c : Thread nD τ).loc cc0_scratch1) ↦[rowS 0]{fullShare} VB m c) : sProp 𝕄)
      ⊢ iprop(((((c : Thread nD τ).loc cc0_scratch1) ↦[rowS 0]{fullShare} VB m c) -∗ wp frame (wpE (defs₀ (F := F)) 𝒱₀ (c : Thread nD τ) none) Set.univ (kk (vv m c 0)) Q)
        -∗ wp frame (wpE (defs₀ (F := F)) 𝒱₀ (c : Thread nD τ) none) Set.univ (.op (.load (Memref.whole cc0_scratch1 : Memref sig .tc .vmem S2x1024x1024 .f32) (Rect.unit (s := S2x1024x1024) ![0, 0, 0] S1x1024x1024.size inb_S2x1024x1024_S1x1024x1024_0_0_0).toLoadRect hl) kk) Q) := by
  iintro H Hw
  iapply (wp_load (defs := defs₀ (F := F)) 𝒱₀ (c : Thread nD τ) none Set.univ (m := (Memref.whole cc0_scratch1 : Memref sig .tc .vmem S2x1024x1024 .f32)) (hl := hl) (f := VB m c) (q := fullShare) sub_v0) $$ H
  rw [read_v0 m c]
  iexact Hw

theorem ld_v1 (c : Dev nD) {hl} {α : Type} {Q : α → sProp 𝕄} {kk : Vec F S1x1024x1024 .f32 → Prog (TpuEff nD τ sig (Elt F) Λ₀ .tc) α} :
    ((((c : Thread nD τ).loc cc0_scratch1) ↦[rowS 1]{fullShare} VB m c) : sProp 𝕄)
      ⊢ iprop(((((c : Thread nD τ).loc cc0_scratch1) ↦[rowS 1]{fullShare} VB m c) -∗ wp frame (wpE (defs₀ (F := F)) 𝒱₀ (c : Thread nD τ) none) Set.univ (kk (vv m c 1)) Q)
        -∗ wp frame (wpE (defs₀ (F := F)) 𝒱₀ (c : Thread nD τ) none) Set.univ (.op (.load (Memref.whole cc0_scratch1 : Memref sig .tc .vmem S2x1024x1024 .f32) (Rect.unit (s := S2x1024x1024) ![1, 0, 0] S1x1024x1024.size inb_S2x1024x1024_S1x1024x1024_1_0_0).toLoadRect hl) kk) Q) := by
  iintro H Hw
  iapply (wp_load (defs := defs₀ (F := F)) 𝒱₀ (c : Thread nD τ) none Set.univ (m := (Memref.whole cc0_scratch1 : Memref sig .tc .vmem S2x1024x1024 .f32)) (hl := hl) (f := VB m c) (q := fullShare) sub_v1) $$ H
  rw [read_v1 m c]
  iexact Hw

theorem ld_q0 (c : Dev nD) {hl} {α : Type} {Q : α → sProp 𝕄} {kk : Vec F S1x1x1024 .f32 → Prog (TpuEff nD τ sig (Elt F) Λ₀ .tc) α} :
    ((((c : Thread nD τ).loc cc0_stg0_0) ↦[Finset.univ]{fullShare} Q1 m c) : sProp 𝕄)
      ⊢ iprop(((((c : Thread nD τ).loc cc0_stg0_0) ↦[Finset.univ]{fullShare} Q1 m c) -∗ wp frame (wpE (defs₀ (F := F)) 𝒱₀ (c : Thread nD τ) none) Set.univ (kk (qv m c 0)) Q)
        -∗ wp frame (wpE (defs₀ (F := F)) 𝒱₀ (c : Thread nD τ) none) Set.univ (.op (.load (Memref.whole cc0_stg0_0 : Memref sig .tc .vmem S16x1x1024 .f32) (Rect.unit (s := S16x1x1024) (k0_off2 c 0#32) S1x1x1024.size (k0_off2_inb c 0)).toLoadRect hl) kk) Q) := by
  iintro H Hw
  iapply (wp_load (defs := defs₀ (F := F)) 𝒱₀ (c : Thread nD τ) none Set.univ (m := (Memref.whole cc0_stg0_0 : Memref sig .tc .vmem S16x1x1024 .f32)) (hl := hl) (f := Q1 m c) (q := fullShare)
    (r := (Rect.unit (s := S16x1x1024) (k0_off2 c 0#32) S1x1x1024.size (k0_off2_inb c 0)).toLoadRect) (S := Finset.univ) (Finset.subset_univ _)) $$ H
  rw [read_q0 m c]
  iexact Hw

theorem ld_q1 (c : Dev nD) {hl} {α : Type} {Q : α → sProp 𝕄} {kk : Vec F S1x1x1024 .f32 → Prog (TpuEff nD τ sig (Elt F) Λ₀ .tc) α} :
    ((((c : Thread nD τ).loc cc0_stg0_0) ↦[Finset.univ]{fullShare} Q1 m c) : sProp 𝕄)
      ⊢ iprop(((((c : Thread nD τ).loc cc0_stg0_0) ↦[Finset.univ]{fullShare} Q1 m c) -∗ wp frame (wpE (defs₀ (F := F)) 𝒱₀ (c : Thread nD τ) none) Set.univ (kk (qv m c 1)) Q)
        -∗ wp frame (wpE (defs₀ (F := F)) 𝒱₀ (c : Thread nD τ) none) Set.univ (.op (.load (Memref.whole cc0_stg0_0 : Memref sig .tc .vmem S16x1x1024 .f32) (Rect.unit (s := S16x1x1024) (k0_off2 c 1#32) S1x1x1024.size (k0_off2_inb c 1)).toLoadRect hl) kk) Q) := by
  iintro H Hw
  iapply (wp_load (defs := defs₀ (F := F)) 𝒱₀ (c : Thread nD τ) none Set.univ (m := (Memref.whole cc0_stg0_0 : Memref sig .tc .vmem S16x1x1024 .f32)) (hl := hl) (f := Q1 m c) (q := fullShare)
    (r := (Rect.unit (s := S16x1x1024) (k0_off2 c 1#32) S1x1x1024.size (k0_off2_inb c 1)).toLoadRect) (S := Finset.univ) (Finset.subset_univ _)) $$ H
  rw [read_q1 m c]
  iexact Hw

/-- A load of the own row, whose value is not used, and the store into it. -/
theorem put_M (c : Dev nD) {hl} {hst hm} {w : Vec F S1x2x16 .f32} (hw : w = pm m c) {α : Type} {Q : α → sProp 𝕄} {kk : PUnit → Prog (TpuEff nD τ sig (Elt F) Λ₀ .tc) α} :
    (iprop(∃ f : Buf (Elt F) ((c : Thread nD τ).loc cc0_scratch2), ((c : Thread nD τ).loc cc0_scratch2) ↦[rowS (yp c).val]{fullShare} f) : sProp 𝕄)
      ⊢ iprop(((((c : Thread nD τ).loc cc0_scratch2) ↦[rowS (yp c).val]{fullShare} MC m c) -∗ wp frame (wpE (defs₀ (F := F)) 𝒱₀ (c : Thread nD τ) none) Set.univ (kk ⟨⟩) Q)
        -∗ wp frame (wpE (defs₀ (F := F)) 𝒱₀ (c : Thread nD τ) none) Set.univ (.op (.load (Memref.whole cc0_scratch2 : Memref sig .tc .vmem S4x2x16 .f32) (Rect.unit (s := S4x2x16) (k0_off3 c) S1x2x16.size (k0_off3_inb c)).toLoadRect hl) fun _ => .op (.store (Memref.whole cc0_scratch2 : Memref sig .tc .vmem S4x2x16 .f32) (Rect.unit (s := S4x2x16) (k0_off3 c) S1x2x16.size (k0_off3_inb c)) w Finset.univ hst hm) kk) Q) := by
  subst hw
  iintro ⟨%f, H⟩ Hw
  iapply (wp_load (defs := defs₀ (F := F)) 𝒱₀ (c : Thread nD τ) none Set.univ (m := (Memref.whole cc0_scratch2 : Memref sig .tc .vmem S4x2x16 .f32)) (hl := hl) (f := f) (q := fullShare) (sub_ldM c)) $$ H
  iintro H
  iapply (wp_store (defs := defs₀ (F := F)) 𝒱₀ (c : Thread nD τ) none Set.univ (m := (Memref.whole cc0_scratch2 : Memref sig .tc .vmem S4x2x16 .f32)) (f := f) (subset_of_eq (set_stM c))) $$ H
  iintro H
  iapply Hw
  have hc : ((((c : Thread nD τ).loc cc0_scratch2) ↦[rowS (yp c).val]{fullShare} (((Memref.whole cc0_scratch2 : Memref sig .tc .vmem S4x2x16 .f32).access (Rect.unit (s := S4x2x16) (k0_off3 c) S1x2x16.size (k0_off3_inb c))).write (Elt F) f (pm m c) Finset.univ)) : sProp 𝕄)
      = (((c : Thread nD τ).loc cc0_scratch2) ↦[rowS (yp c).val]{fullShare} MC m c) := pointsTo_congr (storedM m c f)
  iapply (Entails.of_eq hc)
  iexact H

/-- A load of the own row, whose value is not used, and the store into it. -/
theorem put_L (c : Dev nD) {hl} {hst hm} {w : Vec F S1x2x16 .f32} (hw : w = pl m c) {α : Type} {Q : α → sProp 𝕄} {kk : PUnit → Prog (TpuEff nD τ sig (Elt F) Λ₀ .tc) α} :
    (iprop(∃ f : Buf (Elt F) ((c : Thread nD τ).loc cc0_scratch3), ((c : Thread nD τ).loc cc0_scratch3) ↦[rowS (yp c).val]{fullShare} f) : sProp 𝕄)
      ⊢ iprop(((((c : Thread nD τ).loc cc0_scratch3) ↦[rowS (yp c).val]{fullShare} LC m c) -∗ wp frame (wpE (defs₀ (F := F)) 𝒱₀ (c : Thread nD τ) none) Set.univ (kk ⟨⟩) Q)
        -∗ wp frame (wpE (defs₀ (F := F)) 𝒱₀ (c : Thread nD τ) none) Set.univ (.op (.load (Memref.whole cc0_scratch3 : Memref sig .tc .vmem S4x2x16 .f32) (Rect.unit (s := S4x2x16) (k0_off3 c) S1x2x16.size (k0_off3_inb c)).toLoadRect hl) fun _ => .op (.store (Memref.whole cc0_scratch3 : Memref sig .tc .vmem S4x2x16 .f32) (Rect.unit (s := S4x2x16) (k0_off3 c) S1x2x16.size (k0_off3_inb c)) w Finset.univ hst hm) kk) Q) := by
  subst hw
  iintro ⟨%f, H⟩ Hw
  iapply (wp_load (defs := defs₀ (F := F)) 𝒱₀ (c : Thread nD τ) none Set.univ (m := (Memref.whole cc0_scratch3 : Memref sig .tc .vmem S4x2x16 .f32)) (hl := hl) (f := f) (q := fullShare) (sub_ldL c)) $$ H
  iintro H
  iapply (wp_store (defs := defs₀ (F := F)) 𝒱₀ (c : Thread nD τ) none Set.univ (m := (Memref.whole cc0_scratch3 : Memref sig .tc .vmem S4x2x16 .f32)) (f := f) (subset_of_eq (set_stL c))) $$ H
  iintro H
  iapply Hw
  have hc : ((((c : Thread nD τ).loc cc0_scratch3) ↦[rowS (yp c).val]{fullShare} (((Memref.whole cc0_scratch3 : Memref sig .tc .vmem S4x2x16 .f32).access (Rect.unit (s := S4x2x16) (k0_off3 c) S1x2x16.size (k0_off3_inb c))).write (Elt F) f (pl m c) Finset.univ)) : sProp 𝕄)
      = (((c : Thread nD τ).loc cc0_scratch3) ↦[rowS (yp c).val]{fullShare} LC m c) := pointsTo_congr (storedL m c f)
  iapply (Entails.of_eq hc)
  iexact H

/-- A load of the own row, whose value is not used, and the store into it. -/
theorem put_O (c : Dev nD) {hl} {hst hm} {w : Vec F S1x2x1024 .f32} (hw : w = po m c) {α : Type} {Q : α → sProp 𝕄} {kk : PUnit → Prog (TpuEff nD τ sig (Elt F) Λ₀ .tc) α} :
    (iprop(∃ f : Buf (Elt F) ((c : Thread nD τ).loc cc0_scratch4), ((c : Thread nD τ).loc cc0_scratch4) ↦[rowS (yp c).val]{fullShare} f) : sProp 𝕄)
      ⊢ iprop(((((c : Thread nD τ).loc cc0_scratch4) ↦[rowS (yp c).val]{fullShare} OC m c) -∗ wp frame (wpE (defs₀ (F := F)) 𝒱₀ (c : Thread nD τ) none) Set.univ (kk ⟨⟩) Q)
        -∗ wp frame (wpE (defs₀ (F := F)) 𝒱₀ (c : Thread nD τ) none) Set.univ (.op (.load (Memref.whole cc0_scratch4 : Memref sig .tc .vmem S4x2x1024 .f32) (Rect.unit (s := S4x2x1024) (k0_off4 c) S1x2x1024.size (k0_off4_inb c)).toLoadRect hl) fun _ => .op (.store (Memref.whole cc0_scratch4 : Memref sig .tc .vmem S4x2x1024 .f32) (Rect.unit (s := S4x2x1024) (k0_off4 c) S1x2x1024.size (k0_off4_inb c)) w Finset.univ hst hm) kk) Q) := by
  subst hw
  iintro ⟨%f, H⟩ Hw
  iapply (wp_load (defs := defs₀ (F := F)) 𝒱₀ (c : Thread nD τ) none Set.univ (m := (Memref.whole cc0_scratch4 : Memref sig .tc .vmem S4x2x1024 .f32)) (hl := hl) (f := f) (q := fullShare) (sub_ldO c)) $$ H
  iintro H
  iapply (wp_store (defs := defs₀ (F := F)) 𝒱₀ (c : Thread nD τ) none Set.univ (m := (Memref.whole cc0_scratch4 : Memref sig .tc .vmem S4x2x1024 .f32)) (f := f) (subset_of_eq (set_stO c))) $$ H
  iintro H
  iapply Hw
  have hc : ((((c : Thread nD τ).loc cc0_scratch4) ↦[rowS (yp c).val]{fullShare} (((Memref.whole cc0_scratch4 : Memref sig .tc .vmem S4x2x1024 .f32).access (Rect.unit (s := S4x2x1024) (k0_off4 c) S1x2x1024.size (k0_off4_inb c))).write (Elt F) f (po m c) Finset.univ)) : sProp 𝕄)
      = (((c : Thread nD τ).loc cc0_scratch4) ↦[rowS (yp c).val]{fullShare} OC m c) := pointsTo_congr (storedO m c f)
  iapply (Entails.of_eq hc)
  iexact H

/-- A load of the own row, whose value is not used, and the store into it. -/
theorem put_X (c : Dev nD) {hl} {hst hm} {w : Vec F S1x2x1024 .f32} (hw : w = fin m c) {α : Type} {Q : α → sProp 𝕄} {kk : PUnit → Prog (TpuEff nD τ sig (Elt F) Λ₀ .tc) α} :
    (iprop(∃ f : Buf (Elt F) ((c : Thread nD τ).loc cc0_stg1_0), ((c : Thread nD τ).loc cc0_stg1_0) ↦[rowS (rr c).val]{fullShare} f) : sProp 𝕄)
      ⊢ iprop(((((c : Thread nD τ).loc cc0_stg1_0) ↦[rowS (rr c).val]{fullShare} OUT m c) -∗ wp frame (wpE (defs₀ (F := F)) 𝒱₀ (c : Thread nD τ) none) Set.univ (kk ⟨⟩) Q)
        -∗ wp frame (wpE (defs₀ (F := F)) 𝒱₀ (c : Thread nD τ) none) Set.univ (.op (.load (Memref.whole cc0_stg1_0 : Memref sig .tc .vmem S8x2x1024 .f32) (Rect.unit (s := S8x2x1024) (k0_off15 c) S1x2x1024.size (k0_off15_inb c)).toLoadRect hl) fun _ => .op (.store (Memref.whole cc0_stg1_0 : Memref sig .tc .vmem S8x2x1024 .f32) (Rect.unit (s := S8x2x1024) (k0_off15 c) S1x2x1024.size (k0_off15_inb c)) w Finset.univ hst hm) kk) Q) := by
  subst hw
  iintro ⟨%f, H⟩ Hw
  iapply (wp_load (defs := defs₀ (F := F)) 𝒱₀ (c : Thread nD τ) none Set.univ (m := (Memref.whole cc0_stg1_0 : Memref sig .tc .vmem S8x2x1024 .f32)) (hl := hl) (f := f) (q := fullShare) (sub_ldX c)) $$ H
  iintro H
  iapply (wp_store (defs := defs₀ (F := F)) 𝒱₀ (c : Thread nD τ) none Set.univ (m := (Memref.whole cc0_stg1_0 : Memref sig .tc .vmem S8x2x1024 .f32)) (f := f) (subset_of_eq (set_stX c))) $$ H
  iintro H
  iapply Hw
  have hc : ((((c : Thread nD τ).loc cc0_stg1_0) ↦[rowS (rr c).val]{fullShare} (((Memref.whole cc0_stg1_0 : Memref sig .tc .vmem S8x2x1024 .f32).access (Rect.unit (s := S8x2x1024) (k0_off15 c) S1x2x1024.size (k0_off15_inb c))).write (Elt F) f (fin m c) Finset.univ)) : sProp 𝕄)
      = (((c : Thread nD τ).loc cc0_stg1_0) ↦[rowS (rr c).val]{fullShare} OUT m c) := pointsTo_congr (storedX m c f)
  iapply (Entails.of_eq hc)
  iexact H

theorem get_M (c : Dev nD) {hl} {q : PosShare TreeShare} {f : FVec F S4x2x16 .f32} {α : Type} {Q : α → sProp 𝕄} {kk : Vec F S4x2x16 .f32 → Prog (TpuEff nD τ sig (Elt F) Λ₀ .tc) α} :
    ((((c : Thread nD τ).loc cc0_scratch2) ↦[Finset.univ]{q} f) : sProp 𝕄)
      ⊢ iprop(((((c : Thread nD τ).loc cc0_scratch2) ↦[Finset.univ]{q} f) -∗ wp frame (wpE (defs₀ (F := F)) 𝒱₀ (c : Thread nD τ) none) Set.univ (kk f) Q)
        -∗ wp frame (wpE (defs₀ (F := F)) 𝒱₀ (c : Thread nD τ) none) Set.univ (.op (.load (Memref.whole cc0_scratch2 : Memref sig .tc .vmem S4x2x16 .f32) (Rect.unit (s := S4x2x16) ![0, 0, 0] S4x2x16.size inb_S4x2x16_S4x2x16_0_0_0).toLoadRect hl) kk) Q) := by
  iintro H Hw
  iapply (wp_load (defs := defs₀ (F := F)) 𝒱₀ (c : Thread nD τ) none Set.univ (m := (Memref.whole cc0_scratch2 : Memref sig .tc .vmem S4x2x16 .f32)) (hl := hl) (f := f) (q := q)
    (r := (Rect.unit (s := S4x2x16) ![0, 0, 0] S4x2x16.size inb_S4x2x16_S4x2x16_0_0_0).toLoadRect) (S := Finset.univ) (Finset.subset_univ _)) $$ H
  have hr : (Memref.whole cc0_scratch2 : Memref sig .tc .vmem S4x2x16 .f32).view.readAt (Elt F) (Rect.unit (s := S4x2x16) ![0, 0, 0] S4x2x16.size inb_S4x2x16_S4x2x16_0_0_0).toLoadRect f = f := read_M f
  rw [hr]
  iexact Hw

theorem get_L (c : Dev nD) {hl} {q : PosShare TreeShare} {f : FVec F S4x2x16 .f32} {α : Type} {Q : α → sProp 𝕄} {kk : Vec F S4x2x16 .f32 → Prog (TpuEff nD τ sig (Elt F) Λ₀ .tc) α} :
    ((((c : Thread nD τ).loc cc0_scratch3) ↦[Finset.univ]{q} f) : sProp 𝕄)
      ⊢ iprop(((((c : Thread nD τ).loc cc0_scratch3) ↦[Finset.univ]{q} f) -∗ wp frame (wpE (defs₀ (F := F)) 𝒱₀ (c : Thread nD τ) none) Set.univ (kk f) Q)
        -∗ wp frame (wpE (defs₀ (F := F)) 𝒱₀ (c : Thread nD τ) none) Set.univ (.op (.load (Memref.whole cc0_scratch3 : Memref sig .tc .vmem S4x2x16 .f32) (Rect.unit (s := S4x2x16) ![0, 0, 0] S4x2x16.size inb_S4x2x16_S4x2x16_0_0_0).toLoadRect hl) kk) Q) := by
  iintro H Hw
  iapply (wp_load (defs := defs₀ (F := F)) 𝒱₀ (c : Thread nD τ) none Set.univ (m := (Memref.whole cc0_scratch3 : Memref sig .tc .vmem S4x2x16 .f32)) (hl := hl) (f := f) (q := q)
    (r := (Rect.unit (s := S4x2x16) ![0, 0, 0] S4x2x16.size inb_S4x2x16_S4x2x16_0_0_0).toLoadRect) (S := Finset.univ) (Finset.subset_univ _)) $$ H
  have hr : (Memref.whole cc0_scratch3 : Memref sig .tc .vmem S4x2x16 .f32).view.readAt (Elt F) (Rect.unit (s := S4x2x16) ![0, 0, 0] S4x2x16.size inb_S4x2x16_S4x2x16_0_0_0).toLoadRect f = f := read_L f
  rw [hr]
  iexact Hw

theorem get_O (c : Dev nD) {hl} {q : PosShare TreeShare} {f : FVec F S4x2x1024 .f32} {α : Type} {Q : α → sProp 𝕄} {kk : Vec F S4x2x1024 .f32 → Prog (TpuEff nD τ sig (Elt F) Λ₀ .tc) α} :
    ((((c : Thread nD τ).loc cc0_scratch4) ↦[Finset.univ]{q} f) : sProp 𝕄)
      ⊢ iprop(((((c : Thread nD τ).loc cc0_scratch4) ↦[Finset.univ]{q} f) -∗ wp frame (wpE (defs₀ (F := F)) 𝒱₀ (c : Thread nD τ) none) Set.univ (kk f) Q)
        -∗ wp frame (wpE (defs₀ (F := F)) 𝒱₀ (c : Thread nD τ) none) Set.univ (.op (.load (Memref.whole cc0_scratch4 : Memref sig .tc .vmem S4x2x1024 .f32) (Rect.unit (s := S4x2x1024) ![0, 0, 0] S4x2x1024.size inb_S4x2x1024_S4x2x1024_0_0_0).toLoadRect hl) kk) Q) := by
  iintro H Hw
  iapply (wp_load (defs := defs₀ (F := F)) 𝒱₀ (c : Thread nD τ) none Set.univ (m := (Memref.whole cc0_scratch4 : Memref sig .tc .vmem S4x2x1024 .f32)) (hl := hl) (f := f) (q := q)
    (r := (Rect.unit (s := S4x2x1024) ![0, 0, 0] S4x2x1024.size inb_S4x2x1024_S4x2x1024_0_0_0).toLoadRect) (S := Finset.univ) (Finset.subset_univ _)) $$ H
  have hr : (Memref.whole cc0_scratch4 : Memref sig .tc .vmem S4x2x1024 .f32).view.readAt (Elt F) (Rect.unit (s := S4x2x1024) ![0, 0, 0] S4x2x1024.size inb_S4x2x1024_S4x2x1024_0_0_0).toLoadRect f = f := read_O f
  rw [hr]
  iexact Hw

end Cert.Decode

end
-- ==== Proof.Rows.lean ====
/-
# Buffers as rows, rows as shares

Cutting a buffer into its rows, in the order in which a device's peers fill them; cutting a row into the shares that its
transfers take; and putting the pieces together again.
-/
module

public import proofs.«01_k».proof.Proof.Moves

@[expose] public section

set_option maxRecDepth 16384

noncomputable section

namespace Cert.Decode

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3 eq_ix3)
open Idealize.ShloMosaic.ShareLeaves (leaf)

variable {F : FTy → Type} [FloatOps F]

local notation "𝕄" => MT nD τ sig Unit (Elt F) ℕ UU ℕ

variable (m : (ℓ : Loc nD τ sig) → Buf (Elt F) ℓ)

/-- Cutting along pairwise disjoint sets that make up a buffer. -/
theorem cut {ℓ : Loc nD τ sig} {n : ℕ} (K : Fin n → Finset (Idx ℓ)) (hK : ∀ i j : Fin n, i ≠ j → Disjoint (K i) (K j)) (hC : Finset.univ.biUnion K = Finset.univ)
    (q : PosShare TreeShare) (f : Buf (Elt F) ℓ) : ((ℓ ↦[Finset.univ]{q} f) : sProp 𝕄) = bigSep Finset.univ fun i => ℓ ↦[K i]{q} f := by
  rw [← hC]
  exact pointsTo_biUnion Finset.univ K fun i _ j _ h => hK i j h

theorem rowS_ne {n a b : ℕ} (i j : Fin n) (h : i ≠ j) : Disjoint (rowS i.val : Finset (⟨3, ![n, a, b]⟩ : Shape).Idx) (rowS j.val) :=
  rowS_disjoint fun e => h (Fin.ext e)

/-- The heights of a line, starting from a device's own; the numbers of a plane likewise. -/
theorem line_cover (c : Dev nD) : (Finset.univ : Finset (Fin 4)) = [yp c, yp (pr 0 c), yp (pr 1 c), yp (pr 2 c)].toFinset := by revert c; decide +kernel
theorem line_nodup (c : Dev nD) : [yp c, yp (pr 0 c), yp (pr 1 c), yp (pr 2 c)].Nodup := by revert c; decide +kernel
theorem plane_cover (c : Dev nD) : (Finset.univ : Finset (Fin 8)) = [rr c, rr (pr 3 c), rr (pr 4 c), rr (pr 5 c), rr (pr 6 c), rr (pr 7 c), rr (pr 8 c), rr (pr 9 c)].toFinset := by revert c; decide +kernel
theorem plane_nodup (c : Dev nD) : [rr c, rr (pr 3 c), rr (pr 4 c), rr (pr 5 c), rr (pr 6 c), rr (pr 7 c), rr (pr 8 c), rr (pr 9 c)].Nodup := by revert c; decide +kernel

/-! ## Rows -/

theorem rows_cc0_scratch0 (c : Dev nD) (f : Buf (Elt F) ((c : Thread nD τ).loc cc0_scratch0)) :
    ((((c : Thread nD τ).loc cc0_scratch0) ↦[Finset.univ]{fullShare} f) : sProp 𝕄)
      = iprop((((c : Thread nD τ).loc cc0_scratch0) ↦[rowS 0]{fullShare} f) ∗ ((c : Thread nD τ).loc cc0_scratch0) ↦[rowS 1]{fullShare} f) := by
  refine (cut (ℓ := (c : Thread nD τ).loc cc0_scratch0) (fun i : Fin 2 => (rowS i.val : Finset S2x1024x1024.Idx)) rowS_ne rowS_cover fullShare f).trans ?_
  rw [bigSep_univ_eq_bigSepL [(0 : Fin 2), 1] (by decide) (by decide)]
  rfl

theorem rows_cc0_scratch1 (c : Dev nD) (f : Buf (Elt F) ((c : Thread nD τ).loc cc0_scratch1)) :
    ((((c : Thread nD τ).loc cc0_scratch1) ↦[Finset.univ]{fullShare} f) : sProp 𝕄)
      = iprop((((c : Thread nD τ).loc cc0_scratch1) ↦[rowS 0]{fullShare} f) ∗ ((c : Thread nD τ).loc cc0_scratch1) ↦[rowS 1]{fullShare} f) := by
  refine (cut (ℓ := (c : Thread nD τ).loc cc0_scratch1) (fun i : Fin 2 => (rowS i.val : Finset S2x1024x1024.Idx)) rowS_ne rowS_cover fullShare f).trans ?_
  rw [bigSep_univ_eq_bigSepL [(0 : Fin 2), 1] (by decide) (by decide)]
  rfl

theorem rows_cc0_scratch2 (c : Dev nD) (q : PosShare TreeShare) (f : Buf (Elt F) ((c : Thread nD τ).loc cc0_scratch2)) :
    ((((c : Thread nD τ).loc cc0_scratch2) ↦[Finset.univ]{q} f) : sProp 𝕄)
      = iprop((((c : Thread nD τ).loc cc0_scratch2) ↦[rowS (yp c).val]{q} f) ∗ (((c : Thread nD τ).loc cc0_scratch2) ↦[rowS (yp (pr 0 c)).val]{q} f) ∗ (((c : Thread nD τ).loc cc0_scratch2) ↦[rowS (yp (pr 1 c)).val]{q} f) ∗ (((c : Thread nD τ).loc cc0_scratch2) ↦[rowS (yp (pr 2 c)).val]{q} f)) := by
  refine (cut (ℓ := (c : Thread nD τ).loc cc0_scratch2) (fun i : Fin 4 => (rowS i.val : Finset S4x2x16.Idx)) rowS_ne rowS_cover q f).trans ?_
  rw [bigSep_univ_eq_bigSepL _ (line_cover c) (line_nodup c)]
  rfl

theorem rows_cc0_scratch3 (c : Dev nD) (q : PosShare TreeShare) (f : Buf (Elt F) ((c : Thread nD τ).loc cc0_scratch3)) :
    ((((c : Thread nD τ).loc cc0_scratch3) ↦[Finset.univ]{q} f) : sProp 𝕄)
      = iprop((((c : Thread nD τ).loc cc0_scratch3) ↦[rowS (yp c).val]{q} f) ∗ (((c : Thread nD τ).loc cc0_scratch3) ↦[rowS (yp (pr 0 c)).val]{q} f) ∗ (((c : Thread nD τ).loc cc0_scratch3) ↦[rowS (yp (pr 1 c)).val]{q} f) ∗ (((c : Thread nD τ).loc cc0_scratch3) ↦[rowS (yp (pr 2 c)).val]{q} f)) := by
  refine (cut (ℓ := (c : Thread nD τ).loc cc0_scratch3) (fun i : Fin 4 => (rowS i.val : Finset S4x2x16.Idx)) rowS_ne rowS_cover q f).trans ?_
  rw [bigSep_univ_eq_bigSepL _ (line_cover c) (line_nodup c)]
  rfl

theorem rows_cc0_scratch4 (c : Dev nD) (q : PosShare TreeShare) (f : Buf (Elt F) ((c : Thread nD τ).loc cc0_scratch4)) :
    ((((c : Thread nD τ).loc cc0_scratch4) ↦[Finset.univ]{q} f) : sProp 𝕄)
      = iprop((((c : Thread nD τ).loc cc0_scratch4) ↦[rowS (yp c).val]{q} f) ∗ (((c : Thread nD τ).loc cc0_scratch4) ↦[rowS (yp (pr 0 c)).val]{q} f) ∗ (((c : Thread nD τ).loc cc0_scratch4) ↦[rowS (yp (pr 1 c)).val]{q} f) ∗ (((c : Thread nD τ).loc cc0_scratch4) ↦[rowS (yp (pr 2 c)).val]{q} f)) := by
  refine (cut (ℓ := (c : Thread nD τ).loc cc0_scratch4) (fun i : Fin 4 => (rowS i.val : Finset S4x2x1024.Idx)) rowS_ne rowS_cover q f).trans ?_
  rw [bigSep_univ_eq_bigSepL _ (line_cover c) (line_nodup c)]
  rfl

theorem rows_cc0_stg1_0 (c : Dev nD) (q : PosShare TreeShare) (f : Buf (Elt F) ((c : Thread nD τ).loc cc0_stg1_0)) :
    ((((c : Thread nD τ).loc cc0_stg1_0) ↦[Finset.univ]{q} f) : sProp 𝕄)
      = iprop((((c : Thread nD τ).loc cc0_stg1_0) ↦[rowS (rr c).val]{q} f) ∗ (((c : Thread nD τ).loc cc0_stg1_0) ↦[rowS (rr (pr 3 c)).val]{q} f) ∗ (((c : Thread nD τ).loc cc0_stg1_0) ↦[rowS (rr (pr 4 c)).val]{q} f) ∗ (((c : Thread nD τ).loc cc0_stg1_0) ↦[rowS (rr (pr 5 c)).val]{q} f) ∗ (((c : Thread nD τ).loc cc0_stg1_0) ↦[rowS (rr (pr 6 c)).val]{q} f) ∗ (((c : Thread nD τ).loc cc0_stg1_0) ↦[rowS (rr (pr 7 c)).val]{q} f) ∗ (((c : Thread nD τ).loc cc0_stg1_0) ↦[rowS (rr (pr 8 c)).val]{q} f) ∗ (((c : Thread nD τ).loc cc0_stg1_0) ↦[rowS (rr (pr 9 c)).val]{q} f)) := by
  refine (cut (ℓ := (c : Thread nD τ).loc cc0_stg1_0) (fun i : Fin 8 => (rowS i.val : Finset S8x2x1024.Idx)) rowS_ne rowS_cover q f).trans ?_
  rw [bigSep_univ_eq_bigSepL _ (plane_cover c) (plane_nodup c)]
  rfl

/-! ## Shares -/

theorem leaves4 {ℓ : Loc nD τ sig} (I : Finset (Idx ℓ)) (f : Buf (Elt F) ℓ) :
    ((ℓ ↦[I]{fullShare} f) : sProp 𝕄) = iprop((ℓ ↦[I]{leaf 2 fullShare 0} f) ∗ (ℓ ↦[I]{leaf 2 fullShare 1} f) ∗ (ℓ ↦[I]{leaf 2 fullShare 2} f) ∗ (ℓ ↦[I]{leaf 2 fullShare 3} f)) := by
  rw [ShareLeaves.pointsTo_leaves I f 2 fullShare, bigSep_univ_eq_bigSepL [(0 : Fin (2 ^ 2)), 1, 2, 3] (by decide) (by decide)]
  rfl
theorem leaves8 {ℓ : Loc nD τ sig} (I : Finset (Idx ℓ)) (f : Buf (Elt F) ℓ) :
    ((ℓ ↦[I]{fullShare} f) : sProp 𝕄) = iprop((ℓ ↦[I]{leaf 3 fullShare 0} f) ∗ (ℓ ↦[I]{leaf 3 fullShare 1} f) ∗ (ℓ ↦[I]{leaf 3 fullShare 2} f) ∗ (ℓ ↦[I]{leaf 3 fullShare 3} f) ∗ (ℓ ↦[I]{leaf 3 fullShare 4} f) ∗ (ℓ ↦[I]{leaf 3 fullShare 5} f) ∗ (ℓ ↦[I]{leaf 3 fullShare 6} f) ∗ (ℓ ↦[I]{leaf 3 fullShare 7} f)) := by
  rw [ShareLeaves.pointsTo_leaves I f 3 fullShare, bigSep_univ_eq_bigSepL [(0 : Fin (2 ^ 3)), 1, 2, 3, 4, 5, 6, 7] (by decide) (by decide)]
  rfl
theorem leaves2 {ℓ : Loc nD τ sig} (I : Finset (Idx ℓ)) (f : Buf (Elt F) ℓ) :
    ((ℓ ↦[I]{fullShare} f) : sProp 𝕄) = iprop((ℓ ↦[I]{leaf 1 fullShare 0} f) ∗ (ℓ ↦[I]{leaf 1 fullShare 1} f)) := by
  rw [ShareLeaves.pointsTo_leaves I f 1 fullShare, bigSep_univ_eq_bigSepL [(0 : Fin (2 ^ 1)), 1] (by decide) (by decide)]
  rfl

theorem yLeaves (c : Dev nD) (t : Fin 3) : yPts m c (yp c) fullShare t
    = iprop(usePay m c (uYs 0 t) ∗ usePay m c (uYs 1 t) ∗ usePay m c (uYs 2 t) ∗ yPts m c (yp c) (leaf 2 fullShare 3) t) := by
  match t with | 0 | 1 | 2 => exact leaves4 _ _
theorem xLeaves (c : Dev nD) : xPts m c (rr c) fullShare
    = iprop(usePay m c (uXs 0) ∗ usePay m c (uXs 1) ∗ usePay m c (uXs 2) ∗ usePay m c (uXs 3) ∗ usePay m c (uXs 4) ∗ usePay m c (uXs 5) ∗ usePay m c (uXs 6) ∗ xPts m c (rr c) (leaf 3 fullShare 7)) := leaves8 _ _

/-! ## The arrays of keys and values: a half share for each of the two rows read -/

theorem halves_main_v2 (c : Dev nD) (f : Buf (Elt F) ((c : Thread nD τ).loc main_v2)) :
    ((((c : Thread nD τ).loc main_v2) ↦[Finset.univ]{fullShare} f) : sProp 𝕄) = iprop((((c : Thread nD τ).loc main_v2) ↦[rowS (brow c 0)]{leaf 1 fullShare 0} f) ∗ (((c : Thread nD τ).loc main_v2) ↦[Finset.univ \ rowS (brow c 0)]{leaf 1 fullShare 0} f) ∗ (((c : Thread nD τ).loc main_v2) ↦[rowS (brow c 1)]{leaf 1 fullShare 1} f) ∗ (((c : Thread nD τ).loc main_v2) ↦[Finset.univ \ rowS (brow c 1)]{leaf 1 fullShare 1} f)) := by
  rw [leaves2]
  have h (i : Fin 2) : ((((c : Thread nD τ).loc main_v2) ↦[Finset.univ]{leaf 1 fullShare i} f) : sProp 𝕄)
      = iprop((((c : Thread nD τ).loc main_v2) ↦[rowS (brow c i.val)]{leaf 1 fullShare i} f) ∗ ((c : Thread nD τ).loc main_v2) ↦[Finset.univ \ rowS (brow c i.val)]{leaf 1 fullShare i} f) :=
    BI.Entails.antisymm (pointsTo_split_subset (Finset.subset_univ _)).1 (pointsTo_split_subset (Finset.subset_univ _)).2
  have a (P₁ P₂ P₃ P₄ : sProp 𝕄) : iprop((P₁ ∗ P₂) ∗ P₃ ∗ P₄) = iprop(P₁ ∗ P₂ ∗ P₃ ∗ P₄) := by
    have h₁ : iprop((P₁ ∗ P₂) ∗ P₃ ∗ P₄) ⊢ iprop(P₁ ∗ P₂ ∗ P₃ ∗ P₄) := Laws.sep_assoc.1
    have h₂ : iprop(P₁ ∗ P₂ ∗ P₃ ∗ P₄) ⊢ iprop((P₁ ∗ P₂) ∗ P₃ ∗ P₄) := Laws.sep_assoc.2
    exact BI.Entails.antisymm h₁ h₂
  exact (congrArg₂ (fun A B : sProp 𝕄 => iprop(A ∗ B)) (h 0) (h 1)).trans (a _ _ _ _)

theorem halves_main_v3 (c : Dev nD) (f : Buf (Elt F) ((c : Thread nD τ).loc main_v3)) :
    ((((c : Thread nD τ).loc main_v3) ↦[Finset.univ]{fullShare} f) : sProp 𝕄) = iprop((((c : Thread nD τ).loc main_v3) ↦[rowS (brow c 0)]{leaf 1 fullShare 0} f) ∗ (((c : Thread nD τ).loc main_v3) ↦[Finset.univ \ rowS (brow c 0)]{leaf 1 fullShare 0} f) ∗ (((c : Thread nD τ).loc main_v3) ↦[rowS (brow c 1)]{leaf 1 fullShare 1} f) ∗ (((c : Thread nD τ).loc main_v3) ↦[Finset.univ \ rowS (brow c 1)]{leaf 1 fullShare 1} f)) := by
  rw [leaves2]
  have h (i : Fin 2) : ((((c : Thread nD τ).loc main_v3) ↦[Finset.univ]{leaf 1 fullShare i} f) : sProp 𝕄)
      = iprop((((c : Thread nD τ).loc main_v3) ↦[rowS (brow c i.val)]{leaf 1 fullShare i} f) ∗ ((c : Thread nD τ).loc main_v3) ↦[Finset.univ \ rowS (brow c i.val)]{leaf 1 fullShare i} f) :=
    BI.Entails.antisymm (pointsTo_split_subset (Finset.subset_univ _)).1 (pointsTo_split_subset (Finset.subset_univ _)).2
  have a (P₁ P₂ P₃ P₄ : sProp 𝕄) : iprop((P₁ ∗ P₂) ∗ P₃ ∗ P₄) = iprop(P₁ ∗ P₂ ∗ P₃ ∗ P₄) := by
    have h₁ : iprop((P₁ ∗ P₂) ∗ P₃ ∗ P₄) ⊢ iprop(P₁ ∗ P₂ ∗ P₃ ∗ P₄) := Laws.sep_assoc.1
    have h₂ : iprop(P₁ ∗ P₂ ∗ P₃ ∗ P₄) ⊢ iprop((P₁ ∗ P₂) ∗ P₃ ∗ P₄) := Laws.sep_assoc.2
    exact BI.Entails.antisymm h₁ h₂
  exact (congrArg₂ (fun A B : sProp 𝕄 => iprop(A ∗ B)) (h 0) (h 1)).trans (a _ _ _ _)

/-- A line's rows, the device's own at a share: the whole buffer at that share, and back. -/
theorem gather0 (c : Dev nD) :
    (iprop(yPts m c (yp c) (leaf 2 fullShare 3) 0 ∗ usePay m c (uYr (yp (pr 0 c)) 0) ∗ usePay m c (uYr (yp (pr 1 c)) 0) ∗ usePay m c (uYr (yp (pr 2 c)) 0)) : sProp 𝕄)
      ⊢ iprop((((c : Thread nD τ).loc cc0_scratch2) ↦[Finset.univ]{leaf 2 fullShare 3} MC m c)
        ∗ ((((c : Thread nD τ).loc cc0_scratch2) ↦[Finset.univ]{leaf 2 fullShare 3} MC m c)
          -∗ yPts m c (yp c) (leaf 2 fullShare 3) 0 ∗ usePay m c (uYr (yp (pr 0 c)) 0) ∗ usePay m c (uYr (yp (pr 1 c)) 0) ∗ usePay m c (uYr (yp (pr 2 c)) 0))) := by
  have hs (y : Fin 4) : (usePay m c (uYr y 0) : sProp 𝕄) = _ := leaves4 (ℓ := (c : Thread nD τ).loc cc0_scratch2) (rowS y.val) (MC m c)
  have hy : (yPts m c (yp c) (leaf 2 fullShare 3) 0 : sProp 𝕄) = (((c : Thread nD τ).loc cc0_scratch2) ↦[rowS (yp c).val]{leaf 2 fullShare 3} MC m c) := rfl
  rw [hy, hs, hs, hs, rows_cc0_scratch2 c]
  iintro ⟨H, ⟨A0, A1, A2, A3⟩, ⟨B0, B1, B2, B3⟩, C0, C1, C2, C3⟩
  isplitl [H A3 B3 C3]
  · isplitl [H]; · iexact H
    isplitl [A3]; · iexact A3
    isplitl [B3]; · iexact B3
    iexact C3
  iintro ⟨H, A3, B3, C3⟩
  isplitl [H]; · iexact H
  isplitl [A0 A1 A2 A3]
  · isplitl [A0]; · iexact A0
    isplitl [A1]; · iexact A1
    isplitl [A2]; · iexact A2
    iexact A3
  isplitl [B0 B1 B2 B3]
  · isplitl [B0]; · iexact B0
    isplitl [B1]; · iexact B1
    isplitl [B2]; · iexact B2
    iexact B3
  isplitl [C0]; · iexact C0
  isplitl [C1]; · iexact C1
  isplitl [C2]; · iexact C2
  iexact C3

/-- All its rows and shares back: the whole buffer. -/
theorem whole0 (c : Dev nD) :
    (iprop((usePay m c (uYs 0 0) ∗ usePay m c (uYs 1 0) ∗ usePay m c (uYs 2 0) ∗ yPts m c (yp c) (leaf 2 fullShare 3) 0)
        ∗ usePay m c (uYr (yp (pr 0 c)) 0) ∗ usePay m c (uYr (yp (pr 1 c)) 0) ∗ usePay m c (uYr (yp (pr 2 c)) 0)) : sProp 𝕄)
      = (((c : Thread nD τ).loc cc0_scratch2) ↦[Finset.univ]{fullShare} MC m c) := by
  rw [← yLeaves, rows_cc0_scratch2 c]; rfl

/-- A line's rows, the device's own at a share: the whole buffer at that share, and back. -/
theorem gather1 (c : Dev nD) :
    (iprop(yPts m c (yp c) (leaf 2 fullShare 3) 1 ∗ usePay m c (uYr (yp (pr 0 c)) 1) ∗ usePay m c (uYr (yp (pr 1 c)) 1) ∗ usePay m c (uYr (yp (pr 2 c)) 1)) : sProp 𝕄)
      ⊢ iprop((((c : Thread nD τ).loc cc0_scratch3) ↦[Finset.univ]{leaf 2 fullShare 3} LC m c)
        ∗ ((((c : Thread nD τ).loc cc0_scratch3) ↦[Finset.univ]{leaf 2 fullShare 3} LC m c)
          -∗ yPts m c (yp c) (leaf 2 fullShare 3) 1 ∗ usePay m c (uYr (yp (pr 0 c)) 1) ∗ usePay m c (uYr (yp (pr 1 c)) 1) ∗ usePay m c (uYr (yp (pr 2 c)) 1))) := by
  have hs (y : Fin 4) : (usePay m c (uYr y 1) : sProp 𝕄) = _ := leaves4 (ℓ := (c : Thread nD τ).loc cc0_scratch3) (rowS y.val) (LC m c)
  have hy : (yPts m c (yp c) (leaf 2 fullShare 3) 1 : sProp 𝕄) = (((c : Thread nD τ).loc cc0_scratch3) ↦[rowS (yp c).val]{leaf 2 fullShare 3} LC m c) := rfl
  rw [hy, hs, hs, hs, rows_cc0_scratch3 c]
  iintro ⟨H, ⟨A0, A1, A2, A3⟩, ⟨B0, B1, B2, B3⟩, C0, C1, C2, C3⟩
  isplitl [H A3 B3 C3]
  · isplitl [H]; · iexact H
    isplitl [A3]; · iexact A3
    isplitl [B3]; · iexact B3
    iexact C3
  iintro ⟨H, A3, B3, C3⟩
  isplitl [H]; · iexact H
  isplitl [A0 A1 A2 A3]
  · isplitl [A0]; · iexact A0
    isplitl [A1]; · iexact A1
    isplitl [A2]; · iexact A2
    iexact A3
  isplitl [B0 B1 B2 B3]
  · isplitl [B0]; · iexact B0
    isplitl [B1]; · iexact B1
    isplitl [B2]; · iexact B2
    iexact B3
  isplitl [C0]; · iexact C0
  isplitl [C1]; · iexact C1
  isplitl [C2]; · iexact C2
  iexact C3

/-- All its rows and shares back: the whole buffer. -/
theorem whole1 (c : Dev nD) :
    (iprop((usePay m c (uYs 0 1) ∗ usePay m c (uYs 1 1) ∗ usePay m c (uYs 2 1) ∗ yPts m c (yp c) (leaf 2 fullShare 3) 1)
        ∗ usePay m c (uYr (yp (pr 0 c)) 1) ∗ usePay m c (uYr (yp (pr 1 c)) 1) ∗ usePay m c (uYr (yp (pr 2 c)) 1)) : sProp 𝕄)
      = (((c : Thread nD τ).loc cc0_scratch3) ↦[Finset.univ]{fullShare} LC m c) := by
  rw [← yLeaves, rows_cc0_scratch3 c]; rfl

/-- A line's rows, the device's own at a share: the whole buffer at that share, and back. -/
theorem gather2 (c : Dev nD) :
    (iprop(yPts m c (yp c) (leaf 2 fullShare 3) 2 ∗ usePay m c (uYr (yp (pr 0 c)) 2) ∗ usePay m c (uYr (yp (pr 1 c)) 2) ∗ usePay m c (uYr (yp (pr 2 c)) 2)) : sProp 𝕄)
      ⊢ iprop((((c : Thread nD τ).loc cc0_scratch4) ↦[Finset.univ]{leaf 2 fullShare 3} OC m c)
        ∗ ((((c : Thread nD τ).loc cc0_scratch4) ↦[Finset.univ]{leaf 2 fullShare 3} OC m c)
          -∗ yPts m c (yp c) (leaf 2 fullShare 3) 2 ∗ usePay m c (uYr (yp (pr 0 c)) 2) ∗ usePay m c (uYr (yp (pr 1 c)) 2) ∗ usePay m c (uYr (yp (pr 2 c)) 2))) := by
  have hs (y : Fin 4) : (usePay m c (uYr y 2) : sProp 𝕄) = _ := leaves4 (ℓ := (c : Thread nD τ).loc cc0_scratch4) (rowS y.val) (OC m c)
  have hy : (yPts m c (yp c) (leaf 2 fullShare 3) 2 : sProp 𝕄) = (((c : Thread nD τ).loc cc0_scratch4) ↦[rowS (yp c).val]{leaf 2 fullShare 3} OC m c) := rfl
  rw [hy, hs, hs, hs, rows_cc0_scratch4 c]
  iintro ⟨H, ⟨A0, A1, A2, A3⟩, ⟨B0, B1, B2, B3⟩, C0, C1, C2, C3⟩
  isplitl [H A3 B3 C3]
  · isplitl [H]; · iexact H
    isplitl [A3]; · iexact A3
    isplitl [B3]; · iexact B3
    iexact C3
  iintro ⟨H, A3, B3, C3⟩
  isplitl [H]; · iexact H
  isplitl [A0 A1 A2 A3]
  · isplitl [A0]; · iexact A0
    isplitl [A1]; · iexact A1
    isplitl [A2]; · iexact A2
    iexact A3
  isplitl [B0 B1 B2 B3]
  · isplitl [B0]; · iexact B0
    isplitl [B1]; · iexact B1
    isplitl [B2]; · iexact B2
    iexact B3
  isplitl [C0]; · iexact C0
  isplitl [C1]; · iexact C1
  isplitl [C2]; · iexact C2
  iexact C3

/-- All its rows and shares back: the whole buffer. -/
theorem whole2 (c : Dev nD) :
    (iprop((usePay m c (uYs 0 2) ∗ usePay m c (uYs 1 2) ∗ usePay m c (uYs 2 2) ∗ yPts m c (yp c) (leaf 2 fullShare 3) 2)
        ∗ usePay m c (uYr (yp (pr 0 c)) 2) ∗ usePay m c (uYr (yp (pr 1 c)) 2) ∗ usePay m c (uYr (yp (pr 2 c)) 2)) : sProp 𝕄)
      = (((c : Thread nD τ).loc cc0_scratch4) ↦[Finset.univ]{fullShare} OC m c) := by
  rw [← yLeaves, rows_cc0_scratch4 c]; rfl

theorem wholeX (c : Dev nD) :
    (iprop((usePay m c (uXs 0) ∗ usePay m c (uXs 1) ∗ usePay m c (uXs 2) ∗ usePay m c (uXs 3) ∗ usePay m c (uXs 4) ∗ usePay m c (uXs 5) ∗ usePay m c (uXs 6) ∗ xPts m c (rr c) (leaf 3 fullShare 7))
        ∗ usePay m c (uXr (rr (pr 3 c))) ∗ usePay m c (uXr (rr (pr 4 c))) ∗ usePay m c (uXr (rr (pr 5 c))) ∗ usePay m c (uXr (rr (pr 6 c))) ∗ usePay m c (uXr (rr (pr 7 c))) ∗ usePay m c (uXr (rr (pr 8 c))) ∗ usePay m c (uXr (rr (pr 9 c)))) : sProp 𝕄)
      = (((c : Thread nD τ).loc cc0_stg1_0) ↦[Finset.univ]{fullShare} OUT m c) := by
  rw [← xLeaves, rows_cc0_stg1_0 c]; rfl

end Cert.Decode

end
-- ==== Proof.Sems.lean ====
/-
# The semaphores the kernel names

The kernel slices its semaphore arrays; each slice is the semaphore of one use.
-/
module

public import proofs.«01_k».proof.Proof.Peers

@[expose] public section

set_option maxRecDepth 16384

noncomputable section

namespace Cert.Decode

open Cert.KernelIdeal Cert.KernelIdeal.Gen
open Idealize.ShloMosaic

theorem semK_0 : ((cc0_scratch5.slice (Rect.unit (s := S2) ![0] S1.size inb_S2_S1_0)).squeeze S_ squeezes_S1_S_).sem = semOf (uLoc 0) := by decide +kernel
theorem semV_0 : ((cc0_scratch6.slice (Rect.unit (s := S2) ![0] S1.size inb_S2_S1_0)).squeeze S_ squeezes_S1_S_).sem = semOf (uLoc 2) := by decide +kernel
theorem semK_1 : ((cc0_scratch5.slice (Rect.unit (s := S2) ![1] S1.size inb_S2_S1_1)).squeeze S_ squeezes_S1_S_).sem = semOf (uLoc 1) := by decide +kernel
theorem semV_1 : ((cc0_scratch6.slice (Rect.unit (s := S2) ![1] S1.size inb_S2_S1_1)).squeeze S_ squeezes_S1_S_).sem = semOf (uLoc 3) := by decide +kernel
theorem semYs_0_0 : ((cc0_scratch7.slice (Rect.unit (s := S3x3) ![0, 0] S1x1.size inb_S3x3_S1x1_0_0)).squeeze S_ squeezes_S1x1_S_).sem = semOf (uYs 0 0) := by decide +kernel
theorem semYs_0_1 : ((cc0_scratch7.slice (Rect.unit (s := S3x3) ![0, 1] S1x1.size inb_S3x3_S1x1_0_1)).squeeze S_ squeezes_S1x1_S_).sem = semOf (uYs 0 1) := by decide +kernel
theorem semYs_0_2 : ((cc0_scratch7.slice (Rect.unit (s := S3x3) ![0, 2] S1x1.size inb_S3x3_S1x1_0_2)).squeeze S_ squeezes_S1x1_S_).sem = semOf (uYs 0 2) := by decide +kernel
theorem semYs_1_0 : ((cc0_scratch7.slice (Rect.unit (s := S3x3) ![1, 0] S1x1.size inb_S3x3_S1x1_1_0)).squeeze S_ squeezes_S1x1_S_).sem = semOf (uYs 1 0) := by decide +kernel
theorem semYs_1_1 : ((cc0_scratch7.slice (Rect.unit (s := S3x3) ![1, 1] S1x1.size inb_S3x3_S1x1_1_1)).squeeze S_ squeezes_S1x1_S_).sem = semOf (uYs 1 1) := by decide +kernel
theorem semYs_1_2 : ((cc0_scratch7.slice (Rect.unit (s := S3x3) ![1, 2] S1x1.size inb_S3x3_S1x1_1_2)).squeeze S_ squeezes_S1x1_S_).sem = semOf (uYs 1 2) := by decide +kernel
theorem semYs_2_0 : ((cc0_scratch7.slice (Rect.unit (s := S3x3) ![2, 0] S1x1.size inb_S3x3_S1x1_2_0)).squeeze S_ squeezes_S1x1_S_).sem = semOf (uYs 2 0) := by decide +kernel
theorem semYs_2_1 : ((cc0_scratch7.slice (Rect.unit (s := S3x3) ![2, 1] S1x1.size inb_S3x3_S1x1_2_1)).squeeze S_ squeezes_S1x1_S_).sem = semOf (uYs 2 1) := by decide +kernel
theorem semYs_2_2 : ((cc0_scratch7.slice (Rect.unit (s := S3x3) ![2, 2] S1x1.size inb_S3x3_S1x1_2_2)).squeeze S_ squeezes_S1x1_S_).sem = semOf (uYs 2 2) := by decide +kernel
theorem semYr_0 (c : Dev nD) : ((cc0_scratch8.slice (Rect.unit (s := S4x3) (k0_off5 c) S1x1.size (k0_off5_inb c))).squeeze S_ squeezes_S1x1_S_).sem = semOf (uYr (yp c) 0) := by
  revert c; decide +kernel
theorem semYr_1 (c : Dev nD) : ((cc0_scratch8.slice (Rect.unit (s := S4x3) (k0_off7 c) S1x1.size (k0_off7_inb c))).squeeze S_ squeezes_S1x1_S_).sem = semOf (uYr (yp c) 1) := by
  revert c; decide +kernel
theorem semYr_2 (c : Dev nD) : ((cc0_scratch8.slice (Rect.unit (s := S4x3) (k0_off8 c) S1x1.size (k0_off8_inb c))).squeeze S_ squeezes_S1x1_S_).sem = semOf (uYr (yp c) 2) := by
  revert c; decide +kernel
theorem semYp_0_0 (c : Dev nD) : ((cc0_scratch8.slice (Rect.unit (s := S4x3) (k0_off10 c 1#32) S1x1.size (k0_off10_inb c 0))).squeeze S_ squeezes_S1x1_S_).sem = semOf (uYr (yp (pr 0 c)) 0) := by
  revert c; decide +kernel
theorem semYp_1_0 (c : Dev nD) : ((cc0_scratch8.slice (Rect.unit (s := S4x3) (k0_off10 c 2#32) S1x1.size (k0_off10_inb c 1))).squeeze S_ squeezes_S1x1_S_).sem = semOf (uYr (yp (pr 1 c)) 0) := by
  revert c; decide +kernel
theorem semYp_2_0 (c : Dev nD) : ((cc0_scratch8.slice (Rect.unit (s := S4x3) (k0_off10 c 3#32) S1x1.size (k0_off10_inb c 2))).squeeze S_ squeezes_S1x1_S_).sem = semOf (uYr (yp (pr 2 c)) 0) := by
  revert c; decide +kernel
theorem semYp_0_1 (c : Dev nD) : ((cc0_scratch8.slice (Rect.unit (s := S4x3) (k0_off12 c 1#32) S1x1.size (k0_off12_inb c 0))).squeeze S_ squeezes_S1x1_S_).sem = semOf (uYr (yp (pr 0 c)) 1) := by
  revert c; decide +kernel
theorem semYp_1_1 (c : Dev nD) : ((cc0_scratch8.slice (Rect.unit (s := S4x3) (k0_off12 c 2#32) S1x1.size (k0_off12_inb c 1))).squeeze S_ squeezes_S1x1_S_).sem = semOf (uYr (yp (pr 1 c)) 1) := by
  revert c; decide +kernel
theorem semYp_2_1 (c : Dev nD) : ((cc0_scratch8.slice (Rect.unit (s := S4x3) (k0_off12 c 3#32) S1x1.size (k0_off12_inb c 2))).squeeze S_ squeezes_S1x1_S_).sem = semOf (uYr (yp (pr 2 c)) 1) := by
  revert c; decide +kernel
theorem semYp_0_2 (c : Dev nD) : ((cc0_scratch8.slice (Rect.unit (s := S4x3) (k0_off13 c 1#32) S1x1.size (k0_off13_inb c 0))).squeeze S_ squeezes_S1x1_S_).sem = semOf (uYr (yp (pr 0 c)) 2) := by
  revert c; decide +kernel
theorem semYp_1_2 (c : Dev nD) : ((cc0_scratch8.slice (Rect.unit (s := S4x3) (k0_off13 c 2#32) S1x1.size (k0_off13_inb c 1))).squeeze S_ squeezes_S1x1_S_).sem = semOf (uYr (yp (pr 1 c)) 2) := by
  revert c; decide +kernel
theorem semYp_2_2 (c : Dev nD) : ((cc0_scratch8.slice (Rect.unit (s := S4x3) (k0_off13 c 3#32) S1x1.size (k0_off13_inb c 2))).squeeze S_ squeezes_S1x1_S_).sem = semOf (uYr (yp (pr 2 c)) 2) := by
  revert c; decide +kernel
theorem semXs_0 : ((cc0_scratch9.slice (Rect.unit (s := S7) ![0] S1.size inb_S7_S1_0)).squeeze S_ squeezes_S1_S_).sem = semOf (uXs 0) := by decide +kernel
theorem semXs_1 : ((cc0_scratch9.slice (Rect.unit (s := S7) ![1] S1.size inb_S7_S1_1)).squeeze S_ squeezes_S1_S_).sem = semOf (uXs 1) := by decide +kernel
theorem semXs_2 : ((cc0_scratch9.slice (Rect.unit (s := S7) ![2] S1.size inb_S7_S1_2)).squeeze S_ squeezes_S1_S_).sem = semOf (uXs 2) := by decide +kernel
theorem semXs_3 : ((cc0_scratch9.slice (Rect.unit (s := S7) ![3] S1.size inb_S7_S1_3)).squeeze S_ squeezes_S1_S_).sem = semOf (uXs 3) := by decide +kernel
theorem semXs_4 : ((cc0_scratch9.slice (Rect.unit (s := S7) ![4] S1.size inb_S7_S1_4)).squeeze S_ squeezes_S1_S_).sem = semOf (uXs 4) := by decide +kernel
theorem semXs_5 : ((cc0_scratch9.slice (Rect.unit (s := S7) ![5] S1.size inb_S7_S1_5)).squeeze S_ squeezes_S1_S_).sem = semOf (uXs 5) := by decide +kernel
theorem semXs_6 : ((cc0_scratch9.slice (Rect.unit (s := S7) ![6] S1.size inb_S7_S1_6)).squeeze S_ squeezes_S1_S_).sem = semOf (uXs 6) := by decide +kernel
theorem semXr (c : Dev nD) : ((cc0_scratch10.slice (Rect.unit (s := S8) (k0_off16 c) S1.size (k0_off16_inb c))).squeeze S_ squeezes_S1_S_).sem = semOf (uXr (rr c)) := by
  revert c; decide +kernel
theorem semXp_0 (c : Dev nD) : ((cc0_scratch10.slice (Rect.unit (s := S8) (k0_off18 c 0#32 1#32) S1.size (k0_off18_inb c 0))).squeeze S_ squeezes_S1_S_).sem = semOf (uXr (rr (pr 3 c))) := by
  revert c; decide +kernel
theorem semXp_1 (c : Dev nD) : ((cc0_scratch10.slice (Rect.unit (s := S8) (k0_off18 c 0#32 2#32) S1.size (k0_off18_inb c 1))).squeeze S_ squeezes_S1_S_).sem = semOf (uXr (rr (pr 4 c))) := by
  revert c; decide +kernel
theorem semXp_2 (c : Dev nD) : ((cc0_scratch10.slice (Rect.unit (s := S8) (k0_off18 c 0#32 3#32) S1.size (k0_off18_inb c 2))).squeeze S_ squeezes_S1_S_).sem = semOf (uXr (rr (pr 5 c))) := by
  revert c; decide +kernel
theorem semXp_3 (c : Dev nD) : ((cc0_scratch10.slice (Rect.unit (s := S8) (k0_off18 c 1#32 0#32) S1.size (k0_off18_inb c 3))).squeeze S_ squeezes_S1_S_).sem = semOf (uXr (rr (pr 6 c))) := by
  revert c; decide +kernel
theorem semXp_4 (c : Dev nD) : ((cc0_scratch10.slice (Rect.unit (s := S8) (k0_off18 c 1#32 1#32) S1.size (k0_off18_inb c 4))).squeeze S_ squeezes_S1_S_).sem = semOf (uXr (rr (pr 7 c))) := by
  revert c; decide +kernel
theorem semXp_5 (c : Dev nD) : ((cc0_scratch10.slice (Rect.unit (s := S8) (k0_off18 c 1#32 2#32) S1.size (k0_off18_inb c 5))).squeeze S_ squeezes_S1_S_).sem = semOf (uXr (rr (pr 8 c))) := by
  revert c; decide +kernel
theorem semXp_6 (c : Dev nD) : ((cc0_scratch10.slice (Rect.unit (s := S8) (k0_off18 c 1#32 3#32) S1.size (k0_off18_inb c 6))).squeeze S_ squeezes_S1_S_).sem = semOf (uXr (rr (pr 9 c))) := by
  revert c; decide +kernel

end Cert.Decode

end
-- ==== Proof.PartsA.lean ====
/-
# The body, part by part: staging, partials and signals

The printed body is cut into thirty parts. Each part's lemma states what the part takes, what it gives and what it returns, under a continuation.
-/
module

public import proofs.«01_k».proof.Proof.Rows
public import proofs.«01_k».proof.Proof.Sems

@[expose] public section

set_option maxRecDepth 16384

noncomputable section

namespace Cert.Decode

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3 eq_ix3)
open Idealize.ShloMosaic.ShareLeaves (leaf)

variable {F : FTy → Type} [FloatOps F]

local notation "𝕄" => MT nD τ sig Unit (Elt F) ℕ UU ℕ

/-! ## What the parts' conditions are restated as -/

variable (m : (ℓ : Loc nD τ sig) → Buf (Elt F) ℓ)

theorem locPay_0 (c : Dev nD) : (usePay m c (uLoc 0) : sProp 𝕄) = iprop((((c : Thread nD τ).loc cc0_scratch0) ↦[rowS 0]{fullShare} KB m c) ∗ (((c : Thread nD τ).loc main_v2) ↦[rowS (brow c 0)]{leaf 1 fullShare 0} K2 m c)) := rfl
theorem locPay_1 (c : Dev nD) : (usePay m c (uLoc 1) : sProp 𝕄) = iprop((((c : Thread nD τ).loc cc0_scratch0) ↦[rowS 1]{fullShare} KB m c) ∗ (((c : Thread nD τ).loc main_v2) ↦[rowS (brow c 1)]{leaf 1 fullShare 1} K2 m c)) := rfl
theorem locPay_2 (c : Dev nD) : (usePay m c (uLoc 2) : sProp 𝕄) = iprop((((c : Thread nD τ).loc cc0_scratch1) ↦[rowS 0]{fullShare} VB m c) ∗ (((c : Thread nD τ).loc main_v3) ↦[rowS (brow c 0)]{leaf 1 fullShare 0} V2 m c)) := rfl
theorem locPay_3 (c : Dev nD) : (usePay m c (uLoc 3) : sProp 𝕄) = iprop((((c : Thread nD τ).loc cc0_scratch1) ↦[rowS 1]{fullShare} VB m c) ∗ (((c : Thread nD τ).loc main_v3) ↦[rowS (brow c 1)]{leaf 1 fullShare 1} V2 m c)) := rfl
theorem credit_dstK0 : dstK0.view.dmaCredit = amt (uLoc 0) := rfl
theorem credit_dstK1 : dstK1.view.dmaCredit = amt (uLoc 1) := rfl
theorem credit_dstV0 : dstV0.view.dmaCredit = amt (uLoc 2) := rfl
theorem credit_dstV1 : dstV1.view.dmaCredit = amt (uLoc 3) := rfl
theorem credit_yr0 (y : Fin 4) (off : Fin 3 → ℕ) (h) : ((((Memref.whole cc0_scratch2 : Memref sig .tc .vmem S4x2x16 .f32).slice (Rect.unit (s := S4x2x16) off S1x2x16.size h) (fun _ => rfl)).squeeze S2x16 squeezes_S1x2x16_S2x16) : Memref sig .tc .vmem S2x16 .f32).view.dmaCredit = amt (uYr y 0) := rfl
theorem credit_ys0 (k : Fin 3) (off : Fin 3 → ℕ) (h) : ((((Memref.whole cc0_scratch2 : Memref sig .tc .vmem S4x2x16 .f32).slice (Rect.unit (s := S4x2x16) off S1x2x16.size h) (fun _ => rfl)).squeeze S2x16 squeezes_S1x2x16_S2x16) : Memref sig .tc .vmem S2x16 .f32).view.dmaCredit = amt (uYs k 0) := rfl
theorem credit_yr1 (y : Fin 4) (off : Fin 3 → ℕ) (h) : ((((Memref.whole cc0_scratch3 : Memref sig .tc .vmem S4x2x16 .f32).slice (Rect.unit (s := S4x2x16) off S1x2x16.size h) (fun _ => rfl)).squeeze S2x16 squeezes_S1x2x16_S2x16) : Memref sig .tc .vmem S2x16 .f32).view.dmaCredit = amt (uYr y 1) := rfl
theorem credit_ys1 (k : Fin 3) (off : Fin 3 → ℕ) (h) : ((((Memref.whole cc0_scratch3 : Memref sig .tc .vmem S4x2x16 .f32).slice (Rect.unit (s := S4x2x16) off S1x2x16.size h) (fun _ => rfl)).squeeze S2x16 squeezes_S1x2x16_S2x16) : Memref sig .tc .vmem S2x16 .f32).view.dmaCredit = amt (uYs k 1) := rfl
theorem credit_yr2 (y : Fin 4) (off : Fin 3 → ℕ) (h) : ((((Memref.whole cc0_scratch4 : Memref sig .tc .vmem S4x2x1024 .f32).slice (Rect.unit (s := S4x2x1024) off S1x2x1024.size h) (fun _ => rfl)).squeeze S2x1024 squeezes_S1x2x1024_S2x1024) : Memref sig .tc .vmem S2x1024 .f32).view.dmaCredit = amt (uYr y 2) := rfl
theorem credit_ys2 (k : Fin 3) (off : Fin 3 → ℕ) (h) : ((((Memref.whole cc0_scratch4 : Memref sig .tc .vmem S4x2x1024 .f32).slice (Rect.unit (s := S4x2x1024) off S1x2x1024.size h) (fun _ => rfl)).squeeze S2x1024 squeezes_S1x2x1024_S2x1024) : Memref sig .tc .vmem S2x1024 .f32).view.dmaCredit = amt (uYs k 2) := rfl
theorem credit_xr (r : Fin 8) (off : Fin 3 → ℕ) (h) : ((((Memref.whole cc0_stg1_0 : Memref sig .tc .vmem S8x2x1024 .f32).slice (Rect.unit (s := S8x2x1024) off S1x2x1024.size h) (fun _ => rfl)).squeeze S2x1024 squeezes_S1x2x1024_S2x1024) : Memref sig .tc .vmem S2x1024 .f32).view.dmaCredit = amt (uXr r) := rfl
theorem credit_xs (j : Fin 7) (off : Fin 3 → ℕ) (h) : ((((Memref.whole cc0_stg1_0 : Memref sig .tc .vmem S8x2x1024 .f32).slice (Rect.unit (s := S8x2x1024) off S1x2x1024.size h) (fun _ => rfl)).squeeze S2x1024 squeezes_S1x2x1024_S2x1024) : Memref sig .tc .vmem S2x1024 .f32).view.dmaCredit = amt (uXs j) := rfl
omit [FloatOps F] in
theorem own_O₀ (c : Dev nD) : (own c (O₀ c) : sProp 𝕄) = own c (OY c + oB 9 c + oB 8 c + oB 7 c + oB 6 c + oB 5 c + oB 4 c + oB 3 c + oB 2 c + oB 1 c + oB 0 c) := rfl
omit [FloatOps F] in
theorem own_OY (c : Dev nD) : (own c (OY c) : sProp 𝕄) = own c (OX c + oY (pk 2) 2 c + oY (pk 2) 1 c + oY (pk 2) 0 c + oY (pk 1) 2 c + oY (pk 1) 1 c + oY (pk 1) 0 c + oY (pk 0) 2 c + oY (pk 0) 1 c + oY (pk 0) 0 c) := rfl
omit [FloatOps F] in
theorem own_OX (c : Dev nD) : (own c (OX c) : sProp 𝕄) = own c (0 + oX (pj 6) c + oX (pj 5) c + oX (pj 4) c + oX (pj 3) c + oX (pj 2) c + oX (pj 1) c + oX (pj 0) c) := rfl

theorem part1 (m : (ℓ : Loc nD τ sig) → Buf (Elt F) ℓ) (κ : GSem nD τ sig → ℕ) (c : Dev nD)
    {h0 : (Memref.whole cc0_stg0_0 : Memref sig .tc .vmem S16x1x1024 .f32).IsWhole} {h1 : (Memref.whole main_v2 : Memref sig .tc .hbm S16x1024x1024 .f32).IsWhole} {h2 : (Memref.whole main_v3 : Memref sig .tc .hbm S16x1024x1024 .f32).IsWhole} {h3 : (Memref.whole cc0_stg1_0 : Memref sig .tc .vmem S8x2x1024 .f32).IsWhole} {h4 : (Memref.whole cc0_scratch0 : Memref sig .tc .vmem S2x1024x1024 .f32).IsWhole} {h5 : (Memref.whole cc0_scratch1 : Memref sig .tc .vmem S2x1024x1024 .f32).IsWhole} {h6 : (Memref.whole cc0_scratch2 : Memref sig .tc .vmem S4x2x16 .f32).IsWhole} {h7 : (Memref.whole cc0_scratch3 : Memref sig .tc .vmem S4x2x16 .f32).IsWhole} {h8 : (Memref.whole cc0_scratch4 : Memref sig .tc .vmem S4x2x1024 .f32).IsWhole} {α : Type} {Q : α → sProp 𝕄} {kk : (Σ' (d0 : Dev nD) (v2 : BitVec 32) (v5 : BitVec 32) (v8 : BitVec 32) (v10 : BitVec 32) (v11 : BitVec 32) (v41 : FVec F S16x1024 .bf16) (v42 : IVec S16x1024 32), IVec S16x1024 32) → Prog (TpuEff nD τ sig (Elt F) Λ₀ .tc) α} :
    (iprop((∀ (v2 : BitVec 32) (v5 : BitVec 32) (v8 : BitVec 32) (v10 : BitVec 32) (v11 : BitVec 32), wp frame (wpE (defs₀ (F := F)) 𝒱₀ (c : Thread nD τ) none) Set.univ (kk ⟨c, v2, v5, v8, v10, v11, (e₁ (F := F)), (iota .tc S16x1024 32 [0] iota_S16x1024_d0_w32), (iota .tc S16x1024 32 [1] iota_S16x1024_d1_w32)⟩) Q)) : sProp 𝕄)
      ⊢ iprop(wp frame (wpE (defs₀ (F := F)) 𝒱₀ (c : Thread nD τ) none) Set.univ (k0_part1 (F := F) (Memref.whole cc0_stg0_0) h0 (Memref.whole main_v2) h1 (Memref.whole main_v3) h2 (Memref.whole cc0_stg1_0) h3 (Memref.whole cc0_scratch0) h4 (Memref.whole cc0_scratch1) h5 (Memref.whole cc0_scratch2) h6 (Memref.whole cc0_scratch3) h7 (Memref.whole cc0_scratch4) h8 cc0_scratch5 cc0_scratch6 cc0_scratch7 cc0_scratch8 cc0_scratch9 cc0_scratch10 >>= kk) Q) := by
  rw [wp_bind, k0_part1_eq_skeleton]
  unfold k0_part1_skel
  simp only [semSignalWord, semWaitWord, Prog.lift, Prog.bind_op, Prog.bind_ret, Prog.pure_eq_ret, wp_deviceId]
  rw [show (k0_pay1 (F := F)) = e₁ from rfl]
  iintro HK
  rw [wp_ret]
  imodintro
  iapply HK

theorem part2 (m : (ℓ : Loc nD τ sig) → Buf (Elt F) ℓ) (κ : GSem nD τ sig → ℕ) (c : Dev nD) (v11 : BitVec 32)
    {h0 : (Memref.whole cc0_stg0_0 : Memref sig .tc .vmem S16x1x1024 .f32).IsWhole} {h1 : (Memref.whole main_v2 : Memref sig .tc .hbm S16x1024x1024 .f32).IsWhole} {h2 : (Memref.whole main_v3 : Memref sig .tc .hbm S16x1024x1024 .f32).IsWhole} {h3 : (Memref.whole cc0_stg1_0 : Memref sig .tc .vmem S8x2x1024 .f32).IsWhole} {h4 : (Memref.whole cc0_scratch0 : Memref sig .tc .vmem S2x1024x1024 .f32).IsWhole} {h5 : (Memref.whole cc0_scratch1 : Memref sig .tc .vmem S2x1024x1024 .f32).IsWhole} {h6 : (Memref.whole cc0_scratch2 : Memref sig .tc .vmem S4x2x16 .f32).IsWhole} {h7 : (Memref.whole cc0_scratch3 : Memref sig .tc .vmem S4x2x16 .f32).IsWhole} {h8 : (Memref.whole cc0_scratch4 : Memref sig .tc .vmem S4x2x1024 .f32).IsWhole} {α : Type} {Q : α → sProp 𝕄} {kk : (FVec F S16x1024 .f32) → Prog (TpuEff nD τ sig (Elt F) Λ₀ .tc) α} :
    (iprop(know m κ ∗ locSrc m c 0) : sProp 𝕄)
      ⊢ iprop((((cred (tallyAt (cell c (uLoc 0)) () (amt (uLoc 0)))) -∗ wp frame (wpE (defs₀ (F := F)) 𝒱₀ (c : Thread nD τ) none) Set.univ (kk (e₂ (F := F))) Q))
        -∗ wp frame (wpE (defs₀ (F := F)) 𝒱₀ (c : Thread nD τ) none) Set.univ (k0_part2 (F := F) (Memref.whole cc0_stg0_0) h0 (Memref.whole main_v2) h1 (Memref.whole main_v3) h2 (Memref.whole cc0_stg1_0) h3 (Memref.whole cc0_scratch0) h4 (Memref.whole cc0_scratch1) h5 (Memref.whole cc0_scratch2) h6 (Memref.whole cc0_scratch3) h7 (Memref.whole cc0_scratch4) h8 cc0_scratch5 cc0_scratch6 cc0_scratch7 cc0_scratch8 cc0_scratch9 cc0_scratch10 c v11 (iota .tc S16x1024 32 [0] iota_S16x1024_d0_w32) (iota .tc S16x1024 32 [1] iota_S16x1024_d1_w32) >>= kk) Q) := by
  rw [wp_bind, k0_part2_eq_skeleton]
  unfold k0_part2_skel
  simp only [semSignalWord, semWaitWord, Prog.lift, Prog.bind_op, Prog.bind_ret, Prog.pure_eq_ret]
  rw [show k0_pay2 (F := F) (iota .tc S16x1024 32 [0] iota_S16x1024_d0_w32) (iota .tc S16x1024 32 [1] iota_S16x1024_d1_w32) = e₂ from rfl]
  iintro ⟨#Hk, L0⟩ HK
  iapply (mv_copy0 m κ c semK_0) $$ [L0]
  · isplitr; · iexact Hk
    iexact L0
  iintro CL0
  rw [wp_ret]
  imodintro
  iapply HK
  iexact CL0

theorem part3 (m : (ℓ : Loc nD τ sig) → Buf (Elt F) ℓ) (κ : GSem nD τ sig → ℕ) (c : Dev nD) (v11 : BitVec 32)
    {h0 : (Memref.whole cc0_stg0_0 : Memref sig .tc .vmem S16x1x1024 .f32).IsWhole} {h1 : (Memref.whole main_v2 : Memref sig .tc .hbm S16x1024x1024 .f32).IsWhole} {h2 : (Memref.whole main_v3 : Memref sig .tc .hbm S16x1024x1024 .f32).IsWhole} {h3 : (Memref.whole cc0_stg1_0 : Memref sig .tc .vmem S8x2x1024 .f32).IsWhole} {h4 : (Memref.whole cc0_scratch0 : Memref sig .tc .vmem S2x1024x1024 .f32).IsWhole} {h5 : (Memref.whole cc0_scratch1 : Memref sig .tc .vmem S2x1024x1024 .f32).IsWhole} {h6 : (Memref.whole cc0_scratch2 : Memref sig .tc .vmem S4x2x16 .f32).IsWhole} {h7 : (Memref.whole cc0_scratch3 : Memref sig .tc .vmem S4x2x16 .f32).IsWhole} {h8 : (Memref.whole cc0_scratch4 : Memref sig .tc .vmem S4x2x1024 .f32).IsWhole} {α : Type} {Q : α → sProp 𝕄} {kk : (PUnit) → Prog (TpuEff nD τ sig (Elt F) Λ₀ .tc) α} :
    (iprop(know m κ ∗ own c (O₀ c) ∗ locSrc m c 2 ∗ locSrc m c 1 ∗ locSrc m c 3 ∗ cred (tallyAt (cell c (uLoc 0)) () (amt (uLoc 0))) ∗ pend c (uLoc 0) ∗ pend c (uLoc 2)) : sProp 𝕄)
      ⊢ iprop((((own c (O₀ c) ∗ cred (tallyAt (cell c (uLoc 1)) () (amt (uLoc 1))) ∗ cred (tallyAt (cell c (uLoc 3)) () (amt (uLoc 3))) ∗ semVal (cell c (uLoc 0)) 0 ∗ (((c : Thread nD τ).loc cc0_scratch0) ↦[rowS 0]{fullShare} KB m c) ∗ (((c : Thread nD τ).loc main_v2) ↦[rowS (brow c 0)]{leaf 1 fullShare 0} K2 m c) ∗ semVal (cell c (uLoc 2)) 0 ∗ (((c : Thread nD τ).loc cc0_scratch1) ↦[rowS 0]{fullShare} VB m c) ∗ (((c : Thread nD τ).loc main_v3) ↦[rowS (brow c 0)]{leaf 1 fullShare 0} V2 m c)) -∗ wp frame (wpE (defs₀ (F := F)) 𝒱₀ (c : Thread nD τ) none) Set.univ (kk ⟨⟩) Q))
        -∗ wp frame (wpE (defs₀ (F := F)) 𝒱₀ (c : Thread nD τ) none) Set.univ (k0_part3 (F := F) (Memref.whole cc0_stg0_0) h0 (Memref.whole main_v2) h1 (Memref.whole main_v3) h2 (Memref.whole cc0_stg1_0) h3 (Memref.whole cc0_scratch0) h4 (Memref.whole cc0_scratch1) h5 (Memref.whole cc0_scratch2) h6 (Memref.whole cc0_scratch3) h7 (Memref.whole cc0_scratch4) h8 cc0_scratch5 cc0_scratch6 cc0_scratch7 cc0_scratch8 cc0_scratch9 cc0_scratch10 c v11 >>= kk) Q) := by
  rw [wp_bind, k0_part3_eq_skeleton]
  unfold k0_part3_skel
  simp only [semSignalWord, semWaitWord, Prog.lift, Prog.bind_op, Prog.bind_ret, Prog.pure_eq_ret]
  iintro ⟨#Hk, HO, L2, L1, L3, CL0, PL0, PL2⟩ HK
  iapply (mv_copy2 m κ c semV_0) $$ [L2]
  · isplitr; · iexact Hk
    iexact L2
  iintro CL2
  iapply (mv_copy1 m κ c semK_1) $$ [L1]
  · isplitr; · iexact Hk
    iexact L1
  iintro CL1
  iapply (mv_copy3 m κ c semV_1) $$ [L3]
  · isplitr; · iexact Hk
    iexact L3
  iintro CL3
  iapply (mv_wait (dst := dstK0) m κ c (uLoc 0) rfl rfl (above_O₀ c) semK_0 credit_dstK0) $$ [HO CL0 PL0]
  · isplitr; · iexact Hk
    isplitl [HO]; · iexact HO
    isplitl [CL0]; · iexact CL0
    iexact PL0
  iintro ⟨HO, ZL0, UL⟩
  ihave UL := (Entails.of_eq (locPay_0 m c)) $$ UL
  icases UL with ⟨RL0, SL0⟩
  iapply (mv_wait (dst := dstV0) m κ c (uLoc 2) rfl rfl (above_O₀ c) semV_0 credit_dstV0) $$ [HO CL2 PL2]
  · isplitr; · iexact Hk
    isplitl [HO]; · iexact HO
    isplitl [CL2]; · iexact CL2
    iexact PL2
  iintro ⟨HO, ZL2, UL⟩
  ihave UL := (Entails.of_eq (locPay_2 m c)) $$ UL
  icases UL with ⟨RL2, SL2⟩
  rw [wp_ret]
  imodintro
  iapply HK
  isplitl [HO]; · iexact HO
  isplitl [CL1]; · iexact CL1
  isplitl [CL3]; · iexact CL3
  isplitl [ZL0]; · iexact ZL0
  isplitl [RL0]; · iexact RL0
  isplitl [SL0]; · iexact SL0
  isplitl [ZL2]; · iexact ZL2
  isplitl [RL2]; · iexact RL2
  iexact SL2

theorem part4 (m : (ℓ : Loc nD τ sig) → Buf (Elt F) ℓ) (κ : GSem nD τ sig → ℕ) (c : Dev nD) (v11 : BitVec 32)
    {h0 : (Memref.whole cc0_stg0_0 : Memref sig .tc .vmem S16x1x1024 .f32).IsWhole} {h1 : (Memref.whole main_v2 : Memref sig .tc .hbm S16x1024x1024 .f32).IsWhole} {h2 : (Memref.whole main_v3 : Memref sig .tc .hbm S16x1024x1024 .f32).IsWhole} {h3 : (Memref.whole cc0_stg1_0 : Memref sig .tc .vmem S8x2x1024 .f32).IsWhole} {h4 : (Memref.whole cc0_scratch0 : Memref sig .tc .vmem S2x1024x1024 .f32).IsWhole} {h5 : (Memref.whole cc0_scratch1 : Memref sig .tc .vmem S2x1024x1024 .f32).IsWhole} {h6 : (Memref.whole cc0_scratch2 : Memref sig .tc .vmem S4x2x16 .f32).IsWhole} {h7 : (Memref.whole cc0_scratch3 : Memref sig .tc .vmem S4x2x16 .f32).IsWhole} {h8 : (Memref.whole cc0_scratch4 : Memref sig .tc .vmem S4x2x1024 .f32).IsWhole} {α : Type} {Q : α → sProp 𝕄} {kk : (Σ' (v128 : FVec F S1x16 .f32) (v133 : FVec F S1x16 .f32), FVec F S1x1024 .f32) → Prog (TpuEff nD τ sig (Elt F) Λ₀ .tc) α} :
    (iprop(know m κ ∗ own c (O₀ c) ∗ (((c : Thread nD τ).loc cc0_scratch0) ↦[rowS 0]{fullShare} KB m c) ∗ (((c : Thread nD τ).loc cc0_scratch1) ↦[rowS 0]{fullShare} VB m c) ∗ (((c : Thread nD τ).loc cc0_stg0_0) ↦[Finset.univ]{fullShare} Q1 m c) ∗ cred (tallyAt (cell c (uLoc 1)) () (amt (uLoc 1))) ∗ pend c (uLoc 1)) : sProp 𝕄)
      ⊢ iprop((((own c (O₀ c) ∗ (((c : Thread nD τ).loc cc0_scratch0) ↦[rowS 0]{fullShare} KB m c) ∗ (((c : Thread nD τ).loc cc0_scratch1) ↦[rowS 0]{fullShare} VB m c) ∗ (((c : Thread nD τ).loc cc0_stg0_0) ↦[Finset.univ]{fullShare} Q1 m c) ∗ semVal (cell c (uLoc 1)) 0 ∗ (((c : Thread nD τ).loc cc0_scratch0) ↦[rowS 1]{fullShare} KB m c) ∗ (((c : Thread nD τ).loc main_v2) ↦[rowS (brow c 1)]{leaf 1 fullShare 1} K2 m c)) -∗ wp frame (wpE (defs₀ (F := F)) 𝒱₀ (c : Thread nD τ) none) Set.univ (kk ⟨(k0_pay4 (e₁ (F := F)) (kv m c 0) (qv m c 0)), (k0_pay6 (e₁ (F := F)) (kv m c 0) (qv m c 0)), (k0_pay7 (e₁ (F := F)) (e₂ (F := F)) (kv m c 0) (vv m c 0) (qv m c 0))⟩) Q))
        -∗ wp frame (wpE (defs₀ (F := F)) 𝒱₀ (c : Thread nD τ) none) Set.univ (k0_part4 (F := F) (Memref.whole cc0_stg0_0) h0 (Memref.whole main_v2) h1 (Memref.whole main_v3) h2 (Memref.whole cc0_stg1_0) h3 (Memref.whole cc0_scratch0) h4 (Memref.whole cc0_scratch1) h5 (Memref.whole cc0_scratch2) h6 (Memref.whole cc0_scratch3) h7 (Memref.whole cc0_scratch4) h8 cc0_scratch5 cc0_scratch6 cc0_scratch7 cc0_scratch8 cc0_scratch9 cc0_scratch10 c v11 (e₁ (F := F)) (e₂ (F := F)) >>= kk) Q) := by
  rw [wp_bind, k0_part4_eq_skeleton]
  unfold k0_part4_skel
  simp only [semSignalWord, semWaitWord, Prog.lift, Prog.bind_op, Prog.bind_ret, Prog.pure_eq_ret]
  iintro ⟨#Hk, HO, RL0, RL2, QS, CL1, PL1⟩ HK
  iapply (ld_k0 m c) $$ RL0
  iintro RL0
  iapply (ld_v0 m c) $$ RL2
  iintro RL2
  iapply (ld_q0 m c) $$ QS
  iintro QS
  iapply (mv_wait (dst := dstK1) m κ c (uLoc 1) rfl rfl (above_O₀ c) semK_1 credit_dstK1) $$ [HO CL1 PL1]
  · isplitr; · iexact Hk
    isplitl [HO]; · iexact HO
    isplitl [CL1]; · iexact CL1
    iexact PL1
  iintro ⟨HO, ZL1, UL⟩
  ihave UL := (Entails.of_eq (locPay_1 m c)) $$ UL
  icases UL with ⟨RL1, SL1⟩
  rw [wp_ret]
  imodintro
  iapply HK
  isplitl [HO]; · iexact HO
  isplitl [RL0]; · iexact RL0
  isplitl [RL2]; · iexact RL2
  isplitl [QS]; · iexact QS
  isplitl [ZL1]; · iexact ZL1
  isplitl [RL1]; · iexact RL1
  iexact SL1

theorem part5 (m : (ℓ : Loc nD τ sig) → Buf (Elt F) ℓ) (κ : GSem nD τ sig → ℕ) (c : Dev nD) (v5 : BitVec 32) (v11 : BitVec 32)
    {h0 : (Memref.whole cc0_stg0_0 : Memref sig .tc .vmem S16x1x1024 .f32).IsWhole} {h1 : (Memref.whole main_v2 : Memref sig .tc .hbm S16x1024x1024 .f32).IsWhole} {h2 : (Memref.whole main_v3 : Memref sig .tc .hbm S16x1024x1024 .f32).IsWhole} {h3 : (Memref.whole cc0_stg1_0 : Memref sig .tc .vmem S8x2x1024 .f32).IsWhole} {h4 : (Memref.whole cc0_scratch0 : Memref sig .tc .vmem S2x1024x1024 .f32).IsWhole} {h5 : (Memref.whole cc0_scratch1 : Memref sig .tc .vmem S2x1024x1024 .f32).IsWhole} {h6 : (Memref.whole cc0_scratch2 : Memref sig .tc .vmem S4x2x16 .f32).IsWhole} {h7 : (Memref.whole cc0_scratch3 : Memref sig .tc .vmem S4x2x16 .f32).IsWhole} {h8 : (Memref.whole cc0_scratch4 : Memref sig .tc .vmem S4x2x1024 .f32).IsWhole} {α : Type} {Q : α → sProp 𝕄} {kk : (Σ' (v173 : FVec F S1x16 .f32), FVec F S1x1024 .f32) → Prog (TpuEff nD τ sig (Elt F) Λ₀ .tc) α} :
    (iprop(know m κ ∗ own c (O₀ c) ∗ cred (tallyAt (cell c (uLoc 3)) () (amt (uLoc 3))) ∗ pend c (uLoc 3) ∗ (((c : Thread nD τ).loc cc0_scratch0) ↦[rowS 1]{fullShare} KB m c) ∗ (((c : Thread nD τ).loc cc0_stg0_0) ↦[Finset.univ]{fullShare} Q1 m c) ∗ (∃ f : Buf (Elt F) ((c : Thread nD τ).loc cc0_scratch2), ((c : Thread nD τ).loc cc0_scratch2) ↦[rowS (yp c).val]{fullShare} f)) : sProp 𝕄)
      ⊢ iprop((((own c (O₀ c) ∗ semVal (cell c (uLoc 3)) 0 ∗ (((c : Thread nD τ).loc main_v3) ↦[rowS (brow c 1)]{leaf 1 fullShare 1} V2 m c) ∗ (((c : Thread nD τ).loc cc0_scratch0) ↦[rowS 1]{fullShare} KB m c) ∗ (((c : Thread nD τ).loc cc0_scratch1) ↦[rowS 1]{fullShare} VB m c) ∗ (((c : Thread nD τ).loc cc0_stg0_0) ↦[Finset.univ]{fullShare} Q1 m c) ∗ (((c : Thread nD τ).loc cc0_scratch2) ↦[rowS (yp c).val]{fullShare} MC m c)) -∗ wp frame (wpE (defs₀ (F := F)) 𝒱₀ (c : Thread nD τ) none) Set.univ (kk ⟨(k0_pay11 (e₁ (F := F)) (kv m c 1) (qv m c 1)), (k0_pay12 (e₁ (F := F)) (e₂ (F := F)) (kv m c 1) (vv m c 1) (qv m c 1))⟩) Q))
        -∗ wp frame (wpE (defs₀ (F := F)) 𝒱₀ (c : Thread nD τ) none) Set.univ (k0_part5 (F := F) (Memref.whole cc0_stg0_0) h0 (Memref.whole main_v2) h1 (Memref.whole main_v3) h2 (Memref.whole cc0_stg1_0) h3 (Memref.whole cc0_scratch0) h4 (Memref.whole cc0_scratch1) h5 (Memref.whole cc0_scratch2) h6 (Memref.whole cc0_scratch3) h7 (Memref.whole cc0_scratch4) h8 cc0_scratch5 cc0_scratch6 cc0_scratch7 cc0_scratch8 cc0_scratch9 cc0_scratch10 c v5 v11 (e₁ (F := F)) (e₂ (F := F)) (k0_pay4 (e₁ (F := F)) (kv m c 0) (qv m c 0)) >>= kk) Q) := by
  rw [wp_bind, k0_part5_eq_skeleton]
  unfold k0_part5_skel
  simp only [semSignalWord, semWaitWord, Prog.lift, Prog.bind_op, Prog.bind_ret, Prog.pure_eq_ret]
  iintro ⟨#Hk, HO, CL3, PL3, RL1, QS, WY0⟩ HK
  iapply (mv_wait (dst := dstV1) m κ c (uLoc 3) rfl rfl (above_O₀ c) semV_1 credit_dstV1) $$ [HO CL3 PL3]
  · isplitr; · iexact Hk
    isplitl [HO]; · iexact HO
    isplitl [CL3]; · iexact CL3
    iexact PL3
  iintro ⟨HO, ZL3, UL⟩
  ihave UL := (Entails.of_eq (locPay_3 m c)) $$ UL
  icases UL with ⟨RL3, SL3⟩
  iapply (ld_k1 m c) $$ RL1
  iintro RL1
  iapply (ld_v1 m c) $$ RL3
  iintro RL3
  iapply (ld_q1 m c) $$ QS
  iintro QS
  iapply (put_M m c rfl) $$ WY0
  iintro FY0
  rw [wp_ret]
  imodintro
  iapply HK
  isplitl [HO]; · iexact HO
  isplitl [ZL3]; · iexact ZL3
  isplitl [SL3]; · iexact SL3
  isplitl [RL1]; · iexact RL1
  isplitl [RL3]; · iexact RL3
  isplitl [QS]; · iexact QS
  iexact FY0

theorem part6 (m : (ℓ : Loc nD τ sig) → Buf (Elt F) ℓ) (κ : GSem nD τ sig → ℕ) (c : Dev nD) (v5 : BitVec 32)
    {h0 : (Memref.whole cc0_stg0_0 : Memref sig .tc .vmem S16x1x1024 .f32).IsWhole} {h1 : (Memref.whole main_v2 : Memref sig .tc .hbm S16x1024x1024 .f32).IsWhole} {h2 : (Memref.whole main_v3 : Memref sig .tc .hbm S16x1024x1024 .f32).IsWhole} {h3 : (Memref.whole cc0_stg1_0 : Memref sig .tc .vmem S8x2x1024 .f32).IsWhole} {h4 : (Memref.whole cc0_scratch0 : Memref sig .tc .vmem S2x1024x1024 .f32).IsWhole} {h5 : (Memref.whole cc0_scratch1 : Memref sig .tc .vmem S2x1024x1024 .f32).IsWhole} {h6 : (Memref.whole cc0_scratch2 : Memref sig .tc .vmem S4x2x16 .f32).IsWhole} {h7 : (Memref.whole cc0_scratch3 : Memref sig .tc .vmem S4x2x16 .f32).IsWhole} {h8 : (Memref.whole cc0_scratch4 : Memref sig .tc .vmem S4x2x1024 .f32).IsWhole} {α : Type} {Q : α → sProp 𝕄} {kk : (Σ' (v204 : BitVec 32) (v215 : BitVec 32) (v218 : BitVec 32), BitVec 32) → Prog (TpuEff nD τ sig (Elt F) Λ₀ .tc) α} :
    (iprop(know m κ ∗ (∃ f : Buf (Elt F) ((c : Thread nD τ).loc cc0_scratch3), ((c : Thread nD τ).loc cc0_scratch3) ↦[rowS (yp c).val]{fullShare} f) ∗ (∃ f : Buf (Elt F) ((c : Thread nD τ).loc cc0_scratch4), ((c : Thread nD τ).loc cc0_scratch4) ↦[rowS (yp c).val]{fullShare} f)) : sProp 𝕄)
      ⊢ iprop((∀ (v204 : BitVec 32) (v215 : BitVec 32) (v218 : BitVec 32) (v219 : BitVec 32), (((((c : Thread nD τ).loc cc0_scratch3) ↦[rowS (yp c).val]{fullShare} LC m c) ∗ (((c : Thread nD τ).loc cc0_scratch4) ↦[rowS (yp c).val]{fullShare} OC m c)) -∗ wp frame (wpE (defs₀ (F := F)) 𝒱₀ (c : Thread nD τ) none) Set.univ (kk ⟨v204, v215, v218, v219⟩) Q))
        -∗ wp frame (wpE (defs₀ (F := F)) 𝒱₀ (c : Thread nD τ) none) Set.univ (k0_part6 (F := F) (Memref.whole cc0_stg0_0) h0 (Memref.whole main_v2) h1 (Memref.whole main_v3) h2 (Memref.whole cc0_stg1_0) h3 (Memref.whole cc0_scratch0) h4 (Memref.whole cc0_scratch1) h5 (Memref.whole cc0_scratch2) h6 (Memref.whole cc0_scratch3) h7 (Memref.whole cc0_scratch4) h8 cc0_scratch5 cc0_scratch6 cc0_scratch7 cc0_scratch8 cc0_scratch9 cc0_scratch10 c v5 (k0_pay6 (e₁ (F := F)) (kv m c 0) (qv m c 0)) (k0_pay7 (e₁ (F := F)) (e₂ (F := F)) (kv m c 0) (vv m c 0) (qv m c 0)) (k0_pay11 (e₁ (F := F)) (kv m c 1) (qv m c 1)) (k0_pay12 (e₁ (F := F)) (e₂ (F := F)) (kv m c 1) (vv m c 1) (qv m c 1)) >>= kk) Q) := by
  rw [wp_bind, k0_part6_eq_skeleton]
  unfold k0_part6_skel
  simp only [semSignalWord, semWaitWord, Prog.lift, Prog.bind_op, Prog.bind_ret, Prog.pure_eq_ret]
  iintro ⟨#Hk, WY1, WY2⟩ HK
  iapply (put_L m c rfl) $$ WY1
  iintro FY1
  iapply (put_O m c rfl) $$ WY2
  iintro FY2
  rw [wp_ret]
  imodintro
  iapply HK
  isplitl [FY1]; · iexact FY1
  iexact FY2

theorem part7 (m : (ℓ : Loc nD τ sig) → Buf (Elt F) ℓ) (κ : GSem nD τ sig → ℕ) (c : Dev nD) (v2 : BitVec 32) (v8 : BitVec 32) (v218 : BitVec 32) (v219 : BitVec 32)
    {h0 : (Memref.whole cc0_stg0_0 : Memref sig .tc .vmem S16x1x1024 .f32).IsWhole} {h1 : (Memref.whole main_v2 : Memref sig .tc .hbm S16x1024x1024 .f32).IsWhole} {h2 : (Memref.whole main_v3 : Memref sig .tc .hbm S16x1024x1024 .f32).IsWhole} {h3 : (Memref.whole cc0_stg1_0 : Memref sig .tc .vmem S8x2x1024 .f32).IsWhole} {h4 : (Memref.whole cc0_scratch0 : Memref sig .tc .vmem S2x1024x1024 .f32).IsWhole} {h5 : (Memref.whole cc0_scratch1 : Memref sig .tc .vmem S2x1024x1024 .f32).IsWhole} {h6 : (Memref.whole cc0_scratch2 : Memref sig .tc .vmem S4x2x16 .f32).IsWhole} {h7 : (Memref.whole cc0_scratch3 : Memref sig .tc .vmem S4x2x16 .f32).IsWhole} {h8 : (Memref.whole cc0_scratch4 : Memref sig .tc .vmem S4x2x1024 .f32).IsWhole} {α : Type} {Q : α → sProp 𝕄} {kk : (Σ' (v226 : BitVec 32) (v237 : BitVec 32) (v248 : BitVec 32) (v251 : BitVec 32) (v252 : BitVec 32) (v253 : BitVec 1) (v254 : BitVec 1), BitVec 1) → Prog (TpuEff nD τ sig (Elt F) Λ₀ .tc) α} :
    (iprop((∀ (v226 : BitVec 32) (v237 : BitVec 32) (v248 : BitVec 32) (v251 : BitVec 32) (v252 : BitVec 32) (v253 : BitVec 1) (v254 : BitVec 1) (v255 : BitVec 1), wp frame (wpE (defs₀ (F := F)) 𝒱₀ (c : Thread nD τ) none) Set.univ (kk ⟨v226, v237, v248, v251, v252, v253, v254, v255⟩) Q)) : sProp 𝕄)
      ⊢ iprop(wp frame (wpE (defs₀ (F := F)) 𝒱₀ (c : Thread nD τ) none) Set.univ (k0_part7 (F := F) (Memref.whole cc0_stg0_0) h0 (Memref.whole main_v2) h1 (Memref.whole main_v3) h2 (Memref.whole cc0_stg1_0) h3 (Memref.whole cc0_scratch0) h4 (Memref.whole cc0_scratch1) h5 (Memref.whole cc0_scratch2) h6 (Memref.whole cc0_scratch3) h7 (Memref.whole cc0_scratch4) h8 cc0_scratch5 cc0_scratch6 cc0_scratch7 cc0_scratch8 cc0_scratch9 cc0_scratch10 v2 v8 v218 v219 >>= kk) Q) := by
  rw [wp_bind, k0_part7_eq_skeleton]
  unfold k0_part7_skel
  simp only [semSignalWord, semWaitWord, Prog.lift, Prog.bind_op, Prog.bind_ret, Prog.pure_eq_ret]
  iintro HK
  rw [wp_ret]
  imodintro
  iapply HK

theorem part8 (m : (ℓ : Loc nD τ sig) → Buf (Elt F) ℓ) (κ : GSem nD τ sig → ℕ) (c : Dev nD) (v2 : BitVec 32) (v8 : BitVec 32) (v251 : BitVec 32) (v252 : BitVec 32) (v253 : BitVec 1) (v254 : BitVec 1) (v255 : BitVec 1)
    {h0 : (Memref.whole cc0_stg0_0 : Memref sig .tc .vmem S16x1x1024 .f32).IsWhole} {h1 : (Memref.whole main_v2 : Memref sig .tc .hbm S16x1024x1024 .f32).IsWhole} {h2 : (Memref.whole main_v3 : Memref sig .tc .hbm S16x1024x1024 .f32).IsWhole} {h3 : (Memref.whole cc0_stg1_0 : Memref sig .tc .vmem S8x2x1024 .f32).IsWhole} {h4 : (Memref.whole cc0_scratch0 : Memref sig .tc .vmem S2x1024x1024 .f32).IsWhole} {h5 : (Memref.whole cc0_scratch1 : Memref sig .tc .vmem S2x1024x1024 .f32).IsWhole} {h6 : (Memref.whole cc0_scratch2 : Memref sig .tc .vmem S4x2x16 .f32).IsWhole} {h7 : (Memref.whole cc0_scratch3 : Memref sig .tc .vmem S4x2x16 .f32).IsWhole} {h8 : (Memref.whole cc0_scratch4 : Memref sig .tc .vmem S4x2x1024 .f32).IsWhole} {α : Type} {Q : α → sProp 𝕄} {kk : (Σ' (v259 : BitVec 32) (v270 : BitVec 32) (v281 : BitVec 32) (v292 : BitVec 32), BitVec 32) → Prog (TpuEff nD τ sig (Elt F) Λ₀ .tc) α} :
    (iprop((∀ (v259 : BitVec 32) (v270 : BitVec 32) (v281 : BitVec 32) (v292 : BitVec 32) (v293 : BitVec 32), wp frame (wpE (defs₀ (F := F)) 𝒱₀ (c : Thread nD τ) none) Set.univ (kk ⟨v259, v270, v281, v292, v293⟩) Q)) : sProp 𝕄)
      ⊢ iprop(wp frame (wpE (defs₀ (F := F)) 𝒱₀ (c : Thread nD τ) none) Set.univ (k0_part8 (F := F) (Memref.whole cc0_stg0_0) h0 (Memref.whole main_v2) h1 (Memref.whole main_v3) h2 (Memref.whole cc0_stg1_0) h3 (Memref.whole cc0_scratch0) h4 (Memref.whole cc0_scratch1) h5 (Memref.whole cc0_scratch2) h6 (Memref.whole cc0_scratch3) h7 (Memref.whole cc0_scratch4) h8 cc0_scratch5 cc0_scratch6 cc0_scratch7 cc0_scratch8 cc0_scratch9 cc0_scratch10 v2 v8 v251 v252 v253 v254 v255 >>= kk) Q) := by
  rw [wp_bind, k0_part8_eq_skeleton]
  unfold k0_part8_skel
  simp only [semSignalWord, semWaitWord, Prog.lift, Prog.bind_op, Prog.bind_ret, Prog.pure_eq_ret]
  iintro HK
  rw [wp_ret]
  imodintro
  iapply HK

theorem part9 (m : (ℓ : Loc nD τ sig) → Buf (Elt F) ℓ) (κ : GSem nD τ sig → ℕ) (c : Dev nD) (v2 : BitVec 32) (v8 : BitVec 32) (v293 : BitVec 32)
    {h0 : (Memref.whole cc0_stg0_0 : Memref sig .tc .vmem S16x1x1024 .f32).IsWhole} {h1 : (Memref.whole main_v2 : Memref sig .tc .hbm S16x1024x1024 .f32).IsWhole} {h2 : (Memref.whole main_v3 : Memref sig .tc .hbm S16x1024x1024 .f32).IsWhole} {h3 : (Memref.whole cc0_stg1_0 : Memref sig .tc .vmem S8x2x1024 .f32).IsWhole} {h4 : (Memref.whole cc0_scratch0 : Memref sig .tc .vmem S2x1024x1024 .f32).IsWhole} {h5 : (Memref.whole cc0_scratch1 : Memref sig .tc .vmem S2x1024x1024 .f32).IsWhole} {h6 : (Memref.whole cc0_scratch2 : Memref sig .tc .vmem S4x2x16 .f32).IsWhole} {h7 : (Memref.whole cc0_scratch3 : Memref sig .tc .vmem S4x2x16 .f32).IsWhole} {h8 : (Memref.whole cc0_scratch4 : Memref sig .tc .vmem S4x2x1024 .f32).IsWhole} {α : Type} {Q : α → sProp 𝕄} {kk : (Σ' (v303 : BitVec 32) (v314 : BitVec 32) (v325 : BitVec 32) (v328 : BitVec 32), BitVec 32) → Prog (TpuEff nD τ sig (Elt F) Λ₀ .tc) α} :
    (iprop((∀ (v303 : BitVec 32) (v314 : BitVec 32) (v325 : BitVec 32) (v328 : BitVec 32) (v329 : BitVec 32), wp frame (wpE (defs₀ (F := F)) 𝒱₀ (c : Thread nD τ) none) Set.univ (kk ⟨v303, v314, v325, v328, v329⟩) Q)) : sProp 𝕄)
      ⊢ iprop(wp frame (wpE (defs₀ (F := F)) 𝒱₀ (c : Thread nD τ) none) Set.univ (k0_part9 (F := F) (Memref.whole cc0_stg0_0) h0 (Memref.whole main_v2) h1 (Memref.whole main_v3) h2 (Memref.whole cc0_stg1_0) h3 (Memref.whole cc0_scratch0) h4 (Memref.whole cc0_scratch1) h5 (Memref.whole cc0_scratch2) h6 (Memref.whole cc0_scratch3) h7 (Memref.whole cc0_scratch4) h8 cc0_scratch5 cc0_scratch6 cc0_scratch7 cc0_scratch8 cc0_scratch9 cc0_scratch10 v2 v8 v293 >>= kk) Q) := by
  rw [wp_bind, k0_part9_eq_skeleton]
  unfold k0_part9_skel
  simp only [semSignalWord, semWaitWord, Prog.lift, Prog.bind_op, Prog.bind_ret, Prog.pure_eq_ret]
  iintro HK
  rw [wp_ret]
  imodintro
  iapply HK

theorem part10 (m : (ℓ : Loc nD τ sig) → Buf (Elt F) ℓ) (κ : GSem nD τ sig → ℕ) (c : Dev nD) (v2 : BitVec 32) (v8 : BitVec 32) (v328 : BitVec 32) (v329 : BitVec 32)
    {h0 : (Memref.whole cc0_stg0_0 : Memref sig .tc .vmem S16x1x1024 .f32).IsWhole} {h1 : (Memref.whole main_v2 : Memref sig .tc .hbm S16x1024x1024 .f32).IsWhole} {h2 : (Memref.whole main_v3 : Memref sig .tc .hbm S16x1024x1024 .f32).IsWhole} {h3 : (Memref.whole cc0_stg1_0 : Memref sig .tc .vmem S8x2x1024 .f32).IsWhole} {h4 : (Memref.whole cc0_scratch0 : Memref sig .tc .vmem S2x1024x1024 .f32).IsWhole} {h5 : (Memref.whole cc0_scratch1 : Memref sig .tc .vmem S2x1024x1024 .f32).IsWhole} {h6 : (Memref.whole cc0_scratch2 : Memref sig .tc .vmem S4x2x16 .f32).IsWhole} {h7 : (Memref.whole cc0_scratch3 : Memref sig .tc .vmem S4x2x16 .f32).IsWhole} {h8 : (Memref.whole cc0_scratch4 : Memref sig .tc .vmem S4x2x1024 .f32).IsWhole} {α : Type} {Q : α → sProp 𝕄} {kk : (Σ' (v336 : BitVec 32) (v347 : BitVec 32) (v358 : BitVec 32) (v361 : BitVec 32) (v362 : BitVec 32) (v363 : BitVec 1) (v364 : BitVec 1), BitVec 1) → Prog (TpuEff nD τ sig (Elt F) Λ₀ .tc) α} :
    (iprop((∀ (v336 : BitVec 32) (v347 : BitVec 32) (v358 : BitVec 32) (v361 : BitVec 32) (v362 : BitVec 32) (v363 : BitVec 1) (v364 : BitVec 1) (v365 : BitVec 1), wp frame (wpE (defs₀ (F := F)) 𝒱₀ (c : Thread nD τ) none) Set.univ (kk ⟨v336, v347, v358, v361, v362, v363, v364, v365⟩) Q)) : sProp 𝕄)
      ⊢ iprop(wp frame (wpE (defs₀ (F := F)) 𝒱₀ (c : Thread nD τ) none) Set.univ (k0_part10 (F := F) (Memref.whole cc0_stg0_0) h0 (Memref.whole main_v2) h1 (Memref.whole main_v3) h2 (Memref.whole cc0_stg1_0) h3 (Memref.whole cc0_scratch0) h4 (Memref.whole cc0_scratch1) h5 (Memref.whole cc0_scratch2) h6 (Memref.whole cc0_scratch3) h7 (Memref.whole cc0_scratch4) h8 cc0_scratch5 cc0_scratch6 cc0_scratch7 cc0_scratch8 cc0_scratch9 cc0_scratch10 v2 v8 v328 v329 >>= kk) Q) := by
  rw [wp_bind, k0_part10_eq_skeleton]
  unfold k0_part10_skel
  simp only [semSignalWord, semWaitWord, Prog.lift, Prog.bind_op, Prog.bind_ret, Prog.pure_eq_ret]
  iintro HK
  rw [wp_ret]
  imodintro
  iapply HK

theorem part11 (m : (ℓ : Loc nD τ sig) → Buf (Elt F) ℓ) (κ : GSem nD τ sig → ℕ) (c : Dev nD) (v2 : BitVec 32) (v8 : BitVec 32) (v204 : BitVec 32) (v215 : BitVec 32) (v226 : BitVec 32) (v361 : BitVec 32) (v362 : BitVec 32) (v363 : BitVec 1) (v364 : BitVec 1) (v365 : BitVec 1)
    {h0 : (Memref.whole cc0_stg0_0 : Memref sig .tc .vmem S16x1x1024 .f32).IsWhole} {h1 : (Memref.whole main_v2 : Memref sig .tc .hbm S16x1024x1024 .f32).IsWhole} {h2 : (Memref.whole main_v3 : Memref sig .tc .hbm S16x1024x1024 .f32).IsWhole} {h3 : (Memref.whole cc0_stg1_0 : Memref sig .tc .vmem S8x2x1024 .f32).IsWhole} {h4 : (Memref.whole cc0_scratch0 : Memref sig .tc .vmem S2x1024x1024 .f32).IsWhole} {h5 : (Memref.whole cc0_scratch1 : Memref sig .tc .vmem S2x1024x1024 .f32).IsWhole} {h6 : (Memref.whole cc0_scratch2 : Memref sig .tc .vmem S4x2x16 .f32).IsWhole} {h7 : (Memref.whole cc0_scratch3 : Memref sig .tc .vmem S4x2x16 .f32).IsWhole} {h8 : (Memref.whole cc0_scratch4 : Memref sig .tc .vmem S4x2x1024 .f32).IsWhole} {α : Type} {Q : α → sProp 𝕄} {kk : (Σ' (v369 : BitVec 32) (v380 : BitVec 32), Sems sig S_) → Prog (TpuEff nD τ sig (Elt F) Λ₀ .tc) α} :
    (iprop(know m κ ∗ own c (OY c + oB 9 c + oB 8 c + oB 7 c + oB 6 c + oB 5 c + oB 4 c + oB 3 c + oB 2 c + oB 1 c + oB 0 c) ∗ barTok (F := F) c 0 ∗ barTok (F := F) c 1 ∗ barTok (F := F) c 2) : sProp 𝕄)
      ⊢ iprop((∀ (v369 : BitVec 32) (v380 : BitVec 32), ((own c (OY c + oB 9 c + oB 8 c + oB 7 c + oB 6 c + oB 5 c + oB 4 c + oB 3 c)) -∗ wp frame (wpE (defs₀ (F := F)) 𝒱₀ (c : Thread nD τ) none) Set.univ (kk ⟨v369, v380, (SemArray.scalar (sig.barrier 0 rfl))⟩) Q))
        -∗ wp frame (wpE (defs₀ (F := F)) 𝒱₀ (c : Thread nD τ) none) Set.univ (k0_part11 (F := F) (Memref.whole cc0_stg0_0) h0 (Memref.whole main_v2) h1 (Memref.whole main_v3) h2 (Memref.whole cc0_stg1_0) h3 (Memref.whole cc0_scratch0) h4 (Memref.whole cc0_scratch1) h5 (Memref.whole cc0_scratch2) h6 (Memref.whole cc0_scratch3) h7 (Memref.whole cc0_scratch4) h8 cc0_scratch5 cc0_scratch6 cc0_scratch7 cc0_scratch8 cc0_scratch9 cc0_scratch10 c v2 v8 v204 v215 v226 v361 v362 v363 v364 v365 >>= kk) Q) := by
  rw [wp_bind, k0_part11_eq_skeleton]
  unfold k0_part11_skel
  simp only [semSignalWord, semWaitWord, Prog.lift, Prog.bind_op, Prog.bind_ret, Prog.pure_eq_ret]
  iintro ⟨#Hk, HO, B0, B1, B2⟩ HK
  iapply (mv_signal m κ c _ 0 (dev1_eq c) (OY c + oB 9 c + oB 8 c + oB 7 c + oB 6 c + oB 5 c + oB 4 c + oB 3 c + oB 2 c + oB 1 c) rfl rfl) $$ [HO B0]
  · isplitr; · iexact Hk
    isplitl [HO]; · iexact HO
    iexact B0
  iintro HO
  iapply (mv_signal m κ c _ 1 (dev2_eq c) (OY c + oB 9 c + oB 8 c + oB 7 c + oB 6 c + oB 5 c + oB 4 c + oB 3 c + oB 2 c) rfl rfl) $$ [HO B1]
  · isplitr; · iexact Hk
    isplitl [HO]; · iexact HO
    iexact B1
  iintro HO
  iapply (mv_signal m κ c _ 2 (dev3_eq c) (OY c + oB 9 c + oB 8 c + oB 7 c + oB 6 c + oB 5 c + oB 4 c + oB 3 c) rfl rfl) $$ [HO B2]
  · isplitr; · iexact Hk
    isplitl [HO]; · iexact HO
    iexact B2
  iintro HO
  rw [wp_ret]
  imodintro
  iapply HK
  iexact HO

theorem part12 (m : (ℓ : Loc nD τ sig) → Buf (Elt F) ℓ) (κ : GSem nD τ sig → ℕ) (c : Dev nD) (v5 : BitVec 32) (v237 : BitVec 32) (v248 : BitVec 32) (v259 : BitVec 32) (v270 : BitVec 32) (v281 : BitVec 32) (v292 : BitVec 32) (v303 : BitVec 32) (v314 : BitVec 32) (v325 : BitVec 32) (v336 : BitVec 32)
    {h0 : (Memref.whole cc0_stg0_0 : Memref sig .tc .vmem S16x1x1024 .f32).IsWhole} {h1 : (Memref.whole main_v2 : Memref sig .tc .hbm S16x1024x1024 .f32).IsWhole} {h2 : (Memref.whole main_v3 : Memref sig .tc .hbm S16x1024x1024 .f32).IsWhole} {h3 : (Memref.whole cc0_stg1_0 : Memref sig .tc .vmem S8x2x1024 .f32).IsWhole} {h4 : (Memref.whole cc0_scratch0 : Memref sig .tc .vmem S2x1024x1024 .f32).IsWhole} {h5 : (Memref.whole cc0_scratch1 : Memref sig .tc .vmem S2x1024x1024 .f32).IsWhole} {h6 : (Memref.whole cc0_scratch2 : Memref sig .tc .vmem S4x2x16 .f32).IsWhole} {h7 : (Memref.whole cc0_scratch3 : Memref sig .tc .vmem S4x2x16 .f32).IsWhole} {h8 : (Memref.whole cc0_scratch4 : Memref sig .tc .vmem S4x2x1024 .f32).IsWhole} {α : Type} {Q : α → sProp 𝕄} {kk : (PUnit) → Prog (TpuEff nD τ sig (Elt F) Λ₀ .tc) α} :
    (iprop(know m κ ∗ own c (OY c + oB 9 c + oB 8 c + oB 7 c + oB 6 c + oB 5 c + oB 4 c + oB 3 c) ∗ barTok (F := F) c 3 ∗ barTok (F := F) c 4 ∗ barTok (F := F) c 5 ∗ barTok (F := F) c 6 ∗ barTok (F := F) c 7) : sProp 𝕄)
      ⊢ iprop((((own c (OY c + oB 9 c + oB 8 c)) -∗ wp frame (wpE (defs₀ (F := F)) 𝒱₀ (c : Thread nD τ) none) Set.univ (kk ⟨⟩) Q))
        -∗ wp frame (wpE (defs₀ (F := F)) 𝒱₀ (c : Thread nD τ) none) Set.univ (k0_part12 (F := F) (Memref.whole cc0_stg0_0) h0 (Memref.whole main_v2) h1 (Memref.whole main_v3) h2 (Memref.whole cc0_stg1_0) h3 (Memref.whole cc0_scratch0) h4 (Memref.whole cc0_scratch1) h5 (Memref.whole cc0_scratch2) h6 (Memref.whole cc0_scratch3) h7 (Memref.whole cc0_scratch4) h8 cc0_scratch5 cc0_scratch6 cc0_scratch7 cc0_scratch8 cc0_scratch9 cc0_scratch10 c v5 v237 v248 v259 v270 v281 v292 v303 v314 v325 v336 (SemArray.scalar (sig.barrier 0 rfl)) >>= kk) Q) := by
  rw [wp_bind, k0_part12_eq_skeleton]
  unfold k0_part12_skel
  simp only [semSignalWord, semWaitWord, Prog.lift, Prog.bind_op, Prog.bind_ret, Prog.pure_eq_ret]
  iintro ⟨#Hk, HO, B3, B4, B5, B6, B7⟩ HK
  iapply (mv_signal m κ c _ 3 (dev4_eq c) (OY c + oB 9 c + oB 8 c + oB 7 c + oB 6 c + oB 5 c + oB 4 c) rfl rfl) $$ [HO B3]
  · isplitr; · iexact Hk
    isplitl [HO]; · iexact HO
    iexact B3
  iintro HO
  iapply (mv_signal m κ c _ 4 (dev5_eq c) (OY c + oB 9 c + oB 8 c + oB 7 c + oB 6 c + oB 5 c) rfl rfl) $$ [HO B4]
  · isplitr; · iexact Hk
    isplitl [HO]; · iexact HO
    iexact B4
  iintro HO
  iapply (mv_signal m κ c _ 5 (dev6_eq c) (OY c + oB 9 c + oB 8 c + oB 7 c + oB 6 c) rfl rfl) $$ [HO B5]
  · isplitr; · iexact Hk
    isplitl [HO]; · iexact HO
    iexact B5
  iintro HO
  iapply (mv_signal m κ c _ 6 (dev7_eq c) (OY c + oB 9 c + oB 8 c + oB 7 c) rfl rfl) $$ [HO B6]
  · isplitr; · iexact Hk
    isplitl [HO]; · iexact HO
    iexact B6
  iintro HO
  iapply (mv_signal m κ c _ 7 (dev8_eq c) (OY c + oB 9 c + oB 8 c) rfl rfl) $$ [HO B7]
  · isplitr; · iexact Hk
    isplitl [HO]; · iexact HO
    iexact B7
  iintro HO
  rw [wp_ret]
  imodintro
  iapply HK
  iexact HO

end Cert.Decode

end
-- ==== Proof.PartsB.lean ====
/-
# The body, part by part: the exchange along the line

What parts 13 to 23 take and give: the line's partials sent, awaited and combined.
-/
module

public import proofs.«01_k».proof.Proof.PartsA
public import proofs.«01_k».proof.Proof.Sems

@[expose] public section

set_option maxRecDepth 16384

noncomputable section

namespace Cert.Decode

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3 eq_ix3)
open Idealize.ShloMosaic.ShareLeaves (leaf)

variable {F : FTy → Type} [FloatOps F]

local notation "𝕄" => MT nD τ sig Unit (Elt F) ℕ UU ℕ

theorem part13 (m : (ℓ : Loc nD τ sig) → Buf (Elt F) ℓ) (κ : GSem nD τ sig → ℕ) (c : Dev nD) (v2 : BitVec 32) (v5 : BitVec 32) (v8 : BitVec 32) (v204 : BitVec 32) (v347 : BitVec 32) (v358 : BitVec 32) (v369 : BitVec 32) (v380 : BitVec 32)
    {h0 : (Memref.whole cc0_stg0_0 : Memref sig .tc .vmem S16x1x1024 .f32).IsWhole} {h1 : (Memref.whole main_v2 : Memref sig .tc .hbm S16x1024x1024 .f32).IsWhole} {h2 : (Memref.whole main_v3 : Memref sig .tc .hbm S16x1024x1024 .f32).IsWhole} {h3 : (Memref.whole cc0_stg1_0 : Memref sig .tc .vmem S8x2x1024 .f32).IsWhole} {h4 : (Memref.whole cc0_scratch0 : Memref sig .tc .vmem S2x1024x1024 .f32).IsWhole} {h5 : (Memref.whole cc0_scratch1 : Memref sig .tc .vmem S2x1024x1024 .f32).IsWhole} {h6 : (Memref.whole cc0_scratch2 : Memref sig .tc .vmem S4x2x16 .f32).IsWhole} {h7 : (Memref.whole cc0_scratch3 : Memref sig .tc .vmem S4x2x16 .f32).IsWhole} {h8 : (Memref.whole cc0_scratch4 : Memref sig .tc .vmem S4x2x1024 .f32).IsWhole} {α : Type} {Q : α → sProp 𝕄} {kk : (Σ' (v457 : BitVec 32), BitVec 32) → Prog (TpuEff nD τ sig (Elt F) Λ₀ .tc) α} :
    (iprop(know m κ ∗ own c (OY c + oB 9 c + oB 8 c) ∗ barTok (F := F) c 8 ∗ barTok (F := F) c 9 ∗ cred (tallyAt (barCell c) () 10) ∗ atPos ER (barCell c) 0 ∅ 0 ∗ yPts m c (yp c) (leaf 2 fullShare (Fin.castLE (by decide) (0 : Fin 3))) 0 ∗ yTok c 0 0) : sProp 𝕄)
      ⊢ iprop((∀ (v457 : BitVec 32) (c4_i32_285 : BitVec 32), ((own c (OX c + oY (pk 2) 2 c + oY (pk 2) 1 c + oY (pk 2) 0 c + oY (pk 1) 2 c + oY (pk 1) 1 c + oY (pk 1) 0 c + oY (pk 0) 2 c + oY (pk 0) 1 c) ∗ semVal (barCell c) 0 ∗ yDst (F := F) c 0 1 ∗ yDst (F := F) c 0 2 ∗ yDst (F := F) c 1 0 ∗ yDst (F := F) c 1 1 ∗ yDst (F := F) c 1 2 ∗ yDst (F := F) c 2 0 ∗ yDst (F := F) c 2 1 ∗ yDst (F := F) c 2 2 ∗ xDst (F := F) c 0 ∗ xDst (F := F) c 1 ∗ xDst (F := F) c 2 ∗ xDst (F := F) c 3 ∗ xDst (F := F) c 4 ∗ xDst (F := F) c 5 ∗ xDst (F := F) c 6 ∗ cred (tallyAt (cell c (uYs 0 0)) () (amt (uYs 0 0)))) -∗ wp frame (wpE (defs₀ (F := F)) 𝒱₀ (c : Thread nD τ) none) Set.univ (kk ⟨v457, c4_i32_285⟩) Q))
        -∗ wp frame (wpE (defs₀ (F := F)) 𝒱₀ (c : Thread nD τ) none) Set.univ (k0_part13 (F := F) (Memref.whole cc0_stg0_0) h0 (Memref.whole main_v2) h1 (Memref.whole main_v3) h2 (Memref.whole cc0_stg1_0) h3 (Memref.whole cc0_scratch0) h4 (Memref.whole cc0_scratch1) h5 (Memref.whole cc0_scratch2) h6 (Memref.whole cc0_scratch3) h7 (Memref.whole cc0_scratch4) h8 cc0_scratch5 cc0_scratch6 cc0_scratch7 cc0_scratch8 cc0_scratch9 cc0_scratch10 c v2 v5 v8 v204 v347 v358 v369 v380 (SemArray.scalar (sig.barrier 0 rfl)) >>= kk) Q) := by
  rw [wp_bind, k0_part13_eq_skeleton]
  unfold k0_part13_skel
  simp only [semSignalWord, semWaitWord, Prog.lift, Prog.bind_op, Prog.bind_ret, Prog.pure_eq_ret]
  iintro ⟨#Hk, HO, B8, B9, CB, PB, SY00, TY00⟩ HK
  iapply (mv_signal m κ c _ 8 (dev9_eq c) (OY c + oB 9 c) rfl rfl) $$ [HO B8]
  · isplitr; · iexact Hk
    isplitl [HO]; · iexact HO
    iexact B8
  iintro HO
  iapply (mv_signal m κ c _ 9 (dev10_eq c) (OY c) rfl rfl) $$ [HO B9]
  · isplitr; · iexact Hk
    isplitl [HO]; · iexact HO
    iexact B9
  iintro HO
  iapply (mv_barwait m κ c (above_OY c) rfl rfl) $$ [HO CB PB]
  · isplitr; · iexact Hk
    isplitl [HO]; · iexact HO
    isplitl [CB]; · iexact CB
    iexact PB
  iintro ⟨HO, ZB, ⟨⟨DY00, DY01, DY02⟩, ⟨DY10, DY11, DY12⟩, ⟨DY20, DY21, DY22⟩⟩, DX0, DX1, DX2, DX3, DX4, DX5, DX6⟩
  ihave HO := (Entails.of_eq (own_OY c)) $$ HO
  iapply (mv_ysend0 m κ c _ 0 (dev11_eq c) (OX c + oY (pk 2) 2 c + oY (pk 2) 1 c + oY (pk 2) 0 c + oY (pk 1) 2 c + oY (pk 1) 1 c + oY (pk 1) 0 c + oY (pk 0) 2 c + oY (pk 0) 1 c) semYs_0_0 (semYr_0 c)) $$ [HO SY00 TY00 DY00]
  · isplitr; · iexact Hk
    isplitl [HO]; · iexact HO
    isplitl [SY00]; · iexact SY00
    isplitl [TY00]; · iexact TY00
    iexact DY00
  iintro ⟨CYs00, HO⟩
  rw [wp_ret]
  imodintro
  iapply HK
  isplitl [HO]; · iexact HO
  isplitl [ZB]; · iexact ZB
  isplitl [DY01]; · iexact DY01
  isplitl [DY02]; · iexact DY02
  isplitl [DY10]; · iexact DY10
  isplitl [DY11]; · iexact DY11
  isplitl [DY12]; · iexact DY12
  isplitl [DY20]; · iexact DY20
  isplitl [DY21]; · iexact DY21
  isplitl [DY22]; · iexact DY22
  isplitl [DX0]; · iexact DX0
  isplitl [DX1]; · iexact DX1
  isplitl [DX2]; · iexact DX2
  isplitl [DX3]; · iexact DX3
  isplitl [DX4]; · iexact DX4
  isplitl [DX5]; · iexact DX5
  isplitl [DX6]; · iexact DX6
  iexact CYs00

theorem part14 (m : (ℓ : Loc nD τ sig) → Buf (Elt F) ℓ) (κ : GSem nD τ sig → ℕ) (c : Dev nD) (v2 : BitVec 32) (v8 : BitVec 32) (v204 : BitVec 32) (v215 : BitVec 32) (v457 : BitVec 32) (c4_i32_285 : BitVec 32)
    {h0 : (Memref.whole cc0_stg0_0 : Memref sig .tc .vmem S16x1x1024 .f32).IsWhole} {h1 : (Memref.whole main_v2 : Memref sig .tc .hbm S16x1024x1024 .f32).IsWhole} {h2 : (Memref.whole main_v3 : Memref sig .tc .hbm S16x1024x1024 .f32).IsWhole} {h3 : (Memref.whole cc0_stg1_0 : Memref sig .tc .vmem S8x2x1024 .f32).IsWhole} {h4 : (Memref.whole cc0_scratch0 : Memref sig .tc .vmem S2x1024x1024 .f32).IsWhole} {h5 : (Memref.whole cc0_scratch1 : Memref sig .tc .vmem S2x1024x1024 .f32).IsWhole} {h6 : (Memref.whole cc0_scratch2 : Memref sig .tc .vmem S4x2x16 .f32).IsWhole} {h7 : (Memref.whole cc0_scratch3 : Memref sig .tc .vmem S4x2x16 .f32).IsWhole} {h8 : (Memref.whole cc0_scratch4 : Memref sig .tc .vmem S4x2x1024 .f32).IsWhole} {α : Type} {Q : α → sProp 𝕄} {kk : (PUnit) → Prog (TpuEff nD τ sig (Elt F) Λ₀ .tc) α} :
    (iprop(know m κ ∗ own c (OX c + oY (pk 2) 2 c + oY (pk 2) 1 c + oY (pk 2) 0 c + oY (pk 1) 2 c + oY (pk 1) 1 c + oY (pk 1) 0 c + oY (pk 0) 2 c + oY (pk 0) 1 c) ∗ yPts m c (yp c) (leaf 2 fullShare (Fin.castLE (by decide) (0 : Fin 3))) 1 ∗ yTok c 0 1 ∗ yDst (F := F) c 0 1 ∗ yPts m c (yp c) (leaf 2 fullShare (Fin.castLE (by decide) (0 : Fin 3))) 2 ∗ yTok c 0 2 ∗ yDst (F := F) c 0 2) : sProp 𝕄)
      ⊢ iprop((((own c (OX c + oY (pk 2) 2 c + oY (pk 2) 1 c + oY (pk 2) 0 c + oY (pk 1) 2 c + oY (pk 1) 1 c + oY (pk 1) 0 c) ∗ cred (tallyAt (cell c (uYs 0 1)) () (amt (uYs 0 1))) ∗ cred (tallyAt (cell c (uYs 0 2)) () (amt (uYs 0 2)))) -∗ wp frame (wpE (defs₀ (F := F)) 𝒱₀ (c : Thread nD τ) none) Set.univ (kk ⟨⟩) Q))
        -∗ wp frame (wpE (defs₀ (F := F)) 𝒱₀ (c : Thread nD τ) none) Set.univ (k0_part14 (F := F) (Memref.whole cc0_stg0_0) h0 (Memref.whole main_v2) h1 (Memref.whole main_v3) h2 (Memref.whole cc0_stg1_0) h3 (Memref.whole cc0_scratch0) h4 (Memref.whole cc0_scratch1) h5 (Memref.whole cc0_scratch2) h6 (Memref.whole cc0_scratch3) h7 (Memref.whole cc0_scratch4) h8 cc0_scratch5 cc0_scratch6 cc0_scratch7 cc0_scratch8 cc0_scratch9 cc0_scratch10 c v2 v8 v204 v215 v457 c4_i32_285 >>= kk) Q) := by
  rw [wp_bind, k0_part14_eq_skeleton]
  unfold k0_part14_skel
  simp only [semSignalWord, semWaitWord, Prog.lift, Prog.bind_op, Prog.bind_ret, Prog.pure_eq_ret]
  iintro ⟨#Hk, HO, SY01, TY01, DY01, SY02, TY02, DY02⟩ HK
  iapply (mv_ysend1 m κ c _ 0 (dev12_eq c) (OX c + oY (pk 2) 2 c + oY (pk 2) 1 c + oY (pk 2) 0 c + oY (pk 1) 2 c + oY (pk 1) 1 c + oY (pk 1) 0 c + oY (pk 0) 2 c) semYs_0_1 (semYr_1 c)) $$ [HO SY01 TY01 DY01]
  · isplitr; · iexact Hk
    isplitl [HO]; · iexact HO
    isplitl [SY01]; · iexact SY01
    isplitl [TY01]; · iexact TY01
    iexact DY01
  iintro ⟨CYs01, HO⟩
  iapply (mv_ysend2 m κ c _ 0 (dev13_eq c) (OX c + oY (pk 2) 2 c + oY (pk 2) 1 c + oY (pk 2) 0 c + oY (pk 1) 2 c + oY (pk 1) 1 c + oY (pk 1) 0 c) semYs_0_2 (semYr_2 c)) $$ [HO SY02 TY02 DY02]
  · isplitr; · iexact Hk
    isplitl [HO]; · iexact HO
    isplitl [SY02]; · iexact SY02
    isplitl [TY02]; · iexact TY02
    iexact DY02
  iintro ⟨CYs02, HO⟩
  rw [wp_ret]
  imodintro
  iapply HK
  isplitl [HO]; · iexact HO
  isplitl [CYs01]; · iexact CYs01
  iexact CYs02

theorem part15 (m : (ℓ : Loc nD τ sig) → Buf (Elt F) ℓ) (κ : GSem nD τ sig → ℕ) (c : Dev nD) (v2 : BitVec 32) (v8 : BitVec 32) (v215 : BitVec 32)
    {h0 : (Memref.whole cc0_stg0_0 : Memref sig .tc .vmem S16x1x1024 .f32).IsWhole} {h1 : (Memref.whole main_v2 : Memref sig .tc .hbm S16x1024x1024 .f32).IsWhole} {h2 : (Memref.whole main_v3 : Memref sig .tc .hbm S16x1024x1024 .f32).IsWhole} {h3 : (Memref.whole cc0_stg1_0 : Memref sig .tc .vmem S8x2x1024 .f32).IsWhole} {h4 : (Memref.whole cc0_scratch0 : Memref sig .tc .vmem S2x1024x1024 .f32).IsWhole} {h5 : (Memref.whole cc0_scratch1 : Memref sig .tc .vmem S2x1024x1024 .f32).IsWhole} {h6 : (Memref.whole cc0_scratch2 : Memref sig .tc .vmem S4x2x16 .f32).IsWhole} {h7 : (Memref.whole cc0_scratch3 : Memref sig .tc .vmem S4x2x16 .f32).IsWhole} {h8 : (Memref.whole cc0_scratch4 : Memref sig .tc .vmem S4x2x1024 .f32).IsWhole} {α : Type} {Q : α → sProp 𝕄} {kk : (PUnit) → Prog (TpuEff nD τ sig (Elt F) Λ₀ .tc) α} :
    (iprop(know m κ ∗ own c (OX c + oY (pk 2) 2 c + oY (pk 2) 1 c + oY (pk 2) 0 c + oY (pk 1) 2 c + oY (pk 1) 1 c + oY (pk 1) 0 c) ∗ yPts m c (yp c) (leaf 2 fullShare (Fin.castLE (by decide) (1 : Fin 3))) 0 ∗ yTok c 1 0 ∗ yDst (F := F) c 1 0 ∗ yPts m c (yp c) (leaf 2 fullShare (Fin.castLE (by decide) (1 : Fin 3))) 1 ∗ yTok c 1 1 ∗ yDst (F := F) c 1 1) : sProp 𝕄)
      ⊢ iprop((((own c (OX c + oY (pk 2) 2 c + oY (pk 2) 1 c + oY (pk 2) 0 c + oY (pk 1) 2 c) ∗ cred (tallyAt (cell c (uYs 1 0)) () (amt (uYs 1 0))) ∗ cred (tallyAt (cell c (uYs 1 1)) () (amt (uYs 1 1)))) -∗ wp frame (wpE (defs₀ (F := F)) 𝒱₀ (c : Thread nD τ) none) Set.univ (kk ⟨⟩) Q))
        -∗ wp frame (wpE (defs₀ (F := F)) 𝒱₀ (c : Thread nD τ) none) Set.univ (k0_part15 (F := F) (Memref.whole cc0_stg0_0) h0 (Memref.whole main_v2) h1 (Memref.whole main_v3) h2 (Memref.whole cc0_stg1_0) h3 (Memref.whole cc0_scratch0) h4 (Memref.whole cc0_scratch1) h5 (Memref.whole cc0_scratch2) h6 (Memref.whole cc0_scratch3) h7 (Memref.whole cc0_scratch4) h8 cc0_scratch5 cc0_scratch6 cc0_scratch7 cc0_scratch8 cc0_scratch9 cc0_scratch10 c v2 v8 v215 >>= kk) Q) := by
  rw [wp_bind, k0_part15_eq_skeleton]
  unfold k0_part15_skel
  simp only [semSignalWord, semWaitWord, Prog.lift, Prog.bind_op, Prog.bind_ret, Prog.pure_eq_ret]
  iintro ⟨#Hk, HO, SY10, TY10, DY10, SY11, TY11, DY11⟩ HK
  iapply (mv_ysend0 m κ c _ 1 (dev14_eq c) (OX c + oY (pk 2) 2 c + oY (pk 2) 1 c + oY (pk 2) 0 c + oY (pk 1) 2 c + oY (pk 1) 1 c) semYs_1_0 (semYr_0 c)) $$ [HO SY10 TY10 DY10]
  · isplitr; · iexact Hk
    isplitl [HO]; · iexact HO
    isplitl [SY10]; · iexact SY10
    isplitl [TY10]; · iexact TY10
    iexact DY10
  iintro ⟨CYs10, HO⟩
  iapply (mv_ysend1 m κ c _ 1 (dev15_eq c) (OX c + oY (pk 2) 2 c + oY (pk 2) 1 c + oY (pk 2) 0 c + oY (pk 1) 2 c) semYs_1_1 (semYr_1 c)) $$ [HO SY11 TY11 DY11]
  · isplitr; · iexact Hk
    isplitl [HO]; · iexact HO
    isplitl [SY11]; · iexact SY11
    isplitl [TY11]; · iexact TY11
    iexact DY11
  iintro ⟨CYs11, HO⟩
  rw [wp_ret]
  imodintro
  iapply HK
  isplitl [HO]; · iexact HO
  isplitl [CYs10]; · iexact CYs10
  iexact CYs11

theorem part16 (m : (ℓ : Loc nD τ sig) → Buf (Elt F) ℓ) (κ : GSem nD τ sig → ℕ) (c : Dev nD) (v2 : BitVec 32) (v8 : BitVec 32) (v226 : BitVec 32)
    {h0 : (Memref.whole cc0_stg0_0 : Memref sig .tc .vmem S16x1x1024 .f32).IsWhole} {h1 : (Memref.whole main_v2 : Memref sig .tc .hbm S16x1024x1024 .f32).IsWhole} {h2 : (Memref.whole main_v3 : Memref sig .tc .hbm S16x1024x1024 .f32).IsWhole} {h3 : (Memref.whole cc0_stg1_0 : Memref sig .tc .vmem S8x2x1024 .f32).IsWhole} {h4 : (Memref.whole cc0_scratch0 : Memref sig .tc .vmem S2x1024x1024 .f32).IsWhole} {h5 : (Memref.whole cc0_scratch1 : Memref sig .tc .vmem S2x1024x1024 .f32).IsWhole} {h6 : (Memref.whole cc0_scratch2 : Memref sig .tc .vmem S4x2x16 .f32).IsWhole} {h7 : (Memref.whole cc0_scratch3 : Memref sig .tc .vmem S4x2x16 .f32).IsWhole} {h8 : (Memref.whole cc0_scratch4 : Memref sig .tc .vmem S4x2x1024 .f32).IsWhole} {α : Type} {Q : α → sProp 𝕄} {kk : (Σ' (v554 : BitVec 32), BitVec 32) → Prog (TpuEff nD τ sig (Elt F) Λ₀ .tc) α} :
    (iprop(know m κ ∗ own c (OX c + oY (pk 2) 2 c + oY (pk 2) 1 c + oY (pk 2) 0 c + oY (pk 1) 2 c) ∗ yPts m c (yp c) (leaf 2 fullShare (Fin.castLE (by decide) (1 : Fin 3))) 2 ∗ yTok c 1 2 ∗ yDst (F := F) c 1 2 ∗ yPts m c (yp c) (leaf 2 fullShare (Fin.castLE (by decide) (2 : Fin 3))) 0 ∗ yTok c 2 0 ∗ yDst (F := F) c 2 0 ∗ yPts m c (yp c) (leaf 2 fullShare (Fin.castLE (by decide) (2 : Fin 3))) 1 ∗ yTok c 2 1 ∗ yDst (F := F) c 2 1) : sProp 𝕄)
      ⊢ iprop((∀ (v554 : BitVec 32) (c0_i32_361 : BitVec 32), ((own c (OX c + oY (pk 2) 2 c) ∗ cred (tallyAt (cell c (uYs 1 2)) () (amt (uYs 1 2))) ∗ cred (tallyAt (cell c (uYs 2 0)) () (amt (uYs 2 0))) ∗ cred (tallyAt (cell c (uYs 2 1)) () (amt (uYs 2 1)))) -∗ wp frame (wpE (defs₀ (F := F)) 𝒱₀ (c : Thread nD τ) none) Set.univ (kk ⟨v554, c0_i32_361⟩) Q))
        -∗ wp frame (wpE (defs₀ (F := F)) 𝒱₀ (c : Thread nD τ) none) Set.univ (k0_part16 (F := F) (Memref.whole cc0_stg0_0) h0 (Memref.whole main_v2) h1 (Memref.whole main_v3) h2 (Memref.whole cc0_stg1_0) h3 (Memref.whole cc0_scratch0) h4 (Memref.whole cc0_scratch1) h5 (Memref.whole cc0_scratch2) h6 (Memref.whole cc0_scratch3) h7 (Memref.whole cc0_scratch4) h8 cc0_scratch5 cc0_scratch6 cc0_scratch7 cc0_scratch8 cc0_scratch9 cc0_scratch10 c v2 v8 v226 >>= kk) Q) := by
  rw [wp_bind, k0_part16_eq_skeleton]
  unfold k0_part16_skel
  simp only [semSignalWord, semWaitWord, Prog.lift, Prog.bind_op, Prog.bind_ret, Prog.pure_eq_ret]
  iintro ⟨#Hk, HO, SY12, TY12, DY12, SY20, TY20, DY20, SY21, TY21, DY21⟩ HK
  iapply (mv_ysend2 m κ c _ 1 (dev16_eq c) (OX c + oY (pk 2) 2 c + oY (pk 2) 1 c + oY (pk 2) 0 c) semYs_1_2 (semYr_2 c)) $$ [HO SY12 TY12 DY12]
  · isplitr; · iexact Hk
    isplitl [HO]; · iexact HO
    isplitl [SY12]; · iexact SY12
    isplitl [TY12]; · iexact TY12
    iexact DY12
  iintro ⟨CYs12, HO⟩
  iapply (mv_ysend0 m κ c _ 2 (dev17_eq c) (OX c + oY (pk 2) 2 c + oY (pk 2) 1 c) semYs_2_0 (semYr_0 c)) $$ [HO SY20 TY20 DY20]
  · isplitr; · iexact Hk
    isplitl [HO]; · iexact HO
    isplitl [SY20]; · iexact SY20
    isplitl [TY20]; · iexact TY20
    iexact DY20
  iintro ⟨CYs20, HO⟩
  iapply (mv_ysend1 m κ c _ 2 (dev18_eq c) (OX c + oY (pk 2) 2 c) semYs_2_1 (semYr_1 c)) $$ [HO SY21 TY21 DY21]
  · isplitr; · iexact Hk
    isplitl [HO]; · iexact HO
    isplitl [SY21]; · iexact SY21
    isplitl [TY21]; · iexact TY21
    iexact DY21
  iintro ⟨CYs21, HO⟩
  rw [wp_ret]
  imodintro
  iapply HK
  isplitl [HO]; · iexact HO
  isplitl [CYs12]; · iexact CYs12
  isplitl [CYs20]; · iexact CYs20
  iexact CYs21

theorem part17 (m : (ℓ : Loc nD τ sig) → Buf (Elt F) ℓ) (κ : GSem nD τ sig → ℕ) (c : Dev nD) (v2 : BitVec 32) (v5 : BitVec 32) (v8 : BitVec 32) (v226 : BitVec 32) (v554 : BitVec 32) (c0_i32_361 : BitVec 32)
    {h0 : (Memref.whole cc0_stg0_0 : Memref sig .tc .vmem S16x1x1024 .f32).IsWhole} {h1 : (Memref.whole main_v2 : Memref sig .tc .hbm S16x1024x1024 .f32).IsWhole} {h2 : (Memref.whole main_v3 : Memref sig .tc .hbm S16x1024x1024 .f32).IsWhole} {h3 : (Memref.whole cc0_stg1_0 : Memref sig .tc .vmem S8x2x1024 .f32).IsWhole} {h4 : (Memref.whole cc0_scratch0 : Memref sig .tc .vmem S2x1024x1024 .f32).IsWhole} {h5 : (Memref.whole cc0_scratch1 : Memref sig .tc .vmem S2x1024x1024 .f32).IsWhole} {h6 : (Memref.whole cc0_scratch2 : Memref sig .tc .vmem S4x2x16 .f32).IsWhole} {h7 : (Memref.whole cc0_scratch3 : Memref sig .tc .vmem S4x2x16 .f32).IsWhole} {h8 : (Memref.whole cc0_scratch4 : Memref sig .tc .vmem S4x2x1024 .f32).IsWhole} {α : Type} {Q : α → sProp 𝕄} {kk : (PUnit) → Prog (TpuEff nD τ sig (Elt F) Λ₀ .tc) α} :
    (iprop(know m κ ∗ own c (OX c + oY (pk 2) 2 c) ∗ yPts m c (yp c) (leaf 2 fullShare (Fin.castLE (by decide) (2 : Fin 3))) 2 ∗ yTok c 2 2 ∗ yDst (F := F) c 2 2 ∗ cred (tallyAt (cell c (uYr (yp (pr 0 c)) 0)) () (amt (uYr (yp (pr 0 c)) 0))) ∗ pend c (uYr (yp (pr 0 c)) 0)) : sProp 𝕄)
      ⊢ iprop((((own c (OX c) ∗ cred (tallyAt (cell c (uYs 2 2)) () (amt (uYs 2 2))) ∗ semVal (cell c (uYr (yp (pr 0 c)) 0)) 0 ∗ usePay m c (uYr (yp (pr 0 c)) 0)) -∗ wp frame (wpE (defs₀ (F := F)) 𝒱₀ (c : Thread nD τ) none) Set.univ (kk ⟨⟩) Q))
        -∗ wp frame (wpE (defs₀ (F := F)) 𝒱₀ (c : Thread nD τ) none) Set.univ (k0_part17 (F := F) (Memref.whole cc0_stg0_0) h0 (Memref.whole main_v2) h1 (Memref.whole main_v3) h2 (Memref.whole cc0_stg1_0) h3 (Memref.whole cc0_scratch0) h4 (Memref.whole cc0_scratch1) h5 (Memref.whole cc0_scratch2) h6 (Memref.whole cc0_scratch3) h7 (Memref.whole cc0_scratch4) h8 cc0_scratch5 cc0_scratch6 cc0_scratch7 cc0_scratch8 cc0_scratch9 cc0_scratch10 c v2 v5 v8 v226 v554 c0_i32_361 >>= kk) Q) := by
  rw [wp_bind, k0_part17_eq_skeleton]
  unfold k0_part17_skel
  simp only [semSignalWord, semWaitWord, Prog.lift, Prog.bind_op, Prog.bind_ret, Prog.pure_eq_ret]
  iintro ⟨#Hk, HO, SY22, TY22, DY22, CYr00, PYr00⟩ HK
  iapply (mv_ysend2 m κ c _ 2 (dev19_eq c) (OX c) semYs_2_2 (semYr_2 c)) $$ [HO SY22 TY22 DY22]
  · isplitr; · iexact Hk
    isplitl [HO]; · iexact HO
    isplitl [SY22]; · iexact SY22
    isplitl [TY22]; · iexact TY22
    iexact DY22
  iintro ⟨CYs22, HO⟩
  iapply (mv_wait m κ c (uYr (yp (pr 0 c)) 0) (beq_eq_false_iff_ne.mpr (yp_pr_ne 0 (by decide) c)) rfl (above_OX c) (semYp_0_0 c) (credit_yr0 _ _ _)) $$ [HO CYr00 PYr00]
  · isplitr; · iexact Hk
    isplitl [HO]; · iexact HO
    isplitl [CYr00]; · iexact CYr00
    iexact PYr00
  iintro ⟨HO, ZYr00, UYr00⟩
  rw [wp_ret]
  imodintro
  iapply HK
  isplitl [HO]; · iexact HO
  isplitl [CYs22]; · iexact CYs22
  isplitl [ZYr00]; · iexact ZYr00
  iexact UYr00

theorem part18 (m : (ℓ : Loc nD τ sig) → Buf (Elt F) ℓ) (κ : GSem nD τ sig → ℕ) (c : Dev nD) (v2 : BitVec 32) (v5 : BitVec 32) (v8 : BitVec 32)
    {h0 : (Memref.whole cc0_stg0_0 : Memref sig .tc .vmem S16x1x1024 .f32).IsWhole} {h1 : (Memref.whole main_v2 : Memref sig .tc .hbm S16x1024x1024 .f32).IsWhole} {h2 : (Memref.whole main_v3 : Memref sig .tc .hbm S16x1024x1024 .f32).IsWhole} {h3 : (Memref.whole cc0_stg1_0 : Memref sig .tc .vmem S8x2x1024 .f32).IsWhole} {h4 : (Memref.whole cc0_scratch0 : Memref sig .tc .vmem S2x1024x1024 .f32).IsWhole} {h5 : (Memref.whole cc0_scratch1 : Memref sig .tc .vmem S2x1024x1024 .f32).IsWhole} {h6 : (Memref.whole cc0_scratch2 : Memref sig .tc .vmem S4x2x16 .f32).IsWhole} {h7 : (Memref.whole cc0_scratch3 : Memref sig .tc .vmem S4x2x16 .f32).IsWhole} {h8 : (Memref.whole cc0_scratch4 : Memref sig .tc .vmem S4x2x1024 .f32).IsWhole} {α : Type} {Q : α → sProp 𝕄} {kk : (BitVec 32) → Prog (TpuEff nD τ sig (Elt F) Λ₀ .tc) α} :
    (iprop(know m κ ∗ own c (OX c) ∗ cred (tallyAt (cell c (uYr (yp (pr 0 c)) 1)) () (amt (uYr (yp (pr 0 c)) 1))) ∗ pend c (uYr (yp (pr 0 c)) 1) ∗ cred (tallyAt (cell c (uYr (yp (pr 0 c)) 2)) () (amt (uYr (yp (pr 0 c)) 2))) ∗ pend c (uYr (yp (pr 0 c)) 2) ∗ cred (tallyAt (cell c (uYr (yp (pr 1 c)) 0)) () (amt (uYr (yp (pr 1 c)) 0))) ∗ pend c (uYr (yp (pr 1 c)) 0)) : sProp 𝕄)
      ⊢ iprop((∀ (c16_i32_415 : BitVec 32), ((own c (OX c) ∗ semVal (cell c (uYr (yp (pr 0 c)) 1)) 0 ∗ usePay m c (uYr (yp (pr 0 c)) 1) ∗ semVal (cell c (uYr (yp (pr 0 c)) 2)) 0 ∗ usePay m c (uYr (yp (pr 0 c)) 2) ∗ semVal (cell c (uYr (yp (pr 1 c)) 0)) 0 ∗ usePay m c (uYr (yp (pr 1 c)) 0)) -∗ wp frame (wpE (defs₀ (F := F)) 𝒱₀ (c : Thread nD τ) none) Set.univ (kk c16_i32_415) Q))
        -∗ wp frame (wpE (defs₀ (F := F)) 𝒱₀ (c : Thread nD τ) none) Set.univ (k0_part18 (F := F) (Memref.whole cc0_stg0_0) h0 (Memref.whole main_v2) h1 (Memref.whole main_v3) h2 (Memref.whole cc0_stg1_0) h3 (Memref.whole cc0_scratch0) h4 (Memref.whole cc0_scratch1) h5 (Memref.whole cc0_scratch2) h6 (Memref.whole cc0_scratch3) h7 (Memref.whole cc0_scratch4) h8 cc0_scratch5 cc0_scratch6 cc0_scratch7 cc0_scratch8 cc0_scratch9 cc0_scratch10 c v2 v5 v8 >>= kk) Q) := by
  rw [wp_bind, k0_part18_eq_skeleton]
  unfold k0_part18_skel
  simp only [semSignalWord, semWaitWord, Prog.lift, Prog.bind_op, Prog.bind_ret, Prog.pure_eq_ret]
  iintro ⟨#Hk, HO, CYr01, PYr01, CYr02, PYr02, CYr10, PYr10⟩ HK
  iapply (mv_wait m κ c (uYr (yp (pr 0 c)) 1) (beq_eq_false_iff_ne.mpr (yp_pr_ne 0 (by decide) c)) rfl (above_OX c) (semYp_0_1 c) (credit_yr1 _ _ _)) $$ [HO CYr01 PYr01]
  · isplitr; · iexact Hk
    isplitl [HO]; · iexact HO
    isplitl [CYr01]; · iexact CYr01
    iexact PYr01
  iintro ⟨HO, ZYr01, UYr01⟩
  iapply (mv_wait m κ c (uYr (yp (pr 0 c)) 2) (beq_eq_false_iff_ne.mpr (yp_pr_ne 0 (by decide) c)) rfl (above_OX c) (semYp_0_2 c) (credit_yr2 _ _ _)) $$ [HO CYr02 PYr02]
  · isplitr; · iexact Hk
    isplitl [HO]; · iexact HO
    isplitl [CYr02]; · iexact CYr02
    iexact PYr02
  iintro ⟨HO, ZYr02, UYr02⟩
  iapply (mv_wait m κ c (uYr (yp (pr 1 c)) 0) (beq_eq_false_iff_ne.mpr (yp_pr_ne 1 (by decide) c)) rfl (above_OX c) (semYp_1_0 c) (credit_yr0 _ _ _)) $$ [HO CYr10 PYr10]
  · isplitr; · iexact Hk
    isplitl [HO]; · iexact HO
    isplitl [CYr10]; · iexact CYr10
    iexact PYr10
  iintro ⟨HO, ZYr10, UYr10⟩
  rw [wp_ret]
  imodintro
  iapply HK
  isplitl [HO]; · iexact HO
  isplitl [ZYr01]; · iexact ZYr01
  isplitl [UYr01]; · iexact UYr01
  isplitl [ZYr02]; · iexact ZYr02
  isplitl [UYr02]; · iexact UYr02
  isplitl [ZYr10]; · iexact ZYr10
  iexact UYr10

theorem part19 (m : (ℓ : Loc nD τ sig) → Buf (Elt F) ℓ) (κ : GSem nD τ sig → ℕ) (c : Dev nD) (v2 : BitVec 32) (v5 : BitVec 32) (v8 : BitVec 32) (c16_i32_415 : BitVec 32)
    {h0 : (Memref.whole cc0_stg0_0 : Memref sig .tc .vmem S16x1x1024 .f32).IsWhole} {h1 : (Memref.whole main_v2 : Memref sig .tc .hbm S16x1024x1024 .f32).IsWhole} {h2 : (Memref.whole main_v3 : Memref sig .tc .hbm S16x1024x1024 .f32).IsWhole} {h3 : (Memref.whole cc0_stg1_0 : Memref sig .tc .vmem S8x2x1024 .f32).IsWhole} {h4 : (Memref.whole cc0_scratch0 : Memref sig .tc .vmem S2x1024x1024 .f32).IsWhole} {h5 : (Memref.whole cc0_scratch1 : Memref sig .tc .vmem S2x1024x1024 .f32).IsWhole} {h6 : (Memref.whole cc0_scratch2 : Memref sig .tc .vmem S4x2x16 .f32).IsWhole} {h7 : (Memref.whole cc0_scratch3 : Memref sig .tc .vmem S4x2x16 .f32).IsWhole} {h8 : (Memref.whole cc0_scratch4 : Memref sig .tc .vmem S4x2x1024 .f32).IsWhole} {α : Type} {Q : α → sProp 𝕄} {kk : (PUnit) → Prog (TpuEff nD τ sig (Elt F) Λ₀ .tc) α} :
    (iprop(know m κ ∗ own c (OX c) ∗ cred (tallyAt (cell c (uYr (yp (pr 1 c)) 1)) () (amt (uYr (yp (pr 1 c)) 1))) ∗ pend c (uYr (yp (pr 1 c)) 1) ∗ cred (tallyAt (cell c (uYr (yp (pr 1 c)) 2)) () (amt (uYr (yp (pr 1 c)) 2))) ∗ pend c (uYr (yp (pr 1 c)) 2)) : sProp 𝕄)
      ⊢ iprop((((own c (OX c) ∗ semVal (cell c (uYr (yp (pr 1 c)) 1)) 0 ∗ usePay m c (uYr (yp (pr 1 c)) 1) ∗ semVal (cell c (uYr (yp (pr 1 c)) 2)) 0 ∗ usePay m c (uYr (yp (pr 1 c)) 2)) -∗ wp frame (wpE (defs₀ (F := F)) 𝒱₀ (c : Thread nD τ) none) Set.univ (kk ⟨⟩) Q))
        -∗ wp frame (wpE (defs₀ (F := F)) 𝒱₀ (c : Thread nD τ) none) Set.univ (k0_part19 (F := F) (Memref.whole cc0_stg0_0) h0 (Memref.whole main_v2) h1 (Memref.whole main_v3) h2 (Memref.whole cc0_stg1_0) h3 (Memref.whole cc0_scratch0) h4 (Memref.whole cc0_scratch1) h5 (Memref.whole cc0_scratch2) h6 (Memref.whole cc0_scratch3) h7 (Memref.whole cc0_scratch4) h8 cc0_scratch5 cc0_scratch6 cc0_scratch7 cc0_scratch8 cc0_scratch9 cc0_scratch10 c v2 v5 v8 c16_i32_415 >>= kk) Q) := by
  rw [wp_bind, k0_part19_eq_skeleton]
  unfold k0_part19_skel
  simp only [semSignalWord, semWaitWord, Prog.lift, Prog.bind_op, Prog.bind_ret, Prog.pure_eq_ret]
  iintro ⟨#Hk, HO, CYr11, PYr11, CYr12, PYr12⟩ HK
  iapply (mv_wait m κ c (uYr (yp (pr 1 c)) 1) (beq_eq_false_iff_ne.mpr (yp_pr_ne 1 (by decide) c)) rfl (above_OX c) (semYp_1_1 c) (credit_yr1 _ _ _)) $$ [HO CYr11 PYr11]
  · isplitr; · iexact Hk
    isplitl [HO]; · iexact HO
    isplitl [CYr11]; · iexact CYr11
    iexact PYr11
  iintro ⟨HO, ZYr11, UYr11⟩
  iapply (mv_wait m κ c (uYr (yp (pr 1 c)) 2) (beq_eq_false_iff_ne.mpr (yp_pr_ne 1 (by decide) c)) rfl (above_OX c) (semYp_1_2 c) (credit_yr2 _ _ _)) $$ [HO CYr12 PYr12]
  · isplitr; · iexact Hk
    isplitl [HO]; · iexact HO
    isplitl [CYr12]; · iexact CYr12
    iexact PYr12
  iintro ⟨HO, ZYr12, UYr12⟩
  rw [wp_ret]
  imodintro
  iapply HK
  isplitl [HO]; · iexact HO
  isplitl [ZYr11]; · iexact ZYr11
  isplitl [UYr11]; · iexact UYr11
  isplitl [ZYr12]; · iexact ZYr12
  iexact UYr12

theorem part20 (m : (ℓ : Loc nD τ sig) → Buf (Elt F) ℓ) (κ : GSem nD τ sig → ℕ) (c : Dev nD) (v2 : BitVec 32) (v5 : BitVec 32) (v8 : BitVec 32)
    {h0 : (Memref.whole cc0_stg0_0 : Memref sig .tc .vmem S16x1x1024 .f32).IsWhole} {h1 : (Memref.whole main_v2 : Memref sig .tc .hbm S16x1024x1024 .f32).IsWhole} {h2 : (Memref.whole main_v3 : Memref sig .tc .hbm S16x1024x1024 .f32).IsWhole} {h3 : (Memref.whole cc0_stg1_0 : Memref sig .tc .vmem S8x2x1024 .f32).IsWhole} {h4 : (Memref.whole cc0_scratch0 : Memref sig .tc .vmem S2x1024x1024 .f32).IsWhole} {h5 : (Memref.whole cc0_scratch1 : Memref sig .tc .vmem S2x1024x1024 .f32).IsWhole} {h6 : (Memref.whole cc0_scratch2 : Memref sig .tc .vmem S4x2x16 .f32).IsWhole} {h7 : (Memref.whole cc0_scratch3 : Memref sig .tc .vmem S4x2x16 .f32).IsWhole} {h8 : (Memref.whole cc0_scratch4 : Memref sig .tc .vmem S4x2x1024 .f32).IsWhole} {α : Type} {Q : α → sProp 𝕄} {kk : (Vec F S4x2x16 .f32) → Prog (TpuEff nD τ sig (Elt F) Λ₀ .tc) α} :
    (iprop(know m κ ∗ own c (OX c) ∗ cred (tallyAt (cell c (uYr (yp (pr 2 c)) 0)) () (amt (uYr (yp (pr 2 c)) 0))) ∗ pend c (uYr (yp (pr 2 c)) 0) ∗ cred (tallyAt (cell c (uYr (yp (pr 2 c)) 1)) () (amt (uYr (yp (pr 2 c)) 1))) ∗ pend c (uYr (yp (pr 2 c)) 1) ∗ cred (tallyAt (cell c (uYr (yp (pr 2 c)) 2)) () (amt (uYr (yp (pr 2 c)) 2))) ∗ pend c (uYr (yp (pr 2 c)) 2) ∗ yPts m c (yp c) (leaf 2 fullShare 3) 0 ∗ usePay m c (uYr (yp (pr 0 c)) 0) ∗ usePay m c (uYr (yp (pr 1 c)) 0)) : sProp 𝕄)
      ⊢ iprop((((own c (OX c) ∗ semVal (cell c (uYr (yp (pr 2 c)) 0)) 0 ∗ semVal (cell c (uYr (yp (pr 2 c)) 1)) 0 ∗ usePay m c (uYr (yp (pr 2 c)) 1) ∗ semVal (cell c (uYr (yp (pr 2 c)) 2)) 0 ∗ usePay m c (uYr (yp (pr 2 c)) 2) ∗ yPts m c (yp c) (leaf 2 fullShare 3) 0 ∗ usePay m c (uYr (yp (pr 0 c)) 0) ∗ usePay m c (uYr (yp (pr 1 c)) 0) ∗ usePay m c (uYr (yp (pr 2 c)) 0)) -∗ wp frame (wpE (defs₀ (F := F)) 𝒱₀ (c : Thread nD τ) none) Set.univ (kk (MC m c)) Q))
        -∗ wp frame (wpE (defs₀ (F := F)) 𝒱₀ (c : Thread nD τ) none) Set.univ (k0_part20 (F := F) (Memref.whole cc0_stg0_0) h0 (Memref.whole main_v2) h1 (Memref.whole main_v3) h2 (Memref.whole cc0_stg1_0) h3 (Memref.whole cc0_scratch0) h4 (Memref.whole cc0_scratch1) h5 (Memref.whole cc0_scratch2) h6 (Memref.whole cc0_scratch3) h7 (Memref.whole cc0_scratch4) h8 cc0_scratch5 cc0_scratch6 cc0_scratch7 cc0_scratch8 cc0_scratch9 cc0_scratch10 c v2 v5 v8 >>= kk) Q) := by
  rw [wp_bind, k0_part20_eq_skeleton]
  unfold k0_part20_skel
  simp only [semSignalWord, semWaitWord, Prog.lift, Prog.bind_op, Prog.bind_ret, Prog.pure_eq_ret]
  iintro ⟨#Hk, HO, CYr20, PYr20, CYr21, PYr21, CYr22, PYr22, OY0, UYr00, UYr10⟩ HK
  iapply (mv_wait m κ c (uYr (yp (pr 2 c)) 0) (beq_eq_false_iff_ne.mpr (yp_pr_ne 2 (by decide) c)) rfl (above_OX c) (semYp_2_0 c) (credit_yr0 _ _ _)) $$ [HO CYr20 PYr20]
  · isplitr; · iexact Hk
    isplitl [HO]; · iexact HO
    isplitl [CYr20]; · iexact CYr20
    iexact PYr20
  iintro ⟨HO, ZYr20, UYr20⟩
  iapply (mv_wait m κ c (uYr (yp (pr 2 c)) 1) (beq_eq_false_iff_ne.mpr (yp_pr_ne 2 (by decide) c)) rfl (above_OX c) (semYp_2_1 c) (credit_yr1 _ _ _)) $$ [HO CYr21 PYr21]
  · isplitr; · iexact Hk
    isplitl [HO]; · iexact HO
    isplitl [CYr21]; · iexact CYr21
    iexact PYr21
  iintro ⟨HO, ZYr21, UYr21⟩
  iapply (mv_wait m κ c (uYr (yp (pr 2 c)) 2) (beq_eq_false_iff_ne.mpr (yp_pr_ne 2 (by decide) c)) rfl (above_OX c) (semYp_2_2 c) (credit_yr2 _ _ _)) $$ [HO CYr22 PYr22]
  · isplitr; · iexact Hk
    isplitl [HO]; · iexact HO
    isplitl [CYr22]; · iexact CYr22
    iexact PYr22
  iintro ⟨HO, ZYr22, UYr22⟩
  ihave HG := (gather0 m c) $$ [OY0 UYr00 UYr10 UYr20]
  · isplitl [OY0]; · iexact OY0
    isplitl [UYr00]; · iexact UYr00
    isplitl [UYr10]; · iexact UYr10
    iexact UYr20
  icases HG with ⟨HW, HB⟩
  iapply (get_M c) $$ HW
  iintro HW
  ihave HG := HB $$ HW
  icases HG with ⟨OY0, UYr00, UYr10, UYr20⟩
  rw [wp_ret]
  imodintro
  iapply HK
  isplitl [HO]; · iexact HO
  isplitl [ZYr20]; · iexact ZYr20
  isplitl [ZYr21]; · iexact ZYr21
  isplitl [UYr21]; · iexact UYr21
  isplitl [ZYr22]; · iexact ZYr22
  isplitl [UYr22]; · iexact UYr22
  isplitl [OY0]; · iexact OY0
  isplitl [UYr00]; · iexact UYr00
  isplitl [UYr10]; · iexact UYr10
  iexact UYr20

theorem part21 (m : (ℓ : Loc nD τ sig) → Buf (Elt F) ℓ) (κ : GSem nD τ sig → ℕ) (c : Dev nD) (v10 : BitVec 32)
    {h0 : (Memref.whole cc0_stg0_0 : Memref sig .tc .vmem S16x1x1024 .f32).IsWhole} {h1 : (Memref.whole main_v2 : Memref sig .tc .hbm S16x1024x1024 .f32).IsWhole} {h2 : (Memref.whole main_v3 : Memref sig .tc .hbm S16x1024x1024 .f32).IsWhole} {h3 : (Memref.whole cc0_stg1_0 : Memref sig .tc .vmem S8x2x1024 .f32).IsWhole} {h4 : (Memref.whole cc0_scratch0 : Memref sig .tc .vmem S2x1024x1024 .f32).IsWhole} {h5 : (Memref.whole cc0_scratch1 : Memref sig .tc .vmem S2x1024x1024 .f32).IsWhole} {h6 : (Memref.whole cc0_scratch2 : Memref sig .tc .vmem S4x2x16 .f32).IsWhole} {h7 : (Memref.whole cc0_scratch3 : Memref sig .tc .vmem S4x2x16 .f32).IsWhole} {h8 : (Memref.whole cc0_scratch4 : Memref sig .tc .vmem S4x2x1024 .f32).IsWhole} {α : Type} {Q : α → sProp 𝕄} {kk : (PUnit) → Prog (TpuEff nD τ sig (Elt F) Λ₀ .tc) α} :
    (iprop(know m κ ∗ own c (OX c) ∗ yPts m c (yp c) (leaf 2 fullShare 3) 1 ∗ usePay m c (uYr (yp (pr 0 c)) 1) ∗ usePay m c (uYr (yp (pr 1 c)) 1) ∗ usePay m c (uYr (yp (pr 2 c)) 1) ∗ yPts m c (yp c) (leaf 2 fullShare 3) 2 ∗ usePay m c (uYr (yp (pr 0 c)) 2) ∗ usePay m c (uYr (yp (pr 1 c)) 2) ∗ usePay m c (uYr (yp (pr 2 c)) 2) ∗ (∃ f : Buf (Elt F) ((c : Thread nD τ).loc cc0_stg1_0), ((c : Thread nD τ).loc cc0_stg1_0) ↦[rowS (rr c).val]{fullShare} f) ∗ cred (tallyAt (cell c (uYs 0 0)) () (amt (uYs 0 0))) ∗ pend c (uYs 0 0)) : sProp 𝕄)
      ⊢ iprop((((own c (OX c) ∗ yPts m c (yp c) (leaf 2 fullShare 3) 1 ∗ usePay m c (uYr (yp (pr 0 c)) 1) ∗ usePay m c (uYr (yp (pr 1 c)) 1) ∗ usePay m c (uYr (yp (pr 2 c)) 1) ∗ yPts m c (yp c) (leaf 2 fullShare 3) 2 ∗ usePay m c (uYr (yp (pr 0 c)) 2) ∗ usePay m c (uYr (yp (pr 1 c)) 2) ∗ usePay m c (uYr (yp (pr 2 c)) 2) ∗ (((c : Thread nD τ).loc cc0_stg1_0) ↦[rowS (rr c).val]{fullShare} OUT m c) ∗ semVal (cell c (uYs 0 0)) 0 ∗ usePay m c (uYs 0 0)) -∗ wp frame (wpE (defs₀ (F := F)) 𝒱₀ (c : Thread nD τ) none) Set.univ (kk ⟨⟩) Q))
        -∗ wp frame (wpE (defs₀ (F := F)) 𝒱₀ (c : Thread nD τ) none) Set.univ (k0_part21 (F := F) (Memref.whole cc0_stg0_0) h0 (Memref.whole main_v2) h1 (Memref.whole main_v3) h2 (Memref.whole cc0_stg1_0) h3 (Memref.whole cc0_scratch0) h4 (Memref.whole cc0_scratch1) h5 (Memref.whole cc0_scratch2) h6 (Memref.whole cc0_scratch3) h7 (Memref.whole cc0_scratch4) h8 cc0_scratch5 cc0_scratch6 cc0_scratch7 cc0_scratch8 cc0_scratch9 cc0_scratch10 c v10 (e₂ (F := F)) (MC m c) >>= kk) Q) := by
  rw [wp_bind, k0_part21_eq_skeleton]
  unfold k0_part21_skel
  simp only [semSignalWord, semWaitWord, Prog.lift, Prog.bind_op, Prog.bind_ret, Prog.pure_eq_ret]
  iintro ⟨#Hk, HO, OY1, UYr01, UYr11, UYr21, OY2, UYr02, UYr12, UYr22, WX, CYs00, PYs00⟩ HK
  ihave HG := (gather1 m c) $$ [OY1 UYr01 UYr11 UYr21]
  · isplitl [OY1]; · iexact OY1
    isplitl [UYr01]; · iexact UYr01
    isplitl [UYr11]; · iexact UYr11
    iexact UYr21
  icases HG with ⟨HW, HB⟩
  iapply (get_L c) $$ HW
  iintro HW
  ihave HG := HB $$ HW
  icases HG with ⟨OY1, UYr01, UYr11, UYr21⟩
  ihave HG := (gather2 m c) $$ [OY2 UYr02 UYr12 UYr22]
  · isplitl [OY2]; · iexact OY2
    isplitl [UYr02]; · iexact UYr02
    isplitl [UYr12]; · iexact UYr12
    iexact UYr22
  icases HG with ⟨HW, HB⟩
  iapply (get_O c) $$ HW
  iintro HW
  ihave HG := HB $$ HW
  icases HG with ⟨OY2, UYr02, UYr12, UYr22⟩
  iapply (put_X m c rfl) $$ WX
  iintro FX
  iapply (mv_wait m κ c (uYs 0 0) rfl rfl ((above_OX c).mono (Nat.zero_le 2)) semYs_0_0 (credit_ys0 _ _ _)) $$ [HO CYs00 PYs00]
  · isplitr; · iexact Hk
    isplitl [HO]; · iexact HO
    isplitl [CYs00]; · iexact CYs00
    iexact PYs00
  iintro ⟨HO, ZYs00, UYs00⟩
  rw [wp_ret]
  imodintro
  iapply HK
  isplitl [HO]; · iexact HO
  isplitl [OY1]; · iexact OY1
  isplitl [UYr01]; · iexact UYr01
  isplitl [UYr11]; · iexact UYr11
  isplitl [UYr21]; · iexact UYr21
  isplitl [OY2]; · iexact OY2
  isplitl [UYr02]; · iexact UYr02
  isplitl [UYr12]; · iexact UYr12
  isplitl [UYr22]; · iexact UYr22
  isplitl [FX]; · iexact FX
  isplitl [ZYs00]; · iexact ZYs00
  iexact UYs00

theorem part22 (m : (ℓ : Loc nD τ sig) → Buf (Elt F) ℓ) (κ : GSem nD τ sig → ℕ) (c : Dev nD)
    {h0 : (Memref.whole cc0_stg0_0 : Memref sig .tc .vmem S16x1x1024 .f32).IsWhole} {h1 : (Memref.whole main_v2 : Memref sig .tc .hbm S16x1024x1024 .f32).IsWhole} {h2 : (Memref.whole main_v3 : Memref sig .tc .hbm S16x1024x1024 .f32).IsWhole} {h3 : (Memref.whole cc0_stg1_0 : Memref sig .tc .vmem S8x2x1024 .f32).IsWhole} {h4 : (Memref.whole cc0_scratch0 : Memref sig .tc .vmem S2x1024x1024 .f32).IsWhole} {h5 : (Memref.whole cc0_scratch1 : Memref sig .tc .vmem S2x1024x1024 .f32).IsWhole} {h6 : (Memref.whole cc0_scratch2 : Memref sig .tc .vmem S4x2x16 .f32).IsWhole} {h7 : (Memref.whole cc0_scratch3 : Memref sig .tc .vmem S4x2x16 .f32).IsWhole} {h8 : (Memref.whole cc0_scratch4 : Memref sig .tc .vmem S4x2x1024 .f32).IsWhole} {α : Type} {Q : α → sProp 𝕄} {kk : (PUnit) → Prog (TpuEff nD τ sig (Elt F) Λ₀ .tc) α} :
    (iprop(know m κ ∗ own c (OX c) ∗ cred (tallyAt (cell c (uYs 0 1)) () (amt (uYs 0 1))) ∗ pend c (uYs 0 1) ∗ cred (tallyAt (cell c (uYs 0 2)) () (amt (uYs 0 2))) ∗ pend c (uYs 0 2) ∗ cred (tallyAt (cell c (uYs 1 0)) () (amt (uYs 1 0))) ∗ pend c (uYs 1 0) ∗ cred (tallyAt (cell c (uYs 1 1)) () (amt (uYs 1 1))) ∗ pend c (uYs 1 1)) : sProp 𝕄)
      ⊢ iprop((((own c (OX c) ∗ semVal (cell c (uYs 0 1)) 0 ∗ usePay m c (uYs 0 1) ∗ semVal (cell c (uYs 0 2)) 0 ∗ usePay m c (uYs 0 2) ∗ semVal (cell c (uYs 1 0)) 0 ∗ usePay m c (uYs 1 0) ∗ semVal (cell c (uYs 1 1)) 0 ∗ usePay m c (uYs 1 1)) -∗ wp frame (wpE (defs₀ (F := F)) 𝒱₀ (c : Thread nD τ) none) Set.univ (kk ⟨⟩) Q))
        -∗ wp frame (wpE (defs₀ (F := F)) 𝒱₀ (c : Thread nD τ) none) Set.univ (k0_part22 (F := F) (Memref.whole cc0_stg0_0) h0 (Memref.whole main_v2) h1 (Memref.whole main_v3) h2 (Memref.whole cc0_stg1_0) h3 (Memref.whole cc0_scratch0) h4 (Memref.whole cc0_scratch1) h5 (Memref.whole cc0_scratch2) h6 (Memref.whole cc0_scratch3) h7 (Memref.whole cc0_scratch4) h8 cc0_scratch5 cc0_scratch6 cc0_scratch7 cc0_scratch8 cc0_scratch9 cc0_scratch10 c >>= kk) Q) := by
  rw [wp_bind, k0_part22_eq_skeleton]
  unfold k0_part22_skel
  simp only [semSignalWord, semWaitWord, Prog.lift, Prog.bind_op, Prog.bind_ret, Prog.pure_eq_ret]
  iintro ⟨#Hk, HO, CYs01, PYs01, CYs02, PYs02, CYs10, PYs10, CYs11, PYs11⟩ HK
  iapply (mv_wait m κ c (uYs 0 1) rfl rfl ((above_OX c).mono (Nat.zero_le 2)) semYs_0_1 (credit_ys1 _ _ _)) $$ [HO CYs01 PYs01]
  · isplitr; · iexact Hk
    isplitl [HO]; · iexact HO
    isplitl [CYs01]; · iexact CYs01
    iexact PYs01
  iintro ⟨HO, ZYs01, UYs01⟩
  iapply (mv_wait m κ c (uYs 0 2) rfl rfl ((above_OX c).mono (Nat.zero_le 2)) semYs_0_2 (credit_ys2 _ _ _)) $$ [HO CYs02 PYs02]
  · isplitr; · iexact Hk
    isplitl [HO]; · iexact HO
    isplitl [CYs02]; · iexact CYs02
    iexact PYs02
  iintro ⟨HO, ZYs02, UYs02⟩
  iapply (mv_wait m κ c (uYs 1 0) rfl rfl ((above_OX c).mono (Nat.zero_le 2)) semYs_1_0 (credit_ys0 _ _ _)) $$ [HO CYs10 PYs10]
  · isplitr; · iexact Hk
    isplitl [HO]; · iexact HO
    isplitl [CYs10]; · iexact CYs10
    iexact PYs10
  iintro ⟨HO, ZYs10, UYs10⟩
  iapply (mv_wait m κ c (uYs 1 1) rfl rfl ((above_OX c).mono (Nat.zero_le 2)) semYs_1_1 (credit_ys1 _ _ _)) $$ [HO CYs11 PYs11]
  · isplitr; · iexact Hk
    isplitl [HO]; · iexact HO
    isplitl [CYs11]; · iexact CYs11
    iexact PYs11
  iintro ⟨HO, ZYs11, UYs11⟩
  rw [wp_ret]
  imodintro
  iapply HK
  isplitl [HO]; · iexact HO
  isplitl [ZYs01]; · iexact ZYs01
  isplitl [UYs01]; · iexact UYs01
  isplitl [ZYs02]; · iexact ZYs02
  isplitl [UYs02]; · iexact UYs02
  isplitl [ZYs10]; · iexact ZYs10
  isplitl [UYs10]; · iexact UYs10
  isplitl [ZYs11]; · iexact ZYs11
  iexact UYs11

theorem part23 (m : (ℓ : Loc nD τ sig) → Buf (Elt F) ℓ) (κ : GSem nD τ sig → ℕ) (c : Dev nD) (v5 : BitVec 32) (v237 : BitVec 32) (v248 : BitVec 32)
    {h0 : (Memref.whole cc0_stg0_0 : Memref sig .tc .vmem S16x1x1024 .f32).IsWhole} {h1 : (Memref.whole main_v2 : Memref sig .tc .hbm S16x1024x1024 .f32).IsWhole} {h2 : (Memref.whole main_v3 : Memref sig .tc .hbm S16x1024x1024 .f32).IsWhole} {h3 : (Memref.whole cc0_stg1_0 : Memref sig .tc .vmem S8x2x1024 .f32).IsWhole} {h4 : (Memref.whole cc0_scratch0 : Memref sig .tc .vmem S2x1024x1024 .f32).IsWhole} {h5 : (Memref.whole cc0_scratch1 : Memref sig .tc .vmem S2x1024x1024 .f32).IsWhole} {h6 : (Memref.whole cc0_scratch2 : Memref sig .tc .vmem S4x2x16 .f32).IsWhole} {h7 : (Memref.whole cc0_scratch3 : Memref sig .tc .vmem S4x2x16 .f32).IsWhole} {h8 : (Memref.whole cc0_scratch4 : Memref sig .tc .vmem S4x2x1024 .f32).IsWhole} {α : Type} {Q : α → sProp 𝕄} {kk : (PUnit) → Prog (TpuEff nD τ sig (Elt F) Λ₀ .tc) α} :
    (iprop(know m κ ∗ own c (OX c) ∗ cred (tallyAt (cell c (uYs 1 2)) () (amt (uYs 1 2))) ∗ pend c (uYs 1 2) ∗ cred (tallyAt (cell c (uYs 2 0)) () (amt (uYs 2 0))) ∗ pend c (uYs 2 0) ∗ cred (tallyAt (cell c (uYs 2 1)) () (amt (uYs 2 1))) ∗ pend c (uYs 2 1) ∗ cred (tallyAt (cell c (uYs 2 2)) () (amt (uYs 2 2))) ∗ pend c (uYs 2 2)) : sProp 𝕄)
      ⊢ iprop((((own c (OX c) ∗ semVal (cell c (uYs 1 2)) 0 ∗ usePay m c (uYs 1 2) ∗ semVal (cell c (uYs 2 0)) 0 ∗ usePay m c (uYs 2 0) ∗ semVal (cell c (uYs 2 1)) 0 ∗ usePay m c (uYs 2 1) ∗ semVal (cell c (uYs 2 2)) 0 ∗ usePay m c (uYs 2 2)) -∗ wp frame (wpE (defs₀ (F := F)) 𝒱₀ (c : Thread nD τ) none) Set.univ (kk ⟨⟩) Q))
        -∗ wp frame (wpE (defs₀ (F := F)) 𝒱₀ (c : Thread nD τ) none) Set.univ (k0_part23 (F := F) (Memref.whole cc0_stg0_0) h0 (Memref.whole main_v2) h1 (Memref.whole main_v3) h2 (Memref.whole cc0_stg1_0) h3 (Memref.whole cc0_scratch0) h4 (Memref.whole cc0_scratch1) h5 (Memref.whole cc0_scratch2) h6 (Memref.whole cc0_scratch3) h7 (Memref.whole cc0_scratch4) h8 cc0_scratch5 cc0_scratch6 cc0_scratch7 cc0_scratch8 cc0_scratch9 cc0_scratch10 c v5 v237 v248 >>= kk) Q) := by
  rw [wp_bind, k0_part23_eq_skeleton]
  unfold k0_part23_skel
  simp only [semSignalWord, semWaitWord, Prog.lift, Prog.bind_op, Prog.bind_ret, Prog.pure_eq_ret]
  iintro ⟨#Hk, HO, CYs12, PYs12, CYs20, PYs20, CYs21, PYs21, CYs22, PYs22⟩ HK
  iapply (mv_wait m κ c (uYs 1 2) rfl rfl ((above_OX c).mono (Nat.zero_le 2)) semYs_1_2 (credit_ys2 _ _ _)) $$ [HO CYs12 PYs12]
  · isplitr; · iexact Hk
    isplitl [HO]; · iexact HO
    isplitl [CYs12]; · iexact CYs12
    iexact PYs12
  iintro ⟨HO, ZYs12, UYs12⟩
  iapply (mv_wait m κ c (uYs 2 0) rfl rfl ((above_OX c).mono (Nat.zero_le 2)) semYs_2_0 (credit_ys0 _ _ _)) $$ [HO CYs20 PYs20]
  · isplitr; · iexact Hk
    isplitl [HO]; · iexact HO
    isplitl [CYs20]; · iexact CYs20
    iexact PYs20
  iintro ⟨HO, ZYs20, UYs20⟩
  iapply (mv_wait m κ c (uYs 2 1) rfl rfl ((above_OX c).mono (Nat.zero_le 2)) semYs_2_1 (credit_ys1 _ _ _)) $$ [HO CYs21 PYs21]
  · isplitr; · iexact Hk
    isplitl [HO]; · iexact HO
    isplitl [CYs21]; · iexact CYs21
    iexact PYs21
  iintro ⟨HO, ZYs21, UYs21⟩
  iapply (mv_wait m κ c (uYs 2 2) rfl rfl ((above_OX c).mono (Nat.zero_le 2)) semYs_2_2 (credit_ys2 _ _ _)) $$ [HO CYs22 PYs22]
  · isplitr; · iexact Hk
    isplitl [HO]; · iexact HO
    isplitl [CYs22]; · iexact CYs22
    iexact PYs22
  iintro ⟨HO, ZYs22, UYs22⟩
  rw [wp_ret]
  imodintro
  iapply HK
  isplitl [HO]; · iexact HO
  isplitl [ZYs12]; · iexact ZYs12
  isplitl [UYs12]; · iexact UYs12
  isplitl [ZYs20]; · iexact ZYs20
  isplitl [UYs20]; · iexact UYs20
  isplitl [ZYs21]; · iexact ZYs21
  isplitl [UYs21]; · iexact UYs21
  isplitl [ZYs22]; · iexact ZYs22
  iexact UYs22

end Cert.Decode

end
-- ==== Proof.PartsC.lean ====
/-
# The body, part by part: the exchange across the plane

What parts 24 to 30 take and give: the finished rows sent and awaited.
-/
module

public import proofs.«01_k».proof.Proof.PartsA
public import proofs.«01_k».proof.Proof.Sems

@[expose] public section

set_option maxRecDepth 16384

noncomputable section

namespace Cert.Decode

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3 eq_ix3)
open Idealize.ShloMosaic.ShareLeaves (leaf)

variable {F : FTy → Type} [FloatOps F]

local notation "𝕄" => MT nD τ sig Unit (Elt F) ℕ UU ℕ

theorem part24 (m : (ℓ : Loc nD τ sig) → Buf (Elt F) ℓ) (κ : GSem nD τ sig → ℕ) (c : Dev nD) (v5 : BitVec 32) (v259 : BitVec 32) (v270 : BitVec 32) (v281 : BitVec 32) (v292 : BitVec 32)
    {h0 : (Memref.whole cc0_stg0_0 : Memref sig .tc .vmem S16x1x1024 .f32).IsWhole} {h1 : (Memref.whole main_v2 : Memref sig .tc .hbm S16x1024x1024 .f32).IsWhole} {h2 : (Memref.whole main_v3 : Memref sig .tc .hbm S16x1024x1024 .f32).IsWhole} {h3 : (Memref.whole cc0_stg1_0 : Memref sig .tc .vmem S8x2x1024 .f32).IsWhole} {h4 : (Memref.whole cc0_scratch0 : Memref sig .tc .vmem S2x1024x1024 .f32).IsWhole} {h5 : (Memref.whole cc0_scratch1 : Memref sig .tc .vmem S2x1024x1024 .f32).IsWhole} {h6 : (Memref.whole cc0_scratch2 : Memref sig .tc .vmem S4x2x16 .f32).IsWhole} {h7 : (Memref.whole cc0_scratch3 : Memref sig .tc .vmem S4x2x16 .f32).IsWhole} {h8 : (Memref.whole cc0_scratch4 : Memref sig .tc .vmem S4x2x1024 .f32).IsWhole} {α : Type} {Q : α → sProp 𝕄} {kk : (PUnit) → Prog (TpuEff nD τ sig (Elt F) Λ₀ .tc) α} :
    (iprop(know m κ ∗ own c (0 + oX (pj 6) c + oX (pj 5) c + oX (pj 4) c + oX (pj 3) c + oX (pj 2) c + oX (pj 1) c + oX (pj 0) c) ∗ xPts m c (rr c) (leaf 3 fullShare (Fin.castLE (by decide) (0 : Fin 7))) ∗ xTok c 0 ∗ xDst (F := F) c 0 ∗ xPts m c (rr c) (leaf 3 fullShare (Fin.castLE (by decide) (1 : Fin 7))) ∗ xTok c 1 ∗ xDst (F := F) c 1) : sProp 𝕄)
      ⊢ iprop((((own c (0 + oX (pj 6) c + oX (pj 5) c + oX (pj 4) c + oX (pj 3) c + oX (pj 2) c) ∗ cred (tallyAt (cell c (uXs 0)) () (amt (uXs 0))) ∗ cred (tallyAt (cell c (uXs 1)) () (amt (uXs 1)))) -∗ wp frame (wpE (defs₀ (F := F)) 𝒱₀ (c : Thread nD τ) none) Set.univ (kk ⟨⟩) Q))
        -∗ wp frame (wpE (defs₀ (F := F)) 𝒱₀ (c : Thread nD τ) none) Set.univ (k0_part24 (F := F) (Memref.whole cc0_stg0_0) h0 (Memref.whole main_v2) h1 (Memref.whole main_v3) h2 (Memref.whole cc0_stg1_0) h3 (Memref.whole cc0_scratch0) h4 (Memref.whole cc0_scratch1) h5 (Memref.whole cc0_scratch2) h6 (Memref.whole cc0_scratch3) h7 (Memref.whole cc0_scratch4) h8 cc0_scratch5 cc0_scratch6 cc0_scratch7 cc0_scratch8 cc0_scratch9 cc0_scratch10 c v5 v259 v270 v281 v292 >>= kk) Q) := by
  rw [wp_bind, k0_part24_eq_skeleton]
  unfold k0_part24_skel
  simp only [semSignalWord, semWaitWord, Prog.lift, Prog.bind_op, Prog.bind_ret, Prog.pure_eq_ret]
  iintro ⟨#Hk, HO, SX0, TX0, DX0, SX1, TX1, DX1⟩ HK
  iapply (mv_xsend m κ c _ 0 (dev20_eq c) (0 + oX (pj 6) c + oX (pj 5) c + oX (pj 4) c + oX (pj 3) c + oX (pj 2) c + oX (pj 1) c) semXs_0 (semXr c)) $$ [HO SX0 TX0 DX0]
  · isplitr; · iexact Hk
    isplitl [HO]; · iexact HO
    isplitl [SX0]; · iexact SX0
    isplitl [TX0]; · iexact TX0
    iexact DX0
  iintro ⟨CXs0, HO⟩
  iapply (mv_xsend m κ c _ 1 (dev21_eq c) (0 + oX (pj 6) c + oX (pj 5) c + oX (pj 4) c + oX (pj 3) c + oX (pj 2) c) semXs_1 (semXr c)) $$ [HO SX1 TX1 DX1]
  · isplitr; · iexact Hk
    isplitl [HO]; · iexact HO
    isplitl [SX1]; · iexact SX1
    isplitl [TX1]; · iexact TX1
    iexact DX1
  iintro ⟨CXs1, HO⟩
  rw [wp_ret]
  imodintro
  iapply HK
  isplitl [HO]; · iexact HO
  isplitl [CXs0]; · iexact CXs0
  iexact CXs1

theorem part25 (m : (ℓ : Loc nD τ sig) → Buf (Elt F) ℓ) (κ : GSem nD τ sig → ℕ) (c : Dev nD) (v5 : BitVec 32) (v303 : BitVec 32) (v314 : BitVec 32) (v325 : BitVec 32) (v336 : BitVec 32) (v347 : BitVec 32) (v358 : BitVec 32)
    {h0 : (Memref.whole cc0_stg0_0 : Memref sig .tc .vmem S16x1x1024 .f32).IsWhole} {h1 : (Memref.whole main_v2 : Memref sig .tc .hbm S16x1024x1024 .f32).IsWhole} {h2 : (Memref.whole main_v3 : Memref sig .tc .hbm S16x1024x1024 .f32).IsWhole} {h3 : (Memref.whole cc0_stg1_0 : Memref sig .tc .vmem S8x2x1024 .f32).IsWhole} {h4 : (Memref.whole cc0_scratch0 : Memref sig .tc .vmem S2x1024x1024 .f32).IsWhole} {h5 : (Memref.whole cc0_scratch1 : Memref sig .tc .vmem S2x1024x1024 .f32).IsWhole} {h6 : (Memref.whole cc0_scratch2 : Memref sig .tc .vmem S4x2x16 .f32).IsWhole} {h7 : (Memref.whole cc0_scratch3 : Memref sig .tc .vmem S4x2x16 .f32).IsWhole} {h8 : (Memref.whole cc0_scratch4 : Memref sig .tc .vmem S4x2x1024 .f32).IsWhole} {α : Type} {Q : α → sProp 𝕄} {kk : (PUnit) → Prog (TpuEff nD τ sig (Elt F) Λ₀ .tc) α} :
    (iprop(know m κ ∗ own c (0 + oX (pj 6) c + oX (pj 5) c + oX (pj 4) c + oX (pj 3) c + oX (pj 2) c) ∗ xPts m c (rr c) (leaf 3 fullShare (Fin.castLE (by decide) (2 : Fin 7))) ∗ xTok c 2 ∗ xDst (F := F) c 2 ∗ xPts m c (rr c) (leaf 3 fullShare (Fin.castLE (by decide) (3 : Fin 7))) ∗ xTok c 3 ∗ xDst (F := F) c 3 ∗ xPts m c (rr c) (leaf 3 fullShare (Fin.castLE (by decide) (4 : Fin 7))) ∗ xTok c 4 ∗ xDst (F := F) c 4) : sProp 𝕄)
      ⊢ iprop((((own c (0 + oX (pj 6) c + oX (pj 5) c) ∗ cred (tallyAt (cell c (uXs 2)) () (amt (uXs 2))) ∗ cred (tallyAt (cell c (uXs 3)) () (amt (uXs 3))) ∗ cred (tallyAt (cell c (uXs 4)) () (amt (uXs 4)))) -∗ wp frame (wpE (defs₀ (F := F)) 𝒱₀ (c : Thread nD τ) none) Set.univ (kk ⟨⟩) Q))
        -∗ wp frame (wpE (defs₀ (F := F)) 𝒱₀ (c : Thread nD τ) none) Set.univ (k0_part25 (F := F) (Memref.whole cc0_stg0_0) h0 (Memref.whole main_v2) h1 (Memref.whole main_v3) h2 (Memref.whole cc0_stg1_0) h3 (Memref.whole cc0_scratch0) h4 (Memref.whole cc0_scratch1) h5 (Memref.whole cc0_scratch2) h6 (Memref.whole cc0_scratch3) h7 (Memref.whole cc0_scratch4) h8 cc0_scratch5 cc0_scratch6 cc0_scratch7 cc0_scratch8 cc0_scratch9 cc0_scratch10 c v5 v303 v314 v325 v336 v347 v358 >>= kk) Q) := by
  rw [wp_bind, k0_part25_eq_skeleton]
  unfold k0_part25_skel
  simp only [semSignalWord, semWaitWord, Prog.lift, Prog.bind_op, Prog.bind_ret, Prog.pure_eq_ret]
  iintro ⟨#Hk, HO, SX2, TX2, DX2, SX3, TX3, DX3, SX4, TX4, DX4⟩ HK
  iapply (mv_xsend m κ c _ 2 (dev22_eq c) (0 + oX (pj 6) c + oX (pj 5) c + oX (pj 4) c + oX (pj 3) c) semXs_2 (semXr c)) $$ [HO SX2 TX2 DX2]
  · isplitr; · iexact Hk
    isplitl [HO]; · iexact HO
    isplitl [SX2]; · iexact SX2
    isplitl [TX2]; · iexact TX2
    iexact DX2
  iintro ⟨CXs2, HO⟩
  iapply (mv_xsend m κ c _ 3 (dev23_eq c) (0 + oX (pj 6) c + oX (pj 5) c + oX (pj 4) c) semXs_3 (semXr c)) $$ [HO SX3 TX3 DX3]
  · isplitr; · iexact Hk
    isplitl [HO]; · iexact HO
    isplitl [SX3]; · iexact SX3
    isplitl [TX3]; · iexact TX3
    iexact DX3
  iintro ⟨CXs3, HO⟩
  iapply (mv_xsend m κ c _ 4 (dev24_eq c) (0 + oX (pj 6) c + oX (pj 5) c) semXs_4 (semXr c)) $$ [HO SX4 TX4 DX4]
  · isplitr; · iexact Hk
    isplitl [HO]; · iexact HO
    isplitl [SX4]; · iexact SX4
    isplitl [TX4]; · iexact TX4
    iexact DX4
  iintro ⟨CXs4, HO⟩
  rw [wp_ret]
  imodintro
  iapply HK
  isplitl [HO]; · iexact HO
  isplitl [CXs2]; · iexact CXs2
  isplitl [CXs3]; · iexact CXs3
  iexact CXs4

theorem part26 (m : (ℓ : Loc nD τ sig) → Buf (Elt F) ℓ) (κ : GSem nD τ sig → ℕ) (c : Dev nD) (v2 : BitVec 32) (v5 : BitVec 32) (v8 : BitVec 32) (v237 : BitVec 32) (v248 : BitVec 32) (v369 : BitVec 32) (v380 : BitVec 32)
    {h0 : (Memref.whole cc0_stg0_0 : Memref sig .tc .vmem S16x1x1024 .f32).IsWhole} {h1 : (Memref.whole main_v2 : Memref sig .tc .hbm S16x1024x1024 .f32).IsWhole} {h2 : (Memref.whole main_v3 : Memref sig .tc .hbm S16x1024x1024 .f32).IsWhole} {h3 : (Memref.whole cc0_stg1_0 : Memref sig .tc .vmem S8x2x1024 .f32).IsWhole} {h4 : (Memref.whole cc0_scratch0 : Memref sig .tc .vmem S2x1024x1024 .f32).IsWhole} {h5 : (Memref.whole cc0_scratch1 : Memref sig .tc .vmem S2x1024x1024 .f32).IsWhole} {h6 : (Memref.whole cc0_scratch2 : Memref sig .tc .vmem S4x2x16 .f32).IsWhole} {h7 : (Memref.whole cc0_scratch3 : Memref sig .tc .vmem S4x2x16 .f32).IsWhole} {h8 : (Memref.whole cc0_scratch4 : Memref sig .tc .vmem S4x2x1024 .f32).IsWhole} {α : Type} {Q : α → sProp 𝕄} {kk : (PUnit) → Prog (TpuEff nD τ sig (Elt F) Λ₀ .tc) α} :
    (iprop(know m κ ∗ own c (0 + oX (pj 6) c + oX (pj 5) c) ∗ xPts m c (rr c) (leaf 3 fullShare (Fin.castLE (by decide) (5 : Fin 7))) ∗ xTok c 5 ∗ xDst (F := F) c 5 ∗ xPts m c (rr c) (leaf 3 fullShare (Fin.castLE (by decide) (6 : Fin 7))) ∗ xTok c 6 ∗ xDst (F := F) c 6) : sProp 𝕄)
      ⊢ iprop((((own c (0) ∗ cred (tallyAt (cell c (uXs 5)) () (amt (uXs 5))) ∗ cred (tallyAt (cell c (uXs 6)) () (amt (uXs 6)))) -∗ wp frame (wpE (defs₀ (F := F)) 𝒱₀ (c : Thread nD τ) none) Set.univ (kk ⟨⟩) Q))
        -∗ wp frame (wpE (defs₀ (F := F)) 𝒱₀ (c : Thread nD τ) none) Set.univ (k0_part26 (F := F) (Memref.whole cc0_stg0_0) h0 (Memref.whole main_v2) h1 (Memref.whole main_v3) h2 (Memref.whole cc0_stg1_0) h3 (Memref.whole cc0_scratch0) h4 (Memref.whole cc0_scratch1) h5 (Memref.whole cc0_scratch2) h6 (Memref.whole cc0_scratch3) h7 (Memref.whole cc0_scratch4) h8 cc0_scratch5 cc0_scratch6 cc0_scratch7 cc0_scratch8 cc0_scratch9 cc0_scratch10 c v2 v5 v8 v237 v248 v369 v380 >>= kk) Q) := by
  rw [wp_bind, k0_part26_eq_skeleton]
  unfold k0_part26_skel
  simp only [semSignalWord, semWaitWord, Prog.lift, Prog.bind_op, Prog.bind_ret, Prog.pure_eq_ret]
  iintro ⟨#Hk, HO, SX5, TX5, DX5, SX6, TX6, DX6⟩ HK
  iapply (mv_xsend m κ c _ 5 (dev25_eq c) (0 + oX (pj 6) c) semXs_5 (semXr c)) $$ [HO SX5 TX5 DX5]
  · isplitr; · iexact Hk
    isplitl [HO]; · iexact HO
    isplitl [SX5]; · iexact SX5
    isplitl [TX5]; · iexact TX5
    iexact DX5
  iintro ⟨CXs5, HO⟩
  iapply (mv_xsend m κ c _ 6 (dev26_eq c) (0) semXs_6 (semXr c)) $$ [HO SX6 TX6 DX6]
  · isplitr; · iexact Hk
    isplitl [HO]; · iexact HO
    isplitl [SX6]; · iexact SX6
    isplitl [TX6]; · iexact TX6
    iexact DX6
  iintro ⟨CXs6, HO⟩
  rw [wp_ret]
  imodintro
  iapply HK
  isplitl [HO]; · iexact HO
  isplitl [CXs5]; · iexact CXs5
  iexact CXs6

theorem part27 (m : (ℓ : Loc nD τ sig) → Buf (Elt F) ℓ) (κ : GSem nD τ sig → ℕ) (c : Dev nD) (v2 : BitVec 32) (v5 : BitVec 32) (v8 : BitVec 32) (v259 : BitVec 32) (v270 : BitVec 32) (v281 : BitVec 32) (v292 : BitVec 32) (v303 : BitVec 32) (v314 : BitVec 32)
    {h0 : (Memref.whole cc0_stg0_0 : Memref sig .tc .vmem S16x1x1024 .f32).IsWhole} {h1 : (Memref.whole main_v2 : Memref sig .tc .hbm S16x1024x1024 .f32).IsWhole} {h2 : (Memref.whole main_v3 : Memref sig .tc .hbm S16x1024x1024 .f32).IsWhole} {h3 : (Memref.whole cc0_stg1_0 : Memref sig .tc .vmem S8x2x1024 .f32).IsWhole} {h4 : (Memref.whole cc0_scratch0 : Memref sig .tc .vmem S2x1024x1024 .f32).IsWhole} {h5 : (Memref.whole cc0_scratch1 : Memref sig .tc .vmem S2x1024x1024 .f32).IsWhole} {h6 : (Memref.whole cc0_scratch2 : Memref sig .tc .vmem S4x2x16 .f32).IsWhole} {h7 : (Memref.whole cc0_scratch3 : Memref sig .tc .vmem S4x2x16 .f32).IsWhole} {h8 : (Memref.whole cc0_scratch4 : Memref sig .tc .vmem S4x2x1024 .f32).IsWhole} {α : Type} {Q : α → sProp 𝕄} {kk : (BitVec 32) → Prog (TpuEff nD τ sig (Elt F) Λ₀ .tc) α} :
    (iprop(know m κ ∗ own c (0) ∗ cred (tallyAt (cell c (uXr (rr (pr 3 c)))) () (amt (uXr (rr (pr 3 c))))) ∗ pend c (uXr (rr (pr 3 c))) ∗ cred (tallyAt (cell c (uXr (rr (pr 4 c)))) () (amt (uXr (rr (pr 4 c))))) ∗ pend c (uXr (rr (pr 4 c))) ∗ cred (tallyAt (cell c (uXr (rr (pr 5 c)))) () (amt (uXr (rr (pr 5 c))))) ∗ pend c (uXr (rr (pr 5 c)))) : sProp 𝕄)
      ⊢ iprop((∀ (v894 : BitVec 32), ((own c (0) ∗ semVal (cell c (uXr (rr (pr 3 c)))) 0 ∗ usePay m c (uXr (rr (pr 3 c))) ∗ semVal (cell c (uXr (rr (pr 4 c)))) 0 ∗ usePay m c (uXr (rr (pr 4 c))) ∗ semVal (cell c (uXr (rr (pr 5 c)))) 0 ∗ usePay m c (uXr (rr (pr 5 c)))) -∗ wp frame (wpE (defs₀ (F := F)) 𝒱₀ (c : Thread nD τ) none) Set.univ (kk v894) Q))
        -∗ wp frame (wpE (defs₀ (F := F)) 𝒱₀ (c : Thread nD τ) none) Set.univ (k0_part27 (F := F) (Memref.whole cc0_stg0_0) h0 (Memref.whole main_v2) h1 (Memref.whole main_v3) h2 (Memref.whole cc0_stg1_0) h3 (Memref.whole cc0_scratch0) h4 (Memref.whole cc0_scratch1) h5 (Memref.whole cc0_scratch2) h6 (Memref.whole cc0_scratch3) h7 (Memref.whole cc0_scratch4) h8 cc0_scratch5 cc0_scratch6 cc0_scratch7 cc0_scratch8 cc0_scratch9 cc0_scratch10 c v2 v5 v8 v259 v270 v281 v292 v303 v314 >>= kk) Q) := by
  rw [wp_bind, k0_part27_eq_skeleton]
  unfold k0_part27_skel
  simp only [semSignalWord, semWaitWord, Prog.lift, Prog.bind_op, Prog.bind_ret, Prog.pure_eq_ret]
  iintro ⟨#Hk, HO, CXr0, PXr0, CXr1, PXr1, CXr2, PXr2⟩ HK
  iapply (mv_wait m κ c (uXr (rr (pr 3 c))) (beq_eq_false_iff_ne.mpr (rr_pr_ne 3 (by decide) c)) rfl (Above.zero _) (semXp_0 c) (credit_xr _ _ _)) $$ [HO CXr0 PXr0]
  · isplitr; · iexact Hk
    isplitl [HO]; · iexact HO
    isplitl [CXr0]; · iexact CXr0
    iexact PXr0
  iintro ⟨HO, ZXr0, UXr0⟩
  iapply (mv_wait m κ c (uXr (rr (pr 4 c))) (beq_eq_false_iff_ne.mpr (rr_pr_ne 4 (by decide) c)) rfl (Above.zero _) (semXp_1 c) (credit_xr _ _ _)) $$ [HO CXr1 PXr1]
  · isplitr; · iexact Hk
    isplitl [HO]; · iexact HO
    isplitl [CXr1]; · iexact CXr1
    iexact PXr1
  iintro ⟨HO, ZXr1, UXr1⟩
  iapply (mv_wait m κ c (uXr (rr (pr 5 c))) (beq_eq_false_iff_ne.mpr (rr_pr_ne 5 (by decide) c)) rfl (Above.zero _) (semXp_2 c) (credit_xr _ _ _)) $$ [HO CXr2 PXr2]
  · isplitr; · iexact Hk
    isplitl [HO]; · iexact HO
    isplitl [CXr2]; · iexact CXr2
    iexact PXr2
  iintro ⟨HO, ZXr2, UXr2⟩
  rw [wp_ret]
  imodintro
  iapply HK
  isplitl [HO]; · iexact HO
  isplitl [ZXr0]; · iexact ZXr0
  isplitl [UXr0]; · iexact UXr0
  isplitl [ZXr1]; · iexact ZXr1
  isplitl [UXr1]; · iexact UXr1
  isplitl [ZXr2]; · iexact ZXr2
  iexact UXr2

theorem part28 (m : (ℓ : Loc nD τ sig) → Buf (Elt F) ℓ) (κ : GSem nD τ sig → ℕ) (c : Dev nD) (v2 : BitVec 32) (v5 : BitVec 32) (v8 : BitVec 32) (v325 : BitVec 32) (v336 : BitVec 32) (v347 : BitVec 32) (v358 : BitVec 32) (v894 : BitVec 32)
    {h0 : (Memref.whole cc0_stg0_0 : Memref sig .tc .vmem S16x1x1024 .f32).IsWhole} {h1 : (Memref.whole main_v2 : Memref sig .tc .hbm S16x1024x1024 .f32).IsWhole} {h2 : (Memref.whole main_v3 : Memref sig .tc .hbm S16x1024x1024 .f32).IsWhole} {h3 : (Memref.whole cc0_stg1_0 : Memref sig .tc .vmem S8x2x1024 .f32).IsWhole} {h4 : (Memref.whole cc0_scratch0 : Memref sig .tc .vmem S2x1024x1024 .f32).IsWhole} {h5 : (Memref.whole cc0_scratch1 : Memref sig .tc .vmem S2x1024x1024 .f32).IsWhole} {h6 : (Memref.whole cc0_scratch2 : Memref sig .tc .vmem S4x2x16 .f32).IsWhole} {h7 : (Memref.whole cc0_scratch3 : Memref sig .tc .vmem S4x2x16 .f32).IsWhole} {h8 : (Memref.whole cc0_scratch4 : Memref sig .tc .vmem S4x2x1024 .f32).IsWhole} {α : Type} {Q : α → sProp 𝕄} {kk : (PUnit) → Prog (TpuEff nD τ sig (Elt F) Λ₀ .tc) α} :
    (iprop(know m κ ∗ own c (0) ∗ cred (tallyAt (cell c (uXr (rr (pr 6 c)))) () (amt (uXr (rr (pr 6 c))))) ∗ pend c (uXr (rr (pr 6 c))) ∗ cred (tallyAt (cell c (uXr (rr (pr 7 c)))) () (amt (uXr (rr (pr 7 c))))) ∗ pend c (uXr (rr (pr 7 c)))) : sProp 𝕄)
      ⊢ iprop((((own c (0) ∗ semVal (cell c (uXr (rr (pr 6 c)))) 0 ∗ usePay m c (uXr (rr (pr 6 c))) ∗ semVal (cell c (uXr (rr (pr 7 c)))) 0 ∗ usePay m c (uXr (rr (pr 7 c)))) -∗ wp frame (wpE (defs₀ (F := F)) 𝒱₀ (c : Thread nD τ) none) Set.univ (kk ⟨⟩) Q))
        -∗ wp frame (wpE (defs₀ (F := F)) 𝒱₀ (c : Thread nD τ) none) Set.univ (k0_part28 (F := F) (Memref.whole cc0_stg0_0) h0 (Memref.whole main_v2) h1 (Memref.whole main_v3) h2 (Memref.whole cc0_stg1_0) h3 (Memref.whole cc0_scratch0) h4 (Memref.whole cc0_scratch1) h5 (Memref.whole cc0_scratch2) h6 (Memref.whole cc0_scratch3) h7 (Memref.whole cc0_scratch4) h8 cc0_scratch5 cc0_scratch6 cc0_scratch7 cc0_scratch8 cc0_scratch9 cc0_scratch10 c v2 v5 v8 v325 v336 v347 v358 v894 >>= kk) Q) := by
  rw [wp_bind, k0_part28_eq_skeleton]
  unfold k0_part28_skel
  simp only [semSignalWord, semWaitWord, Prog.lift, Prog.bind_op, Prog.bind_ret, Prog.pure_eq_ret]
  iintro ⟨#Hk, HO, CXr3, PXr3, CXr4, PXr4⟩ HK
  iapply (mv_wait m κ c (uXr (rr (pr 6 c))) (beq_eq_false_iff_ne.mpr (rr_pr_ne 6 (by decide) c)) rfl (Above.zero _) (semXp_3 c) (credit_xr _ _ _)) $$ [HO CXr3 PXr3]
  · isplitr; · iexact Hk
    isplitl [HO]; · iexact HO
    isplitl [CXr3]; · iexact CXr3
    iexact PXr3
  iintro ⟨HO, ZXr3, UXr3⟩
  iapply (mv_wait m κ c (uXr (rr (pr 7 c))) (beq_eq_false_iff_ne.mpr (rr_pr_ne 7 (by decide) c)) rfl (Above.zero _) (semXp_4 c) (credit_xr _ _ _)) $$ [HO CXr4 PXr4]
  · isplitr; · iexact Hk
    isplitl [HO]; · iexact HO
    isplitl [CXr4]; · iexact CXr4
    iexact PXr4
  iintro ⟨HO, ZXr4, UXr4⟩
  rw [wp_ret]
  imodintro
  iapply HK
  isplitl [HO]; · iexact HO
  isplitl [ZXr3]; · iexact ZXr3
  isplitl [UXr3]; · iexact UXr3
  isplitl [ZXr4]; · iexact ZXr4
  iexact UXr4

theorem part29 (m : (ℓ : Loc nD τ sig) → Buf (Elt F) ℓ) (κ : GSem nD τ sig → ℕ) (c : Dev nD) (v2 : BitVec 32) (v5 : BitVec 32) (v8 : BitVec 32) (v369 : BitVec 32) (v380 : BitVec 32)
    {h0 : (Memref.whole cc0_stg0_0 : Memref sig .tc .vmem S16x1x1024 .f32).IsWhole} {h1 : (Memref.whole main_v2 : Memref sig .tc .hbm S16x1024x1024 .f32).IsWhole} {h2 : (Memref.whole main_v3 : Memref sig .tc .hbm S16x1024x1024 .f32).IsWhole} {h3 : (Memref.whole cc0_stg1_0 : Memref sig .tc .vmem S8x2x1024 .f32).IsWhole} {h4 : (Memref.whole cc0_scratch0 : Memref sig .tc .vmem S2x1024x1024 .f32).IsWhole} {h5 : (Memref.whole cc0_scratch1 : Memref sig .tc .vmem S2x1024x1024 .f32).IsWhole} {h6 : (Memref.whole cc0_scratch2 : Memref sig .tc .vmem S4x2x16 .f32).IsWhole} {h7 : (Memref.whole cc0_scratch3 : Memref sig .tc .vmem S4x2x16 .f32).IsWhole} {h8 : (Memref.whole cc0_scratch4 : Memref sig .tc .vmem S4x2x1024 .f32).IsWhole} {α : Type} {Q : α → sProp 𝕄} {kk : (PUnit) → Prog (TpuEff nD τ sig (Elt F) Λ₀ .tc) α} :
    (iprop(know m κ ∗ own c (0) ∗ cred (tallyAt (cell c (uXr (rr (pr 8 c)))) () (amt (uXr (rr (pr 8 c))))) ∗ pend c (uXr (rr (pr 8 c))) ∗ cred (tallyAt (cell c (uXr (rr (pr 9 c)))) () (amt (uXr (rr (pr 9 c))))) ∗ pend c (uXr (rr (pr 9 c))) ∗ cred (tallyAt (cell c (uXs 0)) () (amt (uXs 0))) ∗ pend c (uXs 0) ∗ cred (tallyAt (cell c (uXs 1)) () (amt (uXs 1))) ∗ pend c (uXs 1)) : sProp 𝕄)
      ⊢ iprop((((own c (0) ∗ semVal (cell c (uXr (rr (pr 8 c)))) 0 ∗ usePay m c (uXr (rr (pr 8 c))) ∗ semVal (cell c (uXr (rr (pr 9 c)))) 0 ∗ usePay m c (uXr (rr (pr 9 c))) ∗ semVal (cell c (uXs 0)) 0 ∗ usePay m c (uXs 0) ∗ semVal (cell c (uXs 1)) 0 ∗ usePay m c (uXs 1)) -∗ wp frame (wpE (defs₀ (F := F)) 𝒱₀ (c : Thread nD τ) none) Set.univ (kk ⟨⟩) Q))
        -∗ wp frame (wpE (defs₀ (F := F)) 𝒱₀ (c : Thread nD τ) none) Set.univ (k0_part29 (F := F) (Memref.whole cc0_stg0_0) h0 (Memref.whole main_v2) h1 (Memref.whole main_v3) h2 (Memref.whole cc0_stg1_0) h3 (Memref.whole cc0_scratch0) h4 (Memref.whole cc0_scratch1) h5 (Memref.whole cc0_scratch2) h6 (Memref.whole cc0_scratch3) h7 (Memref.whole cc0_scratch4) h8 cc0_scratch5 cc0_scratch6 cc0_scratch7 cc0_scratch8 cc0_scratch9 cc0_scratch10 c v2 v5 v8 v369 v380 >>= kk) Q) := by
  rw [wp_bind, k0_part29_eq_skeleton]
  unfold k0_part29_skel
  simp only [semSignalWord, semWaitWord, Prog.lift, Prog.bind_op, Prog.bind_ret, Prog.pure_eq_ret]
  iintro ⟨#Hk, HO, CXr5, PXr5, CXr6, PXr6, CXs0, PXs0, CXs1, PXs1⟩ HK
  iapply (mv_wait m κ c (uXr (rr (pr 8 c))) (beq_eq_false_iff_ne.mpr (rr_pr_ne 8 (by decide) c)) rfl (Above.zero _) (semXp_5 c) (credit_xr _ _ _)) $$ [HO CXr5 PXr5]
  · isplitr; · iexact Hk
    isplitl [HO]; · iexact HO
    isplitl [CXr5]; · iexact CXr5
    iexact PXr5
  iintro ⟨HO, ZXr5, UXr5⟩
  iapply (mv_wait m κ c (uXr (rr (pr 9 c))) (beq_eq_false_iff_ne.mpr (rr_pr_ne 9 (by decide) c)) rfl (Above.zero _) (semXp_6 c) (credit_xr _ _ _)) $$ [HO CXr6 PXr6]
  · isplitr; · iexact Hk
    isplitl [HO]; · iexact HO
    isplitl [CXr6]; · iexact CXr6
    iexact PXr6
  iintro ⟨HO, ZXr6, UXr6⟩
  iapply (mv_wait m κ c (uXs 0) rfl rfl (Above.zero _) semXs_0 (credit_xs _ _ _)) $$ [HO CXs0 PXs0]
  · isplitr; · iexact Hk
    isplitl [HO]; · iexact HO
    isplitl [CXs0]; · iexact CXs0
    iexact PXs0
  iintro ⟨HO, ZXs0, UXs0⟩
  iapply (mv_wait m κ c (uXs 1) rfl rfl (Above.zero _) semXs_1 (credit_xs _ _ _)) $$ [HO CXs1 PXs1]
  · isplitr; · iexact Hk
    isplitl [HO]; · iexact HO
    isplitl [CXs1]; · iexact CXs1
    iexact PXs1
  iintro ⟨HO, ZXs1, UXs1⟩
  rw [wp_ret]
  imodintro
  iapply HK
  isplitl [HO]; · iexact HO
  isplitl [ZXr5]; · iexact ZXr5
  isplitl [UXr5]; · iexact UXr5
  isplitl [ZXr6]; · iexact ZXr6
  isplitl [UXr6]; · iexact UXr6
  isplitl [ZXs0]; · iexact ZXs0
  isplitl [UXs0]; · iexact UXs0
  isplitl [ZXs1]; · iexact ZXs1
  iexact UXs1

theorem part30 (m : (ℓ : Loc nD τ sig) → Buf (Elt F) ℓ) (κ : GSem nD τ sig → ℕ) (c : Dev nD)
    {h0 : (Memref.whole cc0_stg0_0 : Memref sig .tc .vmem S16x1x1024 .f32).IsWhole} {h1 : (Memref.whole main_v2 : Memref sig .tc .hbm S16x1024x1024 .f32).IsWhole} {h2 : (Memref.whole main_v3 : Memref sig .tc .hbm S16x1024x1024 .f32).IsWhole} {h3 : (Memref.whole cc0_stg1_0 : Memref sig .tc .vmem S8x2x1024 .f32).IsWhole} {h4 : (Memref.whole cc0_scratch0 : Memref sig .tc .vmem S2x1024x1024 .f32).IsWhole} {h5 : (Memref.whole cc0_scratch1 : Memref sig .tc .vmem S2x1024x1024 .f32).IsWhole} {h6 : (Memref.whole cc0_scratch2 : Memref sig .tc .vmem S4x2x16 .f32).IsWhole} {h7 : (Memref.whole cc0_scratch3 : Memref sig .tc .vmem S4x2x16 .f32).IsWhole} {h8 : (Memref.whole cc0_scratch4 : Memref sig .tc .vmem S4x2x1024 .f32).IsWhole} {α : Type} {Q : α → sProp 𝕄} {kk : (PUnit) → Prog (TpuEff nD τ sig (Elt F) Λ₀ .tc) α} :
    (iprop(know m κ ∗ own c (0) ∗ cred (tallyAt (cell c (uXs 2)) () (amt (uXs 2))) ∗ pend c (uXs 2) ∗ cred (tallyAt (cell c (uXs 3)) () (amt (uXs 3))) ∗ pend c (uXs 3) ∗ cred (tallyAt (cell c (uXs 4)) () (amt (uXs 4))) ∗ pend c (uXs 4) ∗ cred (tallyAt (cell c (uXs 5)) () (amt (uXs 5))) ∗ pend c (uXs 5)) : sProp 𝕄)
      ⊢ iprop((((own c (0) ∗ semVal (cell c (uXs 2)) 0 ∗ usePay m c (uXs 2) ∗ semVal (cell c (uXs 3)) 0 ∗ usePay m c (uXs 3) ∗ semVal (cell c (uXs 4)) 0 ∗ usePay m c (uXs 4) ∗ semVal (cell c (uXs 5)) 0 ∗ usePay m c (uXs 5)) -∗ wp frame (wpE (defs₀ (F := F)) 𝒱₀ (c : Thread nD τ) none) Set.univ (kk ⟨⟩) Q))
        -∗ wp frame (wpE (defs₀ (F := F)) 𝒱₀ (c : Thread nD τ) none) Set.univ (k0_part30 (F := F) (Memref.whole cc0_stg0_0) h0 (Memref.whole main_v2) h1 (Memref.whole main_v3) h2 (Memref.whole cc0_stg1_0) h3 (Memref.whole cc0_scratch0) h4 (Memref.whole cc0_scratch1) h5 (Memref.whole cc0_scratch2) h6 (Memref.whole cc0_scratch3) h7 (Memref.whole cc0_scratch4) h8 cc0_scratch5 cc0_scratch6 cc0_scratch7 cc0_scratch8 cc0_scratch9 cc0_scratch10 c >>= kk) Q) := by
  rw [wp_bind, k0_part30_eq_skeleton]
  unfold k0_part30_skel
  simp only [semSignalWord, semWaitWord, Prog.lift, Prog.bind_op, Prog.bind_ret, Prog.pure_eq_ret]
  iintro ⟨#Hk, HO, CXs2, PXs2, CXs3, PXs3, CXs4, PXs4, CXs5, PXs5⟩ HK
  iapply (mv_wait m κ c (uXs 2) rfl rfl (Above.zero _) semXs_2 (credit_xs _ _ _)) $$ [HO CXs2 PXs2]
  · isplitr; · iexact Hk
    isplitl [HO]; · iexact HO
    isplitl [CXs2]; · iexact CXs2
    iexact PXs2
  iintro ⟨HO, ZXs2, UXs2⟩
  iapply (mv_wait m κ c (uXs 3) rfl rfl (Above.zero _) semXs_3 (credit_xs _ _ _)) $$ [HO CXs3 PXs3]
  · isplitr; · iexact Hk
    isplitl [HO]; · iexact HO
    isplitl [CXs3]; · iexact CXs3
    iexact PXs3
  iintro ⟨HO, ZXs3, UXs3⟩
  iapply (mv_wait m κ c (uXs 4) rfl rfl (Above.zero _) semXs_4 (credit_xs _ _ _)) $$ [HO CXs4 PXs4]
  · isplitr; · iexact Hk
    isplitl [HO]; · iexact HO
    isplitl [CXs4]; · iexact CXs4
    iexact PXs4
  iintro ⟨HO, ZXs4, UXs4⟩
  iapply (mv_wait m κ c (uXs 5) rfl rfl (Above.zero _) semXs_5 (credit_xs _ _ _)) $$ [HO CXs5 PXs5]
  · isplitr; · iexact Hk
    isplitl [HO]; · iexact HO
    isplitl [CXs5]; · iexact CXs5
    iexact PXs5
  iintro ⟨HO, ZXs5, UXs5⟩
  rw [wp_ret]
  imodintro
  iapply HK
  isplitl [HO]; · iexact HO
  isplitl [ZXs2]; · iexact ZXs2
  isplitl [UXs2]; · iexact UXs2
  isplitl [ZXs3]; · iexact ZXs3
  isplitl [UXs3]; · iexact UXs3
  isplitl [ZXs4]; · iexact ZXs4
  isplitl [UXs4]; · iexact UXs4
  isplitl [ZXs5]; · iexact ZXs5
  iexact UXs5

end Cert.Decode

end
-- ==== Proof.Body.lean ====
/-
# The body whole

The parts' lemmas composed, at a symbolic device.
-/
module

public import proofs.«01_k».proof.Proof.PartsB
public import proofs.«01_k».proof.Proof.PartsC

@[expose] public section

set_option maxRecDepth 16384

noncomputable section

namespace Cert.Decode

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3 eq_ix3)
open Idealize.ShloMosaic.ShareLeaves (leaf)

variable {F : FTy → Type} [FloatOps F]

local notation "𝕄" => MT nD τ sig Unit (Elt F) ℕ UU ℕ

variable (m : (ℓ : Loc nD τ sig) → Buf (Elt F) ℓ)

/-- The own row of partials, cut for its three sends and the combining load. -/
theorem cutY0 (c : Dev nD) : ((((c : Thread nD τ).loc cc0_scratch2) ↦[rowS (yp c).val]{fullShare} MC m c) : sProp 𝕄)
    = iprop(yPts m c (yp c) (leaf 2 fullShare (Fin.castLE (by decide) (0 : Fin 3))) 0 ∗ yPts m c (yp c) (leaf 2 fullShare (Fin.castLE (by decide) (1 : Fin 3))) 0 ∗ yPts m c (yp c) (leaf 2 fullShare (Fin.castLE (by decide) (2 : Fin 3))) 0 ∗ yPts m c (yp c) (leaf 2 fullShare 3) 0) := yLeaves m c 0
/-- The own row of partials, cut for its three sends and the combining load. -/
theorem cutY1 (c : Dev nD) : ((((c : Thread nD τ).loc cc0_scratch3) ↦[rowS (yp c).val]{fullShare} LC m c) : sProp 𝕄)
    = iprop(yPts m c (yp c) (leaf 2 fullShare (Fin.castLE (by decide) (0 : Fin 3))) 1 ∗ yPts m c (yp c) (leaf 2 fullShare (Fin.castLE (by decide) (1 : Fin 3))) 1 ∗ yPts m c (yp c) (leaf 2 fullShare (Fin.castLE (by decide) (2 : Fin 3))) 1 ∗ yPts m c (yp c) (leaf 2 fullShare 3) 1) := yLeaves m c 1
/-- The own row of partials, cut for its three sends and the combining load. -/
theorem cutY2 (c : Dev nD) : ((((c : Thread nD τ).loc cc0_scratch4) ↦[rowS (yp c).val]{fullShare} OC m c) : sProp 𝕄)
    = iprop(yPts m c (yp c) (leaf 2 fullShare (Fin.castLE (by decide) (0 : Fin 3))) 2 ∗ yPts m c (yp c) (leaf 2 fullShare (Fin.castLE (by decide) (1 : Fin 3))) 2 ∗ yPts m c (yp c) (leaf 2 fullShare (Fin.castLE (by decide) (2 : Fin 3))) 2 ∗ yPts m c (yp c) (leaf 2 fullShare 3) 2) := yLeaves m c 2
/-- The own finished rows, cut for their seven sends. -/
theorem cutX (c : Dev nD) : ((((c : Thread nD τ).loc cc0_stg1_0) ↦[rowS (rr c).val]{fullShare} OUT m c) : sProp 𝕄)
    = iprop(xPts m c (rr c) (leaf 3 fullShare (Fin.castLE (by decide) (0 : Fin 7))) ∗ xPts m c (rr c) (leaf 3 fullShare (Fin.castLE (by decide) (1 : Fin 7))) ∗ xPts m c (rr c) (leaf 3 fullShare (Fin.castLE (by decide) (2 : Fin 7))) ∗ xPts m c (rr c) (leaf 3 fullShare (Fin.castLE (by decide) (3 : Fin 7))) ∗ xPts m c (rr c) (leaf 3 fullShare (Fin.castLE (by decide) (4 : Fin 7))) ∗ xPts m c (rr c) (leaf 3 fullShare (Fin.castLE (by decide) (5 : Fin 7))) ∗ xPts m c (rr c) (leaf 3 fullShare (Fin.castLE (by decide) (6 : Fin 7))) ∗ xPts m c (rr c) (leaf 3 fullShare 7)) := xLeaves m c

set_option maxHeartbeats 4000000 in
/-- The whole body on device `c`: every piece it takes, and what is left of each. -/
theorem body_run (m : (ℓ : Loc nD τ sig) → Buf (Elt F) ℓ) (κ : GSem nD τ sig → ℕ) (c : Dev nD) {h0 : (Memref.whole cc0_stg0_0 : Memref sig .tc .vmem S16x1x1024 .f32).IsWhole} {h1 : (Memref.whole main_v2 : Memref sig .tc .hbm S16x1024x1024 .f32).IsWhole} {h2 : (Memref.whole main_v3 : Memref sig .tc .hbm S16x1024x1024 .f32).IsWhole} {h3 : (Memref.whole cc0_stg1_0 : Memref sig .tc .vmem S8x2x1024 .f32).IsWhole} {h4 : (Memref.whole cc0_scratch0 : Memref sig .tc .vmem S2x1024x1024 .f32).IsWhole} {h5 : (Memref.whole cc0_scratch1 : Memref sig .tc .vmem S2x1024x1024 .f32).IsWhole} {h6 : (Memref.whole cc0_scratch2 : Memref sig .tc .vmem S4x2x16 .f32).IsWhole} {h7 : (Memref.whole cc0_scratch3 : Memref sig .tc .vmem S4x2x16 .f32).IsWhole} {h8 : (Memref.whole cc0_scratch4 : Memref sig .tc .vmem S4x2x1024 .f32).IsWhole} {Q : PUnit → sProp 𝕄} :
    (iprop(know m κ ∗ own c (O₀ c) ∗ locSrc m c 0 ∗ locSrc m c 2 ∗ locSrc m c 1 ∗ locSrc m c 3 ∗ pend c (uLoc 0) ∗ pend c (uLoc 2) ∗ (((c : Thread nD τ).loc cc0_stg0_0) ↦[Finset.univ]{fullShare} Q1 m c) ∗ pend c (uLoc 1) ∗ pend c (uLoc 3) ∗ (∃ f : Buf (Elt F) ((c : Thread nD τ).loc cc0_scratch2), ((c : Thread nD τ).loc cc0_scratch2) ↦[rowS (yp c).val]{fullShare} f) ∗ (∃ f : Buf (Elt F) ((c : Thread nD τ).loc cc0_scratch3), ((c : Thread nD τ).loc cc0_scratch3) ↦[rowS (yp c).val]{fullShare} f) ∗ (∃ f : Buf (Elt F) ((c : Thread nD τ).loc cc0_scratch4), ((c : Thread nD τ).loc cc0_scratch4) ↦[rowS (yp c).val]{fullShare} f) ∗ barTok (F := F) c 0 ∗ barTok (F := F) c 1 ∗ barTok (F := F) c 2 ∗ barTok (F := F) c 3 ∗ barTok (F := F) c 4 ∗ barTok (F := F) c 5 ∗ barTok (F := F) c 6 ∗ barTok (F := F) c 7 ∗ barTok (F := F) c 8 ∗ barTok (F := F) c 9 ∗ cred (tallyAt (barCell c) () 10) ∗ atPos ER (barCell c) 0 ∅ 0 ∗ yTok c 0 0 ∗ yTok c 0 1 ∗ yTok c 0 2 ∗ yTok c 1 0 ∗ yTok c 1 1 ∗ yTok c 1 2 ∗ yTok c 2 0 ∗ yTok c 2 1 ∗ yTok c 2 2 ∗ cred (tallyAt (cell c (uYr (yp (pr 0 c)) 0)) () (amt (uYr (yp (pr 0 c)) 0))) ∗ pend c (uYr (yp (pr 0 c)) 0) ∗ cred (tallyAt (cell c (uYr (yp (pr 0 c)) 1)) () (amt (uYr (yp (pr 0 c)) 1))) ∗ pend c (uYr (yp (pr 0 c)) 1) ∗ cred (tallyAt (cell c (uYr (yp (pr 0 c)) 2)) () (amt (uYr (yp (pr 0 c)) 2))) ∗ pend c (uYr (yp (pr 0 c)) 2) ∗ cred (tallyAt (cell c (uYr (yp (pr 1 c)) 0)) () (amt (uYr (yp (pr 1 c)) 0))) ∗ pend c (uYr (yp (pr 1 c)) 0) ∗ cred (tallyAt (cell c (uYr (yp (pr 1 c)) 1)) () (amt (uYr (yp (pr 1 c)) 1))) ∗ pend c (uYr (yp (pr 1 c)) 1) ∗ cred (tallyAt (cell c (uYr (yp (pr 1 c)) 2)) () (amt (uYr (yp (pr 1 c)) 2))) ∗ pend c (uYr (yp (pr 1 c)) 2) ∗ cred (tallyAt (cell c (uYr (yp (pr 2 c)) 0)) () (amt (uYr (yp (pr 2 c)) 0))) ∗ pend c (uYr (yp (pr 2 c)) 0) ∗ cred (tallyAt (cell c (uYr (yp (pr 2 c)) 1)) () (amt (uYr (yp (pr 2 c)) 1))) ∗ pend c (uYr (yp (pr 2 c)) 1) ∗ cred (tallyAt (cell c (uYr (yp (pr 2 c)) 2)) () (amt (uYr (yp (pr 2 c)) 2))) ∗ pend c (uYr (yp (pr 2 c)) 2) ∗ (∃ f : Buf (Elt F) ((c : Thread nD τ).loc cc0_stg1_0), ((c : Thread nD τ).loc cc0_stg1_0) ↦[rowS (rr c).val]{fullShare} f) ∗ pend c (uYs 0 0) ∗ pend c (uYs 0 1) ∗ pend c (uYs 0 2) ∗ pend c (uYs 1 0) ∗ pend c (uYs 1 1) ∗ pend c (uYs 1 2) ∗ pend c (uYs 2 0) ∗ pend c (uYs 2 1) ∗ pend c (uYs 2 2) ∗ xTok c 0 ∗ xTok c 1 ∗ xTok c 2 ∗ xTok c 3 ∗ xTok c 4 ∗ xTok c 5 ∗ xTok c 6 ∗ cred (tallyAt (cell c (uXr (rr (pr 3 c)))) () (amt (uXr (rr (pr 3 c))))) ∗ pend c (uXr (rr (pr 3 c))) ∗ cred (tallyAt (cell c (uXr (rr (pr 4 c)))) () (amt (uXr (rr (pr 4 c))))) ∗ pend c (uXr (rr (pr 4 c))) ∗ cred (tallyAt (cell c (uXr (rr (pr 5 c)))) () (amt (uXr (rr (pr 5 c))))) ∗ pend c (uXr (rr (pr 5 c))) ∗ cred (tallyAt (cell c (uXr (rr (pr 6 c)))) () (amt (uXr (rr (pr 6 c))))) ∗ pend c (uXr (rr (pr 6 c))) ∗ cred (tallyAt (cell c (uXr (rr (pr 7 c)))) () (amt (uXr (rr (pr 7 c))))) ∗ pend c (uXr (rr (pr 7 c))) ∗ cred (tallyAt (cell c (uXr (rr (pr 8 c)))) () (amt (uXr (rr (pr 8 c))))) ∗ pend c (uXr (rr (pr 8 c))) ∗ cred (tallyAt (cell c (uXr (rr (pr 9 c)))) () (amt (uXr (rr (pr 9 c))))) ∗ pend c (uXr (rr (pr 9 c))) ∗ pend c (uXs 0) ∗ pend c (uXs 1) ∗ pend c (uXs 2) ∗ pend c (uXs 3) ∗ pend c (uXs 4) ∗ pend c (uXs 5) ∗ pend c (uXs 6)) : sProp 𝕄)
      ⊢ iprop(((own c (0) ∗ semVal (cell c (uLoc 0)) 0 ∗ (((c : Thread nD τ).loc main_v2) ↦[rowS (brow c 0)]{leaf 1 fullShare 0} K2 m c) ∗ semVal (cell c (uLoc 2)) 0 ∗ (((c : Thread nD τ).loc main_v3) ↦[rowS (brow c 0)]{leaf 1 fullShare 0} V2 m c) ∗ (((c : Thread nD τ).loc cc0_scratch0) ↦[rowS 0]{fullShare} KB m c) ∗ (((c : Thread nD τ).loc cc0_scratch1) ↦[rowS 0]{fullShare} VB m c) ∗ semVal (cell c (uLoc 1)) 0 ∗ (((c : Thread nD τ).loc main_v2) ↦[rowS (brow c 1)]{leaf 1 fullShare 1} K2 m c) ∗ semVal (cell c (uLoc 3)) 0 ∗ (((c : Thread nD τ).loc main_v3) ↦[rowS (brow c 1)]{leaf 1 fullShare 1} V2 m c) ∗ (((c : Thread nD τ).loc cc0_scratch0) ↦[rowS 1]{fullShare} KB m c) ∗ (((c : Thread nD τ).loc cc0_scratch1) ↦[rowS 1]{fullShare} VB m c) ∗ (((c : Thread nD τ).loc cc0_stg0_0) ↦[Finset.univ]{fullShare} Q1 m c) ∗ semVal (barCell c) 0 ∗ semVal (cell c (uYr (yp (pr 0 c)) 0)) 0 ∗ semVal (cell c (uYr (yp (pr 0 c)) 1)) 0 ∗ semVal (cell c (uYr (yp (pr 0 c)) 2)) 0 ∗ semVal (cell c (uYr (yp (pr 1 c)) 0)) 0 ∗ semVal (cell c (uYr (yp (pr 1 c)) 1)) 0 ∗ semVal (cell c (uYr (yp (pr 1 c)) 2)) 0 ∗ semVal (cell c (uYr (yp (pr 2 c)) 0)) 0 ∗ semVal (cell c (uYr (yp (pr 2 c)) 1)) 0 ∗ semVal (cell c (uYr (yp (pr 2 c)) 2)) 0 ∗ yPts m c (yp c) (leaf 2 fullShare 3) 0 ∗ usePay m c (uYr (yp (pr 0 c)) 0) ∗ usePay m c (uYr (yp (pr 1 c)) 0) ∗ usePay m c (uYr (yp (pr 2 c)) 0) ∗ yPts m c (yp c) (leaf 2 fullShare 3) 1 ∗ usePay m c (uYr (yp (pr 0 c)) 1) ∗ usePay m c (uYr (yp (pr 1 c)) 1) ∗ usePay m c (uYr (yp (pr 2 c)) 1) ∗ yPts m c (yp c) (leaf 2 fullShare 3) 2 ∗ usePay m c (uYr (yp (pr 0 c)) 2) ∗ usePay m c (uYr (yp (pr 1 c)) 2) ∗ usePay m c (uYr (yp (pr 2 c)) 2) ∗ semVal (cell c (uYs 0 0)) 0 ∗ usePay m c (uYs 0 0) ∗ semVal (cell c (uYs 0 1)) 0 ∗ usePay m c (uYs 0 1) ∗ semVal (cell c (uYs 0 2)) 0 ∗ usePay m c (uYs 0 2) ∗ semVal (cell c (uYs 1 0)) 0 ∗ usePay m c (uYs 1 0) ∗ semVal (cell c (uYs 1 1)) 0 ∗ usePay m c (uYs 1 1) ∗ semVal (cell c (uYs 1 2)) 0 ∗ usePay m c (uYs 1 2) ∗ semVal (cell c (uYs 2 0)) 0 ∗ usePay m c (uYs 2 0) ∗ semVal (cell c (uYs 2 1)) 0 ∗ usePay m c (uYs 2 1) ∗ semVal (cell c (uYs 2 2)) 0 ∗ usePay m c (uYs 2 2) ∗ xPts m c (rr c) (leaf 3 fullShare 7) ∗ semVal (cell c (uXr (rr (pr 3 c)))) 0 ∗ usePay m c (uXr (rr (pr 3 c))) ∗ semVal (cell c (uXr (rr (pr 4 c)))) 0 ∗ usePay m c (uXr (rr (pr 4 c))) ∗ semVal (cell c (uXr (rr (pr 5 c)))) 0 ∗ usePay m c (uXr (rr (pr 5 c))) ∗ semVal (cell c (uXr (rr (pr 6 c)))) 0 ∗ usePay m c (uXr (rr (pr 6 c))) ∗ semVal (cell c (uXr (rr (pr 7 c)))) 0 ∗ usePay m c (uXr (rr (pr 7 c))) ∗ semVal (cell c (uXr (rr (pr 8 c)))) 0 ∗ usePay m c (uXr (rr (pr 8 c))) ∗ semVal (cell c (uXr (rr (pr 9 c)))) 0 ∗ usePay m c (uXr (rr (pr 9 c))) ∗ semVal (cell c (uXs 0)) 0 ∗ usePay m c (uXs 0) ∗ semVal (cell c (uXs 1)) 0 ∗ usePay m c (uXs 1) ∗ semVal (cell c (uXs 2)) 0 ∗ usePay m c (uXs 2) ∗ semVal (cell c (uXs 3)) 0 ∗ usePay m c (uXs 3) ∗ semVal (cell c (uXs 4)) 0 ∗ usePay m c (uXs 4) ∗ semVal (cell c (uXs 5)) 0 ∗ usePay m c (uXs 5) ∗ semVal (cell c (uXs 6)) 0 ∗ usePay m c (uXs 6)) -∗ Q ⟨⟩)
        -∗ wp frame (wpE (defs₀ (F := F)) 𝒱₀ (c : Thread nD τ) none) Set.univ (cc0__body (F := F) (Memref.whole cc0_stg0_0) h0 (Memref.whole main_v2) h1 (Memref.whole main_v3) h2 (Memref.whole cc0_stg1_0) h3 (Memref.whole cc0_scratch0) h4 (Memref.whole cc0_scratch1) h5 (Memref.whole cc0_scratch2) h6 (Memref.whole cc0_scratch3) h7 (Memref.whole cc0_scratch4) h8 cc0_scratch5 cc0_scratch6 cc0_scratch7 cc0_scratch8 cc0_scratch9 cc0_scratch10) Q) := by
  rw [cc0__body_eq_skeleton]
  unfold cc0__body_skel
  iintro ⟨#Hk, HO, L0, L2, L1, L3, PL0, PL2, QS, PL1, PL3, WY0, WY1, WY2, B0, B1, B2, B3, B4, B5, B6, B7, B8, B9, CB, PB, TY00, TY01, TY02, TY10, TY11, TY12, TY20, TY21, TY22, CYr00, PYr00, CYr01, PYr01, CYr02, PYr02, CYr10, PYr10, CYr11, PYr11, CYr12, PYr12, CYr20, PYr20, CYr21, PYr21, CYr22, PYr22, WX, PYs00, PYs01, PYs02, PYs10, PYs11, PYs12, PYs20, PYs21, PYs22, TX0, TX1, TX2, TX3, TX4, TX5, TX6, CXr0, PXr0, CXr1, PXr1, CXr2, PXr2, CXr3, PXr3, CXr4, PXr4, CXr5, PXr5, CXr6, PXr6, PXs0, PXs1, PXs2, PXs3, PXs4, PXs5, PXs6⟩ HK
  iapply (part1 m κ c )
  iintro %v2 %v5 %v8 %v10 %v11
  dsimp only
  iapply (part2 m κ c _) $$ [L0]
  · isplitr; · iexact Hk
    iexact L0
  iintro CL0
  iapply (part3 m κ c _) $$ [HO L2 L1 L3 CL0 PL0 PL2]
  · isplitr; · iexact Hk
    isplitl [HO]; · iexact HO
    isplitl [L2]; · iexact L2
    isplitl [L1]; · iexact L1
    isplitl [L3]; · iexact L3
    isplitl [CL0]; · iexact CL0
    isplitl [PL0]; · iexact PL0
    iexact PL2
  iintro ⟨HO, CL1, CL3, ZL0, RL0, SL0, ZL2, RL2, SL2⟩
  iapply (part4 m κ c _) $$ [HO RL0 RL2 QS CL1 PL1]
  · isplitr; · iexact Hk
    isplitl [HO]; · iexact HO
    isplitl [RL0]; · iexact RL0
    isplitl [RL2]; · iexact RL2
    isplitl [QS]; · iexact QS
    isplitl [CL1]; · iexact CL1
    iexact PL1
  iintro ⟨HO, RL0, RL2, QS, ZL1, RL1, SL1⟩
  dsimp only
  iapply (part5 m κ c _ _) $$ [HO CL3 PL3 RL1 QS WY0]
  · isplitr; · iexact Hk
    isplitl [HO]; · iexact HO
    isplitl [CL3]; · iexact CL3
    isplitl [PL3]; · iexact PL3
    isplitl [RL1]; · iexact RL1
    isplitl [QS]; · iexact QS
    iexact WY0
  iintro ⟨HO, ZL3, SL3, RL1, RL3, QS, FY0⟩
  dsimp only
  iapply (part6 m κ c _) $$ [WY1 WY2]
  · isplitr; · iexact Hk
    isplitl [WY1]; · iexact WY1
    iexact WY2
  iintro %v204 %v215 %v218 %v219 ⟨FY1, FY2⟩
  dsimp only
  iapply (part7 m κ c _ _ _ _)
  iintro %v226 %v237 %v248 %v251 %v252 %v253 %v254 %v255
  dsimp only
  iapply (part8 m κ c _ _ _ _ _ _ _)
  iintro %v259 %v270 %v281 %v292 %v293
  dsimp only
  iapply (part9 m κ c _ _ _)
  iintro %v303 %v314 %v325 %v328 %v329
  dsimp only
  iapply (part10 m κ c _ _ _ _)
  iintro %v336 %v347 %v358 %v361 %v362 %v363 %v364 %v365
  dsimp only
  ihave HO := (Entails.of_eq (own_O₀ c)) $$ HO
  iapply (part11 m κ c _ _ _ _ _ _ _ _ _ _) $$ [HO B0 B1 B2]
  · isplitr; · iexact Hk
    isplitl [HO]; · iexact HO
    isplitl [B0]; · iexact B0
    isplitl [B1]; · iexact B1
    iexact B2
  iintro %v369 %v380 HO
  dsimp only
  iapply (part12 m κ c _ _ _ _ _ _ _ _ _ _ _) $$ [HO B3 B4 B5 B6 B7]
  · isplitr; · iexact Hk
    isplitl [HO]; · iexact HO
    isplitl [B3]; · iexact B3
    isplitl [B4]; · iexact B4
    isplitl [B5]; · iexact B5
    isplitl [B6]; · iexact B6
    iexact B7
  iintro HO
  ihave HF := (Entails.of_eq (cutY0 m c)) $$ FY0
  icases HF with ⟨SY00, SY10, SY20, OY0⟩
  ihave HF := (Entails.of_eq (cutY1 m c)) $$ FY1
  icases HF with ⟨SY01, SY11, SY21, OY1⟩
  ihave HF := (Entails.of_eq (cutY2 m c)) $$ FY2
  icases HF with ⟨SY02, SY12, SY22, OY2⟩
  iapply (part13 m κ c _ _ _ _ _ _ _ _) $$ [HO B8 B9 CB PB SY00 TY00]
  · isplitr; · iexact Hk
    isplitl [HO]; · iexact HO
    isplitl [B8]; · iexact B8
    isplitl [B9]; · iexact B9
    isplitl [CB]; · iexact CB
    isplitl [PB]; · iexact PB
    isplitl [SY00]; · iexact SY00
    iexact TY00
  iintro %v457 %c4_i32_285 ⟨HO, ZB, DY01, DY02, DY10, DY11, DY12, DY20, DY21, DY22, DX0, DX1, DX2, DX3, DX4, DX5, DX6, CYs00⟩
  dsimp only
  iapply (part14 m κ c _ _ _ _ _ _) $$ [HO SY01 TY01 DY01 SY02 TY02 DY02]
  · isplitr; · iexact Hk
    isplitl [HO]; · iexact HO
    isplitl [SY01]; · iexact SY01
    isplitl [TY01]; · iexact TY01
    isplitl [DY01]; · iexact DY01
    isplitl [SY02]; · iexact SY02
    isplitl [TY02]; · iexact TY02
    iexact DY02
  iintro ⟨HO, CYs01, CYs02⟩
  iapply (part15 m κ c _ _ _) $$ [HO SY10 TY10 DY10 SY11 TY11 DY11]
  · isplitr; · iexact Hk
    isplitl [HO]; · iexact HO
    isplitl [SY10]; · iexact SY10
    isplitl [TY10]; · iexact TY10
    isplitl [DY10]; · iexact DY10
    isplitl [SY11]; · iexact SY11
    isplitl [TY11]; · iexact TY11
    iexact DY11
  iintro ⟨HO, CYs10, CYs11⟩
  iapply (part16 m κ c _ _ _) $$ [HO SY12 TY12 DY12 SY20 TY20 DY20 SY21 TY21 DY21]
  · isplitr; · iexact Hk
    isplitl [HO]; · iexact HO
    isplitl [SY12]; · iexact SY12
    isplitl [TY12]; · iexact TY12
    isplitl [DY12]; · iexact DY12
    isplitl [SY20]; · iexact SY20
    isplitl [TY20]; · iexact TY20
    isplitl [DY20]; · iexact DY20
    isplitl [SY21]; · iexact SY21
    isplitl [TY21]; · iexact TY21
    iexact DY21
  iintro %v554 %c0_i32_361 ⟨HO, CYs12, CYs20, CYs21⟩
  dsimp only
  iapply (part17 m κ c _ _ _ _ _ _) $$ [HO SY22 TY22 DY22 CYr00 PYr00]
  · isplitr; · iexact Hk
    isplitl [HO]; · iexact HO
    isplitl [SY22]; · iexact SY22
    isplitl [TY22]; · iexact TY22
    isplitl [DY22]; · iexact DY22
    isplitl [CYr00]; · iexact CYr00
    iexact PYr00
  iintro ⟨HO, CYs22, ZYr00, UYr00⟩
  iapply (part18 m κ c _ _ _) $$ [HO CYr01 PYr01 CYr02 PYr02 CYr10 PYr10]
  · isplitr; · iexact Hk
    isplitl [HO]; · iexact HO
    isplitl [CYr01]; · iexact CYr01
    isplitl [PYr01]; · iexact PYr01
    isplitl [CYr02]; · iexact CYr02
    isplitl [PYr02]; · iexact PYr02
    isplitl [CYr10]; · iexact CYr10
    iexact PYr10
  iintro %c16_i32_415 ⟨HO, ZYr01, UYr01, ZYr02, UYr02, ZYr10, UYr10⟩
  iapply (part19 m κ c _ _ _ _) $$ [HO CYr11 PYr11 CYr12 PYr12]
  · isplitr; · iexact Hk
    isplitl [HO]; · iexact HO
    isplitl [CYr11]; · iexact CYr11
    isplitl [PYr11]; · iexact PYr11
    isplitl [CYr12]; · iexact CYr12
    iexact PYr12
  iintro ⟨HO, ZYr11, UYr11, ZYr12, UYr12⟩
  iapply (part20 m κ c _ _ _) $$ [HO CYr20 PYr20 CYr21 PYr21 CYr22 PYr22 OY0 UYr00 UYr10]
  · isplitr; · iexact Hk
    isplitl [HO]; · iexact HO
    isplitl [CYr20]; · iexact CYr20
    isplitl [PYr20]; · iexact PYr20
    isplitl [CYr21]; · iexact CYr21
    isplitl [PYr21]; · iexact PYr21
    isplitl [CYr22]; · iexact CYr22
    isplitl [PYr22]; · iexact PYr22
    isplitl [OY0]; · iexact OY0
    isplitl [UYr00]; · iexact UYr00
    iexact UYr10
  iintro ⟨HO, ZYr20, ZYr21, UYr21, ZYr22, UYr22, OY0, UYr00, UYr10, UYr20⟩
  iapply (part21 m κ c _) $$ [HO OY1 UYr01 UYr11 UYr21 OY2 UYr02 UYr12 UYr22 WX CYs00 PYs00]
  · isplitr; · iexact Hk
    isplitl [HO]; · iexact HO
    isplitl [OY1]; · iexact OY1
    isplitl [UYr01]; · iexact UYr01
    isplitl [UYr11]; · iexact UYr11
    isplitl [UYr21]; · iexact UYr21
    isplitl [OY2]; · iexact OY2
    isplitl [UYr02]; · iexact UYr02
    isplitl [UYr12]; · iexact UYr12
    isplitl [UYr22]; · iexact UYr22
    isplitl [WX]; · iexact WX
    isplitl [CYs00]; · iexact CYs00
    iexact PYs00
  iintro ⟨HO, OY1, UYr01, UYr11, UYr21, OY2, UYr02, UYr12, UYr22, FX, ZYs00, UYs00⟩
  iapply (part22 m κ c ) $$ [HO CYs01 PYs01 CYs02 PYs02 CYs10 PYs10 CYs11 PYs11]
  · isplitr; · iexact Hk
    isplitl [HO]; · iexact HO
    isplitl [CYs01]; · iexact CYs01
    isplitl [PYs01]; · iexact PYs01
    isplitl [CYs02]; · iexact CYs02
    isplitl [PYs02]; · iexact PYs02
    isplitl [CYs10]; · iexact CYs10
    isplitl [PYs10]; · iexact PYs10
    isplitl [CYs11]; · iexact CYs11
    iexact PYs11
  iintro ⟨HO, ZYs01, UYs01, ZYs02, UYs02, ZYs10, UYs10, ZYs11, UYs11⟩
  iapply (part23 m κ c _ _ _) $$ [HO CYs12 PYs12 CYs20 PYs20 CYs21 PYs21 CYs22 PYs22]
  · isplitr; · iexact Hk
    isplitl [HO]; · iexact HO
    isplitl [CYs12]; · iexact CYs12
    isplitl [PYs12]; · iexact PYs12
    isplitl [CYs20]; · iexact CYs20
    isplitl [PYs20]; · iexact PYs20
    isplitl [CYs21]; · iexact CYs21
    isplitl [PYs21]; · iexact PYs21
    isplitl [CYs22]; · iexact CYs22
    iexact PYs22
  iintro ⟨HO, ZYs12, UYs12, ZYs20, UYs20, ZYs21, UYs21, ZYs22, UYs22⟩
  ihave HO := (Entails.of_eq (own_OX c)) $$ HO
  ihave HF := (Entails.of_eq (cutX m c)) $$ FX
  icases HF with ⟨SX0, SX1, SX2, SX3, SX4, SX5, SX6, OX7⟩
  iapply (part24 m κ c _ _ _ _ _) $$ [HO SX0 TX0 DX0 SX1 TX1 DX1]
  · isplitr; · iexact Hk
    isplitl [HO]; · iexact HO
    isplitl [SX0]; · iexact SX0
    isplitl [TX0]; · iexact TX0
    isplitl [DX0]; · iexact DX0
    isplitl [SX1]; · iexact SX1
    isplitl [TX1]; · iexact TX1
    iexact DX1
  iintro ⟨HO, CXs0, CXs1⟩
  iapply (part25 m κ c _ _ _ _ _ _ _) $$ [HO SX2 TX2 DX2 SX3 TX3 DX3 SX4 TX4 DX4]
  · isplitr; · iexact Hk
    isplitl [HO]; · iexact HO
    isplitl [SX2]; · iexact SX2
    isplitl [TX2]; · iexact TX2
    isplitl [DX2]; · iexact DX2
    isplitl [SX3]; · iexact SX3
    isplitl [TX3]; · iexact TX3
    isplitl [DX3]; · iexact DX3
    isplitl [SX4]; · iexact SX4
    isplitl [TX4]; · iexact TX4
    iexact DX4
  iintro ⟨HO, CXs2, CXs3, CXs4⟩
  iapply (part26 m κ c _ _ _ _ _ _ _) $$ [HO SX5 TX5 DX5 SX6 TX6 DX6]
  · isplitr; · iexact Hk
    isplitl [HO]; · iexact HO
    isplitl [SX5]; · iexact SX5
    isplitl [TX5]; · iexact TX5
    isplitl [DX5]; · iexact DX5
    isplitl [SX6]; · iexact SX6
    isplitl [TX6]; · iexact TX6
    iexact DX6
  iintro ⟨HO, CXs5, CXs6⟩
  iapply (part27 m κ c _ _ _ _ _ _ _ _ _) $$ [HO CXr0 PXr0 CXr1 PXr1 CXr2 PXr2]
  · isplitr; · iexact Hk
    isplitl [HO]; · iexact HO
    isplitl [CXr0]; · iexact CXr0
    isplitl [PXr0]; · iexact PXr0
    isplitl [CXr1]; · iexact CXr1
    isplitl [PXr1]; · iexact PXr1
    isplitl [CXr2]; · iexact CXr2
    iexact PXr2
  iintro %v894 ⟨HO, ZXr0, UXr0, ZXr1, UXr1, ZXr2, UXr2⟩
  iapply (part28 m κ c _ _ _ _ _ _ _ _) $$ [HO CXr3 PXr3 CXr4 PXr4]
  · isplitr; · iexact Hk
    isplitl [HO]; · iexact HO
    isplitl [CXr3]; · iexact CXr3
    isplitl [PXr3]; · iexact PXr3
    isplitl [CXr4]; · iexact CXr4
    iexact PXr4
  iintro ⟨HO, ZXr3, UXr3, ZXr4, UXr4⟩
  iapply (part29 m κ c _ _ _ _ _) $$ [HO CXr5 PXr5 CXr6 PXr6 CXs0 PXs0 CXs1 PXs1]
  · isplitr; · iexact Hk
    isplitl [HO]; · iexact HO
    isplitl [CXr5]; · iexact CXr5
    isplitl [PXr5]; · iexact PXr5
    isplitl [CXr6]; · iexact CXr6
    isplitl [PXr6]; · iexact PXr6
    isplitl [CXs0]; · iexact CXs0
    isplitl [PXs0]; · iexact PXs0
    isplitl [CXs1]; · iexact CXs1
    iexact PXs1
  iintro ⟨HO, ZXr5, UXr5, ZXr6, UXr6, ZXs0, UXs0, ZXs1, UXs1⟩
  iapply (part30 m κ c ) $$ [HO CXs2 PXs2 CXs3 PXs3 CXs4 PXs4 CXs5 PXs5]
  · isplitr; · iexact Hk
    isplitl [HO]; · iexact HO
    isplitl [CXs2]; · iexact CXs2
    isplitl [PXs2]; · iexact PXs2
    isplitl [CXs3]; · iexact CXs3
    isplitl [PXs3]; · iexact PXs3
    isplitl [CXs4]; · iexact CXs4
    isplitl [PXs4]; · iexact PXs4
    isplitl [CXs5]; · iexact CXs5
    iexact PXs5
  iintro ⟨HO, ZXs2, UXs2, ZXs3, UXs3, ZXs4, UXs4, ZXs5, UXs5⟩
  simp only [Prog.lift, Prog.bind_op, Prog.bind_ret, Prog.pure_eq_ret]
  iapply (mv_wait m κ c (uXs 6) rfl rfl (Above.zero _) semXs_6 (credit_xs _ _ _)) $$ [HO CXs6 PXs6]
  · isplitr; · iexact Hk
    isplitl [HO]; · iexact HO
    isplitl [CXs6]; · iexact CXs6
    iexact PXs6
  iintro ⟨HO, ZXs6, UXs6⟩
  rw [wp_ret]
  imodintro
  iapply HK
  isplitl [HO]; · iexact HO
  isplitl [ZL0]; · iexact ZL0
  isplitl [SL0]; · iexact SL0
  isplitl [ZL2]; · iexact ZL2
  isplitl [SL2]; · iexact SL2
  isplitl [RL0]; · iexact RL0
  isplitl [RL2]; · iexact RL2
  isplitl [ZL1]; · iexact ZL1
  isplitl [SL1]; · iexact SL1
  isplitl [ZL3]; · iexact ZL3
  isplitl [SL3]; · iexact SL3
  isplitl [RL1]; · iexact RL1
  isplitl [RL3]; · iexact RL3
  isplitl [QS]; · iexact QS
  isplitl [ZB]; · iexact ZB
  isplitl [ZYr00]; · iexact ZYr00
  isplitl [ZYr01]; · iexact ZYr01
  isplitl [ZYr02]; · iexact ZYr02
  isplitl [ZYr10]; · iexact ZYr10
  isplitl [ZYr11]; · iexact ZYr11
  isplitl [ZYr12]; · iexact ZYr12
  isplitl [ZYr20]; · iexact ZYr20
  isplitl [ZYr21]; · iexact ZYr21
  isplitl [ZYr22]; · iexact ZYr22
  isplitl [OY0]; · iexact OY0
  isplitl [UYr00]; · iexact UYr00
  isplitl [UYr10]; · iexact UYr10
  isplitl [UYr20]; · iexact UYr20
  isplitl [OY1]; · iexact OY1
  isplitl [UYr01]; · iexact UYr01
  isplitl [UYr11]; · iexact UYr11
  isplitl [UYr21]; · iexact UYr21
  isplitl [OY2]; · iexact OY2
  isplitl [UYr02]; · iexact UYr02
  isplitl [UYr12]; · iexact UYr12
  isplitl [UYr22]; · iexact UYr22
  isplitl [ZYs00]; · iexact ZYs00
  isplitl [UYs00]; · iexact UYs00
  isplitl [ZYs01]; · iexact ZYs01
  isplitl [UYs01]; · iexact UYs01
  isplitl [ZYs02]; · iexact ZYs02
  isplitl [UYs02]; · iexact UYs02
  isplitl [ZYs10]; · iexact ZYs10
  isplitl [UYs10]; · iexact UYs10
  isplitl [ZYs11]; · iexact ZYs11
  isplitl [UYs11]; · iexact UYs11
  isplitl [ZYs12]; · iexact ZYs12
  isplitl [UYs12]; · iexact UYs12
  isplitl [ZYs20]; · iexact ZYs20
  isplitl [UYs20]; · iexact UYs20
  isplitl [ZYs21]; · iexact ZYs21
  isplitl [UYs21]; · iexact UYs21
  isplitl [ZYs22]; · iexact ZYs22
  isplitl [UYs22]; · iexact UYs22
  isplitl [OX7]; · iexact OX7
  isplitl [ZXr0]; · iexact ZXr0
  isplitl [UXr0]; · iexact UXr0
  isplitl [ZXr1]; · iexact ZXr1
  isplitl [UXr1]; · iexact UXr1
  isplitl [ZXr2]; · iexact ZXr2
  isplitl [UXr2]; · iexact UXr2
  isplitl [ZXr3]; · iexact ZXr3
  isplitl [UXr3]; · iexact UXr3
  isplitl [ZXr4]; · iexact ZXr4
  isplitl [UXr4]; · iexact UXr4
  isplitl [ZXr5]; · iexact ZXr5
  isplitl [UXr5]; · iexact UXr5
  isplitl [ZXr6]; · iexact ZXr6
  isplitl [UXr6]; · iexact UXr6
  isplitl [ZXs0]; · iexact ZXs0
  isplitl [UXs0]; · iexact UXs0
  isplitl [ZXs1]; · iexact ZXs1
  isplitl [UXs1]; · iexact UXs1
  isplitl [ZXs2]; · iexact ZXs2
  isplitl [UXs2]; · iexact UXs2
  isplitl [ZXs3]; · iexact ZXs3
  isplitl [UXs3]; · iexact UXs3
  isplitl [ZXs4]; · iexact ZXs4
  isplitl [UXs4]; · iexact UXs4
  isplitl [ZXs5]; · iexact ZXs5
  isplitl [UXs5]; · iexact UXs5
  isplitl [ZXs6]; · iexact ZXs6
  iexact UXs6

end Cert.Decode

end
-- ==== Proof.Funds.lean ====
/-
# What a device is dealt at launch

The cells of a device listed; the duties listed by who pays them, each token dealt to its payer; and the credit for what
each of its cells is owed.
-/
module

public import proofs.«01_k».proof.Proof.Moves

@[expose] public section

set_option maxRecDepth 16384

noncomputable section

namespace Cert.Decode

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3 eq_ix3)
open Idealize.ShloMosaic.ShareLeaves (leaf)

variable {F : FTy → Type} [FloatOps F]

local notation "𝕄" => MT nD τ sig Unit (Elt F) ℕ UU ℕ

/-! ## The cells of a device, one by one -/

/-- The uses of a device's transfer semaphores, its own rows' arrivals before its peers'. -/
def useList (c : Dev nD) : List Use :=
  [uLoc 0, uLoc 1, uLoc 2, uLoc 3, uYs 0 0, uYs 0 1, uYs 0 2, uYs 1 0, uYs 1 1, uYs 1 2, uYs 2 0, uYs 2 1, uYs 2 2, uYr (yp c) 0, uYr (yp c) 1, uYr (yp c) 2, uYr (yp (pr 0 c)) 0, uYr (yp (pr 0 c)) 1, uYr (yp (pr 0 c)) 2, uYr (yp (pr 1 c)) 0, uYr (yp (pr 1 c)) 1, uYr (yp (pr 1 c)) 2, uYr (yp (pr 2 c)) 0, uYr (yp (pr 2 c)) 1, uYr (yp (pr 2 c)) 2, uXs 0, uXs 1, uXs 2, uXs 3, uXs 4, uXs 5, uXs 6, uXr (rr c), uXr (rr (pr 3 c)), uXr (rr (pr 4 c)), uXr (rr (pr 5 c)), uXr (rr (pr 6 c)), uXr (rr (pr 7 c)), uXr (rr (pr 8 c)), uXr (rr (pr 9 c))]
theorem useList_cover (c : Dev nD) : (Finset.univ : Finset Use) = (useList c).toFinset := by revert c; decide +kernel
theorem useList_nodup (c : Dev nD) : (useList c).Nodup := by revert c; decide +kernel

theorem uses_eq (c : Dev nD) (Φ : Use → sProp 𝕄) : bigSep Finset.univ Φ
    = iprop(Φ (uLoc 0) ∗ Φ (uLoc 1) ∗ Φ (uLoc 2) ∗ Φ (uLoc 3) ∗ Φ (uYs 0 0) ∗ Φ (uYs 0 1) ∗ Φ (uYs 0 2) ∗ Φ (uYs 1 0) ∗ Φ (uYs 1 1) ∗ Φ (uYs 1 2) ∗ Φ (uYs 2 0) ∗ Φ (uYs 2 1) ∗ Φ (uYs 2 2) ∗ Φ (uYr (yp c) 0) ∗ Φ (uYr (yp c) 1) ∗ Φ (uYr (yp c) 2) ∗ Φ (uYr (yp (pr 0 c)) 0) ∗ Φ (uYr (yp (pr 0 c)) 1) ∗ Φ (uYr (yp (pr 0 c)) 2) ∗ Φ (uYr (yp (pr 1 c)) 0) ∗ Φ (uYr (yp (pr 1 c)) 1) ∗ Φ (uYr (yp (pr 1 c)) 2) ∗ Φ (uYr (yp (pr 2 c)) 0) ∗ Φ (uYr (yp (pr 2 c)) 1) ∗ Φ (uYr (yp (pr 2 c)) 2) ∗ Φ (uXs 0) ∗ Φ (uXs 1) ∗ Φ (uXs 2) ∗ Φ (uXs 3) ∗ Φ (uXs 4) ∗ Φ (uXs 5) ∗ Φ (uXs 6) ∗ Φ (uXr (rr c)) ∗ Φ (uXr (rr (pr 3 c))) ∗ Φ (uXr (rr (pr 4 c))) ∗ Φ (uXr (rr (pr 5 c))) ∗ Φ (uXr (rr (pr 6 c))) ∗ Φ (uXr (rr (pr 7 c))) ∗ Φ (uXr (rr (pr 8 c))) ∗ Φ (uXr (rr (pr 9 c)))) := by
  rw [bigSep_univ_eq_bigSepL (useList c) (useList_cover c) (useList_nodup c)]
  rfl

/-! ## The duties that a device pays -/

/-- A duty by its payer: a peer's barrier, a local copy, a y-send's two ends, a plane send's two ends. -/
abbrev Payer : Type := Fin 10 ⊕ Fin 4 ⊕ (Fin 3 × Fin 3) ⊕ (Fin 3 × Fin 3) ⊕ Fin 7 ⊕ Fin 7
instance decPayer : DecidableEq Payer :=
  have : DecidableEq ((Fin 3 × Fin 3) ⊕ Fin 7 ⊕ Fin 7) := inferInstance
  have : DecidableEq ((Fin 3 × Fin 3) ⊕ (Fin 3 × Fin 3) ⊕ Fin 7 ⊕ Fin 7) := inferInstance
  inferInstance
abbrev pB (k : Fin 10) : Payer := .inl k
abbrev pL (i : Fin 4) : Payer := .inr (.inl i)
abbrev pYs (k t : Fin 3) : Payer := .inr (.inr (.inl (k, t)))
abbrev pYr (k t : Fin 3) : Payer := .inr (.inr (.inr (.inl (k, t))))
abbrev pXs (j : Fin 7) : Payer := .inr (.inr (.inr (.inr (.inl j))))
abbrev pXr (j : Fin 7) : Payer := .inr (.inr (.inr (.inr (.inr j))))

/-- The cell and the duty on it. -/
def dutyOf (c : Dev nD) : Payer → GSem nD τ sig × ℕ × Fin 10
  | .inl k => (barCell (pr k c), 0, inv k)
  | .inr (.inl i) => (cell c (uLoc i), 0, 0)
  | .inr (.inr (.inl (k, t))) => (cell c (uYs k t), 0, 0)
  | .inr (.inr (.inr (.inl (k, t)))) => (cell (pr (pk k) c) (uYr (yp c) t), 0, 0)
  | .inr (.inr (.inr (.inr (.inl j)))) => (cell c (uXs j), 0, 0)
  | .inr (.inr (.inr (.inr (.inr j)))) => (cell (pr (pj j) c) (uXr (rr c)), 0, 0)

theorem cell_inj {c d : Dev nD} {u v : Use} (h : cell c u = cell d v) : c = d ∧ u = v := by
  refine ⟨congrArg (fun g : GSem nD τ sig => g.1.1) h, semOf_injective ?_⟩
  have := congrArg (fun g : GSem nD τ sig => g.2) h
  exact SemLoc.dma.inj this
theorem cell_iff {c d : Dev nD} {u v : Use} : cell c u = cell d v ↔ c = d ∧ u = v := ⟨cell_inj, fun ⟨a, b⟩ => by rw [a, b]⟩
theorem bar_iff {c d : Dev nD} : barCell c = barCell d ↔ c = d := ⟨fun h => congrArg (fun g : GSem nD τ sig => g.1.1) h, fun h => by rw [h]⟩
theorem bar_ne {c d : Dev nD} {u : Use} : barCell c ≠ cell d u := fun h => by
  have := congrArg (fun g : GSem nD τ sig => g.2) h
  cases this

/-- A peer's number is determined by the peer, and the device by a peer of its line (plane) and its height (number). -/
theorem pr_inj (c : Dev nD) : ∀ k k' : Fin 10, pr k c = pr k' c → k = k' := by revert c; decide +kernel
theorem line_inj {c d : Dev nD} {k l : Fin 3} (h : pr (pk k) c = pr (pk l) d) (hy : yp c = yp d) : c = d ∧ k = l := by
  have hcd : c = d := by
    rw [← atY_yp c, ← atY_yp d, ← atY_pr (pk k) (by have := k.isLt; exact this) c, ← atY_pr (pk l) (by have := l.isLt; exact this) d, h, hy]
  subst hcd
  have := pr_inj c _ _ h
  exact ⟨rfl, Fin.ext (by simpa [pk] using congrArg Fin.val this)⟩
theorem plane_inj {c d : Dev nD} {k l : Fin 7} (h : pr (pj k) c = pr (pj l) d) (hr : rr c = rr d) : c = d ∧ k = l := by
  have hcd : c = d := by
    rw [← atR_rr c, ← atR_rr d, ← atR_pr (pj k) (by simp [pj]) c, ← atR_pr (pj l) (by simp [pj]) d, h, hr]
  subst hcd
  have := congrArg Fin.val (pr_inj c _ _ h)
  exact ⟨rfl, Fin.ext (by simpa [pj] using this)⟩

theorem dutyOf_inj : Function.Injective fun cp : Dev nD × Payer => dutyOf cp.1 cp.2 := by
  rintro ⟨c, p⟩ ⟨d, q⟩ h
  have h₁ : (dutyOf c p).1 = (dutyOf d q).1 := congrArg Prod.fst h
  have h₂ : (dutyOf c p).2.2 = (dutyOf d q).2.2 := congrArg (fun x => x.2.2) h
  rcases p with k | i | ⟨k, t⟩ | ⟨k, t⟩ | j | j <;> rcases q with k' | i' | ⟨k', t'⟩ | ⟨k', t'⟩ | j' | j' <;> dsimp only [dutyOf] at h₁ h₂ <;>
    first
      | exact absurd h₁ bar_ne
      | exact absurd h₁.symm bar_ne
      | (exfalso; have := (cell_inj h₁).2; simp at this; done)
      | skip
  · have hk : k = k' := by rw [← inv_inv k, ← inv_inv k', h₂]
    subst hk
    have := bar_iff.mp h₁
    rw [← pr_inv k c, ← pr_inv k d, this]
  · obtain ⟨rfl, hu⟩ := cell_inj h₁; cases hu; rfl
  · obtain ⟨rfl, hu⟩ := cell_inj h₁; cases hu; rfl
  · obtain ⟨hp, hu⟩ := cell_inj h₁
    simp only [uYr, Sum.inr.injEq, Sum.inl.injEq, Prod.mk.injEq] at hu
    obtain ⟨rfl, rfl⟩ := line_inj hp hu.1
    rw [hu.2]
  · obtain ⟨rfl, hu⟩ := cell_inj h₁; cases hu; rfl
  · obtain ⟨hp, hu⟩ := cell_inj h₁
    simp only [uXr, Sum.inr.injEq] at hu
    obtain ⟨rfl, rfl⟩ := plane_inj hp hu
    rfl

/-- Every duty's token is dealt at launch to its payer. -/
def allDuties : Finset (GSem nD τ sig × ℕ × Fin 10) := Finset.univ.map ⟨fun cp : Dev nD × Payer => dutyOf cp.1 cp.2, dutyOf_inj⟩

def toks (c : Dev nD) : sProp 𝕄 := bigSep Finset.univ fun p : Payer => dutyTok ER (dutyOf c p).1 (dutyOf c p).2.1 (dutyOf c p).2.2

theorem allDuties_eq : bigSep allDuties (fun x => (dutyTok ER x.1 x.2.1 x.2.2 : sProp 𝕄)) = bigSep Finset.univ fun c : Dev nD => toks (F := F) c := by
  unfold allDuties toks
  rw [bigSep_map, bigSep_univ_prod]
  rfl

def payerList : List Payer :=
  [pB 0, pB 1, pB 2, pB 3, pB 4, pB 5, pB 6, pB 7, pB 8, pB 9, pL 0, pL 1, pL 2, pL 3, pYs 0 0, pYs 0 1, pYs 0 2, pYs 1 0, pYs 1 1, pYs 1 2, pYs 2 0, pYs 2 1, pYs 2 2, pYr 0 0, pYr 0 1, pYr 0 2, pYr 1 0, pYr 1 1, pYr 1 2, pYr 2 0, pYr 2 1, pYr 2 2, pXs 0, pXs 1, pXs 2, pXs 3, pXs 4, pXs 5, pXs 6, pXr 0, pXr 1, pXr 2, pXr 3, pXr 4, pXr 5, pXr 6]
theorem payerList_cover : (Finset.univ : Finset Payer) = payerList.toFinset := by decide +kernel
theorem payerList_nodup : payerList.Nodup := by decide +kernel

theorem payers_eq (Φ : Payer → sProp 𝕄) : bigSep Finset.univ Φ
    = iprop(Φ (pB 0) ∗ Φ (pB 1) ∗ Φ (pB 2) ∗ Φ (pB 3) ∗ Φ (pB 4) ∗ Φ (pB 5) ∗ Φ (pB 6) ∗ Φ (pB 7) ∗ Φ (pB 8) ∗ Φ (pB 9) ∗ Φ (pL 0) ∗ Φ (pL 1) ∗ Φ (pL 2) ∗ Φ (pL 3) ∗ Φ (pYs 0 0) ∗ Φ (pYs 0 1) ∗ Φ (pYs 0 2) ∗ Φ (pYs 1 0) ∗ Φ (pYs 1 1) ∗ Φ (pYs 1 2) ∗ Φ (pYs 2 0) ∗ Φ (pYs 2 1) ∗ Φ (pYs 2 2) ∗ Φ (pYr 0 0) ∗ Φ (pYr 0 1) ∗ Φ (pYr 0 2) ∗ Φ (pYr 1 0) ∗ Φ (pYr 1 1) ∗ Φ (pYr 1 2) ∗ Φ (pYr 2 0) ∗ Φ (pYr 2 1) ∗ Φ (pYr 2 2) ∗ Φ (pXs 0) ∗ Φ (pXs 1) ∗ Φ (pXs 2) ∗ Φ (pXs 3) ∗ Φ (pXs 4) ∗ Φ (pXs 5) ∗ Φ (pXs 6) ∗ Φ (pXr 0) ∗ Φ (pXr 1) ∗ Φ (pXr 2) ∗ Φ (pXr 3) ∗ Φ (pXr 4) ∗ Φ (pXr 5) ∗ Φ (pXr 6)) := by
  rw [bigSep_univ_eq_bigSepL payerList payerList_cover payerList_nodup]
  rfl

theorem toks_eq (c : Dev nD) : toks (F := F) c
    = iprop(dutyTok ER (barCell (pr 0 c)) 0 (inv 0) ∗ dutyTok ER (barCell (pr 1 c)) 0 (inv 1) ∗ dutyTok ER (barCell (pr 2 c)) 0 (inv 2) ∗ dutyTok ER (barCell (pr 3 c)) 0 (inv 3) ∗ dutyTok ER (barCell (pr 4 c)) 0 (inv 4) ∗ dutyTok ER (barCell (pr 5 c)) 0 (inv 5) ∗ dutyTok ER (barCell (pr 6 c)) 0 (inv 6) ∗ dutyTok ER (barCell (pr 7 c)) 0 (inv 7) ∗ dutyTok ER (barCell (pr 8 c)) 0 (inv 8) ∗ dutyTok ER (barCell (pr 9 c)) 0 (inv 9) ∗ dutyTok ER (cell c (uLoc 0)) 0 (0 : Fin 10) ∗ dutyTok ER (cell c (uLoc 1)) 0 (0 : Fin 10) ∗ dutyTok ER (cell c (uLoc 2)) 0 (0 : Fin 10) ∗ dutyTok ER (cell c (uLoc 3)) 0 (0 : Fin 10) ∗ dutyTok ER (cell c (uYs 0 0)) 0 (0 : Fin 10) ∗ dutyTok ER (cell c (uYs 0 1)) 0 (0 : Fin 10) ∗ dutyTok ER (cell c (uYs 0 2)) 0 (0 : Fin 10) ∗ dutyTok ER (cell c (uYs 1 0)) 0 (0 : Fin 10) ∗ dutyTok ER (cell c (uYs 1 1)) 0 (0 : Fin 10) ∗ dutyTok ER (cell c (uYs 1 2)) 0 (0 : Fin 10) ∗ dutyTok ER (cell c (uYs 2 0)) 0 (0 : Fin 10) ∗ dutyTok ER (cell c (uYs 2 1)) 0 (0 : Fin 10) ∗ dutyTok ER (cell c (uYs 2 2)) 0 (0 : Fin 10) ∗ dutyTok ER (cell (pr (pk 0) c) (uYr (yp c) 0)) 0 (0 : Fin 10) ∗ dutyTok ER (cell (pr (pk 0) c) (uYr (yp c) 1)) 0 (0 : Fin 10) ∗ dutyTok ER (cell (pr (pk 0) c) (uYr (yp c) 2)) 0 (0 : Fin 10) ∗ dutyTok ER (cell (pr (pk 1) c) (uYr (yp c) 0)) 0 (0 : Fin 10) ∗ dutyTok ER (cell (pr (pk 1) c) (uYr (yp c) 1)) 0 (0 : Fin 10) ∗ dutyTok ER (cell (pr (pk 1) c) (uYr (yp c) 2)) 0 (0 : Fin 10) ∗ dutyTok ER (cell (pr (pk 2) c) (uYr (yp c) 0)) 0 (0 : Fin 10) ∗ dutyTok ER (cell (pr (pk 2) c) (uYr (yp c) 1)) 0 (0 : Fin 10) ∗ dutyTok ER (cell (pr (pk 2) c) (uYr (yp c) 2)) 0 (0 : Fin 10) ∗ dutyTok ER (cell c (uXs 0)) 0 (0 : Fin 10) ∗ dutyTok ER (cell c (uXs 1)) 0 (0 : Fin 10) ∗ dutyTok ER (cell c (uXs 2)) 0 (0 : Fin 10) ∗ dutyTok ER (cell c (uXs 3)) 0 (0 : Fin 10) ∗ dutyTok ER (cell c (uXs 4)) 0 (0 : Fin 10) ∗ dutyTok ER (cell c (uXs 5)) 0 (0 : Fin 10) ∗ dutyTok ER (cell c (uXs 6)) 0 (0 : Fin 10) ∗ dutyTok ER (cell (pr (pj 0) c) (uXr (rr c))) 0 (0 : Fin 10) ∗ dutyTok ER (cell (pr (pj 1) c) (uXr (rr c))) 0 (0 : Fin 10) ∗ dutyTok ER (cell (pr (pj 2) c) (uXr (rr c))) 0 (0 : Fin 10) ∗ dutyTok ER (cell (pr (pj 3) c) (uXr (rr c))) 0 (0 : Fin 10) ∗ dutyTok ER (cell (pr (pj 4) c) (uXr (rr c))) 0 (0 : Fin 10) ∗ dutyTok ER (cell (pr (pj 5) c) (uXr (rr c))) 0 (0 : Fin 10) ∗ dutyTok ER (cell (pr (pj 6) c) (uXr (rr c))) 0 (0 : Fin 10)) := by
  exact payers_eq _

/-! ## What a device's cells are owed -/

/-- All that is owed at a cell of device `c`. -/
def due (c : Dev nD) (u : Use) : ℕ := ∑ d : Dev nD, O₀ d (cell c u) ()
def creds (c : Dev nD) : sProp 𝕄 := iprop(cred (tallyAt (barCell c) () 10) ∗ bigSep Finset.univ fun u : Use => cred (tallyAt (cell c u) () (due c u)))

theorem owed_bar (d c : Dev nD) : O₀ d (barCell c) () = ∑ k : Fin 10, if c = pr k d then 1 else 0 := by
  simp only [O₀, OY, OX, Pi.add_apply, Finsupp.add_apply, Pi.zero_apply, Finsupp.zero_apply, tallyAt_apply, bar_iff, bar_ne, and_true, false_and, if_false, Fin.sum_univ_succ]
  simp only [Fin.sum_univ_zero]
  generalize hb : (fun k : Fin 10 => if c = pr k d then 1 else 0) = b
  have e (k : Fin 10) : (if c = pr k d then 1 else 0) = b k := by rw [← hb]
  simp only [e]
  show _ = b 0 + (b 1 + (b 2 + (b 3 + (b 4 + (b 5 + (b 6 + (b 7 + (b 8 + (b 9 + 0)))))))))
  omega
theorem owed_y (d c : Dev nD) (y : Fin 4) (t : Fin 3) : O₀ d (cell c (uYr y t)) () = (∑ k : Fin 3, if c = pr (pk k) d ∧ y = yp d then 1 else 0) * nY t := by
  have hn (k : Dev nD) : (cell c (uYr y t) = barCell k) = False := eq_false fun h => bar_ne h.symm
  have hx (p : Dev nD) (r : Fin 8) : (uYr y t = uXr r) = False := eq_false fun h => by simp at h
  have hy (z : Fin 4) (s : Fin 3) : (uYr y t = uYr z s) = (y = z ∧ t = s) := by simp
  simp only [O₀, OY, OX, Pi.add_apply, Finsupp.add_apply, Pi.zero_apply, Finsupp.zero_apply, tallyAt_apply, cell_iff, hn, hx d, hy, and_true, and_false, false_and, if_false, Fin.sum_univ_three]
  generalize hb : (fun k : Fin 10 => if c = pr k d ∧ y = yp d then 1 else 0) = b
  have e (k : Fin 10) : (if c = pr k d ∧ y = yp d then 1 else 0) = b k := by rw [← hb]
  show _ = ((if c = pr 0 d ∧ y = yp d then 1 else 0) + (if c = pr 1 d ∧ y = yp d then 1 else 0) + (if c = pr 2 d ∧ y = yp d then 1 else 0)) * nY t
  have e' (k : Fin 10) (s : Fin 3) : (if c = pr k d ∧ y = yp d ∧ t = s then nY s else 0) = b k * (if t = s then nY t else 0) := by
    rw [← hb]
    by_cases h : c = pr k d ∧ y = yp d
    · by_cases hs : t = s
      · subst hs; simp [h]
      · simp [h, hs]
    · have h2 : ¬ (c = pr k d ∧ y = yp d ∧ t = s) := fun ⟨a, b, _⟩ => h ⟨a, b⟩
      simp [h, h2]
  simp only [e, e']
  match t with
  | 0 | 1 | 2 => simp [Nat.add_mul]; omega
theorem owed_x (d c : Dev nD) (r : Fin 8) : O₀ d (cell c (uXr r)) () = (∑ j : Fin 7, if c = pr (pj j) d ∧ r = rr d then 1 else 0) * nX := by
  have hn (k : Dev nD) : (cell c (uXr r) = barCell k) = False := eq_false fun h => bar_ne h.symm
  have hy (z : Fin 4) (s : Fin 3) : (uXr r = uYr z s) = False := eq_false fun h => by simp at h
  have hx (s : Fin 8) : (uXr r = uXr s) = (r = s) := by simp
  simp only [O₀, OY, OX, Pi.add_apply, Finsupp.add_apply, Pi.zero_apply, Finsupp.zero_apply, tallyAt_apply, cell_iff, hn, hx, hy, and_true, and_false, false_and, if_false]
  have e (k : Fin 10) : (if c = pr k d ∧ r = rr d then nX else 0) = (if c = pr k d ∧ r = rr d then 1 else 0) * nX := by
    split <;> simp
  simp only [e, Fin.sum_univ_succ, Fin.sum_univ_zero]
  generalize hb : (fun k : Fin 10 => if c = pr k d ∧ r = rr d then 1 else 0) = b
  have e (k : Fin 10) : (if c = pr k d ∧ r = rr d then 1 else 0) = b k := by rw [← hb]
  simp only [e]
  show _ = (b 3 + (b 4 + (b 5 + (b 6 + (b 7 + (b 8 + (b 9 + 0))))))) * nX
  simp only [Nat.add_mul, Nat.zero_mul]
  omega

theorem due_bar (c : Dev nD) : ∑ d : Dev nD, O₀ d (barCell c) () = 10 := by
  rw [Finset.sum_congr rfl fun d _ => owed_bar d c]
  revert c; decide +kernel
theorem due_y (c : Dev nD) (k : Fin 3) (t : Fin 3) : due c (uYr (yp (pr (pk k) c)) t) = amt (uYr (yp (pr (pk k) c)) t) := by
  have h : ∀ (c : Dev nD) (k : Fin 3), (∑ d : Dev nD, ∑ l : Fin 3, if c = pr (pk l) d ∧ yp (pr (pk k) c) = yp d then 1 else 0) = 1 := by decide +kernel
  unfold due
  rw [Finset.sum_congr rfl fun d _ => owed_y d c _ t, ← Finset.sum_mul, h, Nat.one_mul]
  rfl
theorem due_x (c : Dev nD) (j : Fin 7) : due c (uXr (rr (pr (pj j) c))) = amt (uXr (rr (pr (pj j) c))) := by
  have h : ∀ (c : Dev nD) (j : Fin 7), (∑ d : Dev nD, ∑ l : Fin 7, if c = pr (pj l) d ∧ rr (pr (pj j) c) = rr d then 1 else 0) = 1 := by decide +kernel
  unfold due
  rw [Finset.sum_congr rfl fun d _ => owed_x d c _, ← Finset.sum_mul, h, Nat.one_mul]
  rfl

theorem tally_launch (c : Dev nD) (s : SemLoc sig) (n : ℕ) (h : ∑ d : Dev nD, O₀ d ((c : Thread nD τ), s) () = n) :
    tallyOn ((c : Thread nD τ), s) (launchCredit (Pipeline.owing O₀) 0 ((c : Thread nD τ), s)) = (tallyAt ((c : Thread nD τ), s) () n : CellTallies nD τ sig Unit) := by
  unfold tallyAt
  refine congrArg _ (Finsupp.ext fun u => ?_)
  cases u
  rw [Pipeline.launchCredit_owing, Finsupp.single_eq_same, h]

theorem dmaUse_inj : Function.Injective fun u : Use => (SemLoc.dma (semOf u) : SemLoc sig) := fun u v h => semOf_injective (SemLoc.dma.inj h)

/-- The launch's credit is what its cells are owed. -/
theorem creds_launch (c : Dev nD) : (Pipeline.launchCred O₀ c : sProp 𝕄) ⊢ creds (F := F) c := by
  unfold Pipeline.launchCred creds
  rw [bigSep_univ_at _ (SemLoc.reg (sig.barrier 0 rfl)), tally_launch c _ 10 (due_bar c)]
  refine sep_mono_right ?_
  have hs : (Finset.univ.map ⟨_, dmaUse_inj⟩ : Finset (SemLoc sig)) ⊆ Finset.univ.erase (SemLoc.reg (sig.barrier 0 rfl)) := fun s hs => by
    obtain ⟨u, -, hu⟩ := Finset.mem_map.mp hs
    refine Finset.mem_erase.mpr ⟨fun h => ?_, Finset.mem_univ _⟩
    rw [h] at hu
    exact nomatch (show (SemLoc.dma (semOf u) : SemLoc sig) = .reg _ from hu)
  refine (bigSep_subset hs).trans ?_
  rw [bigSep_map]
  exact Entails.of_eq (bigSep_congr fun u _ => by
    show cred (tallyOn ((c : Thread nD τ), SemLoc.dma (semOf u)) _) = _
    exact congrArg cred (tally_launch c (SemLoc.dma (semOf u)) (due c u) rfl))

end Cert.Decode

end
-- ==== Proof.Whole.lean ====
/-
# The body between whole buffers

A device's start, its body, its end: the pieces that the body takes are cut from whole buffers, and put together again afterwards.
-/
module

public import proofs.«01_k».proof.Proof.Body
public import proofs.«01_k».proof.Proof.Rows
public import proofs.«01_k».proof.Proof.Funds

@[expose] public section

set_option maxRecDepth 16384

noncomputable section

namespace Cert.Decode

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3 eq_ix3)
open Idealize.ShloMosaic.ShareLeaves (leaf)

variable {F : FTy → Type} [FloatOps F]

local notation "𝕄" => MT nD τ sig Unit (Elt F) ℕ UU ℕ

variable (m : (ℓ : Loc nD τ sig) → Buf (Elt F) ℓ)

/-- Every cell of a device has begun. -/
def begun (c : Dev nD) : sProp 𝕄 := bigSep Finset.univ fun u : Use => reached ER (cell c u) 0
omit [FloatOps F] in
instance begun_persistent (c : Dev nD) : BI.Persistent (begun (F := F) c) := by unfold begun; infer_instance
omit [FloatOps F] in
theorem begun_at (c : Dev nD) (u : Use) : begun (F := F) c ⊢ (reached ER (cell c u) 0 : sProp 𝕄) := by
  have hg : (bigSep Finset.univ fun u : Use => (reached ER (cell c u) 0 : sProp 𝕄)) ⊢ reached ER (cell c u) 0 := bigSep_elim (Finset.mem_univ u)
  exact hg

omit [FloatOps F] in
theorem tok_in (c : Dev nD) (u : Use) : (iprop(dutyTok ER (cell c u) 0 (0 : Fin 10) ∗ begun c) : sProp 𝕄) ⊢ tok (F := F) c u := by
  unfold tok
  iintro ⟨H, #HR⟩
  isplitl [H]; · iexact H
  iapply (begun_at c u); iexact HR
omit [FloatOps F] in
theorem yTok_in (c : Dev nD) (k t : Fin 3) : (iprop(dutyTok ER (cell c (uYs k t)) 0 (0 : Fin 10) ∗ dutyTok ER (cell (pr (pk k) c) (uYr (yp c) t)) 0 (0 : Fin 10) ∗ begun c) : sProp 𝕄) ⊢ yTok (F := F) c k t := by
  unfold yTok
  iintro ⟨H, HD, #HR⟩
  isplitl [H]
  · iapply (tok_in c (uYs k t)); isplitl [H]; · iexact H
    iexact HR
  · iexact HD
omit [FloatOps F] in
theorem xTok_in (c : Dev nD) (j : Fin 7) : (iprop(dutyTok ER (cell c (uXs j)) 0 (0 : Fin 10) ∗ dutyTok ER (cell (pr (pj j) c) (uXr (rr c))) 0 (0 : Fin 10) ∗ begun c) : sProp 𝕄) ⊢ xTok (F := F) c j := by
  unfold xTok
  iintro ⟨H, HD, #HR⟩
  isplitl [H]
  · iapply (tok_in c (uXs j)); isplitl [H]; · iexact H
    iexact HR
  · iexact HD

theorem locSrc_in0 (c : Dev nD) (f : Buf (Elt F) ((c : Thread nD τ).loc cc0_scratch0)) : (iprop((((c : Thread nD τ).loc main_v2) ↦[rowS (brow c 0)]{leaf 1 fullShare 0} K2 m c) ∗ (((c : Thread nD τ).loc cc0_scratch0) ↦[rowS 0]{fullShare} f) ∗ dutyTok ER (cell c (uLoc 0)) 0 (0 : Fin 10) ∗ begun c) : sProp 𝕄) ⊢ locSrc m c 0 := by
  have e : iprop((((c : Thread nD τ).loc main_v2) ↦[rowS (brow c 0)]{leaf 1 fullShare 0} K2 m c) ∗ (∃ f : Buf (Elt F) ((c : Thread nD τ).loc cc0_scratch0), ((c : Thread nD τ).loc cc0_scratch0) ↦[rowS 0]{fullShare} f) ∗ tok c (uLoc 0)) = (locSrc m c 0 : sProp 𝕄) := rfl
  rw [← e]
  iintro ⟨HS, HD, HT, #HR⟩
  isplitl [HS]; · iexact HS
  isplitl [HD]; · iexists f; iexact HD
  iapply (tok_in c (uLoc 0)); isplitl [HT]; · iexact HT
  iexact HR
theorem locSrc_in1 (c : Dev nD) (f : Buf (Elt F) ((c : Thread nD τ).loc cc0_scratch0)) : (iprop((((c : Thread nD τ).loc main_v2) ↦[rowS (brow c 1)]{leaf 1 fullShare 1} K2 m c) ∗ (((c : Thread nD τ).loc cc0_scratch0) ↦[rowS 1]{fullShare} f) ∗ dutyTok ER (cell c (uLoc 1)) 0 (0 : Fin 10) ∗ begun c) : sProp 𝕄) ⊢ locSrc m c 1 := by
  have e : iprop((((c : Thread nD τ).loc main_v2) ↦[rowS (brow c 1)]{leaf 1 fullShare 1} K2 m c) ∗ (∃ f : Buf (Elt F) ((c : Thread nD τ).loc cc0_scratch0), ((c : Thread nD τ).loc cc0_scratch0) ↦[rowS 1]{fullShare} f) ∗ tok c (uLoc 1)) = (locSrc m c 1 : sProp 𝕄) := rfl
  rw [← e]
  iintro ⟨HS, HD, HT, #HR⟩
  isplitl [HS]; · iexact HS
  isplitl [HD]; · iexists f; iexact HD
  iapply (tok_in c (uLoc 1)); isplitl [HT]; · iexact HT
  iexact HR
theorem locSrc_in2 (c : Dev nD) (f : Buf (Elt F) ((c : Thread nD τ).loc cc0_scratch1)) : (iprop((((c : Thread nD τ).loc main_v3) ↦[rowS (brow c 0)]{leaf 1 fullShare 0} V2 m c) ∗ (((c : Thread nD τ).loc cc0_scratch1) ↦[rowS 0]{fullShare} f) ∗ dutyTok ER (cell c (uLoc 2)) 0 (0 : Fin 10) ∗ begun c) : sProp 𝕄) ⊢ locSrc m c 2 := by
  have e : iprop((((c : Thread nD τ).loc main_v3) ↦[rowS (brow c 0)]{leaf 1 fullShare 0} V2 m c) ∗ (∃ f : Buf (Elt F) ((c : Thread nD τ).loc cc0_scratch1), ((c : Thread nD τ).loc cc0_scratch1) ↦[rowS 0]{fullShare} f) ∗ tok c (uLoc 2)) = (locSrc m c 2 : sProp 𝕄) := rfl
  rw [← e]
  iintro ⟨HS, HD, HT, #HR⟩
  isplitl [HS]; · iexact HS
  isplitl [HD]; · iexists f; iexact HD
  iapply (tok_in c (uLoc 2)); isplitl [HT]; · iexact HT
  iexact HR
theorem locSrc_in3 (c : Dev nD) (f : Buf (Elt F) ((c : Thread nD τ).loc cc0_scratch1)) : (iprop((((c : Thread nD τ).loc main_v3) ↦[rowS (brow c 1)]{leaf 1 fullShare 1} V2 m c) ∗ (((c : Thread nD τ).loc cc0_scratch1) ↦[rowS 1]{fullShare} f) ∗ dutyTok ER (cell c (uLoc 3)) 0 (0 : Fin 10) ∗ begun c) : sProp 𝕄) ⊢ locSrc m c 3 := by
  have e : iprop((((c : Thread nD τ).loc main_v3) ↦[rowS (brow c 1)]{leaf 1 fullShare 1} V2 m c) ∗ (∃ f : Buf (Elt F) ((c : Thread nD τ).loc cc0_scratch1), ((c : Thread nD τ).loc cc0_scratch1) ↦[rowS 1]{fullShare} f) ∗ tok c (uLoc 3)) = (locSrc m c 3 : sProp 𝕄) := rfl
  rw [← e]
  iintro ⟨HS, HD, HT, #HR⟩
  isplitl [HS]; · iexact HS
  isplitl [HD]; · iexists f; iexact HD
  iapply (tok_in c (uLoc 3)); isplitl [HT]; · iexact HT
  iexact HR
omit [FloatOps F] in
theorem yAny_in0 (c : Dev nD) (y : Fin 4) (f : Buf (Elt F) ((c : Thread nD τ).loc cc0_scratch2)) : ((((c : Thread nD τ).loc cc0_scratch2) ↦[rowS y.val]{fullShare} f) : sProp 𝕄) ⊢ yAny c y 0 := by
  have e : iprop(∃ f : Buf (Elt F) ((c : Thread nD τ).loc cc0_scratch2), ((c : Thread nD τ).loc cc0_scratch2) ↦[rowS y.val]{fullShare} f) = (yAny c y 0 : sProp 𝕄) := rfl
  rw [← e]
  iintro H; iexists f; iexact H
omit [FloatOps F] in
theorem yAny_in1 (c : Dev nD) (y : Fin 4) (f : Buf (Elt F) ((c : Thread nD τ).loc cc0_scratch3)) : ((((c : Thread nD τ).loc cc0_scratch3) ↦[rowS y.val]{fullShare} f) : sProp 𝕄) ⊢ yAny c y 1 := by
  have e : iprop(∃ f : Buf (Elt F) ((c : Thread nD τ).loc cc0_scratch3), ((c : Thread nD τ).loc cc0_scratch3) ↦[rowS y.val]{fullShare} f) = (yAny c y 1 : sProp 𝕄) := rfl
  rw [← e]
  iintro H; iexists f; iexact H
omit [FloatOps F] in
theorem yAny_in2 (c : Dev nD) (y : Fin 4) (f : Buf (Elt F) ((c : Thread nD τ).loc cc0_scratch4)) : ((((c : Thread nD τ).loc cc0_scratch4) ↦[rowS y.val]{fullShare} f) : sProp 𝕄) ⊢ yAny c y 2 := by
  have e : iprop(∃ f : Buf (Elt F) ((c : Thread nD τ).loc cc0_scratch4), ((c : Thread nD τ).loc cc0_scratch4) ↦[rowS y.val]{fullShare} f) = (yAny c y 2 : sProp 𝕄) := rfl
  rw [← e]
  iintro H; iexists f; iexact H
omit [FloatOps F] in
theorem barTok_y (c : Dev nD) (k : Fin 3) (f2 : Buf (Elt F) ((c : Thread nD τ).loc cc0_scratch2)) (f3 : Buf (Elt F) ((c : Thread nD τ).loc cc0_scratch3)) (f4 : Buf (Elt F) ((c : Thread nD τ).loc cc0_scratch4)) :
    (iprop(dutyTok ER (barCell (pr (pk k) c)) 0 (inv (pk k)) ∗ (((c : Thread nD τ).loc cc0_scratch2) ↦[rowS (yp (pr (pk k) c)).val]{fullShare} f2) ∗ (((c : Thread nD τ).loc cc0_scratch3) ↦[rowS (yp (pr (pk k) c)).val]{fullShare} f3) ∗ (((c : Thread nD τ).loc cc0_scratch4) ↦[rowS (yp (pr (pk k) c)).val]{fullShare} f4) ∗ begun c) : sProp 𝕄) ⊢ barTok (F := F) c (pk k) := by
  have hk : ∀ k : Fin 3, decide ((inv (pk k)).val < 3) = true := by decide
  unfold barTok barPay
  rw [hk k, if_pos rfl]
  iintro ⟨HT, H2, H3, H4, #HR⟩
  isplitl [HT]; · iexact HT
  isplitl [H2 H3 H4]
  · isplitl [H2]; · iapply (yAny_in0 c _ f2); iexact H2
    isplitl [H3]; · iapply (yAny_in1 c _ f3); iexact H3
    iapply (yAny_in2 c _ f4); iexact H4
  isplitl []; · iapply (begun_at c _); iexact HR
  isplitl []; · iapply (begun_at c _); iexact HR
  iapply (begun_at c _); iexact HR
omit [FloatOps F] in
theorem barTok_x (c : Dev nD) (j : Fin 7) (f : Buf (Elt F) ((c : Thread nD τ).loc cc0_stg1_0)) :
    (iprop(dutyTok ER (barCell (pr (pj j) c)) 0 (inv (pj j)) ∗ (((c : Thread nD τ).loc cc0_stg1_0) ↦[rowS (rr (pr (pj j) c)).val]{fullShare} f) ∗ begun c) : sProp 𝕄) ⊢ barTok (F := F) c (pj j) := by
  have hk : ∀ j : Fin 7, decide ((inv (pj j)).val < 3) = false := by decide
  unfold barTok barPay xAny
  rw [hk j, if_neg (by decide)]
  iintro ⟨HT, H, #HR⟩
  isplitl [HT]; · iexact HT
  isplitl [H]; · iexists f; iexact H
  iapply (begun_at c _); iexact HR

omit [FloatOps F] in
theorem cred_due {g : GSem nD τ sig} {a b : ℕ} (h : a = b) : (cred (tallyAt g () a) : sProp 𝕄) = cred (tallyAt g () b) := by rw [h]
/-- The credit a device waits on. -/
theorem creds_take (c : Dev nD) : creds (F := F) c ⊢ iprop(cred (tallyAt (barCell c) () 10) ∗ cred (tallyAt (cell c (uYr (yp (pr 0 c)) 0)) () (amt (uYr (yp (pr 0 c)) 0))) ∗ cred (tallyAt (cell c (uYr (yp (pr 0 c)) 1)) () (amt (uYr (yp (pr 0 c)) 1))) ∗ cred (tallyAt (cell c (uYr (yp (pr 0 c)) 2)) () (amt (uYr (yp (pr 0 c)) 2))) ∗ cred (tallyAt (cell c (uYr (yp (pr 1 c)) 0)) () (amt (uYr (yp (pr 1 c)) 0))) ∗ cred (tallyAt (cell c (uYr (yp (pr 1 c)) 1)) () (amt (uYr (yp (pr 1 c)) 1))) ∗ cred (tallyAt (cell c (uYr (yp (pr 1 c)) 2)) () (amt (uYr (yp (pr 1 c)) 2))) ∗ cred (tallyAt (cell c (uYr (yp (pr 2 c)) 0)) () (amt (uYr (yp (pr 2 c)) 0))) ∗ cred (tallyAt (cell c (uYr (yp (pr 2 c)) 1)) () (amt (uYr (yp (pr 2 c)) 1))) ∗ cred (tallyAt (cell c (uYr (yp (pr 2 c)) 2)) () (amt (uYr (yp (pr 2 c)) 2))) ∗ cred (tallyAt (cell c (uXr (rr (pr 3 c)))) () (amt (uXr (rr (pr 3 c))))) ∗ cred (tallyAt (cell c (uXr (rr (pr 4 c)))) () (amt (uXr (rr (pr 4 c))))) ∗ cred (tallyAt (cell c (uXr (rr (pr 5 c)))) () (amt (uXr (rr (pr 5 c))))) ∗ cred (tallyAt (cell c (uXr (rr (pr 6 c)))) () (amt (uXr (rr (pr 6 c))))) ∗ cred (tallyAt (cell c (uXr (rr (pr 7 c)))) () (amt (uXr (rr (pr 7 c))))) ∗ cred (tallyAt (cell c (uXr (rr (pr 8 c)))) () (amt (uXr (rr (pr 8 c))))) ∗ cred (tallyAt (cell c (uXr (rr (pr 9 c)))) () (amt (uXr (rr (pr 9 c)))))) := by
  unfold creds
  rw [uses_eq c]
  iintro ⟨CB, CLo0, CLo1, CLo2, CLo3, CYs00, CYs01, CYs02, CYs10, CYs11, CYs12, CYs20, CYs21, CYs22, CYi0, CYi1, CYi2, CYr00, CYr01, CYr02, CYr10, CYr11, CYr12, CYr20, CYr21, CYr22, CXs0, CXs1, CXs2, CXs3, CXs4, CXs5, CXs6, CXi, CXr0, CXr1, CXr2, CXr3, CXr4, CXr5, CXr6⟩
  isplitl [CB]; · iexact CB
  isplitl [CYr00]; · iapply (Entails.of_eq (cred_due (due_y c 0 0))); iexact CYr00
  isplitl [CYr01]; · iapply (Entails.of_eq (cred_due (due_y c 0 1))); iexact CYr01
  isplitl [CYr02]; · iapply (Entails.of_eq (cred_due (due_y c 0 2))); iexact CYr02
  isplitl [CYr10]; · iapply (Entails.of_eq (cred_due (due_y c 1 0))); iexact CYr10
  isplitl [CYr11]; · iapply (Entails.of_eq (cred_due (due_y c 1 1))); iexact CYr11
  isplitl [CYr12]; · iapply (Entails.of_eq (cred_due (due_y c 1 2))); iexact CYr12
  isplitl [CYr20]; · iapply (Entails.of_eq (cred_due (due_y c 2 0))); iexact CYr20
  isplitl [CYr21]; · iapply (Entails.of_eq (cred_due (due_y c 2 1))); iexact CYr21
  isplitl [CYr22]; · iapply (Entails.of_eq (cred_due (due_y c 2 2))); iexact CYr22
  isplitl [CXr0]; · iapply (Entails.of_eq (cred_due (due_x c 0))); iexact CXr0
  isplitl [CXr1]; · iapply (Entails.of_eq (cred_due (due_x c 1))); iexact CXr1
  isplitl [CXr2]; · iapply (Entails.of_eq (cred_due (due_x c 2))); iexact CXr2
  isplitl [CXr3]; · iapply (Entails.of_eq (cred_due (due_x c 3))); iexact CXr3
  isplitl [CXr4]; · iapply (Entails.of_eq (cred_due (due_x c 4))); iexact CXr4
  isplitl [CXr5]; · iapply (Entails.of_eq (cred_due (due_x c 5))); iexact CXr5
  iapply (Entails.of_eq (cred_due (due_x c 6))); iexact CXr6

/-- The scratch buffers at some contents. -/
def spare (c : Dev nD) : sProp 𝕄 := iprop((∃ f : Buf (Elt F) ((c : Thread nD τ).loc cc0_scratch0), ((c : Thread nD τ).loc cc0_scratch0) ↦[Finset.univ]{fullShare} f) ∗ (∃ f : Buf (Elt F) ((c : Thread nD τ).loc cc0_scratch1), ((c : Thread nD τ).loc cc0_scratch1) ↦[Finset.univ]{fullShare} f) ∗ (∃ f : Buf (Elt F) ((c : Thread nD τ).loc cc0_scratch2), ((c : Thread nD τ).loc cc0_scratch2) ↦[Finset.univ]{fullShare} f) ∗ (∃ f : Buf (Elt F) ((c : Thread nD τ).loc cc0_scratch3), ((c : Thread nD τ).loc cc0_scratch3) ↦[Finset.univ]{fullShare} f) ∗ (∃ f : Buf (Elt F) ((c : Thread nD τ).loc cc0_scratch4), ((c : Thread nD τ).loc cc0_scratch4) ↦[Finset.univ]{fullShare} f))
/-- What a device has of the protocol at its start: no cell waited on, its duties' tokens, its credit. -/
def start (c : Dev nD) : sProp 𝕄 := iprop(atPos ER (barCell c) 0 ∅ 0 ∗ (bigSep Finset.univ fun u : Use => pend c u) ∗ begun c ∗ toks c ∗ creds c)
/-- And at its end: every counter back at zero. -/
def rest (c : Dev nD) : sProp 𝕄 := iprop(semVal (barCell c) 0 ∗ bigSep Finset.univ fun u : Use => semVal (cell c u) 0)

set_option maxHeartbeats 4000000 in
/-- The body between whole buffers. -/
theorem body_whole (κ : GSem nD τ sig → ℕ) (c : Dev nD) {h0 : (Memref.whole cc0_stg0_0 : Memref sig .tc .vmem S16x1x1024 .f32).IsWhole} {h1 : (Memref.whole main_v2 : Memref sig .tc .hbm S16x1024x1024 .f32).IsWhole} {h2 : (Memref.whole main_v3 : Memref sig .tc .hbm S16x1024x1024 .f32).IsWhole} {h3 : (Memref.whole cc0_stg1_0 : Memref sig .tc .vmem S8x2x1024 .f32).IsWhole} {h4 : (Memref.whole cc0_scratch0 : Memref sig .tc .vmem S2x1024x1024 .f32).IsWhole} {h5 : (Memref.whole cc0_scratch1 : Memref sig .tc .vmem S2x1024x1024 .f32).IsWhole} {h6 : (Memref.whole cc0_scratch2 : Memref sig .tc .vmem S4x2x16 .f32).IsWhole} {h7 : (Memref.whole cc0_scratch3 : Memref sig .tc .vmem S4x2x16 .f32).IsWhole} {h8 : (Memref.whole cc0_scratch4 : Memref sig .tc .vmem S4x2x1024 .f32).IsWhole} {Q : PUnit → sProp 𝕄} :
    (iprop(know m κ ∗ own c (O₀ c) ∗ start c ∗ (((c : Thread nD τ).loc main_v2) ↦[Finset.univ]{fullShare} K2 m c) ∗ (((c : Thread nD τ).loc main_v3) ↦[Finset.univ]{fullShare} V2 m c) ∗ spare c ∗ (((c : Thread nD τ).loc cc0_stg0_0) ↦[Finset.univ]{fullShare} Q1 m c) ∗ (∃ f : Buf (Elt F) ((c : Thread nD τ).loc cc0_stg1_0), ((c : Thread nD τ).loc cc0_stg1_0) ↦[Finset.univ]{fullShare} f)) : sProp 𝕄)
      ⊢ iprop(((own c 0 ∗ rest c ∗ (((c : Thread nD τ).loc main_v2) ↦[Finset.univ]{fullShare} K2 m c) ∗ (((c : Thread nD τ).loc main_v3) ↦[Finset.univ]{fullShare} V2 m c) ∗ spare c ∗ (((c : Thread nD τ).loc cc0_stg0_0) ↦[Finset.univ]{fullShare} Q1 m c) ∗ (((c : Thread nD τ).loc cc0_stg1_0) ↦[Finset.univ]{fullShare} OUT m c)) -∗ Q ⟨⟩)
        -∗ wp frame (wpE (defs₀ (F := F)) 𝒱₀ (c : Thread nD τ) none) Set.univ (cc0__body (F := F) (Memref.whole cc0_stg0_0) h0 (Memref.whole main_v2) h1 (Memref.whole main_v3) h2 (Memref.whole cc0_stg1_0) h3 (Memref.whole cc0_scratch0) h4 (Memref.whole cc0_scratch1) h5 (Memref.whole cc0_scratch2) h6 (Memref.whole cc0_scratch3) h7 (Memref.whole cc0_scratch4) h8 cc0_scratch5 cc0_scratch6 cc0_scratch7 cc0_scratch8 cc0_scratch9 cc0_scratch10) Q) := by
  unfold start spare
  iintro ⟨#Hk, HO, ⟨PB, HP, #HR, HT, HC⟩, HV2, HV3, ⟨⟨%f0, S0⟩, ⟨%f1, S1⟩, ⟨%f2, S2⟩, ⟨%f3, S3⟩, ⟨%f4, S4⟩⟩, QS, ⟨%fx, SX⟩⟩ HK
  ihave HP := (Entails.of_eq (uses_eq c _)) $$ HP
  icases HP with ⟨PLo0, PLo1, PLo2, PLo3, PYs00, PYs01, PYs02, PYs10, PYs11, PYs12, PYs20, PYs21, PYs22, PYi0, PYi1, PYi2, PYr00, PYr01, PYr02, PYr10, PYr11, PYr12, PYr20, PYr21, PYr22, PXs0, PXs1, PXs2, PXs3, PXs4, PXs5, PXs6, PXi, PXr0, PXr1, PXr2, PXr3, PXr4, PXr5, PXr6⟩
  ihave HT := (Entails.of_eq (toks_eq c)) $$ HT
  icases HT with ⟨DB0, DB1, DB2, DB3, DB4, DB5, DB6, DB7, DB8, DB9, DLo0, DLo1, DLo2, DLo3, DYs00, DYs01, DYs02, DYs10, DYs11, DYs12, DYs20, DYs21, DYs22, DYr00, DYr01, DYr02, DYr10, DYr11, DYr12, DYr20, DYr21, DYr22, DXs0, DXs1, DXs2, DXs3, DXs4, DXs5, DXs6, DXr0, DXr1, DXr2, DXr3, DXr4, DXr5, DXr6⟩
  ihave HC := (creds_take c) $$ HC
  icases HC with ⟨CB, CYr00, CYr01, CYr02, CYr10, CYr11, CYr12, CYr20, CYr21, CYr22, CXr0, CXr1, CXr2, CXr3, CXr4, CXr5, CXr6⟩
  ihave HV2 := (Entails.of_eq (halves_main_v2 c _)) $$ HV2
  icases HV2 with ⟨KS0, KR0, KS1, KR1⟩
  ihave HV3 := (Entails.of_eq (halves_main_v3 c _)) $$ HV3
  icases HV3 with ⟨VS0, VR0, VS1, VR1⟩
  ihave S0 := (Entails.of_eq (rows_cc0_scratch0 c f0)) $$ S0
  icases S0 with ⟨K0, K1⟩
  ihave S1 := (Entails.of_eq (rows_cc0_scratch1 c f1)) $$ S1
  icases S1 with ⟨V0, V1⟩
  ihave S2 := (Entails.of_eq (rows_cc0_scratch2 c _ f2)) $$ S2
  icases S2 with ⟨W0, W00, W01, W02⟩
  ihave S3 := (Entails.of_eq (rows_cc0_scratch3 c _ f3)) $$ S3
  icases S3 with ⟨W1, W10, W11, W12⟩
  ihave S4 := (Entails.of_eq (rows_cc0_scratch4 c _ f4)) $$ S4
  icases S4 with ⟨W2, W20, W21, W22⟩
  ihave SX := (Entails.of_eq (rows_cc0_stg1_0 c _ fx)) $$ SX
  icases SX with ⟨WX, WX0, WX1, WX2, WX3, WX4, WX5, WX6⟩
  ihave L0 := (locSrc_in0 m c _) $$ [KS0 K0 DLo0]
  · isplitl [KS0]; · iexact KS0
    isplitl [K0]; · iexact K0
    isplitl [DLo0]; · iexact DLo0
    iexact HR
  ihave L1 := (locSrc_in1 m c _) $$ [KS1 K1 DLo1]
  · isplitl [KS1]; · iexact KS1
    isplitl [K1]; · iexact K1
    isplitl [DLo1]; · iexact DLo1
    iexact HR
  ihave L2 := (locSrc_in2 m c _) $$ [VS0 V0 DLo2]
  · isplitl [VS0]; · iexact VS0
    isplitl [V0]; · iexact V0
    isplitl [DLo2]; · iexact DLo2
    iexact HR
  ihave L3 := (locSrc_in3 m c _) $$ [VS1 V1 DLo3]
  · isplitl [VS1]; · iexact VS1
    isplitl [V1]; · iexact V1
    isplitl [DLo3]; · iexact DLo3
    iexact HR
  ihave B0 := (barTok_y c 0 f2 f3 f4) $$ [DB0 W00 W10 W20]
  · isplitl [DB0]; · iexact DB0
    isplitl [W00]; · iexact W00
    isplitl [W10]; · iexact W10
    isplitl [W20]; · iexact W20
    iexact HR
  ihave B1 := (barTok_y c 1 f2 f3 f4) $$ [DB1 W01 W11 W21]
  · isplitl [DB1]; · iexact DB1
    isplitl [W01]; · iexact W01
    isplitl [W11]; · iexact W11
    isplitl [W21]; · iexact W21
    iexact HR
  ihave B2 := (barTok_y c 2 f2 f3 f4) $$ [DB2 W02 W12 W22]
  · isplitl [DB2]; · iexact DB2
    isplitl [W02]; · iexact W02
    isplitl [W12]; · iexact W12
    isplitl [W22]; · iexact W22
    iexact HR
  ihave B3 := (barTok_x c 0 fx) $$ [DB3 WX0]
  · isplitl [DB3]; · iexact DB3
    isplitl [WX0]; · iexact WX0
    iexact HR
  ihave B4 := (barTok_x c 1 fx) $$ [DB4 WX1]
  · isplitl [DB4]; · iexact DB4
    isplitl [WX1]; · iexact WX1
    iexact HR
  ihave B5 := (barTok_x c 2 fx) $$ [DB5 WX2]
  · isplitl [DB5]; · iexact DB5
    isplitl [WX2]; · iexact WX2
    iexact HR
  ihave B6 := (barTok_x c 3 fx) $$ [DB6 WX3]
  · isplitl [DB6]; · iexact DB6
    isplitl [WX3]; · iexact WX3
    iexact HR
  ihave B7 := (barTok_x c 4 fx) $$ [DB7 WX4]
  · isplitl [DB7]; · iexact DB7
    isplitl [WX4]; · iexact WX4
    iexact HR
  ihave B8 := (barTok_x c 5 fx) $$ [DB8 WX5]
  · isplitl [DB8]; · iexact DB8
    isplitl [WX5]; · iexact WX5
    iexact HR
  ihave B9 := (barTok_x c 6 fx) $$ [DB9 WX6]
  · isplitl [DB9]; · iexact DB9
    isplitl [WX6]; · iexact WX6
    iexact HR
  ihave TY00 := (yTok_in c 0 0) $$ [DYs00 DYr00]
  · isplitl [DYs00]; · iexact DYs00
    isplitl [DYr00]; · iexact DYr00
    iexact HR
  ihave TY01 := (yTok_in c 0 1) $$ [DYs01 DYr01]
  · isplitl [DYs01]; · iexact DYs01
    isplitl [DYr01]; · iexact DYr01
    iexact HR
  ihave TY02 := (yTok_in c 0 2) $$ [DYs02 DYr02]
  · isplitl [DYs02]; · iexact DYs02
    isplitl [DYr02]; · iexact DYr02
    iexact HR
  ihave TY10 := (yTok_in c 1 0) $$ [DYs10 DYr10]
  · isplitl [DYs10]; · iexact DYs10
    isplitl [DYr10]; · iexact DYr10
    iexact HR
  ihave TY11 := (yTok_in c 1 1) $$ [DYs11 DYr11]
  · isplitl [DYs11]; · iexact DYs11
    isplitl [DYr11]; · iexact DYr11
    iexact HR
  ihave TY12 := (yTok_in c 1 2) $$ [DYs12 DYr12]
  · isplitl [DYs12]; · iexact DYs12
    isplitl [DYr12]; · iexact DYr12
    iexact HR
  ihave TY20 := (yTok_in c 2 0) $$ [DYs20 DYr20]
  · isplitl [DYs20]; · iexact DYs20
    isplitl [DYr20]; · iexact DYr20
    iexact HR
  ihave TY21 := (yTok_in c 2 1) $$ [DYs21 DYr21]
  · isplitl [DYs21]; · iexact DYs21
    isplitl [DYr21]; · iexact DYr21
    iexact HR
  ihave TY22 := (yTok_in c 2 2) $$ [DYs22 DYr22]
  · isplitl [DYs22]; · iexact DYs22
    isplitl [DYr22]; · iexact DYr22
    iexact HR
  ihave TX0 := (xTok_in c 0) $$ [DXs0 DXr0]
  · isplitl [DXs0]; · iexact DXs0
    isplitl [DXr0]; · iexact DXr0
    iexact HR
  ihave TX1 := (xTok_in c 1) $$ [DXs1 DXr1]
  · isplitl [DXs1]; · iexact DXs1
    isplitl [DXr1]; · iexact DXr1
    iexact HR
  ihave TX2 := (xTok_in c 2) $$ [DXs2 DXr2]
  · isplitl [DXs2]; · iexact DXs2
    isplitl [DXr2]; · iexact DXr2
    iexact HR
  ihave TX3 := (xTok_in c 3) $$ [DXs3 DXr3]
  · isplitl [DXs3]; · iexact DXs3
    isplitl [DXr3]; · iexact DXr3
    iexact HR
  ihave TX4 := (xTok_in c 4) $$ [DXs4 DXr4]
  · isplitl [DXs4]; · iexact DXs4
    isplitl [DXr4]; · iexact DXr4
    iexact HR
  ihave TX5 := (xTok_in c 5) $$ [DXs5 DXr5]
  · isplitl [DXs5]; · iexact DXs5
    isplitl [DXr5]; · iexact DXr5
    iexact HR
  ihave TX6 := (xTok_in c 6) $$ [DXs6 DXr6]
  · isplitl [DXs6]; · iexact DXs6
    isplitl [DXr6]; · iexact DXr6
    iexact HR
  imod (st_close_idle m κ c (uYr (yp c) 0) (beq_self_eq_true _)) $$ [PYi0] with ZYi0
  · isplitr; · iexact Hk
    iexact PYi0
  imod (st_close_idle m κ c (uYr (yp c) 1) (beq_self_eq_true _)) $$ [PYi1] with ZYi1
  · isplitr; · iexact Hk
    iexact PYi1
  imod (st_close_idle m κ c (uYr (yp c) 2) (beq_self_eq_true _)) $$ [PYi2] with ZYi2
  · isplitr; · iexact Hk
    iexact PYi2
  imod (st_close_idle m κ c (uXr (rr c)) (beq_self_eq_true _)) $$ [PXi] with ZXi
  · isplitr; · iexact Hk
    iexact PXi
  iapply (body_run m κ c) $$ [HO L0 L2 L1 L3 PLo0 PLo2 QS PLo1 PLo3 W0 W1 W2 B0 B1 B2 B3 B4 B5 B6 B7 B8 B9 CB PB TY00 TY01 TY02 TY10 TY11 TY12 TY20 TY21 TY22 CYr00 PYr00 CYr01 PYr01 CYr02 PYr02 CYr10 PYr10 CYr11 PYr11 CYr12 PYr12 CYr20 PYr20 CYr21 PYr21 CYr22 PYr22 WX PYs00 PYs01 PYs02 PYs10 PYs11 PYs12 PYs20 PYs21 PYs22 TX0 TX1 TX2 TX3 TX4 TX5 TX6 CXr0 PXr0 CXr1 PXr1 CXr2 PXr2 CXr3 PXr3 CXr4 PXr4 CXr5 PXr5 CXr6 PXr6 PXs0 PXs1 PXs2 PXs3 PXs4 PXs5 PXs6]
  · isplitr; · iexact Hk
    isplitl [HO]; · iexact HO
    isplitl [L0]; · iexact L0
    isplitl [L2]; · iexact L2
    isplitl [L1]; · iexact L1
    isplitl [L3]; · iexact L3
    isplitl [PLo0]; · iexact PLo0
    isplitl [PLo2]; · iexact PLo2
    isplitl [QS]; · iexact QS
    isplitl [PLo1]; · iexact PLo1
    isplitl [PLo3]; · iexact PLo3
    isplitl [W0]; · iexists f2; iexact W0
    isplitl [W1]; · iexists f3; iexact W1
    isplitl [W2]; · iexists f4; iexact W2
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [CB]; · iexact CB
    isplitl [PB]; · iexact PB
    isplitl [TY00]; · iexact TY00
    isplitl [TY01]; · iexact TY01
    isplitl [TY02]; · iexact TY02
    isplitl [TY10]; · iexact TY10
    isplitl [TY11]; · iexact TY11
    isplitl [TY12]; · iexact TY12
    isplitl [TY20]; · iexact TY20
    isplitl [TY21]; · iexact TY21
    isplitl [TY22]; · iexact TY22
    isplitl [CYr00]; · iexact CYr00
    isplitl [PYr00]; · iexact PYr00
    isplitl [CYr01]; · iexact CYr01
    isplitl [PYr01]; · iexact PYr01
    isplitl [CYr02]; · iexact CYr02
    isplitl [PYr02]; · iexact PYr02
    isplitl [CYr10]; · iexact CYr10
    isplitl [PYr10]; · iexact PYr10
    isplitl [CYr11]; · iexact CYr11
    isplitl [PYr11]; · iexact PYr11
    isplitl [CYr12]; · iexact CYr12
    isplitl [PYr12]; · iexact PYr12
    isplitl [CYr20]; · iexact CYr20
    isplitl [PYr20]; · iexact PYr20
    isplitl [CYr21]; · iexact CYr21
    isplitl [PYr21]; · iexact PYr21
    isplitl [CYr22]; · iexact CYr22
    isplitl [PYr22]; · iexact PYr22
    isplitl [WX]; · iexists fx; iexact WX
    isplitl [PYs00]; · iexact PYs00
    isplitl [PYs01]; · iexact PYs01
    isplitl [PYs02]; · iexact PYs02
    isplitl [PYs10]; · iexact PYs10
    isplitl [PYs11]; · iexact PYs11
    isplitl [PYs12]; · iexact PYs12
    isplitl [PYs20]; · iexact PYs20
    isplitl [PYs21]; · iexact PYs21
    isplitl [PYs22]; · iexact PYs22
    isplitl [TX0]; · iexact TX0
    isplitl [TX1]; · iexact TX1
    isplitl [TX2]; · iexact TX2
    isplitl [TX3]; · iexact TX3
    isplitl [TX4]; · iexact TX4
    isplitl [TX5]; · iexact TX5
    isplitl [TX6]; · iexact TX6
    isplitl [CXr0]; · iexact CXr0
    isplitl [PXr0]; · iexact PXr0
    isplitl [CXr1]; · iexact CXr1
    isplitl [PXr1]; · iexact PXr1
    isplitl [CXr2]; · iexact CXr2
    isplitl [PXr2]; · iexact PXr2
    isplitl [CXr3]; · iexact CXr3
    isplitl [PXr3]; · iexact PXr3
    isplitl [CXr4]; · iexact CXr4
    isplitl [PXr4]; · iexact PXr4
    isplitl [CXr5]; · iexact CXr5
    isplitl [PXr5]; · iexact PXr5
    isplitl [CXr6]; · iexact CXr6
    isplitl [PXr6]; · iexact PXr6
    isplitl [PXs0]; · iexact PXs0
    isplitl [PXs1]; · iexact PXs1
    isplitl [PXs2]; · iexact PXs2
    isplitl [PXs3]; · iexact PXs3
    isplitl [PXs4]; · iexact PXs4
    isplitl [PXs5]; · iexact PXs5
    iexact PXs6
  iintro ⟨HO, ZL0, SL0, ZL2, SL2, RL0, RL2, ZL1, SL1, ZL3, SL3, RL1, RL3, QS, ZB, ZYr00, ZYr01, ZYr02, ZYr10, ZYr11, ZYr12, ZYr20, ZYr21, ZYr22, OY0, UYr00, UYr10, UYr20, OY1, UYr01, UYr11, UYr21, OY2, UYr02, UYr12, UYr22, ZYs00, UYs00, ZYs01, UYs01, ZYs02, UYs02, ZYs10, UYs10, ZYs11, UYs11, ZYs12, UYs12, ZYs20, UYs20, ZYs21, UYs21, ZYs22, UYs22, OX7, ZXr0, UXr0, ZXr1, UXr1, ZXr2, UXr2, ZXr3, UXr3, ZXr4, UXr4, ZXr5, UXr5, ZXr6, UXr6, ZXs0, UXs0, ZXs1, UXs1, ZXs2, UXs2, ZXs3, UXs3, ZXs4, UXs4, ZXs5, UXs5, ZXs6, UXs6⟩
  ihave S2 := (Entails.of_eq (whole0 m c)) $$ [UYs00 UYs10 UYs20 OY0 UYr00 UYr10 UYr20]
  · skip
    isplitl [UYs00 UYs10 UYs20 OY0]
    · skip
      isplitl [UYs00]
      · skip
        iexact UYs00
      isplitl [UYs10]
      · skip
        iexact UYs10
      isplitl [UYs20]
      · skip
        iexact UYs20
      iexact OY0
    isplitl [UYr00]
    · skip
      iexact UYr00
    isplitl [UYr10]
    · skip
      iexact UYr10
    iexact UYr20
  ihave S3 := (Entails.of_eq (whole1 m c)) $$ [UYs01 UYs11 UYs21 OY1 UYr01 UYr11 UYr21]
  · skip
    isplitl [UYs01 UYs11 UYs21 OY1]
    · skip
      isplitl [UYs01]
      · skip
        iexact UYs01
      isplitl [UYs11]
      · skip
        iexact UYs11
      isplitl [UYs21]
      · skip
        iexact UYs21
      iexact OY1
    isplitl [UYr01]
    · skip
      iexact UYr01
    isplitl [UYr11]
    · skip
      iexact UYr11
    iexact UYr21
  ihave S4 := (Entails.of_eq (whole2 m c)) $$ [UYs02 UYs12 UYs22 OY2 UYr02 UYr12 UYr22]
  · skip
    isplitl [UYs02 UYs12 UYs22 OY2]
    · skip
      isplitl [UYs02]
      · skip
        iexact UYs02
      isplitl [UYs12]
      · skip
        iexact UYs12
      isplitl [UYs22]
      · skip
        iexact UYs22
      iexact OY2
    isplitl [UYr02]
    · skip
      iexact UYr02
    isplitl [UYr12]
    · skip
      iexact UYr12
    iexact UYr22
  ihave SX := (Entails.of_eq (wholeX m c)) $$ [UXs0 UXs1 UXs2 UXs3 UXs4 UXs5 UXs6 OX7 UXr0 UXr1 UXr2 UXr3 UXr4 UXr5 UXr6]
  · skip
    isplitl [UXs0 UXs1 UXs2 UXs3 UXs4 UXs5 UXs6 OX7]
    · skip
      isplitl [UXs0]
      · skip
        iexact UXs0
      isplitl [UXs1]
      · skip
        iexact UXs1
      isplitl [UXs2]
      · skip
        iexact UXs2
      isplitl [UXs3]
      · skip
        iexact UXs3
      isplitl [UXs4]
      · skip
        iexact UXs4
      isplitl [UXs5]
      · skip
        iexact UXs5
      isplitl [UXs6]
      · skip
        iexact UXs6
      iexact OX7
    isplitl [UXr0]
    · skip
      iexact UXr0
    isplitl [UXr1]
    · skip
      iexact UXr1
    isplitl [UXr2]
    · skip
      iexact UXr2
    isplitl [UXr3]
    · skip
      iexact UXr3
    isplitl [UXr4]
    · skip
      iexact UXr4
    isplitl [UXr5]
    · skip
      iexact UXr5
    iexact UXr6
  ihave S0 := (Entails.of_eq ((rows_cc0_scratch0 c (KB m c)).symm)) $$ [RL0 RL1]
  · skip
    isplitl [RL0]
    · skip
      iexact RL0
    iexact RL1
  ihave S1 := (Entails.of_eq ((rows_cc0_scratch1 c (VB m c)).symm)) $$ [RL2 RL3]
  · skip
    isplitl [RL2]
    · skip
      iexact RL2
    iexact RL3
  ihave HV2 := (Entails.of_eq ((halves_main_v2 c (K2 m c)).symm)) $$ [SL0 KR0 SL1 KR1]
  · skip
    isplitl [SL0]
    · skip
      iexact SL0
    isplitl [KR0]
    · skip
      iexact KR0
    isplitl [SL1]
    · skip
      iexact SL1
    iexact KR1
  ihave HV3 := (Entails.of_eq ((halves_main_v3 c (V2 m c)).symm)) $$ [SL2 VR0 SL3 VR1]
  · skip
    isplitl [SL2]
    · skip
      iexact SL2
    isplitl [VR0]
    · skip
      iexact VR0
    isplitl [SL3]
    · skip
      iexact SL3
    iexact VR1
  ihave HZ := (Entails.of_eq ((uses_eq c fun u => (semVal (cell c u) 0 : sProp 𝕄)).symm)) $$ [ZL0 ZL1 ZL2 ZL3 ZYs00 ZYs01 ZYs02 ZYs10 ZYs11 ZYs12 ZYs20 ZYs21 ZYs22 ZYi0 ZYi1 ZYi2 ZYr00 ZYr01 ZYr02 ZYr10 ZYr11 ZYr12 ZYr20 ZYr21 ZYr22 ZXs0 ZXs1 ZXs2 ZXs3 ZXs4 ZXs5 ZXs6 ZXi ZXr0 ZXr1 ZXr2 ZXr3 ZXr4 ZXr5 ZXr6]
  · skip
    isplitl [ZL0]
    · skip
      iexact ZL0
    isplitl [ZL1]
    · skip
      iexact ZL1
    isplitl [ZL2]
    · skip
      iexact ZL2
    isplitl [ZL3]
    · skip
      iexact ZL3
    isplitl [ZYs00]
    · skip
      iexact ZYs00
    isplitl [ZYs01]
    · skip
      iexact ZYs01
    isplitl [ZYs02]
    · skip
      iexact ZYs02
    isplitl [ZYs10]
    · skip
      iexact ZYs10
    isplitl [ZYs11]
    · skip
      iexact ZYs11
    isplitl [ZYs12]
    · skip
      iexact ZYs12
    isplitl [ZYs20]
    · skip
      iexact ZYs20
    isplitl [ZYs21]
    · skip
      iexact ZYs21
    isplitl [ZYs22]
    · skip
      iexact ZYs22
    isplitl [ZYi0]
    · skip
      iexact ZYi0
    isplitl [ZYi1]
    · skip
      iexact ZYi1
    isplitl [ZYi2]
    · skip
      iexact ZYi2
    isplitl [ZYr00]
    · skip
      iexact ZYr00
    isplitl [ZYr01]
    · skip
      iexact ZYr01
    isplitl [ZYr02]
    · skip
      iexact ZYr02
    isplitl [ZYr10]
    · skip
      iexact ZYr10
    isplitl [ZYr11]
    · skip
      iexact ZYr11
    isplitl [ZYr12]
    · skip
      iexact ZYr12
    isplitl [ZYr20]
    · skip
      iexact ZYr20
    isplitl [ZYr21]
    · skip
      iexact ZYr21
    isplitl [ZYr22]
    · skip
      iexact ZYr22
    isplitl [ZXs0]
    · skip
      iexact ZXs0
    isplitl [ZXs1]
    · skip
      iexact ZXs1
    isplitl [ZXs2]
    · skip
      iexact ZXs2
    isplitl [ZXs3]
    · skip
      iexact ZXs3
    isplitl [ZXs4]
    · skip
      iexact ZXs4
    isplitl [ZXs5]
    · skip
      iexact ZXs5
    isplitl [ZXs6]
    · skip
      iexact ZXs6
    isplitl [ZXi]
    · skip
      iexact ZXi
    isplitl [ZXr0]
    · skip
      iexact ZXr0
    isplitl [ZXr1]
    · skip
      iexact ZXr1
    isplitl [ZXr2]
    · skip
      iexact ZXr2
    isplitl [ZXr3]
    · skip
      iexact ZXr3
    isplitl [ZXr4]
    · skip
      iexact ZXr4
    isplitl [ZXr5]
    · skip
      iexact ZXr5
    iexact ZXr6
  iapply HK
  unfold rest
  isplitl [HO]; · iexact HO
  isplitl [ZB HZ]
  · isplitl [ZB]; · iexact ZB
    iexact HZ
  isplitl [HV2]; · iexact HV2
  isplitl [HV3]; · iexact HV3
  isplitl [S0 S1 S2 S3 S4]
  · isplitl [S0]; · iexists _; iexact S0
    isplitl [S1]; · iexists _; iexact S1
    isplitl [S2]; · iexists _; iexact S2
    isplitl [S3]; · iexists _; iexact S3
    iexists _; iexact S4
  isplitl [QS]; · iexact QS
  iexact SX

end Cert.Decode

end
-- ==== Proof.Region.lean ====
/-
# The region

The pipeline of the one kernel call: its windows are whole arrays, and its body is the protocol.
-/
module

public import proofs.«01_k».proof.Proof.Whole
public import proofs.«01_k».proof.Proof.Gen.KernelIdeal.Frame
public import Idealize.ShloMosaic.Lib.Pipeline.Value

@[expose] public section

set_option maxRecDepth 16384

noncomputable section

namespace Cert.Decode

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3 eq_ix3)
open Idealize.ShloMosaic.ShareLeaves (leaf)

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ)

/-! ## The pipeline's data -/

/-- What the protocol gives a device before its body, the levels' facts and the cells' invariants under some names. -/
def opened (c : Dev nD) : sProp 𝕄 := iprop((∃ κ, know m κ) ∗ start c)

/-- The two arrays that the body addresses itself. -/
def inArrays (c : Dev nD) : sProp 𝕄 :=
  iprop((((c : Thread nD τ).loc main_v2) ↦[Finset.univ]{fullShare} K2 m c) ∗ (((c : Thread nD τ).loc main_v3) ↦[Finset.univ]{fullShare} V2 m c))

def Φ₀ (c : Dev nD) : sProp 𝕄 := iprop(opened m c ∗ inArrays m c ∗ spare c ∗ ∃ r, prngReg c r)
def Φ₁ (c : Dev nD) : sProp 𝕄 := iprop(rest c ∗ inArrays m c ∗ spare c ∗ ∃ r, prngReg c r)

/-- The one region: `main_v1` goes in, `OUT` comes out. -/
def dat (c : Dev nD) : Dat τ (Elt F) Unit ℕ UU ℕ cfg0 c where
  A w := V m c (Pipeline.arrRef spec0 w)
  after w _ := match w with
    | ⟨0, _⟩ => Q1 m c
    | ⟨1, _⟩ => OUT m c
  Φ t := if t.val = 0 then Φ₀ m c else Φ₁ m c
  q _ := fullShare
  owed t := if t.val = 0 then O₀ c else 0

/-- The one point of the one-point grid. -/
theorem N_one : cfg0.N = 1 := N_0

theorem Φ_first (c : Dev nD) (t : Fin (cfg0.N + 1)) (h : t.val = 0) : (dat m c).Φ t = Φ₀ m c := if_pos h
theorem Φ_last (c : Dev nD) (t : Fin (cfg0.N + 1)) (h : t.val ≠ 0) : (dat m c).Φ t = Φ₁ m c := if_neg h
theorem owed_first (c : Dev nD) (t : Fin (cfg0.N + 1)) (h : t.val = 0) : (dat m c).owed t = O₀ c := if_pos h
theorem owed_last (c : Dev nD) (t : Fin (cfg0.N + 1)) (h : t.val ≠ 0) : (dat m c).owed t = 0 := if_neg h
theorem last_ne : (Fin.last cfg0.N).val ≠ 0 := by rw [Fin.val_last, N_one]; decide

theorem above_owed (c : Dev nD) (t : Fin (cfg0.N + 1)) : Above 0 ((dat m c).owed t) := by
  by_cases h : t.val = 0
  · rw [owed_first m c t h]; exact above_O₀ c
  · rw [owed_last m c t h]; exact Above.zero 0

/-! ## The windows -/

/-- The block of the input window is its whole array. -/
theorem in_block (f : FVec F S16x1x1024 .f32) (t : Fin cfg0.N) : ((cfg0.win 0).blk t).view.read (Elt F) f = f := by
  funext i
  refine congrArg f (funext fun a => Fin.ext ?_)
  exact (win0_0.rect_emb_val_of_index_zero t a rfl i)

/-- And so of the output window. -/
theorem out_block (f : FVec F S8x2x1024 .f32) (t : Fin cfg0.N) : ((cfg0.win 1).blk t).view.read (Elt F) f = f := by
  funext i
  refine congrArg f (funext fun a => Fin.ext ?_)
  exact (win0_1.rect_emb_val_of_index_zero t a rfl i)

theorem before_in (c : Dev nD) (t : Fin cfg0.N) (d) : (dat m c).before 0 t d = Q1 m c := by
  unfold Dat.before
  rw [if_pos (fetch0_0 t)]
  exact (show (dat m c).fetched 0 t d = (dat m c).blockOf 0 t from rfl).trans (in_block (Q1 m c) t)

theorem arr_in (c : Dev nD) (n : ℕ) : (dat m c).arrAt 0 n = V m c main_v1 := (dat m c).arrAt_in 0 rfl n
theorem arr_out (c : Dev nD) : (dat m c).arrAt 1 cfg0.N = OUT m c :=
  (dat m c).arrAt_eq_of_cover 1 (OUT m c) (fun t _ => (out_block (OUT m c) t).symm) fun i =>
    ⟨t0_0, flush0_1 _, by
      refine Finset.mem_map.mpr ⟨i, Finset.mem_univ _, funext fun a => Fin.ext ?_⟩
      exact (win0_1.rect_emb_val_of_index_zero t0_0 a rfl i)⟩

/-! ## The body obligation -/

omit [FloatOps F] in
theorem whole_owns (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦[Finset.univ]{fullShare} f)) := by
  unfold owns
  simp only [Memref.view_whole, View.read_whole, View.set_whole]

theorem owes_in (c : Dev nD) (t : Fin (cfg0.N + 1)) : own (F := F) c ((dat m c).owed t) ⊢ ((dat m c).owesAt () t : sProp 𝕄) := by
  unfold Dat.owesAt Pipeline.owesWithin Dat.bound own
  iintro ⟨%W, HO⟩
  iexists W
  isplitr
  · ipureintro; exact fun _ _ => Or.inl trivial
  iexact HO
theorem owes_out (c : Dev nD) (t : Fin (cfg0.N + 1)) : ((dat m c).owesAt () t : sProp 𝕄) ⊢ own (F := F) c ((dat m c).owed t) := by
  unfold Dat.owesAt Pipeline.owesWithin own
  iintro ⟨%W, -, HO⟩
  iexists W
  iexact HO

/-- A staging buffer before the body, and after it. -/
def bodyIn (c : Dev nD) : sProp 𝕄 :=
  iprop((dat m c).Φ t0_0.castSucc ∗ (dat m c).owesAt () t0_0.castSucc
    ∗ (∃ d, ∃ f : Buf (Elt F) ((c : Thread nD τ).loc cc0_stg0_0), ⌜f = (dat m c).before (0 : Fin 2) t0_0 d⌝ ∗ (((c : Thread nD τ).loc cc0_stg0_0) ↦[Finset.univ]{fullShare} f))
    ∗ (∃ d, ∃ f : Buf (Elt F) ((c : Thread nD τ).loc cc0_stg1_0), ⌜f = (dat m c).before (1 : Fin 2) t0_0 d⌝ ∗ (((c : Thread nD τ).loc cc0_stg1_0) ↦[Finset.univ]{fullShare} f)))
def bodyOut (c : Dev nD) : sProp 𝕄 :=
  iprop((dat m c).Φ t0_0.succ ∗ (dat m c).owesAt () t0_0.succ
    ∗ (∃ f : Buf (Elt F) ((c : Thread nD τ).loc cc0_stg0_0), ⌜f = Q1 m c⌝ ∗ (((c : Thread nD τ).loc cc0_stg0_0) ↦[Finset.univ]{fullShare} f))
    ∗ (∃ f : Buf (Elt F) ((c : Thread nD τ).loc cc0_stg1_0), ⌜f = OUT m c⌝ ∗ (((c : Thread nD τ).loc cc0_stg1_0) ↦[Finset.univ]{fullShare} f)))

theorem body_ob (c : Dev nD) : BodyObligation (dat m c) (defs₀ (F := F)) 𝒱₀ () Set.univ := fun t => by
  obtain rfl := fin_N0 t
  rw [bigSep_W0, bigSep_W0]
  simp only [whole_owns]
  show bodyIn m c ⊢ wp frame (wpE (defs₀ (F := F)) 𝒱₀ (c : Thread nD τ) none) Set.univ (cc0__body (F := F) (Memref.whole cc0_stg0_0) (Memref.isWhole_whole _) (Memref.whole main_v2) (Memref.isWhole_whole _) (Memref.whole main_v3) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10) (fun _ => bodyOut m c)
  unfold bodyIn bodyOut
  rw [Φ_first m c t0_0.castSucc rfl, Φ_last m c t0_0.succ (Nat.succ_ne_zero _)]
  unfold Φ₀ Φ₁ opened inArrays
  iintro ⟨⟨⟨⟨%κ, #Hk⟩, Hst⟩, ⟨HK, HV⟩, Hsp, Hp⟩, HO, ⟨%d0, %g0, %hg0, Hx⟩, ⟨%d1, %g1, -, Hy⟩⟩
  have hx : g0 = Q1 m c := hg0.trans (before_in m c t0_0 d0)
  subst hx
  ihave HO := (owes_out m c t0_0.castSucc) $$ HO
  ihave HO := (Entails.of_eq (congrArg (own (F := F) c) (owed_first m c t0_0.castSucc rfl))) $$ HO
  iapply (body_whole m κ c (Q := fun _ => _)) $$ [HO Hst HK HV Hsp Hx Hy]
  · isplitr; · iexact Hk
    isplitl [HO]; · iexact HO
    isplitl [Hst]; · iexact Hst
    isplitl [HK]; · iexact HK
    isplitl [HV]; · iexact HV
    isplitl [Hsp]; · iexact Hsp
    isplitl [Hx]; · iexact Hx
    iexists g1; iexact Hy
  iintro ⟨HO, Hr, HK, HV, Hsp, Hx, Hy⟩
  isplitl [Hr HK HV Hsp Hp]
  · isplitl [Hr]; · iexact Hr
    isplitl [HK HV]; · isplitl [HK] <;> iassumption
    isplitl [Hsp]; · iexact Hsp
    iexact Hp
  isplitl [HO]
  · ihave HO := (Entails.of_eq (congrArg (own (F := F) c) (owed_last m c t0_0.succ (Nat.succ_ne_zero _)).symm)) $$ HO
    iapply (owes_in m c t0_0.succ); iexact HO
  isplitl [Hx]
  · iexists _; isplitr; · ipureintro; rfl
    iexact Hx
  iexists _; isplitr; · ipureintro; rfl
  iexact Hy

end Cert.Decode

end
-- ==== Proof.Launch.lean ====
/-
# The region, entered and left

The one kernel call between a device's buffers before it and after it.
-/
module

public import proofs.«01_k».proof.Proof.Region
public import Idealize.ShloMosaic.Lib.Pipeline.RegionTalk
public import Idealize.ShloMosaic.Harness.Basic

@[expose] public section

set_option maxRecDepth 16384

noncomputable section

namespace Cert.Decode

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3 eq_ix3)
open Idealize.ShloMosaic.ShareLeaves (leaf)

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ)

/-! ## The device's buffers, and its counters -/

abbrev adm : (p : Fin 1) → (pcfgs (F := F) p).Adm := fun p => (cfgs p).toPCfg_adm

/-- The one region's data, as the runs of several regions take them. -/
def pdats : (p : Fin 1) → (c : Dev nD) → Dat τ (Elt F) Unit ℕ UU ℕ (Pipeline.pin (pcfgs (F := F)) adm p) c
  | ⟨0, _⟩ => dat m

/-- The transfers' semaphores. -/
def osem : Use → SemLoc sig := fun u => .dma (semOf u)
theorem ownFacts : Pipeline.OwnSemFacts spec0 osem := by decide +kernel

abbrev refs : Finset (DevRef τ sig) := Pipeline.ucRefs τ sig
abbrev winRefs : Finset (DevRef τ sig) := Pipeline.arrRefs (τ := τ) spec0
/-- The arrays that the body addresses itself, and those that nothing of the region touches. -/
abbrev ownRefs : Finset (DevRef τ sig) := {Proc.devRef .tc main_v2, Proc.devRef .tc main_v3}
abbrev offRefs : Finset (DevRef τ sig) := refs \ winRefs

theorem win_sub : winRefs ⊆ refs := Pipeline.arrRefs_sub_ucRefs spec0 (by decide)
theorem own_sub : ownRefs ⊆ offRefs := by decide +kernel
theorem v4_off : Proc.devRef .tc main_v4 ∉ offRefs := by decide +kernel

/-- A device's buffers after the region. -/
def WN (c : Dev nD) : Valuation τ sig (Elt F) := Function.update (V0 m c) (Proc.devRef .tc main_v4) (OUT m c)

theorem WN_of_ne (c : Dev nD) {b : DevRef τ sig} (h : b ≠ Proc.devRef .tc main_v4) : WN m c b = V0 m c b := Function.update_of_ne h _ _
theorem WN_v4 (c : Dev nD) : WN m c (Proc.devRef .tc main_v4) = OUT m c := Function.update_self _ _ _

theorem held_own (c : Dev nD) (W : Valuation τ sig (Elt F)) : (StableHlo.held (c : Thread nD τ) ownRefs W : sProp 𝕄)
    = iprop((((c : Thread nD τ).loc main_v2) ↦[Finset.univ]{fullShare} W (Proc.devRef .tc main_v2)) ∗ (((c : Thread nD τ).loc main_v3) ↦[Finset.univ]{fullShare} W (Proc.devRef .tc main_v3))) := by
  unfold StableHlo.held
  rw [bigSep_eq_bigSepL_of_eq [Proc.devRef .tc main_v2, Proc.devRef .tc main_v3] (by decide) (by decide)]
  rfl

omit [FloatOps F] in
theorem barrier_sem (c : Dev nD) : (unscopedSems0 c : sProp 𝕄) = semVal (barCell c) 0 := by
  unfold unscopedSems0
  rw [show (Finset.univ.filter fun sm : SemLoc sig => ¬ sm.isScoped .tc) = {SemLoc.reg (sig.barrier 0 rfl)} from by decide +kernel, BI.bigSep_singleton]

/-! ## The region -/

/-- Every cell's invariant under one map of names, and every barrier begun. -/
def records (κ : GSem nD τ sig → ℕ) : sProp 𝕄 :=
  iprop((bigSep (barCells ∪ useCells) fun g => cellInv ER (sched m) (κ g) g) ∗ (bigSep barCells fun g => reached ER g 0))
instance records_persistent (κ : GSem nD τ sig → ℕ) : BI.Persistent (records m κ) := by unfold records; infer_instance

/-- What the launch deals a device: its barrier's position, the right to open each transfer cell, its tokens. -/
def dealt (c : Dev nD) : sProp 𝕄 := iprop(atPos ER (barCell c) 0 ∅ 0 ∗ (bigSep Finset.univ fun u : Use => openTok ER (cell c u)) ∗ toks c)
def Tk (c : Dev nD) : sProp 𝕄 := iprop((∃ κ, records m κ ∗ dealt c) ∗ creds c)
def Yk (c : Dev nD) : sProp 𝕄 := semVal (barCell c) 0

theorem open_uses (κ : GSem nD τ sig → ℕ) (c : Dev nD) :
    (iprop(records m κ ∗ (bigSep Finset.univ fun u : Use => openTok ER (cell c u)) ∗ Pipeline.ownSems0 osem c) : sProp 𝕄)
      ⊢ (|={Set.univ}=> ((bigSep Finset.univ fun u : Use => pend (F := F) c u) ∗ begun c) : sProp 𝕄) := by
  have one (u : Use) : (iprop(records m κ ∗ (openTok ER (cell c u) ∗ semVal (cell c u) 0)) : sProp 𝕄)
      ⊢ (|={Set.univ}=> (pend (F := F) c u ∗ reached ER (cell c u) 0) : sProp 𝕄) := by
    have hg : (bigSep (barCells ∪ useCells) fun g => (cellInv ER (sched m) (κ g) g : sProp 𝕄)) ⊢ cellInv ER (sched m) (κ (cell c u)) (cell c u) :=
      bigSep_elim (cell_mem c u)
    unfold records
    iintro ⟨⟨#HI, -⟩, Ho, Hs⟩
    iapply (Rounds.cell_open ER (sched m) (g := cell c u) (Set.mem_univ (κ (cell c u))))
    isplitr; · iapply hg; iexact HI
    isplitl [Ho] <;> iassumption
  have all : (iprop(records m κ ∗ bigSep Finset.univ fun u : Use => iprop(openTok ER (cell c u) ∗ semVal (cell c u) 0)) : sProp 𝕄)
      ⊢ bigSep Finset.univ fun u : Use => (iprop(|={Set.univ}=> (pend (F := F) c u ∗ reached ER (cell c u) 0)) : sProp 𝕄) :=
    bigSep_with_persistent fun u _ => one u
  have upd : (bigSep Finset.univ fun u : Use => (iprop(|={Set.univ}=> (pend (F := F) c u ∗ reached ER (cell c u) 0)) : sProp 𝕄))
      ⊢ (|={Set.univ}=> bigSep Finset.univ fun u : Use => (iprop(pend (F := F) c u ∗ reached ER (cell c u) 0) : sProp 𝕄)) := BI.bigSep_fupd _ _
  unfold Pipeline.ownSems0 begun
  iintro ⟨#HR, Ho, Hs⟩
  ihave H := (Entails.of_eq (bigSep_sep' Finset.univ (fun u : Use => (openTok ER (cell c u) : sProp 𝕄)) (fun u : Use => (semVal (cell c u) 0 : sProp 𝕄))).symm) $$ [Ho Hs]
  · isplitl [Ho]; · iexact Ho
    iexact Hs
  ihave H := all $$ [H]
  · isplitr; · iexact HR
    iexact H
  ihave H := upd $$ H
  imod H with H
  imodintro
  ihave H := (Entails.of_eq (bigSep_sep' Finset.univ (fun u : Use => (pend (F := F) c u : sProp 𝕄)) (fun u : Use => (reached ER (cell c u) 0 : sProp 𝕄)))) $$ H
  iexact H

theorem open_region (c : Dev nD) : (iprop(Tk m c ∗ Pipeline.ownSems0 osem c ∗ levAts L lv) : sProp 𝕄) ⊢ (|={Set.univ}=> opened m c : sProp 𝕄) := by
  unfold Tk dealt opened start
  iintro ⟨⟨⟨%κ, #HR, Hat, Ho, Ht⟩, Hc⟩, Hs, #Hl⟩
  imod (open_uses m κ c) $$ [Ho Hs] with ⟨Hp, Hb⟩
  · isplitr; · iexact HR
    isplitl [Ho]; · iexact Ho
    iexact Hs
  imodintro
  isplitr
  · iexists κ
    unfold know records
    icases HR with ⟨#HI, #HB⟩
    isplitr; · iexact HI
    isplitr; · iexact HB
    iexact Hl
  isplitl [Hat]; · iexact Hat
  isplitl [Hp]; · iexact Hp
  isplitl [Hb]; · iexact Hb
  isplitl [Ht]; · iexact Ht
  iexact Hc

theorem spare_eq (c : Dev nD) : (Pipeline.scopedRest (Ix := Unit) (Name := ℕ) (U := UU) (Lvl := ℕ) (Val := Elt F) spec0 c : sProp 𝕄) = spare c := scopedRest0_eq c

theorem enter (c : Dev nD) :
    (iprop(Pipeline.scopedRest (Pipeline.pin (pcfgs (F := F)) adm 0).spec c ∗ (∃ r, prngReg c r) ∗ StableHlo.held (c.tc : Thread nD τ) ownRefs (V0 m c) ∗ opened m c) : sProp 𝕄)
      ⊢ (pdats m 0 c).Φ 0 := by
  rw [show (pdats m 0 c).Φ 0 = Φ₀ m c from Φ_first m c 0 rfl, show (Pipeline.scopedRest (Pipeline.pin (pcfgs (F := F)) adm 0).spec c : sProp 𝕄) = spare c from spare_eq c, held_own]
  unfold Φ₀ inArrays
  iintro ⟨Hs, Hp, Ha, Ho⟩
  isplitl [Ho]; · iexact Ho
  isplitl [Ha]; · iexact Ha
  isplitl [Hs]; · iexact Hs
  iexact Hp

theorem leave (c : Dev nD) : (pdats m 0 c).Φ (Fin.last (Pipeline.pin (pcfgs (F := F)) adm 0).N)
    ⊢ (iprop(Pipeline.scopedRest (Pipeline.pin (pcfgs (F := F)) adm 0).spec c ∗ (∃ r, prngReg c r) ∗ StableHlo.held (c.tc : Thread nD τ) ownRefs (WN m c) ∗ Pipeline.ownSems0 osem c ∗ Yk c) : sProp 𝕄) := by
  rw [show (pdats m 0 c).Φ (Fin.last (Pipeline.pin (pcfgs (F := F)) adm 0).N) = Φ₁ m c from Φ_last m c _ last_ne,
    show (Pipeline.scopedRest (Pipeline.pin (pcfgs (F := F)) adm 0).spec c : sProp 𝕄) = spare c from spare_eq c, held_own,
    WN_of_ne m c (by decide), WN_of_ne m c (by decide)]
  unfold Φ₁ inArrays rest Yk Pipeline.ownSems0
  iintro ⟨⟨Hb, Hs⟩, Ha, Hsp, Hp⟩
  isplitl [Hsp]; · iexact Hsp
  isplitl [Hp]; · iexact Hp
  isplitl [Ha]; · iexact Ha
  isplitl [Hs]; · iexact Hs
  iexact Hb

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem lv_stage (c : Dev nD) (w : Fin 2) (s : Fin (spec0 w).nbuf) : lv ((c : Thread nD τ), .dma ((spec0 w).sem s)) () = 0 := by
  revert c s; revert w; decide +kernel

set_option backward.isDefEq.respectTransparency.types false in
/-- The region: entered owing every unit that the protocol sends, left owing none. -/
def region : Pipeline.RegionSeg (pcfgs (F := F)) adm (pdats m) () defs₀ 𝒱₀ L lv 0 :=
  Pipeline.RegionSeg.ofTalk (pcfgs (F := F)) adm (pdats m) () defs₀ 𝒱₀ L lv 0 osem ownFacts
    ownRefs offRefs own_sub kit0 rfl (fun c => (body_ob m c).loose)
    (fun _ => 0) O₀ (fun c => (owed_first m c 0 rfl).trans (zero_add _).symm) (fun c => owed_last m c _ last_ne) (fun _ => rfl)
    (fun c w => by unfold Dat.share; split <;> rfl)
    (V0 m) (WN m) (fun c b hb => WN_of_ne m c fun e => v4_off (e ▸ (Finset.mem_sdiff.mp hb).1))
    (Tk m) Yk (opened m) Yk (open_region m) (enter m) (leave m)
    (fun c => by iintro H; imodintro; iexact H)
    (fun _ => 0)
    ⟨fun c w s => by rw [L_tc]; exact Finset.mem_singleton_self _, fun c w s => le_of_eq (lv_stage c w s),
      fun c t g i h => ⟨by
        have e := (above_owed m c t g i h).1
        obtain ⟨⟨d, p⟩, s⟩ := g
        cases e
        rw [L_tc]; exact Finset.mem_singleton_self _, (above_owed m c t g i h).2⟩⟩
    (fun _ => iprop(emp))
    (fun c w => rfl)
    (fun c w => match w with
      | ⟨0, _⟩ => (arr_in m c _).trans (WN_of_ne m c (by decide)).symm
      | ⟨1, _⟩ => (arr_out m c).trans (WN_v4 m c).symm)

end Cert.Decode

end
-- ==== Proof.Run.lean ====
/-
# The run

The launch of the thirty-two devices, and the run of `main` on all of them.
-/
module

public import proofs.«01_k».proof.Proof.Launch

@[expose] public section

set_option maxRecDepth 16384

noncomputable section

namespace Cert.Decode

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3 eq_ix3)
open Idealize.ShloMosaic.ShareLeaves (leaf)

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-! ## `main` as segments -/

/-- What rides beside a device's buffers up to the region, and after it. -/
def R₀ (c : Dev nD) : sProp 𝕄 := iprop(Tk m c ∗ (∃ r, prngReg c r) ∗ own c (O₀ c))
def R₁ (c : Dev nD) : sProp 𝕄 := iprop(Yk (F := F) c ∗ own c 0)

def seg0 : Pipeline.HostSeg (Name := ℕ) (U := UU) (pcfgs (F := F)) defs₀ 𝒱₀ L lv :=
  Pipeline.HostSeg.ofOps _ _ _ _ _ refs hostOps0 (fun op h => Pipeline.sub_ucRefs op (List.forall_iff_forall_mem.mp hostOps0_sub op h))
    (List.forall_iff_forall_mem.mp hostOps0_fresh) (fun c b => m (c, b)) (R₀ m)
def seg1 : Pipeline.HostSeg (Name := ℕ) (U := UU) (pcfgs (F := F)) defs₀ 𝒱₀ L lv :=
  Pipeline.HostSeg.ofOps _ _ _ _ _ refs hostOps1 (fun op h => Pipeline.sub_ucRefs op (List.forall_iff_forall_mem.mp hostOps1_sub op h))
    (List.forall_iff_forall_mem.mp hostOps1_fresh) (WN m) R₁

def segs : List (Pipeline.Seg (pcfgs (F := F)) adm (pdats m) () defs₀ 𝒱₀ L lv) := [.host (seg0 m), .region (region m), .host (seg1 m)]

theorem region_pre (c : Dev nD) : (iprop(StableHlo.held (c : Thread nD τ) refs (V0 m c) ∗ R₀ m c) : sProp 𝕄) ⊢ (region m).pre c := by
  show _ ⊢ (iprop(StableHlo.held (c.tc : Thread nD τ) winRefs (V0 m c) ∗ (∃ r, prngReg c r)
    ∗ (StableHlo.held (c.tc : Thread nD τ) offRefs (V0 m c) ∗ emp) ∗ Tk m c ∗ ∃ Wd, owes (c : Thread nD τ) (0 + O₀ c) Wd) : sProp 𝕄)
  rw [zero_add, StableHlo.held_sub_split (c : Thread nD τ) win_sub]
  unfold R₀ own
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem region_post (c : Dev nD) : (region m).post c ⊢ (iprop(StableHlo.held (c : Thread nD τ) refs (WN m c) ∗ R₁ c) : sProp 𝕄) := by
  show (iprop(StableHlo.held (c.tc : Thread nD τ) winRefs (WN m c) ∗ (∃ r, prngReg c r)
    ∗ (StableHlo.held (c.tc : Thread nD τ) offRefs (WN m c) ∗ emp) ∗ Yk c ∗ ∃ Wd, owes (c : Thread nD τ) (0 : CellTallies nD τ sig Unit) Wd) : sProp 𝕄) ⊢ _
  rw [StableHlo.held_sub_split (c : Thread nD τ) win_sub (WN m c)]
  unfold R₁ own
  iintro ⟨Ha, -, ⟨Hr, -⟩, HY, HO⟩
  isplitl [Ha Hr]
  · isplitl [Ha]; · iexact Ha
    iexact Hr
  isplitl [HY]; · iexact HY
  iexact HO

/-! ## The launch -/

theorem cells_apart : Disjoint barCells useCells := by
  unfold barCells useCells
  rw [Finset.disjoint_left]
  rintro g h₁ h₂
  obtain ⟨c, -, rfl⟩ := Finset.mem_image.mp h₁
  obtain ⟨cu, -, h⟩ := Finset.mem_image.mp h₂
  exact absurd (congrArg Prod.snd h) (fun e => by cases e)

theorem bar_inj : Function.Injective barCell := fun _ _ h => congrArg (fun g : GSem nD τ sig => g.1.1) h
theorem use_inj : Function.Injective (fun cu : Dev nD × Use => cell cu.1 cu.2) := fun a b h => by
  have hd : a.1 = b.1 := congrArg (fun g : GSem nD τ sig => g.1.1) h
  have hs : (SemLoc.dma (semOf a.2) : SemLoc sig) = .dma (semOf b.2) := congrArg Prod.snd h
  exact Prod.ext hd (semOf_injective (by injection hs))

omit [FloatOps F] in
theorem over_bars (Φ : GSem nD τ sig → sProp 𝕄) : bigSep barCells Φ = bigSep Finset.univ fun c : Dev nD => Φ (barCell c) := by
  unfold barCells
  exact bigSep_image_of_injOn bar_inj.injOn Φ
omit [FloatOps F] in
theorem over_uses (Φ : GSem nD τ sig → sProp 𝕄) : bigSep useCells Φ = bigSep Finset.univ fun c : Dev nD => bigSep Finset.univ fun u : Use => Φ (cell c u) := by
  classical
  unfold useCells
  rw [bigSep_image_of_injOn use_inj.injOn Φ, bigSep_univ_prod]

/-- The protocol's element at the launch, all of it on the first device until it is dealt. -/
def parked (c : Dev nD) : sProp 𝕄 := if c = 0 then BI.own (ER (launchOf barCells useCells allDuties)) else iprop(emp)
omit [FloatOps F] in
theorem parked_all : bigSep Finset.univ (parked (F := F)) = BI.own (ER (launchOf barCells useCells allDuties)) := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked
  rw [if_pos rfl]
  exact BI.equiv_iff.mp sep_emp

/-- A device's holdings at its start. -/
def T₀ (c : Dev nD) : sProp 𝕄 := iprop(StableHlo.held (c : Thread nD τ) refs (fun b => m (c, b)) ∗ R₀ m c)
/-- And at its end. -/
def Tₙ (c : Dev nD) : sProp 𝕄 := iprop(StableHlo.held (c : Thread nD τ) refs (StableHlo.after hostOps1 (WN m c)) ∗ Yk c)

/-- What of a device's launch holdings is none of the protocol's. -/
def beside (c : Dev nD) : sProp 𝕄 := iprop(StableHlo.held (c : Thread nD τ) refs (fun b => m (c, b)) ∗ creds c ∗ own c (O₀ c) ∗ ∃ r, prngReg c r)

/-- A device's holdings as the launch gives them. -/
def given (c : Dev nD) : sProp 𝕄 := iprop(unscopedBufs c (fun b => m ((c : Thread nD τ).loc b)) ∗ unscopedSems0 c
  ∗ owes (c : Thread nD τ) (O₀ c) ∅ ∗ Pipeline.launchCred O₀ c ∗ prngReg c (ρ c) ∗ parked c)

theorem given_sort (c : Dev nD) : given m ρ c ⊢ (iprop(beside m c ∗ (semVal (barCell c) 0 ∗ parked c)) : sProp 𝕄) := by
  unfold given beside own
  rw [show (unscopedBufs c (fun b => m ((c : Thread nD τ).loc b)) : sProp 𝕄) = StableHlo.held (c : Thread nD τ) refs (fun b => m (c, b)) from
    Pipeline.unscopedBufs_held c (fun b => m (c, b)), barrier_sem]
  iintro ⟨Hh, Hs, HO, Hc, Hp, HG⟩
  ihave Hc := (creds_launch (F := F) c) $$ Hc
  isplitl [Hh HO Hc Hp]
  · isplitl [Hh]; · iexact Hh
    isplitl [Hc]; · iexact Hc
    isplitl [HO]; · iexists ∅; iexact HO
    iexists (ρ c); iexact Hp
  isplitl [Hs]; · iexact Hs
  iexact HG

theorem T₀_deal (κ : GSem nD τ sig → ℕ) (c : Dev nD) : (iprop(records m κ ∗ (dealt c ∗ beside m c)) : sProp 𝕄) ⊢ T₀ m c := by
  unfold beside T₀ R₀ Tk
  iintro ⟨#HR, Hd, Hh, Hc, HO, Hp⟩
  isplitl [Hh]; · iexact Hh
  isplitl [Hd Hc]
  · isplitl [Hd]
    · iexists κ
      isplitr; · iexact HR
      iexact Hd
    iexact Hc
  isplitl [Hp]; · iexact Hp
  iexact HO

/-- The launch's holdings, sorted. -/
theorem sorted : (bigSep Finset.univ fun c : Dev nD => given m ρ c) ⊢ (iprop((bigSep Finset.univ fun c : Dev nD => beside m c)
      ∗ (bigSep barCells fun g => semVal g 0) ∗ BI.own (ER (launchOf barCells useCells allDuties))) : sProp 𝕄) := by
  rw [over_bars, ← parked_all, ← bigSep_sep', ← bigSep_sep']
  exact bigSep_mono fun c _ => given_sort m ρ c

theorem deal_each (κ : GSem nD τ sig → ℕ) : (iprop(records m κ ∗ bigSep Finset.univ fun c : Dev nD => iprop(dealt c ∗ beside m c)) : sProp 𝕄) ⊢ bigSep Finset.univ (T₀ m) :=
  bigSep_with_persistent fun c _ => T₀_deal m κ c

theorem dealt_all : (bigSep Finset.univ fun c : Dev nD => (dealt c : sProp 𝕄)) = iprop((bigSep barCells fun g => atPos ER g 0 ∅ 0) ∗ (bigSep useCells fun g => openTok ER g)
      ∗ (bigSep allDuties fun x => dutyTok ER x.1 x.2.1 x.2.2)) := by
  rw [over_bars, over_uses, allDuties_eq, ← bigSep_sep', ← bigSep_sep']
  rfl

theorem handed (κ : GSem nD τ sig → ℕ) : (iprop(records m κ ∗ ((bigSep barCells fun g => atPos ER g 0 ∅ 0) ∗ (bigSep useCells fun g => openTok ER g)
      ∗ (bigSep allDuties fun x => dutyTok ER x.1 x.2.1 x.2.2)) ∗ bigSep Finset.univ fun c : Dev nD => beside m c) : sProp 𝕄) ⊢ bigSep Finset.univ (T₀ m) := by
  rw [← dealt_all, ← bigSep_sep']
  exact deal_each m κ

theorem never_unitless (g : GSem nD τ sig) : ¬ (sched (F := F) m).unitless g := fun h => h

/-- The cells, funded. -/
theorem funded : (iprop((bigSep barCells fun g => semVal g 0) ∗ BI.own (ER (launchOf barCells useCells allDuties))) : sProp 𝕄)
    ⊢ (iprop(|={Set.univ}=> ∃ κ : GSem nD τ sig → ℕ, ⌜Set.InjOn κ (barCells ∪ useCells : Finset (GSem nD τ sig)) ∧ ∀ g ∈ barCells ∪ useCells, κ g ∉ (∅ : Finset ℕ)⌝
          ∗ bigSep (barCells ∪ useCells) (fun g => cellInv ER (sched m) (κ g) g)
          ∗ bigSep barCells (fun g => reached ER g 0) ∗ bigSep barCells (fun g => atPos ER g 0 ∅ 0)
          ∗ bigSep useCells (fun g => openTok ER g)
          ∗ bigSep allDuties (fun x => dutyTok ER x.1 x.2.1 x.2.2)) : sProp 𝕄) :=
  Rounds.fund_launch ER (sched m) cells_apart (fun g _ => never_unitless m g) allDuties

theorem records_in (κ : GSem nD τ sig → ℕ) : (iprop(bigSep (barCells ∪ useCells) (fun g => cellInv ER (sched m) (κ g) g)
          ∗ bigSep barCells (fun g => reached ER g 0)) : sProp 𝕄) ⊢ records m κ := by
  unfold records
  exact .rfl
theorem sort_six (A B C D E X : sProp 𝕄) : (iprop(X ∗ A ∗ B ∗ C ∗ D ∗ E) : sProp 𝕄) ⊢ iprop((A ∗ B) ∗ (C ∗ D ∗ E) ∗ X) := by
  iintro ⟨Hb, HI, HR, Ha, Ho, Ht⟩
  isplitl [HI HR]
  · isplitl [HI]; · iexact HI
    iexact HR
  isplitl [Ha Ho Ht]
  · isplitl [Ha]; · iexact Ha
    isplitl [Ho]; · iexact Ho
    iexact Ht
  iexact Hb
theorem hand_named (κ : GSem nD τ sig → ℕ) : (iprop((bigSep Finset.univ fun c : Dev nD => beside m c) ∗ bigSep (barCells ∪ useCells) (fun g => cellInv ER (sched m) (κ g) g)
          ∗ bigSep barCells (fun g => reached ER g 0) ∗ bigSep barCells (fun g => atPos ER g 0 ∅ 0)
          ∗ bigSep useCells (fun g => openTok ER g)
          ∗ bigSep allDuties (fun x => dutyTok ER x.1 x.2.1 x.2.2)) : sProp 𝕄) ⊢ bigSep Finset.univ (T₀ m) :=
  (sort_six _ _ _ _ _ _).trans ((sep_mono_left (records_in m κ)).trans (handed m κ))
theorem handing (Φ : (GSem nD τ sig → ℕ) → Prop) : (iprop((bigSep Finset.univ fun c : Dev nD => beside m c) ∗ (∃ κ : GSem nD τ sig → ℕ, ⌜Φ κ⌝
          ∗ bigSep (barCells ∪ useCells) (fun g => cellInv ER (sched m) (κ g) g)
          ∗ bigSep barCells (fun g => reached ER g 0) ∗ bigSep barCells (fun g => atPos ER g 0 ∅ 0)
          ∗ bigSep useCells (fun g => openTok ER g)
          ∗ bigSep allDuties (fun x => dutyTok ER x.1 x.2.1 x.2.2))) : sProp 𝕄) ⊢ bigSep Finset.univ (T₀ m) := by
  have h := hand_named m
  generalize (bigSep Finset.univ (T₀ m) : sProp 𝕄) = G at h ⊢
  generalize (bigSep Finset.univ fun c : Dev nD => (beside m c : sProp 𝕄)) = G0 at h ⊢
  iintro ⟨Hb, %κ, -, H⟩
  iapply (h κ)
  isplitl [Hb]; · iexact Hb
  iexact H

theorem moved : (iprop((bigSep Finset.univ fun c : Dev nD => beside m c)
      ∗ (bigSep barCells fun g => semVal g 0) ∗ BI.own (ER (launchOf barCells useCells allDuties))) : sProp 𝕄) ⊢ (|={Set.univ}=> bigSep Finset.univ (T₀ m) : sProp 𝕄) := by
  iintro ⟨Hb, H⟩
  imod (funded m) $$ H with H
  imodintro
  iapply (handing m)
  isplitl [Hb]; · iexact Hb
  iexact H

theorem given_only : (iprop((bigSep Finset.univ fun c : Dev nD => given m ρ c) ∗ levAts L lv) : sProp 𝕄) ⊢ (bigSep Finset.univ fun c : Dev nD => given m ρ c) := by
  iintro ⟨H, -⟩
  iexact H

/-- The deal: every cell is funded, and each device takes its own. -/
theorem deal : (iprop((bigSep Finset.univ fun c : Dev nD => given m ρ c) ∗ levAts L lv) : sProp 𝕄) ⊢ (|={Set.univ}=> bigSep Finset.univ (T₀ m) : sProp 𝕄) :=
  (given_only m ρ).trans ((sorted m ρ).trans (moved m))

/-! ## The run -/

/-- The four buffers that the claims speak of. -/
abbrev endRefs : Finset (DevRef τ sig) := {Proc.devRef .tc main_arg0, Proc.devRef .tc main_arg1, Proc.devRef .tc main_arg2, Proc.devRef .tc main_v5}
theorem end_sub : endRefs ⊆ refs := by decide +kernel

omit [FloatOps F] in
theorem held_end (c : Dev nD) (W : Valuation τ sig (Elt F)) : (StableHlo.held (c : Thread nD τ) endRefs W : sProp 𝕄)
    = iprop((((c : Thread nD τ).loc main_arg0) ↦[Finset.univ]{fullShare} W (Proc.devRef .tc main_arg0)) ∗ (((c : Thread nD τ).loc main_arg1) ↦[Finset.univ]{fullShare} W (Proc.devRef .tc main_arg1))
      ∗ (((c : Thread nD τ).loc main_arg2) ↦[Finset.univ]{fullShare} W (Proc.devRef .tc main_arg2)) ∗ (((c : Thread nD τ).loc main_v5) ↦[Finset.univ]{fullShare} W (Proc.devRef .tc main_v5))) := by
  unfold StableHlo.held
  rw [bigSep_eq_bigSepL_of_eq [Proc.devRef .tc main_arg0, Proc.devRef .tc main_arg1, Proc.devRef .tc main_arg2, Proc.devRef .tc main_v5] (by decide) (by decide)]
  rfl

/-- A device's buffers when `main` has run. -/
def WE (c : Dev nD) : Valuation τ sig (Elt F) := StableHlo.after hostOps1 (WN m c)

theorem only_barrier : ∀ sm : SemLoc sig, sm.isScoped .tc = false → sm = .reg (sig.barrier 0 rfl) := by decide +kernel

/-- The element that the launch starts from: the pipeline's and the protocol's. -/
def u₀ : UU :=
  (initOf (Pipeline.cells (Pipeline.pin (pcfgs (F := F)) adm) cellOf_inj) (Pipeline.launchToks (Pipeline.pin (pcfgs (F := F)) adm) cellOf_inj),
    launchOf barCells useCells allDuties)

set_option backward.isDefEq.respectTransparency.types false in
/-- From any memory with every counter at zero, every fair run of `main` on the thirty-two devices ends, each device's three arguments
    and its result as `WE` has them, and every counter at zero. -/
theorem run_main : θ_run defs (onTc (τ := τ) (main (F := F))) ⟨m, fun _ => 0, ρ⟩
    (fun r => (∀ c : Dev nD, r.2.mem ((c : Thread nD τ).loc main_arg0) = WE m c (Proc.devRef .tc main_arg0)
        ∧ r.2.mem ((c : Thread nD τ).loc main_arg1) = WE m c (Proc.devRef .tc main_arg1)
        ∧ r.2.mem ((c : Thread nD τ).loc main_arg2) = WE m c (Proc.devRef .tc main_arg2)
        ∧ r.2.mem ((c : Thread nD τ).loc main_v5) = WE m c (Proc.devRef .tc main_v5)) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (seg0 m) (seg1 m) (region m) rfl rfl c]; rfl)
    (by simp only [segs, Pipeline.Seg.pipes_host, Pipeline.Seg.pipes_region, Pipeline.Seg.pipes_nil]; decide)
    (O₀ := O₀) (hL := L_of_ne) (G := parked) (u₀ := u₀ (F := F))
    (hu₀ := by
      unfold u₀
      iintro Hu
      ihave H := (ownU_pair _ _) $$ Hu
      icases H with ⟨HP, HX⟩
      imodintro
      isplitl [HP]; · iexact HP
      rw [parked_all]; iexact HX)
    (T₀ := T₀ m) (Tₙ := Tₙ m)
    (hch := by
      refine ⟨fun c => .rfl, fun c => region_pre m c, fun c => region_post m c, fun c => ?_⟩
      show (iprop(StableHlo.held (c : Thread nD τ) refs (StableHlo.after hostOps1 (WN m c)) ∗ R₁ c) : sProp 𝕄)
        ⊢ iprop(Tₙ m c ∗ ∃ W, owes (c : Thread nD τ) (0 : CellTallies nD τ sig Unit) W)
      unfold R₁ Tₙ own
      iintro ⟨Hh, Hb, HO⟩
      isplitr [HO]
      · isplitl [Hh]; · iexact Hh
        iexact Hb
      iexact HO)
    (hinit := deal m ρ)
    (QY := fun c s => (s.mem ((c : Thread nD τ).loc main_arg0) = WE m c (Proc.devRef .tc main_arg0)
        ∧ s.mem ((c : Thread nD τ).loc main_arg1) = WE m c (Proc.devRef .tc main_arg1)
        ∧ s.mem ((c : Thread nD τ).loc main_arg2) = WE m c (Proc.devRef .tc main_arg2)
        ∧ s.mem ((c : Thread nD τ).loc main_v5) = WE m c (Proc.devRef .tc main_v5)) ∧ s.sem (barCell c) = 0)
    (hfin := fun c s' => by
      unfold Tₙ Yk
      rw [StableHlo.held_sub_split (c : Thread nD τ) end_sub, held_end]
      iintro ⟨⟨⟨⟨H0, H1, H2, H5⟩, -⟩, Hb⟩, HSI⟩
      icombine HSI H0 gives %h0
      icombine HSI H1 gives %h1
      icombine HSI H2 gives %h2
      icombine HSI H5 gives %h5
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h5⟩, by simpa using hb⟩
      iexact HSI)
    (hQ := fun s h hs => ⟨fun c => (h c).1, sem_eq_zero hs fun c sm hsm => by
      obtain rfl := only_barrier sm hsm
      exact (h c).2⟩)

/-! ## The buffers at the end -/

theorem WE_arg0 (c : Dev nD) : WE m c (Proc.devRef .tc main_arg0) = m ((c : Thread nD τ).loc main_arg0) := by
  unfold WE
  rw [StableHlo.after_cons, StableHlo.after_nil, StableHlo.reshape_result_ne (h := by decide), WN_of_ne m c (by decide)]
  exact V_main_arg0 m c
theorem WE_arg1 (c : Dev nD) : WE m c (Proc.devRef .tc main_arg1) = m ((c : Thread nD τ).loc main_arg1) := by
  unfold WE
  rw [StableHlo.after_cons, StableHlo.after_nil, StableHlo.reshape_result_ne (h := by decide), WN_of_ne m c (by decide)]
  exact V_main_arg1 m c
theorem WE_arg2 (c : Dev nD) : WE m c (Proc.devRef .tc main_arg2) = m ((c : Thread nD τ).loc main_arg2) := by
  unfold WE
  rw [StableHlo.after_cons, StableHlo.after_nil, StableHlo.reshape_result_ne (h := by decide), WN_of_ne m c (by decide)]
  exact V_main_arg2 m c

end Cert.Decode

end
-- ==== Proof.Frames.lean ====
/-
# The frames

Kernel and reference run to the end, leave their arguments as they were, and leave every semaphore
counter at zero.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Run
public import Idealize.ShloMosaic.Adequacy
public import Idealize.ShloMosaic.Init

@[expose] public section

set_option maxRecDepth 16384

noncomputable section

namespace Cert.Decode

open Idealize.ShloMosaic Idealize.ShloMosaic.TcCoe Idealize.SL.Sem

/-- Every run of the kernel ends, its arguments as they were and its counters at zero. -/
theorem frame_run {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c =>
    ⟨(h.1 c).1.trans (WE_arg0 m c), (h.1 c).2.1.trans (WE_arg1 m c), (h.1 c).2.2.1.trans (WE_arg2 m c)⟩, h.2⟩)
    (run_main m ρ)

/-- The kernel read over extended reals. -/
theorem frame_ideal : Cert.quiescent_KernelIdeal (hKernelIdeal := Cert.KernelIdeal.Gen.facts) := fun m ρ _ =>
  frame_run (F := Ideal) m ρ

attribute [local instance] Cert.Kernel.Gen.facts Cert.KernelIdeal.Gen.facts

/-- The two programs' bodies are one text. -/
theorem bodies_eq : Cert.Kernel.defs₀ (F := Bits) = Cert.KernelIdeal.defs₀ := by
  refine congrArg (Defs.onTc (nD := Cert.KernelIdeal.nD) (τ := Cert.KernelIdeal.τ) (sig := Cert.KernelIdeal.sig) (Λ := Cert.KernelIdeal.Λ₀)) ?_
  funext l a
  match l, a with
  | ⟨0, _⟩, _ => rfl

/-- So their tables are one table. -/
theorem tables_eq : Cert.Kernel.defs (F := Bits) = Cert.KernelIdeal.defs :=
  congrArg (Pipeline.defs (Cert.KernelIdeal.pcfgs (F := Bits))) bodies_eq

/-- The kernel as compiled: the same text, read at bit patterns. -/
theorem frame_kernel : Cert.quiescent_Kernel (hKernel := Cert.Kernel.Gen.facts) := fun m ρ _ => by
  have h := frame_run (F := Bits) m ρ
  rw [← tables_eq] at h
  exact h

/-- The reference, which declares no semaphore. -/
theorem frame_ref : Cert.quiescent_ReferenceIdeal (hReferenceIdeal := Cert.ReferenceIdeal.Gen.facts) := fun m ρ _ =>
  (θ_run Cert.ReferenceIdeal.defs _ _).mono (fun r h => ⟨fun c => ⟨(h c).2.1, (h c).2.2.1, (h c).2.2.2⟩,
    sem_eq_zero_of_no_sems (by decide) r.2⟩)
    (Cert.ReferenceIdeal.Value.run (F := Ideal) m ρ)

end Cert.Decode

end
-- ==== Proof.Weigh.lean ====
/-
# Softmax weighting by shards

The keys lie in shards. Each shard takes the maximum of its own scores, exponentiates against it, and
sums; the shards' partials are then put on one scale and their sums divided. Over the extended reals,
for real scores and any values, that is the weighting taken over all keys at once.
-/
module

public import Idealize.ShloMosaic.PureOps.Ideal
public import Idealize.ShloMosaic.PureOps.Ideal.Laws
public import Mathlib.Data.Finset.Fold

@[expose] public section

noncomputable section

namespace Cert.Decode

open Idealize.ShloMosaic

/-- The largest of finitely many extended reals. -/
def top {κ : Type} [Fintype κ] (s : κ → EReal) : EReal := Finset.univ.fold max ⊥ s

theorem le_top' {κ : Type} [Fintype κ] (s : κ → EReal) (k : κ) : s k ≤ top s :=
  (Finset.le_fold_max _).mpr (Or.inr ⟨k, Finset.mem_univ _, le_rfl⟩)

theorem top_le {κ : Type} [Fintype κ] {s : κ → EReal} {c : EReal} (h : ∀ k, s k ≤ c) : top s ≤ c :=
  (Finset.fold_max_le _).mpr ⟨bot_le, fun k _ => h k⟩

/-- The largest of finitely many reals, one at least, is real. -/
theorem top_real {κ : Type} [Fintype κ] [Nonempty κ] (s : κ → ℝ) : ∃ μ : ℝ, top (fun k => (s k : EReal)) = μ := by
  refine ⟨(top fun k => (s k : EReal)).toReal, (EReal.coe_toReal ?_ ?_).symm⟩
  · exact ne_of_lt ((Finset.fold_max_lt _).mpr ⟨bot_lt_top, fun k _ => EReal.coe_lt_top _⟩)
  · obtain ⟨k⟩ := ‹Nonempty κ›
    exact ne_of_gt (lt_of_lt_of_le (EReal.bot_lt_coe (s k)) (le_top' (fun k => (s k : EReal)) k))

/-- The largest of the shards' largest is the largest. -/
theorem top_shards {ι κ ρ : Type} [Fintype ι] [Fintype κ] [Fintype ρ] (e : ι × κ ≃ ρ) (s : ρ → EReal) :
    top (fun y => top fun k => s (e (y, k))) = top s := by
  refine le_antisymm (top_le fun y => top_le fun k => le_top' s _) (top_le fun i => ?_)
  have h := (le_top' (fun k => s (e ((e.symm i).1, k))) (e.symm i).2).trans (le_top' (fun y => top fun k => s (e (y, k))) (e.symm i).1)
  rwa [show e ((e.symm i).1, (e.symm i).2) = i from e.apply_symm_apply i] at h

/-- A non-negative real factor goes into a sum of extended reals. -/
theorem sum_mul_real {κ : Type} (t : Finset κ) (f : κ → EReal) {r : ℝ} (hr : 0 ≤ r) :
    (∑ k ∈ t, f k) * (r : EReal) = ∑ k ∈ t, f k * (r : EReal) := by
  classical
  induction t using Finset.induction_on with
  | empty => simp
  | insert a t ha ih =>
    rw [Finset.sum_insert ha, Finset.sum_insert ha,
      EReal.right_distrib_of_nonneg_of_ne_top (EReal.coe_nonneg.mpr hr) (EReal.coe_ne_top r), ih]

/-- A sum of reals, read as an extended real. -/
theorem sum_real {κ : Type} (t : Finset κ) (f : κ → ℝ) : (∑ k ∈ t, (f k : EReal)) = ((∑ k ∈ t, f k : ℝ) : EReal) := by
  classical
  induction t using Finset.induction_on with
  | empty => simp
  | insert a t ha ih => rw [Finset.sum_insert ha, Finset.sum_insert ha, ih, EReal.coe_add]

theorem exp_sub (a b : ℝ) : Ideal.exp ((a : EReal) - (b : EReal)) = ((Real.exp (a - b) : ℝ) : EReal) := by
  rw [← EReal.coe_sub]; rfl

/-- A sum over all keys, shard by shard. -/
theorem sum_shards {ι κ ρ : Type} [Fintype ι] [Fintype κ] [Fintype ρ] (e : ι × κ ≃ ρ) (f : ρ → EReal) :
    ∑ y, ∑ k, f (e (y, k)) = ∑ i, f i := by
  rw [← Fintype.sum_prod_type' (f := fun y k => f (e (y, k)))]
  exact Equiv.sum_comp e f

/-- Shards' partials on one scale and divided, against the weighting over all keys. -/
theorem weigh {ι κ ρ : Type} [Fintype ι] [Fintype κ] [Fintype ρ] [Nonempty ι] [Nonempty κ] (e : ι × κ ≃ ρ)
    (s : ρ → EReal) (hs : ∀ i, ∃ r : ℝ, s i = r) (v : ρ → EReal) :
    Ideal.div
      (∑ y, (∑ k, Ideal.exp (s (e (y, k)) - top fun k => s (e (y, k))) * v (e (y, k)))
        * Ideal.exp ((top fun k => s (e (y, k))) - top fun y => top fun k => s (e (y, k))))
      (∑ y, (∑ k, Ideal.exp (s (e (y, k)) - top fun k => s (e (y, k))))
        * Ideal.exp ((top fun k => s (e (y, k))) - top fun y => top fun k => s (e (y, k))))
    = ∑ i, v i * Ideal.div (Ideal.exp (s i - top s)) (∑ i, Ideal.exp (s i - top s)) := by
  obtain ⟨t, rfl⟩ : ∃ t : ρ → ℝ, s = fun i => (t i : EReal) := ⟨fun i => (hs i).choose, funext fun i => (hs i).choose_spec⟩
  haveI : Nonempty ρ := ⟨e (Classical.arbitrary _)⟩
  rw [top_shards e (fun i => (t i : EReal))]
  obtain ⟨N, hN⟩ := top_real t
  choose μ hμ using fun y => top_real (fun k => t (e (y, k)))
  simp only [hN, hμ, exp_sub]
  -- each shard's factors come to the common scale
  have two : ∀ y k, Real.exp (t (e (y, k)) - μ y) * Real.exp (μ y - N) = Real.exp (t (e (y, k)) - N) := fun y k => by
    rw [← Real.exp_add]; congr 1; linarith
  have den : ∑ y, (∑ k, ((Real.exp (t (e (y, k)) - μ y) : ℝ) : EReal)) * ((Real.exp (μ y - N) : ℝ) : EReal)
      = ∑ i, ((Real.exp (t i - N) : ℝ) : EReal) := by
    rw [← sum_shards e]
    refine Finset.sum_congr rfl fun y _ => ?_
    rw [sum_mul_real _ _ (Real.exp_pos _).le]
    exact Finset.sum_congr rfl fun k _ => by rw [← EReal.coe_mul, two]
  have num : ∑ y, (∑ k, ((Real.exp (t (e (y, k)) - μ y) : ℝ) : EReal) * v (e (y, k))) * ((Real.exp (μ y - N) : ℝ) : EReal)
      = ∑ i, ((Real.exp (t i - N) : ℝ) : EReal) * v i := by
    rw [← sum_shards e]
    refine Finset.sum_congr rfl fun y _ => ?_
    rw [sum_mul_real _ _ (Real.exp_pos _).le]
    exact Finset.sum_congr rfl fun k _ => by rw [mul_right_comm, ← EReal.coe_mul, two]
  rw [den, num, sum_real]
  have hpos : 0 < ∑ i, Real.exp (t i - N) := Finset.sum_pos (fun i _ => Real.exp_pos _) Finset.univ_nonempty
  have hne : ((∑ i, Real.exp (t i - N) : ℝ) : EReal) ≠ 0 := by
    rw [Ne, EReal.coe_eq_zero]; exact hpos.ne'
  unfold Ideal.div
  rw [if_neg hne, ← EReal.coe_inv, sum_mul_real _ _ (inv_nonneg.mpr hpos.le)]
  refine Finset.sum_congr rfl fun i _ => ?_
  rw [if_neg hne, mul_comm _ (v i), mul_assoc]

/-- The scale of the scores. -/
def scale : EReal := Ideal.ofBits .f32 0x3E000000#32

theorem ofBits_bot : Ideal.ofBits .f32 0xFF800000#32 = (⊥ : EReal) := by simp [Ideal.ofBits, Ideal.ieee]

/-- The scale is real. -/
theorem scale_real : ∃ r : ℝ, scale = r := by
  unfold scale
  simp only [Ideal.ofBits, Ideal.ieee]
  exact ⟨_, rfl⟩

/-- A scaled sum of products of reals is real. -/
theorem dot_real {κ : Type} [Fintype κ] {a b : κ → EReal} (ha : ∀ k, ∃ r : ℝ, a k = r) (hb : ∀ k, ∃ r : ℝ, b k = r) :
    ∃ r : ℝ, (∑ k, a k * b k) * scale = r := by
  choose a' ha using ha
  choose b' hb using hb
  obtain ⟨r, hr⟩ := scale_real
  refine ⟨(∑ k, a' k * b' k) * r, ?_⟩
  simp only [ha, hb, hr, ← EReal.coe_mul, sum_real]

/-- An extended real of finite size is real. -/
theorem real_of_abs_lt {x : EReal} (h : max x (-x) < ⊤) : ∃ r : ℝ, x = r := by
  refine ⟨x.toReal, (EReal.coe_toReal ?_ ?_).symm⟩
  · rintro rfl; simp at h
  · rintro rfl; simp at h

end Cert.Decode

end
-- ==== Proof.Mask.lean ====
/-
# The head mask

Head against column: one where the column is one of the head's sixty-four, zero elsewhere. A sum over all
columns against the mask is the sum over the head's own; a sum over heads against it is the column's head's term.
-/
module

public import proofs.«01_k».proof.Proof.Contents
public import proofs.«01_k».proof.Proof.Weigh
public import Idealize.ShloMosaic.Lib.Pointwise

@[expose] public section

set_option maxRecDepth 16384

noncomputable section

namespace Cert.Decode

open Cert.KernelIdeal Cert.KernelIdeal.Gen
open Idealize.ShloMosaic

/-- The number of a column's head, as the kernel computes it in words: the signed quotient, one less where the signs
    differ and a remainder is left. -/
def headWord (c : BitVec 32) : BitVec 32 :=
  Scalar.select
    (IntOp.andi
      (IntOp.cmpi .ne
        (IntOp.subi ((IntOp.cmpi .sgt c 0#32).setWidth 32) ((IntOp.cmpi .slt c 0#32).setWidth 32))
        (Scalar.subi (Scalar.extui (Scalar.cmpi .sgt 64#32 0#32)) (Scalar.extui (Scalar.cmpi .slt 64#32 0#32))))
      (IntOp.cmpi .ne (IntOp.remsi .vector c 64#32) 0#32))
    (IntOp.subi (IntOp.divsi .vector c 64#32) 1#32) (IntOp.divsi .vector c 64#32)

theorem headWord_eq : ∀ c : Fin 1024, headWord (BitVec.ofNat 32 c.val) = BitVec.ofNat 32 (c.val / 64) := by
  decide +kernel

theorem headBit : ∀ (h q : Fin 16), (IntOp.cmpi .eq (BitVec.ofNat 32 q.val) (BitVec.ofNat 32 h.val)).setWidth 32
    = if q = h then 1#32 else 0#32 := by decide +kernel

/-- The head that a column belongs to. -/
def hd (c : Fin 1024) : Fin 16 := ⟨c.val / 64, by omega⟩

/-- The mask's element. -/
def bit (h : Fin 16) (c : Fin 1024) : EReal := if hd c = h then 1 else 0

theorem word_bit (h : Fin 16) (c : Fin 1024) :
    (FloatOps.sitofp .f32 ((IntOp.cmpi .eq (headWord (BitVec.ofNat 32 c.val)) (BitVec.ofNat 32 h.val)).setWidth 32) : Ideal .f32) = bit h c := by
  rw [headWord_eq, show c.val / 64 = (hd c).val from rfl, headBit]
  unfold bit
  split
  · show (((1#32 : BitVec 32).toInt : ℝ) : EReal) = 1
    norm_num
  · show (((0#32 : BitVec 32).toInt : ℝ) : EReal) = 0
    norm_num

theorem e₁_apply (h : Fin 16) (c : Fin 1024) : (e₁ : FVec Ideal S16x1024 .bf16) (ix2 h c) = bit h c := by
  have h0 : iota .tc S16x1024 32 [0] iota_S16x1024_d0_w32 (ix2 h c) = BitVec.ofNat 32 h.val := iota_single_apply ..
  have h1 : iota .tc S16x1024 32 [1] iota_S16x1024_d1_w32 (ix2 h c) = BitVec.ofNat 32 c.val := iota_single_apply ..
  rw [← word_bit, headWord, ← h0, ← h1]
  rfl

theorem e₂_apply (h : Fin 16) (c : Fin 1024) : (e₂ : FVec Ideal S16x1024 .f32) (ix2 h c) = bit h c := by
  have h0 : iota .tc S16x1024 32 [0] iota_S16x1024_d0_w32 (ix2 h c) = BitVec.ofNat 32 h.val := iota_single_apply ..
  have h1 : iota .tc S16x1024 32 [1] iota_S16x1024_d1_w32 (ix2 h c) = BitVec.ofNat 32 c.val := iota_single_apply ..
  rw [← word_bit, headWord, ← h0, ← h1]
  rfl

/-- Head `h`'s column `d`. -/
def col (h : Fin 16) (d : Fin 64) : Fin 1024 := ⟨64 * h.val + d.val, by omega⟩

theorem hd_col (h : Fin 16) (d : Fin 64) : hd (col h d) = h := Fin.ext (by show (64 * h.val + d.val) / 64 = h.val; omega)

/-- A sum over heads against the mask takes the column's own head. -/
theorem sum_heads (g : Fin 16 → EReal) (c : Fin 1024) : ∑ h, g h * bit h c = g (hd c) := by
  unfold bit
  simp only [mul_ite, mul_one, mul_zero, Finset.sum_ite_eq, Finset.mem_univ, if_true]

/-- A sum over columns against the mask is the sum over the head's own columns. -/
theorem sum_cols (g f : Fin 1024 → EReal) (h : Fin 16) : ∑ c, g c * (bit h c * f c) = ∑ d, g (col h d) * f (col h d) := by
  have key : ∀ c, g c * (bit h c * f c) = if hd c = h then g c * f c else 0 := fun c => by unfold bit; split <;> simp
  simp only [key]
  rw [← Finset.sum_filter]
  symm
  refine Finset.sum_bij (fun d _ => col h d) (fun d _ => Finset.mem_filter.mpr ⟨Finset.mem_univ _, hd_col h d⟩)
    (fun a _ b _ e => ?_) (fun c hc => ?_) fun d _ => rfl
  · have := congrArg Fin.val e
    change 64 * h.val + a.val = 64 * h.val + b.val at this
    exact Fin.ext (by omega)
  · have e := congrArg Fin.val (Finset.mem_filter.mp hc).2
    change c.val / 64 = h.val at e
    exact ⟨⟨c.val % 64, by omega⟩, Finset.mem_univ _, Fin.ext (by show 64 * h.val + c.val % 64 = c.val; omega)⟩

end Cert.Decode

end
-- ==== Proof.PartValue.lean ====
/-
# What the kernel's pieces compute

Each pure piece of the kernel read at an index, over the extended reals.
-/
module

public import proofs.«01_k».proof.Proof.Mask

@[expose] public section

set_option maxRecDepth 16384

noncomputable section

namespace Cert.Decode

open Cert.KernelIdeal Cert.KernelIdeal.Gen
open Idealize.ShloMosaic

/-- The score of head `h` against key `j`, of one row's keys and queries as the kernel lays them. -/
def srow (k : FVec Ideal S1x1024x1024 .f32) (q : FVec Ideal S1x1x1024 .f32) (h : Fin 16) (j : Fin 1024) : EReal :=
  (∑ d : Fin 64, k (ix3 0 j (col h d)) * q (ix3 0 0 (col h d))) * scale

/-! ## One row's partials -/

section Row
variable (k v : FVec Ideal S1x1024x1024 .f32) (q : FVec Ideal S1x1x1024 .f32)

theorem pay3_apply (j : Fin 1024) (h : Fin 16) : k0_pay3 (F := Ideal) e₁ k q (ix2 j h) = srow k q h j := by
  pointwise [k0_pay3]
  simp only [e₁_apply]
  rw [sum_cols (fun x => k (ix3 0 j x)) (fun x => q (ix3 0 0 x)) h]
  rfl

theorem pay4_apply (h : Fin 16) : k0_pay4 (F := Ideal) e₁ k q (ix2 0 h) = top (srow k q h) := by
  pointwise [k0_pay4]
  simp only [pay3_apply, ofBits_bot]
  rfl

theorem pay5_apply (j : Fin 1024) (h : Fin 16) :
    k0_pay5 (F := Ideal) e₁ k q (ix2 j h) = Ideal.exp (srow k q h j - top (srow k q h)) := by
  pointwise [k0_pay5]
  simp only [pay3_apply, pay4_apply]

theorem pay6_apply (h : Fin 16) :
    k0_pay6 (F := Ideal) e₁ k q (ix2 0 h) = ∑ j, Ideal.exp (srow k q h j - top (srow k q h)) := by
  pointwise [k0_pay6]
  simp only [pay5_apply]

theorem pay7_apply (x : Fin 1024) :
    k0_pay7 (F := Ideal) e₁ e₂ k v q (ix2 0 x)
      = ∑ j, Ideal.exp (srow k q (hd x) j - top (srow k q (hd x))) * v (ix3 0 j x) := by
  pointwise [k0_pay7]
  simp only [pay5_apply, e₂_apply]
  exact sum_heads (fun h => ∑ j, Ideal.exp (srow k q h j - top (srow k q h)) * v (ix3 0 j x)) x

end Row

/-! ## A device's partials -/

section Dev
variable (m : (ℓ : Loc nD τ sig) → Buf (Elt Ideal) ℓ) (c : Dev nD)

/-- A device's score: its `i`-th row, head `h`, its own key `j`. -/
def sc (i : Fin 2) (h : Fin 16) : Fin 1024 → EReal := srow (kv m c i) (qv m c i) h

theorem pm_apply (i : Fin 2) (h : Fin 16) : pm m c (ix3 0 i h) = top (sc m c i h) := by
  match i with
  | ⟨0, _⟩ =>
    show pm m c (ix3 0 0 h) = _
    unfold pm; pointwise [k0_pay13]
    exact pay4_apply _ _ h
  | ⟨1, _⟩ =>
    show pm m c (ix3 0 1 h) = _
    unfold pm; pointwise [k0_pay13]
    exact pay4_apply _ _ h

theorem pl_apply (i : Fin 2) (h : Fin 16) : pl m c (ix3 0 i h) = ∑ j, Ideal.exp (sc m c i h j - top (sc m c i h)) := by
  match i with
  | ⟨0, _⟩ =>
    show pl m c (ix3 0 0 h) = _
    unfold pl; pointwise [k0_pay14]
    exact pay6_apply _ _ h
  | ⟨1, _⟩ =>
    show pl m c (ix3 0 1 h) = _
    unfold pl; pointwise [k0_pay14]
    exact pay6_apply _ _ h

theorem po_apply (i : Fin 2) (x : Fin 1024) :
    po m c (ix3 0 i x) = ∑ j, Ideal.exp (sc m c i (hd x) j - top (sc m c i (hd x))) * vv m c i (ix3 0 j x) := by
  match i with
  | ⟨0, _⟩ =>
    show po m c (ix3 0 0 x) = _
    unfold po; pointwise [k0_pay15]
    exact pay7_apply _ _ _ x
  | ⟨1, _⟩ =>
    show po m c (ix3 0 1 x) = _
    unfold po; pointwise [k0_pay15]
    exact pay7_apply _ _ _ x

/-! ## The partials combined -/

/-- What a device finishes: the y-line's partials on one scale, summed, and divided. -/
theorem fin_apply (i : Fin 2) (x : Fin 1024) :
    fin m c (ix3 0 i x)
      = Ideal.div
          (∑ y, (∑ j, Ideal.exp (sc m (atY c y) i (hd x) j - top (sc m (atY c y) i (hd x))) * vv m (atY c y) i (ix3 0 j x))
            * Ideal.exp (top (sc m (atY c y) i (hd x)) - top fun y => top (sc m (atY c y) i (hd x))))
          (∑ y, (∑ j, Ideal.exp (sc m (atY c y) i (hd x) j - top (sc m (atY c y) i (hd x))))
            * Ideal.exp (top (sc m (atY c y) i (hd x)) - top fun y => top (sc m (atY c y) i (hd x)))) := by
  have hM : ∀ (y : Fin 4) (h : Fin 16), MC m c (ix3 y i h) = top (sc m (atY c y) i h) := fun y h => pm_apply m (atY c y) i h
  have hL : ∀ (y : Fin 4) (h : Fin 16), LC m c (ix3 y i h) = ∑ j, Ideal.exp (sc m (atY c y) i h j - top (sc m (atY c y) i h)) :=
    fun y h => pl_apply m (atY c y) i h
  have hO : ∀ y : Fin 4, OC m c (ix3 y i x)
      = ∑ j, Ideal.exp (sc m (atY c y) i (hd x) j - top (sc m (atY c y) i (hd x))) * vv m (atY c y) i (ix3 0 j x) :=
    fun y => po_apply m (atY c y) i x
  unfold fin
  pointwise [k0_pay16]
  simp only [hM, hL, hO, ofBits_bot, e₂_apply]
  rw [sum_heads (fun h => ∑ y, (∑ j, Ideal.exp (sc m (atY c y) i h j - top (sc m (atY c y) i h)))
            * Ideal.exp (top (sc m (atY c y) i h) - Finset.univ.fold max ⊥ fun y => top (sc m (atY c y) i h))) x]
  refine congrArg (fun n => Ideal.div n _) (Finset.sum_congr rfl fun y _ => ?_)
  rw [sum_heads (fun h => Ideal.exp (top (sc m (atY c y) i h) - Finset.univ.fold max ⊥ fun y => top (sc m (atY c y) i h))) x]
  rfl

end Dev

end Cert.Decode

end
-- ==== Proof.Args.lean ====
/-
# Arguments and result as the call is handed them

The call takes the arguments reshaped, head and feature in one axis, and its result is reshaped back.
-/
module

public import proofs.«01_k».proof.Proof.Run
public import proofs.«01_k».proof.Proof.PartValue

@[expose] public section

set_option maxRecDepth 16384

noncomputable section

namespace Cert.Decode

open Cert.KernelIdeal Cert.KernelIdeal.Gen
open Idealize.ShloMosaic Idealize.ShloMosaic.TcCoe

section Any
variable {F : FTy → Type} [FloatOps F] (m : (ℓ : Loc nD τ sig) → Buf (Elt F) ℓ) (c : Dev nD)

theorem Q1_eq : Q1 m c = shapeCast S16x1x1024 (m ((c : Thread nD τ).loc main_arg0)) shapeCasts_S16x1x16x64_S16x1x1024 := by
  show StableHlo.after hostOps0 (fun b => m (c, b)) (Proc.devRef .tc main_v1) = _
  after_results
  rfl
theorem K2_eq : K2 m c = shapeCast S16x1024x1024 (m ((c : Thread nD τ).loc main_arg1)) shapeCasts_S16x1024x16x64_S16x1024x1024 := by
  show StableHlo.after hostOps0 (fun b => m (c, b)) (Proc.devRef .tc main_v2) = _
  after_results
  rfl
theorem V2_eq : V2 m c = shapeCast S16x1024x1024 (m ((c : Thread nD τ).loc main_arg2)) shapeCasts_S16x1024x16x64_S16x1024x1024 := by
  show StableHlo.after hostOps0 (fun b => m (c, b)) (Proc.devRef .tc main_v3) = _
  after_results
  rfl

theorem WE_v5 : WE m c (Proc.devRef .tc main_v5) = shapeCast S16x1x16x64 (OUT m c) shapeCasts_S8x2x1024_S16x1x16x64 := by
  unfold WE
  rw [StableHlo.after_cons, StableHlo.after_nil, StableHlo.reshape_result, WN_v4]
  rfl

/-- The queries, keys and values that the call is handed, by head and feature. -/
theorem Q_at (b h : Fin 16) (d : Fin 64) : Q1 m c (ix3 b 0 (col h d)) = m ((c : Thread nD τ).loc main_arg0) (ix4 b 0 h d) := by
  rw [Q1_eq]
  pointwise [col]
theorem K_at (b h : Fin 16) (j : Fin 1024) (d : Fin 64) : K2 m c (ix3 b j (col h d)) = m ((c : Thread nD τ).loc main_arg1) (ix4 b j h d) := by
  rw [K2_eq]
  pointwise
  exact congrArg₂ (fun x y => m ((c : Thread nD τ).loc main_arg1) (ix4 b j x y))
    (Fin.ext (by show (64 * h.val + d.val) / 64 = h.val; omega)) (Fin.ext (by show (64 * h.val + d.val) % 64 = d.val; omega))
theorem V_at (b h : Fin 16) (j : Fin 1024) (d : Fin 64) : V2 m c (ix3 b j (col h d)) = m ((c : Thread nD τ).loc main_arg2) (ix4 b j h d) := by
  rw [V2_eq]
  pointwise
  exact congrArg₂ (fun x y => m ((c : Thread nD τ).loc main_arg2) (ix4 b j x y))
    (Fin.ext (by show (64 * h.val + d.val) / 64 = h.val; omega)) (Fin.ext (by show (64 * h.val + d.val) % 64 = d.val; omega))

/-- The result, by row, head and feature. -/
theorem out_at (b h : Fin 16) (d : Fin 64) :
    WE m c (Proc.devRef .tc main_v5) (ix4 b 0 h d) = OUT m c (ix3 ⟨b.val / 2, by omega⟩ ⟨b.val % 2, by omega⟩ (col h d)) := by
  rw [WE_v5]
  pointwise
  exact congrArg (fun x => OUT m c (ix3 _ _ x)) (Fin.ext (Nat.add_right_cancel_iff.mpr (Nat.mul_comm _ _)))

end Any

end Cert.Decode

end
-- ==== Proof.RefValue.lean ====
/-
# What the reference computes

The reference's term read at an index, over the extended reals: the softmax of the scores over all keys,
weighing the values.
-/
module

public import proofs.«01_k».proof.Proof.Gen.ReferenceIdeal.Run
public import proofs.«01_k».proof.Proof.Weigh
public import Idealize.ShloMosaic.Lib.Pointwise

@[expose] public section

set_option maxRecDepth 16384

noncomputable section

namespace Cert.Decode.Ref

open Cert.ReferenceIdeal Cert.ReferenceIdeal.Gen
open Idealize.ShloMosaic Idealize.ShloMosaic.TcCoe Idealize.SL.Sem

variable (Q : FVec Ideal S16x1x16x64 .f32) (K V : FVec Ideal S16x4096x16x64 .f32)

/-- The scaled scores. -/
def scores : FVec Ideal S16x16x1x4096 .f32 :=
  mulf (Host.dotGeneral dot_S16x1x16x64_S16x4096x16x64_S16x16x1x4096_3_3_1_1_02_02 none Q K)
    (broadcastInDim S16x16x1x4096 ![] bcast_S_S16x16x1x4096 (constant (F := Ideal) S_ .f32 0x3E000000#32))

/-- Their exponentials against the row's maximum. -/
def weights : FVec Ideal S16x16x1x4096 .f32 :=
  Host.exp (subf (scores Q K) (broadcastInDim S16x16x1x4096 ![0, 1, 2, 3] bcast_S16x16x1x1_S16x16x1x4096_0_1_2_3
    (broadcastInDim S16x16x1x1 ![0, 1, 2] bcast_S16x16x1_S16x16x1x1_0_1_2
      (Host.reduce FloatOps.maximumf (scores Q K) (constant (F := Ideal) S_ .f32 0xFF800000#32) reducesTo_S16x16x1x4096_S16x16x1_d3 h_S_))))

/-- The result. -/
def result : FVec Ideal S16x1x16x64 .f32 :=
  transpose S16x1x16x64 [0, 3, 1, 2]
    (Host.dotGeneral dot_S16x4096x16x64_S16x16x1x4096_S16x16x64x1_1_3_3_2_02_01 none V
      (Host.divf (weights Q K) (broadcastInDim S16x16x1x4096 ![0, 1, 2, 3] bcast_S16x16x1x1_S16x16x1x4096_0_1_2_3
        (broadcastInDim S16x16x1x1 ![0, 1, 2] bcast_S16x16x1_S16x16x1x1_0_1_2
          (Host.reduceAdd (weights Q K) (constant (F := Ideal) S_ .f32 0x00000000#32) reducesTo_S16x16x1x4096_S16x16x1_d3 h_S_)))))
    transposes_S16x16x64x1_S16x1x16x64_0_3_1_2

/-- The score of head `h` of row `b` against key `i`. -/
def rsc (b h : Fin 16) (i : Fin 4096) : EReal := (∑ d : Fin 64, Q (ix4 b 0 h d) * K (ix4 b i h d)) * scale

theorem scores_apply (b h : Fin 16) (i : Fin 4096) : scores Q K (ix4 b h 0 i) = rsc Q K b h i := by
  pointwise [scores]
  rfl

theorem weights_apply (b h : Fin 16) (i : Fin 4096) :
    weights Q K (ix4 b h 0 i) = Ideal.exp (rsc Q K b h i - top (rsc Q K b h)) := by
  pointwise [weights]
  simp only [scores_apply, ofBits_bot]
  rfl

theorem result_apply (b h : Fin 16) (d : Fin 64) :
    result Q K V (ix4 b 0 h d)
      = ∑ i, V (ix4 b i h d) * Ideal.div (Ideal.exp (rsc Q K b h i - top (rsc Q K b h)))
          (∑ i, Ideal.exp (rsc Q K b h i - top (rsc Q K b h))) := by
  pointwise [result]
  simp only [weights_apply]

/-- What a run of the reference ends with. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13)
          = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run (F := Ideal) m ρ

end Cert.Decode.Ref

end
-- ==== Proof.Value.lean ====
/-
# The kernel's result is the reference's

For real queries and keys, every device ends with the reference's result, whole.
-/
module

public import proofs.«01_k».proof.Proof.Args
public import proofs.«01_k».proof.Proof.RefValue

@[expose] public section

set_option maxRecDepth 16384

noncomputable section

namespace Cert.Decode

open Cert.KernelIdeal Cert.KernelIdeal.Gen
open Idealize.ShloMosaic Idealize.ShloMosaic.TcCoe

/-- A height and a key of its shard, as a key of the whole array. -/
def key : Fin 4 × Fin 1024 ≃ Fin 4096 := finProdFinEquiv

theorem key_val (y : Fin 4) (j : Fin 1024) : (key (y, j)).val = j.val + 1024 * y.val := rfl

section
variable (m : (ℓ : Loc nD τ sig) → Buf (Elt Ideal) ℓ)
  (Q : FVec Ideal S16x1x16x64 .f32) (K V : FVec Ideal ⟨4, ![16, 4096, 16, 64]⟩ .f32)

/-- Each device holds all the queries, and its height's shard of keys and values. -/
structure Placed : Prop where
  q : ∀ (c : Dev nD) (b h : Fin 16) (d : Fin 64), m ((c : Thread nD τ).loc main_arg0) (ix4 b 0 h d) = Q (ix4 b 0 h d)
  k : ∀ (c : Dev nD) (b h : Fin 16) (j : Fin 1024) (d : Fin 64),
    m ((c : Thread nD τ).loc main_arg1) (ix4 b j h d) = K (ix4 b (key (yp c, j)) h d)
  v : ∀ (c : Dev nD) (b h : Fin 16) (j : Fin 1024) (d : Fin 64),
    m ((c : Thread nD τ).loc main_arg2) (ix4 b j h d) = V (ix4 b (key (yp c, j)) h d)

variable {m Q K V} (P : Placed m Q K V)
include P

/-- A device's score is the whole array's at its row and its key. -/
theorem sc_eq (c : Dev nD) (i : Fin 2) (b h : Fin 16) (hb : b.val = brow c i.val) (j : Fin 1024) :
    sc m c i h j = Ref.rsc Q K b h (key (yp c, j)) := by
  have hb' : (⟨brow c i.val, brow_lt c i.isLt⟩ : Fin 16) = b := Fin.ext hb.symm
  unfold sc srow Ref.rsc
  refine congrArg (· * scale) (Finset.sum_congr rfl fun d _ => ?_)
  have e1 : kv m c i (ix3 0 j (col h d)) = K (ix4 b (key (yp c, j)) h d) := by
    rw [← P.k c b h j d, ← K_at m c b h j d, ← hb', ix3_eq_valueIdx _ _ _]
    rfl
  have e2 : qv m c i (ix3 0 0 (col h d)) = Q (ix4 b 0 h d) := by
    rw [← P.q c b h d, ← Q_at m c b h d, ← hb', ix3_eq_valueIdx _ _ _]
    rfl
  rw [e1, e2, mul_comm]

/-- A device's value is the whole array's at its row and its key. -/
theorem vv_eq (c : Dev nD) (i : Fin 2) (b h : Fin 16) (hb : b.val = brow c i.val) (j : Fin 1024) (d : Fin 64) :
    vv m c i (ix3 0 j (col h d)) = V (ix4 b (key (yp c, j)) h d) := by
  have hb' : (⟨brow c i.val, brow_lt c i.isLt⟩ : Fin 16) = b := Fin.ext hb.symm
  rw [← P.v c b h j d, ← V_at m c b h j d, ← hb', ix3_eq_valueIdx _ _ _]
  rfl

/-- For real queries and keys, every device's result is the reference's, by row, head and feature. -/
theorem value_at (hQ : ∀ b h d, ∃ r : ℝ, Q (ix4 b 0 h d) = r) (hK : ∀ b i h d, ∃ r : ℝ, K (ix4 b i h d) = r) (c : Dev nD)
    (b h : Fin 16) (d : Fin 64) : WE m c (Proc.devRef .tc main_v5) (ix4 b 0 h d) = Ref.result Q K V (ix4 b 0 h d) := by
  rw [out_at, Ref.result_apply]
  generalize hr : (⟨b.val / 2, by omega⟩ : Fin 8) = r, hi : (⟨b.val % 2, by omega⟩ : Fin 2) = i
  have hb : ∀ y, b.val = brow (atY (atR c r) y) i.val := fun y => by
    unfold brow
    rw [rr_atY, rr_atR, ← hr, ← hi]
    show b.val = 2 * (b.val / 2) + b.val % 2
    omega
  show fin m (atR c r) (ix3 0 i (col h d)) = _
  rw [fin_apply, hd_col]
  have hs : ∀ y, sc m (atY (atR c r) y) i h = fun j => Ref.rsc Q K b h (key (y, j)) := fun y => funext fun j => by
    rw [sc_eq P _ i b h (hb y) j, yp_atY]
  have hv : ∀ y j, vv m (atY (atR c r) y) i (ix3 0 j (col h d)) = V (ix4 b (key (y, j)) h d) := fun y j => by
    rw [vv_eq P _ i b h (hb y) j d, yp_atY]
  simp only [hs, hv]
  exact weigh key (Ref.rsc Q K b h) (fun i => dot_real (fun d => hQ b h d) (fun d => hK b i h d)) (fun i => V (ix4 b i h d))

/-- The same of the whole arrays. -/
theorem value (hQ : ∀ b h d, ∃ r : ℝ, Q (ix4 b 0 h d) = r) (hK : ∀ b i h d, ∃ r : ℝ, K (ix4 b i h d) = r) (c : Dev nD) :
    WE m c (Proc.devRef .tc main_v5) = Ref.result Q K V := by
  refine funext fun (x : S16x1x16x64.Idx) => ?_
  have h1 : @Eq (Fin 1) (x 1) 0 := Fin.ext (by have := (x 1).isLt; change (x 1).val < 1 at this; show (x 1).val = 0; omega)
  have hx : x = ix4 (n0 := 16) (n1 := 1) (n2 := 16) (n3 := 64) (x 0) 0 (x 2) (x 3) :=
    (eq_ix4 x).trans (congrArg (fun z => ix4 (n0 := 16) (n1 := 1) (n2 := 16) (n3 := 64) (x 0) z (x 2) (x 3)) h1)
  exact (congrArg (WE m c (Proc.devRef .tc main_v5)) hx).trans ((value_at P hQ hK c (x 0) (x 2) (x 3)).trans
    (congrArg (Ref.result Q K V) hx.symm))

end

end Cert.Decode

end
-- ==== Proof.Algebraic.lean ====
/-
# The value claim

The finite condition gives real queries and keys; the placement gives each device its shard. So every device's result is
the reference's, and the runs give the claim.
-/
module

public import proofs.«01_k».proof.Proof.Frames
public import proofs.«01_k».proof.Proof.Value

@[expose] public section

set_option maxRecDepth 16384

noncomputable section

namespace Cert.Decode

open Idealize.ShloMosaic Idealize.ShloMosaic.TcCoe Idealize.SL.Sem

/-- The side conditions of the finite condition. -/
theorem pre_kernel : Cert.Pre_finite_KernelIdeal.Facts := ⟨by decide, by decide⟩
theorem pre_reference : Cert.Pre_finite_ReferenceIdeal.Facts := ⟨by decide, by decide⟩

theorem ofBits_top : Ideal.ofBits .f32 0x7F800000#32 = (⊤ : EReal) := by simp [Ideal.ofBits, Ideal.ieee]

/-- An element whose bit of the finite condition is set is real. -/
theorem real_of_bit {x : EReal} (h : Ideal.cmp .olt (max x (-x)) (Ideal.ofBits .f32 0x7F800000#32) = 1#1) : ∃ r : ℝ, x = r := by
  rw [ofBits_top] at h
  refine real_of_abs_lt ?_
  by_contra hn
  simp [Ideal.cmp, hn] at h

/-- Device `c`'s shard of the keys, or the values, read at an index. -/
theorem shard_at {α : Type} (X : (⟨4, ![16, 4096, 16, 64]⟩ : Shape).Idx → α) (c : Dev Cert.KernelIdeal.nD) (b h : Fin 16) (j : Fin 1024) (d : Fin 64) :
    (Layout.blockN ⟨4, ![16, 1024, 16, 64]⟩ ⟨4, ![16, 4096, 16, 64]⟩ (Layout.meshBlock [2, 4, 4] ![[], [1], [], []] c) X) (ix4 b j h d)
      = X (ix4 b (key (yp c, j)) h d) := by
  rw [Layout.blockN_apply]
  refine congrArg X (funext fun a => Fin.ext ?_)
  rw [Layout.TilesN.idx_val, Layout.meshBlock_val]
  match a with
  | ⟨0, _⟩ => show 0 * 16 + b.val = b.val; omega
  | ⟨1, _⟩ =>
    have hc : Layout.meshLin [2, 4, 4] c.val [1] = (yp c).val := by revert c; decide +kernel
    show Layout.meshLin [2, 4, 4] c.val [1] * 1024 + j.val = j.val + 1024 * (yp c).val
    rw [hc]; omega
  | ⟨2, _⟩ => show 0 * 16 + h.val = h.val; omega
  | ⟨3, _⟩ => show 0 * 64 + d.val = d.val; omega

attribute [local instance] Cert.KernelIdeal.Gen.facts Cert.ReferenceIdeal.Gen.facts pre_kernel

theorem algebraic : Cert.algebraic_KernelIdeal_ReferenceIdeal_pre_finite_KernelIdeal := by
  intro m ρ m' ρ' hpre hp
  have hq : ∀ (c : Dev Cert.KernelIdeal.nD) (x : (⟨4, ![16, 1, 16, 64]⟩ : Shape).Idx),
      ∃ r : ℝ, m ((c.tc : Thread Cert.KernelIdeal.nD Cert.KernelIdeal.τ).loc Cert.KernelIdeal.main_arg0) x = (r : EReal) :=
    fun c x => real_of_bit (congrFun (hpre c).1 x)
  have hk : ∀ (c : Dev Cert.KernelIdeal.nD) (x : (⟨4, ![16, 1024, 16, 64]⟩ : Shape).Idx),
      ∃ r : ℝ, m ((c.tc : Thread Cert.KernelIdeal.nD Cert.KernelIdeal.τ).loc Cert.KernelIdeal.main_arg1) x = (r : EReal) :=
    fun c x => real_of_bit (congrFun (hpre c).2 x)
  have P : Placed m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)) :=
    ⟨fun c b h d => congrFun (hp c).1 (ix4 b 0 h d),
      fun c b h j d => (congrFun (hp c).2.1 (ix4 b j h d)).trans (shard_at _ c b h j d),
      fun c b h j d => (congrFun (hp c).2.2 (ix4 b j h d)).trans (shard_at _ c b h j d)⟩
  have hQ : ∀ (b h : Fin 16) (d : Fin 64), ∃ r : ℝ,
      m' (((0 : Dev Cert.ReferenceIdeal.nD).tc : Thread Cert.ReferenceIdeal.nD Cert.ReferenceIdeal.τ).loc Cert.ReferenceIdeal.main_arg0) (ix4 b 0 h d) = (r : EReal) :=
    fun b h d => by
      obtain ⟨r, hr⟩ := hq 0 (ix4 b 0 h d)
      exact ⟨r, (P.q 0 b h d).symm.trans hr⟩
  have hK : ∀ (b : Fin 16) (i : Fin 4096) (h : Fin 16) (d : Fin 64), ∃ r : ℝ,
      m' (((0 : Dev Cert.ReferenceIdeal.nD).tc : Thread Cert.ReferenceIdeal.nD Cert.ReferenceIdeal.τ).loc Cert.ReferenceIdeal.main_arg1) (ix4 b i h d) = (r : EReal) :=
    fun b i h d => by
      obtain ⟨⟨y, j⟩, rfl⟩ := key.surjective i
      obtain ⟨r, hr⟩ := hk (atY 0 y) (ix4 b j h d)
      have e := P.k (atY 0 y) b h j d
      rw [yp_atY] at e
      exact ⟨r, e.symm.trans hr⟩
  refine ⟨_, (θ_run Cert.KernelIdeal.defs _ _).mono (fun _ h c =>
    ⟨(h.1 c).2.2.2.trans (value P hQ hK c), (h.1 c).1.trans (WE_arg0 m c), (h.1 c).2.1.trans (WE_arg1 m c), (h.1 c).2.2.1.trans (WE_arg2 m c)⟩)
    (run_main m ρ), (θ_run Cert.ReferenceIdeal.defs _ _).mono (fun _ h => h 0) (Ref.run m' ρ')⟩

end Cert.Decode

end
-- ==== Proof.lean ====
/-
# The proof of the claims

The three frames are Proof/Frames.lean's; the idealization rewrote nothing; the value claim, for finite
Q and K, is Proof/Algebraic.lean's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic

@[expose] public section

noncomputable section

namespace Cert.Proof

theorem claim : Cert.Claim := ⟨Cert.Kernel.Gen.facts, Cert.KernelIdeal.Gen.facts, Cert.ReferenceIdeal.Gen.facts,
  Cert.Decode.pre_kernel, Cert.Decode.pre_reference,
  Cert.Decode.frame_kernel, Cert.Decode.frame_ideal, fun m ρ _ => Cert.Decode.frame_ideal m ρ trivial,
  Cert.Decode.frame_ref, fun m ρ _ => Cert.Decode.frame_ref m ρ trivial, trivial, Cert.Decode.algebraic⟩

end Cert.Proof

end
